-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Attn3 (m : (ℓ : Loc Cert.Attn3.nD Cert.Attn3.τ Cert.Attn3.sig) → Buf (Elt Bits) ℓ) : Prop :=
  True

def Pre_Attn3Ideal (m : (ℓ : Loc Cert.Attn3Ideal.nD Cert.Attn3Ideal.τ Cert.Attn3Ideal.sig) → Buf (Elt Ideal) ℓ) : Prop :=
  True

def Pre_Attn3Ideal_finite [hPre_finite : Cert.Pre_finite.Facts] (m : (ℓ : Loc Cert.Attn3Ideal.nD Cert.Attn3Ideal.τ Cert.Attn3Ideal.sig) → Buf (Elt Ideal) ℓ) : Prop :=
  ∀ c : Dev Cert.Attn3Ideal.nD,
    (Cert.Pre_finite.fn (F := Ideal) (m ((c.tc : Thread Cert.Attn3Ideal.nD Cert.Attn3Ideal.τ).loc Cert.Attn3Ideal.main_arg0)) (m ((c.tc : Thread Cert.Attn3Ideal.nD Cert.Attn3Ideal.τ).loc Cert.Attn3Ideal.main_arg1)) (m ((c.tc : Thread Cert.Attn3Ideal.nD Cert.Attn3Ideal.τ).loc Cert.Attn3Ideal.main_arg2)) (m ((c.tc : Thread Cert.Attn3Ideal.nD Cert.Attn3Ideal.τ).loc Cert.Attn3Ideal.main_arg3)) (m ((c.tc : Thread Cert.Attn3Ideal.nD Cert.Attn3Ideal.τ).loc Cert.Attn3Ideal.main_arg4)) (m ((c.tc : Thread Cert.Attn3Ideal.nD Cert.Attn3Ideal.τ).loc Cert.Attn3Ideal.main_arg5)) (m ((c.tc : Thread Cert.Attn3Ideal.nD Cert.Attn3Ideal.τ).loc Cert.Attn3Ideal.main_arg6)) (m ((c.tc : Thread Cert.Attn3Ideal.nD Cert.Attn3Ideal.τ).loc Cert.Attn3Ideal.main_arg7))).1 = (fun _ => 1#1)
    ∧ (Cert.Pre_finite.fn (F := Ideal) (m ((c.tc : Thread Cert.Attn3Ideal.nD Cert.Attn3Ideal.τ).loc Cert.Attn3Ideal.main_arg0)) (m ((c.tc : Thread Cert.Attn3Ideal.nD Cert.Attn3Ideal.τ).loc Cert.Attn3Ideal.main_arg1)) (m ((c.tc : Thread Cert.Attn3Ideal.nD Cert.Attn3Ideal.τ).loc Cert.Attn3Ideal.main_arg2)) (m ((c.tc : Thread Cert.Attn3Ideal.nD Cert.Attn3Ideal.τ).loc Cert.Attn3Ideal.main_arg3)) (m ((c.tc : Thread Cert.Attn3Ideal.nD Cert.Attn3Ideal.τ).loc Cert.Attn3Ideal.main_arg4)) (m ((c.tc : Thread Cert.Attn3Ideal.nD Cert.Attn3Ideal.τ).loc Cert.Attn3Ideal.main_arg5)) (m ((c.tc : Thread Cert.Attn3Ideal.nD Cert.Attn3Ideal.τ).loc Cert.Attn3Ideal.main_arg6)) (m ((c.tc : Thread Cert.Attn3Ideal.nD Cert.Attn3Ideal.τ).loc Cert.Attn3Ideal.main_arg7))).2.1 = (fun _ => 1#1)
    ∧ (Cert.Pre_finite.fn (F := Ideal) (m ((c.tc : Thread Cert.Attn3Ideal.nD Cert.Attn3Ideal.τ).loc Cert.Attn3Ideal.main_arg0)) (m ((c.tc : Thread Cert.Attn3Ideal.nD Cert.Attn3Ideal.τ).loc Cert.Attn3Ideal.main_arg1)) (m ((c.tc : Thread Cert.Attn3Ideal.nD Cert.Attn3Ideal.τ).loc Cert.Attn3Ideal.main_arg2)) (m ((c.tc : Thread Cert.Attn3Ideal.nD Cert.Attn3Ideal.τ).loc Cert.Attn3Ideal.main_arg3)) (m ((c.tc : Thread Cert.Attn3Ideal.nD Cert.Attn3Ideal.τ).loc Cert.Attn3Ideal.main_arg4)) (m ((c.tc : Thread Cert.Attn3Ideal.nD Cert.Attn3Ideal.τ).loc Cert.Attn3Ideal.main_arg5)) (m ((c.tc : Thread Cert.Attn3Ideal.nD Cert.Attn3Ideal.τ).loc Cert.Attn3Ideal.main_arg6)) (m ((c.tc : Thread Cert.Attn3Ideal.nD Cert.Attn3Ideal.τ).loc Cert.Attn3Ideal.main_arg7))).2.2.1 = (fun _ => 1#1)
    ∧ (Cert.Pre_finite.fn (F := Ideal) (m ((c.tc : Thread Cert.Attn3Ideal.nD Cert.Attn3Ideal.τ).loc Cert.Attn3Ideal.main_arg0)) (m ((c.tc : Thread Cert.Attn3Ideal.nD Cert.Attn3Ideal.τ).loc Cert.Attn3Ideal.main_arg1)) (m ((c.tc : Thread Cert.Attn3Ideal.nD Cert.Attn3Ideal.τ).loc Cert.Attn3Ideal.main_arg2)) (m ((c.tc : Thread Cert.Attn3Ideal.nD Cert.Attn3Ideal.τ).loc Cert.Attn3Ideal.main_arg3)) (m ((c.tc : Thread Cert.Attn3Ideal.nD Cert.Attn3Ideal.τ).loc Cert.Attn3Ideal.main_arg4)) (m ((c.tc : Thread Cert.Attn3Ideal.nD Cert.Attn3Ideal.τ).loc Cert.Attn3Ideal.main_arg5)) (m ((c.tc : Thread Cert.Attn3Ideal.nD Cert.Attn3Ideal.τ).loc Cert.Attn3Ideal.main_arg6)) (m ((c.tc : Thread Cert.Attn3Ideal.nD Cert.Attn3Ideal.τ).loc Cert.Attn3Ideal.main_arg7))).2.2.2.1 = (fun _ => 1#1)
    ∧ (Cert.Pre_finite.fn (F := Ideal) (m ((c.tc : Thread Cert.Attn3Ideal.nD Cert.Attn3Ideal.τ).loc Cert.Attn3Ideal.main_arg0)) (m ((c.tc : Thread Cert.Attn3Ideal.nD Cert.Attn3Ideal.τ).loc Cert.Attn3Ideal.main_arg1)) (m ((c.tc : Thread Cert.Attn3Ideal.nD Cert.Attn3Ideal.τ).loc Cert.Attn3Ideal.main_arg2)) (m ((c.tc : Thread Cert.Attn3Ideal.nD Cert.Attn3Ideal.τ).loc Cert.Attn3Ideal.main_arg3)) (m ((c.tc : Thread Cert.Attn3Ideal.nD Cert.Attn3Ideal.τ).loc Cert.Attn3Ideal.main_arg4)) (m ((c.tc : Thread Cert.Attn3Ideal.nD Cert.Attn3Ideal.τ).loc Cert.Attn3Ideal.main_arg5)) (m ((c.tc : Thread Cert.Attn3Ideal.nD Cert.Attn3Ideal.τ).loc Cert.Attn3Ideal.main_arg6)) (m ((c.tc : Thread Cert.Attn3Ideal.nD Cert.Attn3Ideal.τ).loc Cert.Attn3Ideal.main_arg7))).2.2.2.2.1 = (fun _ => 1#1)
    ∧ (Cert.Pre_finite.fn (F := Ideal) (m ((c.tc : Thread Cert.Attn3Ideal.nD Cert.Attn3Ideal.τ).loc Cert.Attn3Ideal.main_arg0)) (m ((c.tc : Thread Cert.Attn3Ideal.nD Cert.Attn3Ideal.τ).loc Cert.Attn3Ideal.main_arg1)) (m ((c.tc : Thread Cert.Attn3Ideal.nD Cert.Attn3Ideal.τ).loc Cert.Attn3Ideal.main_arg2)) (m ((c.tc : Thread Cert.Attn3Ideal.nD Cert.Attn3Ideal.τ).loc Cert.Attn3Ideal.main_arg3)) (m ((c.tc : Thread Cert.Attn3Ideal.nD Cert.Attn3Ideal.τ).loc Cert.Attn3Ideal.main_arg4)) (m ((c.tc : Thread Cert.Attn3Ideal.nD Cert.Attn3Ideal.τ).loc Cert.Attn3Ideal.main_arg5)) (m ((c.tc : Thread Cert.Attn3Ideal.nD Cert.Attn3Ideal.τ).loc Cert.Attn3Ideal.main_arg6)) (m ((c.tc : Thread Cert.Attn3Ideal.nD Cert.Attn3Ideal.τ).loc Cert.Attn3Ideal.main_arg7))).2.2.2.2.2.1 = (fun _ => 1#1)
    ∧ (Cert.Pre_finite.fn (F := Ideal) (m ((c.tc : Thread Cert.Attn3Ideal.nD Cert.Attn3Ideal.τ).loc Cert.Attn3Ideal.main_arg0)) (m ((c.tc : Thread Cert.Attn3Ideal.nD Cert.Attn3Ideal.τ).loc Cert.Attn3Ideal.main_arg1)) (m ((c.tc : Thread Cert.Attn3Ideal.nD Cert.Attn3Ideal.τ).loc Cert.Attn3Ideal.main_arg2)) (m ((c.tc : Thread Cert.Attn3Ideal.nD Cert.Attn3Ideal.τ).loc Cert.Attn3Ideal.main_arg3)) (m ((c.tc : Thread Cert.Attn3Ideal.nD Cert.Attn3Ideal.τ).loc Cert.Attn3Ideal.main_arg4)) (m ((c.tc : Thread Cert.Attn3Ideal.nD Cert.Attn3Ideal.τ).loc Cert.Attn3Ideal.main_arg5)) (m ((c.tc : Thread Cert.Attn3Ideal.nD Cert.Attn3Ideal.τ).loc Cert.Attn3Ideal.main_arg6)) (m ((c.tc : Thread Cert.Attn3Ideal.nD Cert.Attn3Ideal.τ).loc Cert.Attn3Ideal.main_arg7))).2.2.2.2.2.2 = (fun _ => 1#1)

def Pre_Attn3RefIdeal (m : (ℓ : Loc Cert.Attn3RefIdeal.nD Cert.Attn3RefIdeal.τ Cert.Attn3RefIdeal.sig) → Buf (Elt Ideal) ℓ) : Prop :=
  True

def Pre_Attn3RefIdeal_finite [hPre_finite : Cert.Pre_finite.Facts] (m : (ℓ : Loc Cert.Attn3RefIdeal.nD Cert.Attn3RefIdeal.τ Cert.Attn3RefIdeal.sig) → Buf (Elt Ideal) ℓ) : Prop :=
  ∀ c : Dev Cert.Attn3RefIdeal.nD,
    (Cert.Pre_finite.fn (F := Ideal) (m ((c.tc : Thread Cert.Attn3RefIdeal.nD Cert.Attn3RefIdeal.τ).loc Cert.Attn3RefIdeal.main_arg0)) (m ((c.tc : Thread Cert.Attn3RefIdeal.nD Cert.Attn3RefIdeal.τ).loc Cert.Attn3RefIdeal.main_arg1)) (m ((c.tc : Thread Cert.Attn3RefIdeal.nD Cert.Attn3RefIdeal.τ).loc Cert.Attn3RefIdeal.main_arg2)) (m ((c.tc : Thread Cert.Attn3RefIdeal.nD Cert.Attn3RefIdeal.τ).loc Cert.Attn3RefIdeal.main_arg3)) (m ((c.tc : Thread Cert.Attn3RefIdeal.nD Cert.Attn3RefIdeal.τ).loc Cert.Attn3RefIdeal.main_arg4)) (m ((c.tc : Thread Cert.Attn3RefIdeal.nD Cert.Attn3RefIdeal.τ).loc Cert.Attn3RefIdeal.main_arg5)) (m ((c.tc : Thread Cert.Attn3RefIdeal.nD Cert.Attn3RefIdeal.τ).loc Cert.Attn3RefIdeal.main_arg6)) (m ((c.tc : Thread Cert.Attn3RefIdeal.nD Cert.Attn3RefIdeal.τ).loc Cert.Attn3RefIdeal.main_arg7))).1 = (fun _ => 1#1)
    ∧ (Cert.Pre_finite.fn (F := Ideal) (m ((c.tc : Thread Cert.Attn3RefIdeal.nD Cert.Attn3RefIdeal.τ).loc Cert.Attn3RefIdeal.main_arg0)) (m ((c.tc : Thread Cert.Attn3RefIdeal.nD Cert.Attn3RefIdeal.τ).loc Cert.Attn3RefIdeal.main_arg1)) (m ((c.tc : Thread Cert.Attn3RefIdeal.nD Cert.Attn3RefIdeal.τ).loc Cert.Attn3RefIdeal.main_arg2)) (m ((c.tc : Thread Cert.Attn3RefIdeal.nD Cert.Attn3RefIdeal.τ).loc Cert.Attn3RefIdeal.main_arg3)) (m ((c.tc : Thread Cert.Attn3RefIdeal.nD Cert.Attn3RefIdeal.τ).loc Cert.Attn3RefIdeal.main_arg4)) (m ((c.tc : Thread Cert.Attn3RefIdeal.nD Cert.Attn3RefIdeal.τ).loc Cert.Attn3RefIdeal.main_arg5)) (m ((c.tc : Thread Cert.Attn3RefIdeal.nD Cert.Attn3RefIdeal.τ).loc Cert.Attn3RefIdeal.main_arg6)) (m ((c.tc : Thread Cert.Attn3RefIdeal.nD Cert.Attn3RefIdeal.τ).loc Cert.Attn3RefIdeal.main_arg7))).2.1 = (fun _ => 1#1)
    ∧ (Cert.Pre_finite.fn (F := Ideal) (m ((c.tc : Thread Cert.Attn3RefIdeal.nD Cert.Attn3RefIdeal.τ).loc Cert.Attn3RefIdeal.main_arg0)) (m ((c.tc : Thread Cert.Attn3RefIdeal.nD Cert.Attn3RefIdeal.τ).loc Cert.Attn3RefIdeal.main_arg1)) (m ((c.tc : Thread Cert.Attn3RefIdeal.nD Cert.Attn3RefIdeal.τ).loc Cert.Attn3RefIdeal.main_arg2)) (m ((c.tc : Thread Cert.Attn3RefIdeal.nD Cert.Attn3RefIdeal.τ).loc Cert.Attn3RefIdeal.main_arg3)) (m ((c.tc : Thread Cert.Attn3RefIdeal.nD Cert.Attn3RefIdeal.τ).loc Cert.Attn3RefIdeal.main_arg4)) (m ((c.tc : Thread Cert.Attn3RefIdeal.nD Cert.Attn3RefIdeal.τ).loc Cert.Attn3RefIdeal.main_arg5)) (m ((c.tc : Thread Cert.Attn3RefIdeal.nD Cert.Attn3RefIdeal.τ).loc Cert.Attn3RefIdeal.main_arg6)) (m ((c.tc : Thread Cert.Attn3RefIdeal.nD Cert.Attn3RefIdeal.τ).loc Cert.Attn3RefIdeal.main_arg7))).2.2.1 = (fun _ => 1#1)
    ∧ (Cert.Pre_finite.fn (F := Ideal) (m ((c.tc : Thread Cert.Attn3RefIdeal.nD Cert.Attn3RefIdeal.τ).loc Cert.Attn3RefIdeal.main_arg0)) (m ((c.tc : Thread Cert.Attn3RefIdeal.nD Cert.Attn3RefIdeal.τ).loc Cert.Attn3RefIdeal.main_arg1)) (m ((c.tc : Thread Cert.Attn3RefIdeal.nD Cert.Attn3RefIdeal.τ).loc Cert.Attn3RefIdeal.main_arg2)) (m ((c.tc : Thread Cert.Attn3RefIdeal.nD Cert.Attn3RefIdeal.τ).loc Cert.Attn3RefIdeal.main_arg3)) (m ((c.tc : Thread Cert.Attn3RefIdeal.nD Cert.Attn3RefIdeal.τ).loc Cert.Attn3RefIdeal.main_arg4)) (m ((c.tc : Thread Cert.Attn3RefIdeal.nD Cert.Attn3RefIdeal.τ).loc Cert.Attn3RefIdeal.main_arg5)) (m ((c.tc : Thread Cert.Attn3RefIdeal.nD Cert.Attn3RefIdeal.τ).loc Cert.Attn3RefIdeal.main_arg6)) (m ((c.tc : Thread Cert.Attn3RefIdeal.nD Cert.Attn3RefIdeal.τ).loc Cert.Attn3RefIdeal.main_arg7))).2.2.2.1 = (fun _ => 1#1)
    ∧ (Cert.Pre_finite.fn (F := Ideal) (m ((c.tc : Thread Cert.Attn3RefIdeal.nD Cert.Attn3RefIdeal.τ).loc Cert.Attn3RefIdeal.main_arg0)) (m ((c.tc : Thread Cert.Attn3RefIdeal.nD Cert.Attn3RefIdeal.τ).loc Cert.Attn3RefIdeal.main_arg1)) (m ((c.tc : Thread Cert.Attn3RefIdeal.nD Cert.Attn3RefIdeal.τ).loc Cert.Attn3RefIdeal.main_arg2)) (m ((c.tc : Thread Cert.Attn3RefIdeal.nD Cert.Attn3RefIdeal.τ).loc Cert.Attn3RefIdeal.main_arg3)) (m ((c.tc : Thread Cert.Attn3RefIdeal.nD Cert.Attn3RefIdeal.τ).loc Cert.Attn3RefIdeal.main_arg4)) (m ((c.tc : Thread Cert.Attn3RefIdeal.nD Cert.Attn3RefIdeal.τ).loc Cert.Attn3RefIdeal.main_arg5)) (m ((c.tc : Thread Cert.Attn3RefIdeal.nD Cert.Attn3RefIdeal.τ).loc Cert.Attn3RefIdeal.main_arg6)) (m ((c.tc : Thread Cert.Attn3RefIdeal.nD Cert.Attn3RefIdeal.τ).loc Cert.Attn3RefIdeal.main_arg7))).2.2.2.2.1 = (fun _ => 1#1)
    ∧ (Cert.Pre_finite.fn (F := Ideal) (m ((c.tc : Thread Cert.Attn3RefIdeal.nD Cert.Attn3RefIdeal.τ).loc Cert.Attn3RefIdeal.main_arg0)) (m ((c.tc : Thread Cert.Attn3RefIdeal.nD Cert.Attn3RefIdeal.τ).loc Cert.Attn3RefIdeal.main_arg1)) (m ((c.tc : Thread Cert.Attn3RefIdeal.nD Cert.Attn3RefIdeal.τ).loc Cert.Attn3RefIdeal.main_arg2)) (m ((c.tc : Thread Cert.Attn3RefIdeal.nD Cert.Attn3RefIdeal.τ).loc Cert.Attn3RefIdeal.main_arg3)) (m ((c.tc : Thread Cert.Attn3RefIdeal.nD Cert.Attn3RefIdeal.τ).loc Cert.Attn3RefIdeal.main_arg4)) (m ((c.tc : Thread Cert.Attn3RefIdeal.nD Cert.Attn3RefIdeal.τ).loc Cert.Attn3RefIdeal.main_arg5)) (m ((c.tc : Thread Cert.Attn3RefIdeal.nD Cert.Attn3RefIdeal.τ).loc Cert.Attn3RefIdeal.main_arg6)) (m ((c.tc : Thread Cert.Attn3RefIdeal.nD Cert.Attn3RefIdeal.τ).loc Cert.Attn3RefIdeal.main_arg7))).2.2.2.2.2.1 = (fun _ => 1#1)
    ∧ (Cert.Pre_finite.fn (F := Ideal) (m ((c.tc : Thread Cert.Attn3RefIdeal.nD Cert.Attn3RefIdeal.τ).loc Cert.Attn3RefIdeal.main_arg0)) (m ((c.tc : Thread Cert.Attn3RefIdeal.nD Cert.Attn3RefIdeal.τ).loc Cert.Attn3RefIdeal.main_arg1)) (m ((c.tc : Thread Cert.Attn3RefIdeal.nD Cert.Attn3RefIdeal.τ).loc Cert.Attn3RefIdeal.main_arg2)) (m ((c.tc : Thread Cert.Attn3RefIdeal.nD Cert.Attn3RefIdeal.τ).loc Cert.Attn3RefIdeal.main_arg3)) (m ((c.tc : Thread Cert.Attn3RefIdeal.nD Cert.Attn3RefIdeal.τ).loc Cert.Attn3RefIdeal.main_arg4)) (m ((c.tc : Thread Cert.Attn3RefIdeal.nD Cert.Attn3RefIdeal.τ).loc Cert.Attn3RefIdeal.main_arg5)) (m ((c.tc : Thread Cert.Attn3RefIdeal.nD Cert.Attn3RefIdeal.τ).loc Cert.Attn3RefIdeal.main_arg6)) (m ((c.tc : Thread Cert.Attn3RefIdeal.nD Cert.Attn3RefIdeal.τ).loc Cert.Attn3RefIdeal.main_arg7))).2.2.2.2.2.2 = (fun _ => 1#1)

def Pre_OutDiff (m : (ℓ : Loc Cert.OutDiff.nD Cert.OutDiff.τ Cert.OutDiff.sig) → Buf (Elt Bits) ℓ) : Prop :=
  True

def Pre_OutDiffIdeal (m : (ℓ : Loc Cert.OutDiffIdeal.nD Cert.OutDiffIdeal.τ Cert.OutDiffIdeal.sig) → Buf (Elt Ideal) ℓ) : Prop :=
  True

def Pre_OutDiffRefIdeal (m : (ℓ : Loc Cert.OutDiffRefIdeal.nD Cert.OutDiffRefIdeal.τ Cert.OutDiffRefIdeal.sig) → Buf (Elt Ideal) ℓ) : Prop :=
  True

def Pre_OutHyb (m : (ℓ : Loc Cert.OutHyb.nD Cert.OutHyb.τ Cert.OutHyb.sig) → Buf (Elt Bits) ℓ) : Prop :=
  True

def Pre_OutHybIdeal (m : (ℓ : Loc Cert.OutHybIdeal.nD Cert.OutHybIdeal.τ Cert.OutHybIdeal.sig) → Buf (Elt Ideal) ℓ) : Prop :=
  True

def Pre_OutHybRefIdeal (m : (ℓ : Loc Cert.OutHybRefIdeal.nD Cert.OutHybRefIdeal.τ Cert.OutHybRefIdeal.sig) → Buf (Elt Ideal) ℓ) : Prop :=
  True

def Pre_PeerQ (m : (ℓ : Loc Cert.PeerQ.nD Cert.PeerQ.τ Cert.PeerQ.sig) → Buf (Elt Bits) ℓ) : Prop :=
  True

def Pre_PeerQIdeal (m : (ℓ : Loc Cert.PeerQIdeal.nD Cert.PeerQIdeal.τ Cert.PeerQIdeal.sig) → Buf (Elt Ideal) ℓ) : Prop :=
  True

def Pre_PeerQIdeal_finite_q [hPre_finite_q : Cert.Pre_finite_q.Facts] (m : (ℓ : Loc Cert.PeerQIdeal.nD Cert.PeerQIdeal.τ Cert.PeerQIdeal.sig) → Buf (Elt Ideal) ℓ) : Prop :=
  ∀ c : Dev Cert.PeerQIdeal.nD,
    (Cert.Pre_finite_q.fn (F := Ideal) (m ((c.tc : Thread Cert.PeerQIdeal.nD Cert.PeerQIdeal.τ).loc Cert.PeerQIdeal.main_arg0)) (m ((c.tc : Thread Cert.PeerQIdeal.nD Cert.PeerQIdeal.τ).loc Cert.PeerQIdeal.main_arg1)) (m ((c.tc : Thread Cert.PeerQIdeal.nD Cert.PeerQIdeal.τ).loc Cert.PeerQIdeal.main_arg2)) (m ((c.tc : Thread Cert.PeerQIdeal.nD Cert.PeerQIdeal.τ).loc Cert.PeerQIdeal.main_arg3)) (m ((c.tc : Thread Cert.PeerQIdeal.nD Cert.PeerQIdeal.τ).loc Cert.PeerQIdeal.main_arg4))).1 = (fun _ => 1#1)
    ∧ (Cert.Pre_finite_q.fn (F := Ideal) (m ((c.tc : Thread Cert.PeerQIdeal.nD Cert.PeerQIdeal.τ).loc Cert.PeerQIdeal.main_arg0)) (m ((c.tc : Thread Cert.PeerQIdeal.nD Cert.PeerQIdeal.τ).loc Cert.PeerQIdeal.main_arg1)) (m ((c.tc : Thread Cert.PeerQIdeal.nD Cert.PeerQIdeal.τ).loc Cert.PeerQIdeal.main_arg2)) (m ((c.tc : Thread Cert.PeerQIdeal.nD Cert.PeerQIdeal.τ).loc Cert.PeerQIdeal.main_arg3)) (m ((c.tc : Thread Cert.PeerQIdeal.nD Cert.PeerQIdeal.τ).loc Cert.PeerQIdeal.main_arg4))).2.1 = (fun _ => 1#1)
    ∧ (Cert.Pre_finite_q.fn (F := Ideal) (m ((c.tc : Thread Cert.PeerQIdeal.nD Cert.PeerQIdeal.τ).loc Cert.PeerQIdeal.main_arg0)) (m ((c.tc : Thread Cert.PeerQIdeal.nD Cert.PeerQIdeal.τ).loc Cert.PeerQIdeal.main_arg1)) (m ((c.tc : Thread Cert.PeerQIdeal.nD Cert.PeerQIdeal.τ).loc Cert.PeerQIdeal.main_arg2)) (m ((c.tc : Thread Cert.PeerQIdeal.nD Cert.PeerQIdeal.τ).loc Cert.PeerQIdeal.main_arg3)) (m ((c.tc : Thread Cert.PeerQIdeal.nD Cert.PeerQIdeal.τ).loc Cert.PeerQIdeal.main_arg4))).2.2.1 = (fun _ => 1#1)
    ∧ (Cert.Pre_finite_q.fn (F := Ideal) (m ((c.tc : Thread Cert.PeerQIdeal.nD Cert.PeerQIdeal.τ).loc Cert.PeerQIdeal.main_arg0)) (m ((c.tc : Thread Cert.PeerQIdeal.nD Cert.PeerQIdeal.τ).loc Cert.PeerQIdeal.main_arg1)) (m ((c.tc : Thread Cert.PeerQIdeal.nD Cert.PeerQIdeal.τ).loc Cert.PeerQIdeal.main_arg2)) (m ((c.tc : Thread Cert.PeerQIdeal.nD Cert.PeerQIdeal.τ).loc Cert.PeerQIdeal.main_arg3)) (m ((c.tc : Thread Cert.PeerQIdeal.nD Cert.PeerQIdeal.τ).loc Cert.PeerQIdeal.main_arg4))).2.2.2.1 = (fun _ => 1#1)
    ∧ (Cert.Pre_finite_q.fn (F := Ideal) (m ((c.tc : Thread Cert.PeerQIdeal.nD Cert.PeerQIdeal.τ).loc Cert.PeerQIdeal.main_arg0)) (m ((c.tc : Thread Cert.PeerQIdeal.nD Cert.PeerQIdeal.τ).loc Cert.PeerQIdeal.main_arg1)) (m ((c.tc : Thread Cert.PeerQIdeal.nD Cert.PeerQIdeal.τ).loc Cert.PeerQIdeal.main_arg2)) (m ((c.tc : Thread Cert.PeerQIdeal.nD Cert.PeerQIdeal.τ).loc Cert.PeerQIdeal.main_arg3)) (m ((c.tc : Thread Cert.PeerQIdeal.nD Cert.PeerQIdeal.τ).loc Cert.PeerQIdeal.main_arg4))).2.2.2.2 = (fun _ => 1#1)

def Pre_PeerQRefIdeal (m : (ℓ : Loc Cert.PeerQRefIdeal.nD Cert.PeerQRefIdeal.τ Cert.PeerQRefIdeal.sig) → Buf (Elt Ideal) ℓ) : Prop :=
  True

def Pre_PeerQRefIdeal_finite_q [hPre_finite_q : Cert.Pre_finite_q.Facts] (m : (ℓ : Loc Cert.PeerQRefIdeal.nD Cert.PeerQRefIdeal.τ Cert.PeerQRefIdeal.sig) → Buf (Elt Ideal) ℓ) : Prop :=
  ∀ c : Dev Cert.PeerQRefIdeal.nD,
    (Cert.Pre_finite_q.fn (F := Ideal) (m ((c.tc : Thread Cert.PeerQRefIdeal.nD Cert.PeerQRefIdeal.τ).loc Cert.PeerQRefIdeal.main_arg0)) (m ((c.tc : Thread Cert.PeerQRefIdeal.nD Cert.PeerQRefIdeal.τ).loc Cert.PeerQRefIdeal.main_arg1)) (m ((c.tc : Thread Cert.PeerQRefIdeal.nD Cert.PeerQRefIdeal.τ).loc Cert.PeerQRefIdeal.main_arg2)) (m ((c.tc : Thread Cert.PeerQRefIdeal.nD Cert.PeerQRefIdeal.τ).loc Cert.PeerQRefIdeal.main_arg3)) (m ((c.tc : Thread Cert.PeerQRefIdeal.nD Cert.PeerQRefIdeal.τ).loc Cert.PeerQRefIdeal.main_arg4))).1 = (fun _ => 1#1)
    ∧ (Cert.Pre_finite_q.fn (F := Ideal) (m ((c.tc : Thread Cert.PeerQRefIdeal.nD Cert.PeerQRefIdeal.τ).loc Cert.PeerQRefIdeal.main_arg0)) (m ((c.tc : Thread Cert.PeerQRefIdeal.nD Cert.PeerQRefIdeal.τ).loc Cert.PeerQRefIdeal.main_arg1)) (m ((c.tc : Thread Cert.PeerQRefIdeal.nD Cert.PeerQRefIdeal.τ).loc Cert.PeerQRefIdeal.main_arg2)) (m ((c.tc : Thread Cert.PeerQRefIdeal.nD Cert.PeerQRefIdeal.τ).loc Cert.PeerQRefIdeal.main_arg3)) (m ((c.tc : Thread Cert.PeerQRefIdeal.nD Cert.PeerQRefIdeal.τ).loc Cert.PeerQRefIdeal.main_arg4))).2.1 = (fun _ => 1#1)
    ∧ (Cert.Pre_finite_q.fn (F := Ideal) (m ((c.tc : Thread Cert.PeerQRefIdeal.nD Cert.PeerQRefIdeal.τ).loc Cert.PeerQRefIdeal.main_arg0)) (m ((c.tc : Thread Cert.PeerQRefIdeal.nD Cert.PeerQRefIdeal.τ).loc Cert.PeerQRefIdeal.main_arg1)) (m ((c.tc : Thread Cert.PeerQRefIdeal.nD Cert.PeerQRefIdeal.τ).loc Cert.PeerQRefIdeal.main_arg2)) (m ((c.tc : Thread Cert.PeerQRefIdeal.nD Cert.PeerQRefIdeal.τ).loc Cert.PeerQRefIdeal.main_arg3)) (m ((c.tc : Thread Cert.PeerQRefIdeal.nD Cert.PeerQRefIdeal.τ).loc Cert.PeerQRefIdeal.main_arg4))).2.2.1 = (fun _ => 1#1)
    ∧ (Cert.Pre_finite_q.fn (F := Ideal) (m ((c.tc : Thread Cert.PeerQRefIdeal.nD Cert.PeerQRefIdeal.τ).loc Cert.PeerQRefIdeal.main_arg0)) (m ((c.tc : Thread Cert.PeerQRefIdeal.nD Cert.PeerQRefIdeal.τ).loc Cert.PeerQRefIdeal.main_arg1)) (m ((c.tc : Thread Cert.PeerQRefIdeal.nD Cert.PeerQRefIdeal.τ).loc Cert.PeerQRefIdeal.main_arg2)) (m ((c.tc : Thread Cert.PeerQRefIdeal.nD Cert.PeerQRefIdeal.τ).loc Cert.PeerQRefIdeal.main_arg3)) (m ((c.tc : Thread Cert.PeerQRefIdeal.nD Cert.PeerQRefIdeal.τ).loc Cert.PeerQRefIdeal.main_arg4))).2.2.2.1 = (fun _ => 1#1)
    ∧ (Cert.Pre_finite_q.fn (F := Ideal) (m ((c.tc : Thread Cert.PeerQRefIdeal.nD Cert.PeerQRefIdeal.τ).loc Cert.PeerQRefIdeal.main_arg0)) (m ((c.tc : Thread Cert.PeerQRefIdeal.nD Cert.PeerQRefIdeal.τ).loc Cert.PeerQRefIdeal.main_arg1)) (m ((c.tc : Thread Cert.PeerQRefIdeal.nD Cert.PeerQRefIdeal.τ).loc Cert.PeerQRefIdeal.main_arg2)) (m ((c.tc : Thread Cert.PeerQRefIdeal.nD Cert.PeerQRefIdeal.τ).loc Cert.PeerQRefIdeal.main_arg3)) (m ((c.tc : Thread Cert.PeerQRefIdeal.nD Cert.PeerQRefIdeal.τ).loc Cert.PeerQRefIdeal.main_arg4))).2.2.2.2 = (fun _ => 1#1)

def Pre_HybIn (m : (ℓ : Loc Cert.HybIn.nD Cert.HybIn.τ Cert.HybIn.sig) → Buf (Elt Bits) ℓ) : Prop :=
  True

def Pre_HybInIdeal (m : (ℓ : Loc Cert.HybInIdeal.nD Cert.HybInIdeal.τ Cert.HybInIdeal.sig) → Buf (Elt Ideal) ℓ) : Prop :=
  True

def Pre_HybInRefIdeal (m : (ℓ : Loc Cert.HybInRefIdeal.nD Cert.HybInRefIdeal.τ Cert.HybInRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Attn3 [hAttn3 : Cert.Attn3.Facts] : Prop :=
  ∀ (m : (ℓ : Loc Cert.Attn3.nD Cert.Attn3.τ Cert.Attn3.sig) → Buf (Elt Bits) ℓ) (g : Dev Cert.Attn3.nD → PrngReg), Pre_Attn3 m →
    θ_run (Cert.Attn3.defs (F := Bits)) (onTc (τ := Cert.Attn3.τ) (Cert.Attn3.main (F := Bits))) ⟨m, fun _ => 0, g⟩ (fun r => (∀ c : Dev Cert.Attn3.nD,
      r.2.mem ((c.tc : Thread Cert.Attn3.nD Cert.Attn3.τ).loc Cert.Attn3.main_arg0) = m ((c.tc : Thread Cert.Attn3.nD Cert.Attn3.τ).loc Cert.Attn3.main_arg0)
      ∧ r.2.mem ((c.tc : Thread Cert.Attn3.nD Cert.Attn3.τ).loc Cert.Attn3.main_arg1) = m ((c.tc : Thread Cert.Attn3.nD Cert.Attn3.τ).loc Cert.Attn3.main_arg1)
      ∧ r.2.mem ((c.tc : Thread Cert.Attn3.nD Cert.Attn3.τ).loc Cert.Attn3.main_arg2) = m ((c.tc : Thread Cert.Attn3.nD Cert.Attn3.τ).loc Cert.Attn3.main_arg2)
      ∧ r.2.mem ((c.tc : Thread Cert.Attn3.nD Cert.Attn3.τ).loc Cert.Attn3.main_arg3) = m ((c.tc : Thread Cert.Attn3.nD Cert.Attn3.τ).loc Cert.Attn3.main_arg3)
      ∧ r.2.mem ((c.tc : Thread Cert.Attn3.nD Cert.Attn3.τ).loc Cert.Attn3.main_arg4) = m ((c.tc : Thread Cert.Attn3.nD Cert.Attn3.τ).loc Cert.Attn3.main_arg4)
      ∧ r.2.mem ((c.tc : Thread Cert.Attn3.nD Cert.Attn3.τ).loc Cert.Attn3.main_arg5) = m ((c.tc : Thread Cert.Attn3.nD Cert.Attn3.τ).loc Cert.Attn3.main_arg5)
      ∧ r.2.mem ((c.tc : Thread Cert.Attn3.nD Cert.Attn3.τ).loc Cert.Attn3.main_arg6) = m ((c.tc : Thread Cert.Attn3.nD Cert.Attn3.τ).loc Cert.Attn3.main_arg6)
      ∧ r.2.mem ((c.tc : Thread Cert.Attn3.nD Cert.Attn3.τ).loc Cert.Attn3.main_arg7) = m ((c.tc : Thread Cert.Attn3.nD Cert.Attn3.τ).loc Cert.Attn3.main_arg7))
      ∧ r.2.sem = fun _ => 0)

def quiescent_Attn3Ideal [hAttn3Ideal : Cert.Attn3Ideal.Facts] : Prop :=
  ∀ (m : (ℓ : Loc Cert.Attn3Ideal.nD Cert.Attn3Ideal.τ Cert.Attn3Ideal.sig) → Buf (Elt Ideal) ℓ) (g : Dev Cert.Attn3Ideal.nD → PrngReg), Pre_Attn3Ideal m →
    θ_run (Cert.Attn3Ideal.defs (F := Ideal)) (onTc (τ := Cert.Attn3Ideal.τ) (Cert.Attn3Ideal.main (F := Ideal))) ⟨m, fun _ => 0, g⟩ (fun r => (∀ c : Dev Cert.Attn3Ideal.nD,
      r.2.mem ((c.tc : Thread Cert.Attn3Ideal.nD Cert.Attn3Ideal.τ).loc Cert.Attn3Ideal.main_arg0) = m ((c.tc : Thread Cert.Attn3Ideal.nD Cert.Attn3Ideal.τ).loc Cert.Attn3Ideal.main_arg0)
      ∧ r.2.mem ((c.tc : Thread Cert.Attn3Ideal.nD Cert.Attn3Ideal.τ).loc Cert.Attn3Ideal.main_arg1) = m ((c.tc : Thread Cert.Attn3Ideal.nD Cert.Attn3Ideal.τ).loc Cert.Attn3Ideal.main_arg1)
      ∧ r.2.mem ((c.tc : Thread Cert.Attn3Ideal.nD Cert.Attn3Ideal.τ).loc Cert.Attn3Ideal.main_arg2) = m ((c.tc : Thread Cert.Attn3Ideal.nD Cert.Attn3Ideal.τ).loc Cert.Attn3Ideal.main_arg2)
      ∧ r.2.mem ((c.tc : Thread Cert.Attn3Ideal.nD Cert.Attn3Ideal.τ).loc Cert.Attn3Ideal.main_arg3) = m ((c.tc : Thread Cert.Attn3Ideal.nD Cert.Attn3Ideal.τ).loc Cert.Attn3Ideal.main_arg3)
      ∧ r.2.mem ((c.tc : Thread Cert.Attn3Ideal.nD Cert.Attn3Ideal.τ).loc Cert.Attn3Ideal.main_arg4) = m ((c.tc : Thread Cert.Attn3Ideal.nD Cert.Attn3Ideal.τ).loc Cert.Attn3Ideal.main_arg4)
      ∧ r.2.mem ((c.tc : Thread Cert.Attn3Ideal.nD Cert.Attn3Ideal.τ).loc Cert.Attn3Ideal.main_arg5) = m ((c.tc : Thread Cert.Attn3Ideal.nD Cert.Attn3Ideal.τ).loc Cert.Attn3Ideal.main_arg5)
      ∧ r.2.mem ((c.tc : Thread Cert.Attn3Ideal.nD Cert.Attn3Ideal.τ).loc Cert.Attn3Ideal.main_arg6) = m ((c.tc : Thread Cert.Attn3Ideal.nD Cert.Attn3Ideal.τ).loc Cert.Attn3Ideal.main_arg6)
      ∧ r.2.mem ((c.tc : Thread Cert.Attn3Ideal.nD Cert.Attn3Ideal.τ).loc Cert.Attn3Ideal.main_arg7) = m ((c.tc : Thread Cert.Attn3Ideal.nD Cert.Attn3Ideal.τ).loc Cert.Attn3Ideal.main_arg7))
      ∧ r.2.sem = fun _ => 0)

def quiescent_Attn3Ideal_pre_finite [hAttn3Ideal : Cert.Attn3Ideal.Facts] [hPre_finite : Cert.Pre_finite.Facts] : Prop :=
  ∀ (m : (ℓ : Loc Cert.Attn3Ideal.nD Cert.Attn3Ideal.τ Cert.Attn3Ideal.sig) → Buf (Elt Ideal) ℓ) (g : Dev Cert.Attn3Ideal.nD → PrngReg), Pre_Attn3Ideal_finite m →
    θ_run (Cert.Attn3Ideal.defs (F := Ideal)) (onTc (τ := Cert.Attn3Ideal.τ) (Cert.Attn3Ideal.main (F := Ideal))) ⟨m, fun _ => 0, g⟩ (fun r => (∀ c : Dev Cert.Attn3Ideal.nD,
      r.2.mem ((c.tc : Thread Cert.Attn3Ideal.nD Cert.Attn3Ideal.τ).loc Cert.Attn3Ideal.main_arg0) = m ((c.tc : Thread Cert.Attn3Ideal.nD Cert.Attn3Ideal.τ).loc Cert.Attn3Ideal.main_arg0)
      ∧ r.2.mem ((c.tc : Thread Cert.Attn3Ideal.nD Cert.Attn3Ideal.τ).loc Cert.Attn3Ideal.main_arg1) = m ((c.tc : Thread Cert.Attn3Ideal.nD Cert.Attn3Ideal.τ).loc Cert.Attn3Ideal.main_arg1)
      ∧ r.2.mem ((c.tc : Thread Cert.Attn3Ideal.nD Cert.Attn3Ideal.τ).loc Cert.Attn3Ideal.main_arg2) = m ((c.tc : Thread Cert.Attn3Ideal.nD Cert.Attn3Ideal.τ).loc Cert.Attn3Ideal.main_arg2)
      ∧ r.2.mem ((c.tc : Thread Cert.Attn3Ideal.nD Cert.Attn3Ideal.τ).loc Cert.Attn3Ideal.main_arg3) = m ((c.tc : Thread Cert.Attn3Ideal.nD Cert.Attn3Ideal.τ).loc Cert.Attn3Ideal.main_arg3)
      ∧ r.2.mem ((c.tc : Thread Cert.Attn3Ideal.nD Cert.Attn3Ideal.τ).loc Cert.Attn3Ideal.main_arg4) = m ((c.tc : Thread Cert.Attn3Ideal.nD Cert.Attn3Ideal.τ).loc Cert.Attn3Ideal.main_arg4)
      ∧ r.2.mem ((c.tc : Thread Cert.Attn3Ideal.nD Cert.Attn3Ideal.τ).loc Cert.Attn3Ideal.main_arg5) = m ((c.tc : Thread Cert.Attn3Ideal.nD Cert.Attn3Ideal.τ).loc Cert.Attn3Ideal.main_arg5)
      ∧ r.2.mem ((c.tc : Thread Cert.Attn3Ideal.nD Cert.Attn3Ideal.τ).loc Cert.Attn3Ideal.main_arg6) = m ((c.tc : Thread Cert.Attn3Ideal.nD Cert.Attn3Ideal.τ).loc Cert.Attn3Ideal.main_arg6)
      ∧ r.2.mem ((c.tc : Thread Cert.Attn3Ideal.nD Cert.Attn3Ideal.τ).loc Cert.Attn3Ideal.main_arg7) = m ((c.tc : Thread Cert.Attn3Ideal.nD Cert.Attn3Ideal.τ).loc Cert.Attn3Ideal.main_arg7))
      ∧ r.2.sem = fun _ => 0)

def quiescent_Attn3RefIdeal [hAttn3RefIdeal : Cert.Attn3RefIdeal.Facts] : Prop :=
  ∀ (m : (ℓ : Loc Cert.Attn3RefIdeal.nD Cert.Attn3RefIdeal.τ Cert.Attn3RefIdeal.sig) → Buf (Elt Ideal) ℓ) (g : Dev Cert.Attn3RefIdeal.nD → PrngReg), Pre_Attn3RefIdeal m →
    θ_run (Cert.Attn3RefIdeal.defs (F := Ideal)) (onTc (τ := Cert.Attn3RefIdeal.τ) (Cert.Attn3RefIdeal.main (F := Ideal))) ⟨m, fun _ => 0, g⟩ (fun r => (∀ c : Dev Cert.Attn3RefIdeal.nD,
      r.2.mem ((c.tc : Thread Cert.Attn3RefIdeal.nD Cert.Attn3RefIdeal.τ).loc Cert.Attn3RefIdeal.main_arg0) = m ((c.tc : Thread Cert.Attn3RefIdeal.nD Cert.Attn3RefIdeal.τ).loc Cert.Attn3RefIdeal.main_arg0)
      ∧ r.2.mem ((c.tc : Thread Cert.Attn3RefIdeal.nD Cert.Attn3RefIdeal.τ).loc Cert.Attn3RefIdeal.main_arg1) = m ((c.tc : Thread Cert.Attn3RefIdeal.nD Cert.Attn3RefIdeal.τ).loc Cert.Attn3RefIdeal.main_arg1)
      ∧ r.2.mem ((c.tc : Thread Cert.Attn3RefIdeal.nD Cert.Attn3RefIdeal.τ).loc Cert.Attn3RefIdeal.main_arg2) = m ((c.tc : Thread Cert.Attn3RefIdeal.nD Cert.Attn3RefIdeal.τ).loc Cert.Attn3RefIdeal.main_arg2)
      ∧ r.2.mem ((c.tc : Thread Cert.Attn3RefIdeal.nD Cert.Attn3RefIdeal.τ).loc Cert.Attn3RefIdeal.main_arg3) = m ((c.tc : Thread Cert.Attn3RefIdeal.nD Cert.Attn3RefIdeal.τ).loc Cert.Attn3RefIdeal.main_arg3)
      ∧ r.2.mem ((c.tc : Thread Cert.Attn3RefIdeal.nD Cert.Attn3RefIdeal.τ).loc Cert.Attn3RefIdeal.main_arg4) = m ((c.tc : Thread Cert.Attn3RefIdeal.nD Cert.Attn3RefIdeal.τ).loc Cert.Attn3RefIdeal.main_arg4)
      ∧ r.2.mem ((c.tc : Thread Cert.Attn3RefIdeal.nD Cert.Attn3RefIdeal.τ).loc Cert.Attn3RefIdeal.main_arg5) = m ((c.tc : Thread Cert.Attn3RefIdeal.nD Cert.Attn3RefIdeal.τ).loc Cert.Attn3RefIdeal.main_arg5)
      ∧ r.2.mem ((c.tc : Thread Cert.Attn3RefIdeal.nD Cert.Attn3RefIdeal.τ).loc Cert.Attn3RefIdeal.main_arg6) = m ((c.tc : Thread Cert.Attn3RefIdeal.nD Cert.Attn3RefIdeal.τ).loc Cert.Attn3RefIdeal.main_arg6)
      ∧ r.2.mem ((c.tc : Thread Cert.Attn3RefIdeal.nD Cert.Attn3RefIdeal.τ).loc Cert.Attn3RefIdeal.main_arg7) = m ((c.tc : Thread Cert.Attn3RefIdeal.nD Cert.Attn3RefIdeal.τ).loc Cert.Attn3RefIdeal.main_arg7))
      ∧ r.2.sem = fun _ => 0)

def quiescent_Attn3RefIdeal_pre_finite [hAttn3RefIdeal : Cert.Attn3RefIdeal.Facts] [hPre_finite : Cert.Pre_finite.Facts] : Prop :=
  ∀ (m : (ℓ : Loc Cert.Attn3RefIdeal.nD Cert.Attn3RefIdeal.τ Cert.Attn3RefIdeal.sig) → Buf (Elt Ideal) ℓ) (g : Dev Cert.Attn3RefIdeal.nD → PrngReg), Pre_Attn3RefIdeal_finite m →
    θ_run (Cert.Attn3RefIdeal.defs (F := Ideal)) (onTc (τ := Cert.Attn3RefIdeal.τ) (Cert.Attn3RefIdeal.main (F := Ideal))) ⟨m, fun _ => 0, g⟩ (fun r => (∀ c : Dev Cert.Attn3RefIdeal.nD,
      r.2.mem ((c.tc : Thread Cert.Attn3RefIdeal.nD Cert.Attn3RefIdeal.τ).loc Cert.Attn3RefIdeal.main_arg0) = m ((c.tc : Thread Cert.Attn3RefIdeal.nD Cert.Attn3RefIdeal.τ).loc Cert.Attn3RefIdeal.main_arg0)
      ∧ r.2.mem ((c.tc : Thread Cert.Attn3RefIdeal.nD Cert.Attn3RefIdeal.τ).loc Cert.Attn3RefIdeal.main_arg1) = m ((c.tc : Thread Cert.Attn3RefIdeal.nD Cert.Attn3RefIdeal.τ).loc Cert.Attn3RefIdeal.main_arg1)
      ∧ r.2.mem ((c.tc : Thread Cert.Attn3RefIdeal.nD Cert.Attn3RefIdeal.τ).loc Cert.Attn3RefIdeal.main_arg2) = m ((c.tc : Thread Cert.Attn3RefIdeal.nD Cert.Attn3RefIdeal.τ).loc Cert.Attn3RefIdeal.main_arg2)
      ∧ r.2.mem ((c.tc : Thread Cert.Attn3RefIdeal.nD Cert.Attn3RefIdeal.τ).loc Cert.Attn3RefIdeal.main_arg3) = m ((c.tc : Thread Cert.Attn3RefIdeal.nD Cert.Attn3RefIdeal.τ).loc Cert.Attn3RefIdeal.main_arg3)
      ∧ r.2.mem ((c.tc : Thread Cert.Attn3RefIdeal.nD Cert.Attn3RefIdeal.τ).loc Cert.Attn3RefIdeal.main_arg4) = m ((c.tc : Thread Cert.Attn3RefIdeal.nD Cert.Attn3RefIdeal.τ).loc Cert.Attn3RefIdeal.main_arg4)
      ∧ r.2.mem ((c.tc : Thread Cert.Attn3RefIdeal.nD Cert.Attn3RefIdeal.τ).loc Cert.Attn3RefIdeal.main_arg5) = m ((c.tc : Thread Cert.Attn3RefIdeal.nD Cert.Attn3RefIdeal.τ).loc Cert.Attn3RefIdeal.main_arg5)
      ∧ r.2.mem ((c.tc : Thread Cert.Attn3RefIdeal.nD Cert.Attn3RefIdeal.τ).loc Cert.Attn3RefIdeal.main_arg6) = m ((c.tc : Thread Cert.Attn3RefIdeal.nD Cert.Attn3RefIdeal.τ).loc Cert.Attn3RefIdeal.main_arg6)
      ∧ r.2.mem ((c.tc : Thread Cert.Attn3RefIdeal.nD Cert.Attn3RefIdeal.τ).loc Cert.Attn3RefIdeal.main_arg7) = m ((c.tc : Thread Cert.Attn3RefIdeal.nD Cert.Attn3RefIdeal.τ).loc Cert.Attn3RefIdeal.main_arg7))
      ∧ r.2.sem = fun _ => 0)

def quiescent_OutDiff [hOutDiff : Cert.OutDiff.Facts] : Prop :=
  ∀ (m : (ℓ : Loc Cert.OutDiff.nD Cert.OutDiff.τ Cert.OutDiff.sig) → Buf (Elt Bits) ℓ) (g : Dev Cert.OutDiff.nD → PrngReg), Pre_OutDiff m →
    θ_run (Cert.OutDiff.defs (F := Bits)) (onTc (τ := Cert.OutDiff.τ) (Cert.OutDiff.main (F := Bits))) ⟨m, fun _ => 0, g⟩ (fun r => (∀ c : Dev Cert.OutDiff.nD,
      r.2.mem ((c.tc : Thread Cert.OutDiff.nD Cert.OutDiff.τ).loc Cert.OutDiff.main_arg0) = m ((c.tc : Thread Cert.OutDiff.nD Cert.OutDiff.τ).loc Cert.OutDiff.main_arg0)
      ∧ r.2.mem ((c.tc : Thread Cert.OutDiff.nD Cert.OutDiff.τ).loc Cert.OutDiff.main_arg1) = m ((c.tc : Thread Cert.OutDiff.nD Cert.OutDiff.τ).loc Cert.OutDiff.main_arg1)
      ∧ r.2.mem ((c.tc : Thread Cert.OutDiff.nD Cert.OutDiff.τ).loc Cert.OutDiff.main_arg2) = m ((c.tc : Thread Cert.OutDiff.nD Cert.OutDiff.τ).loc Cert.OutDiff.main_arg2)
      ∧ r.2.mem ((c.tc : Thread Cert.OutDiff.nD Cert.OutDiff.τ).loc Cert.OutDiff.main_arg3) = m ((c.tc : Thread Cert.OutDiff.nD Cert.OutDiff.τ).loc Cert.OutDiff.main_arg3))
      ∧ r.2.sem = fun _ => 0)

def quiescent_OutDiffIdeal [hOutDiffIdeal : Cert.OutDiffIdeal.Facts] : Prop :=
  ∀ (m : (ℓ : Loc Cert.OutDiffIdeal.nD Cert.OutDiffIdeal.τ Cert.OutDiffIdeal.sig) → Buf (Elt Ideal) ℓ) (g : Dev Cert.OutDiffIdeal.nD → PrngReg), Pre_OutDiffIdeal m →
    θ_run (Cert.OutDiffIdeal.defs (F := Ideal)) (onTc (τ := Cert.OutDiffIdeal.τ) (Cert.OutDiffIdeal.main (F := Ideal))) ⟨m, fun _ => 0, g⟩ (fun r => (∀ c : Dev Cert.OutDiffIdeal.nD,
      r.2.mem ((c.tc : Thread Cert.OutDiffIdeal.nD Cert.OutDiffIdeal.τ).loc Cert.OutDiffIdeal.main_arg0) = m ((c.tc : Thread Cert.OutDiffIdeal.nD Cert.OutDiffIdeal.τ).loc Cert.OutDiffIdeal.main_arg0)
      ∧ r.2.mem ((c.tc : Thread Cert.OutDiffIdeal.nD Cert.OutDiffIdeal.τ).loc Cert.OutDiffIdeal.main_arg1) = m ((c.tc : Thread Cert.OutDiffIdeal.nD Cert.OutDiffIdeal.τ).loc Cert.OutDiffIdeal.main_arg1)
      ∧ r.2.mem ((c.tc : Thread Cert.OutDiffIdeal.nD Cert.OutDiffIdeal.τ).loc Cert.OutDiffIdeal.main_arg2) = m ((c.tc : Thread Cert.OutDiffIdeal.nD Cert.OutDiffIdeal.τ).loc Cert.OutDiffIdeal.main_arg2)
      ∧ r.2.mem ((c.tc : Thread Cert.OutDiffIdeal.nD Cert.OutDiffIdeal.τ).loc Cert.OutDiffIdeal.main_arg3) = m ((c.tc : Thread Cert.OutDiffIdeal.nD Cert.OutDiffIdeal.τ).loc Cert.OutDiffIdeal.main_arg3))
      ∧ r.2.sem = fun _ => 0)

def quiescent_OutDiffRefIdeal [hOutDiffRefIdeal : Cert.OutDiffRefIdeal.Facts] : Prop :=
  ∀ (m : (ℓ : Loc Cert.OutDiffRefIdeal.nD Cert.OutDiffRefIdeal.τ Cert.OutDiffRefIdeal.sig) → Buf (Elt Ideal) ℓ) (g : Dev Cert.OutDiffRefIdeal.nD → PrngReg), Pre_OutDiffRefIdeal m →
    θ_run (Cert.OutDiffRefIdeal.defs (F := Ideal)) (onTc (τ := Cert.OutDiffRefIdeal.τ) (Cert.OutDiffRefIdeal.main (F := Ideal))) ⟨m, fun _ => 0, g⟩ (fun r => (∀ c : Dev Cert.OutDiffRefIdeal.nD,
      r.2.mem ((c.tc : Thread Cert.OutDiffRefIdeal.nD Cert.OutDiffRefIdeal.τ).loc Cert.OutDiffRefIdeal.main_arg0) = m ((c.tc : Thread Cert.OutDiffRefIdeal.nD Cert.OutDiffRefIdeal.τ).loc Cert.OutDiffRefIdeal.main_arg0)
      ∧ r.2.mem ((c.tc : Thread Cert.OutDiffRefIdeal.nD Cert.OutDiffRefIdeal.τ).loc Cert.OutDiffRefIdeal.main_arg1) = m ((c.tc : Thread Cert.OutDiffRefIdeal.nD Cert.OutDiffRefIdeal.τ).loc Cert.OutDiffRefIdeal.main_arg1)
      ∧ r.2.mem ((c.tc : Thread Cert.OutDiffRefIdeal.nD Cert.OutDiffRefIdeal.τ).loc Cert.OutDiffRefIdeal.main_arg2) = m ((c.tc : Thread Cert.OutDiffRefIdeal.nD Cert.OutDiffRefIdeal.τ).loc Cert.OutDiffRefIdeal.main_arg2)
      ∧ r.2.mem ((c.tc : Thread Cert.OutDiffRefIdeal.nD Cert.OutDiffRefIdeal.τ).loc Cert.OutDiffRefIdeal.main_arg3) = m ((c.tc : Thread Cert.OutDiffRefIdeal.nD Cert.OutDiffRefIdeal.τ).loc Cert.OutDiffRefIdeal.main_arg3))
      ∧ r.2.sem = fun _ => 0)

def quiescent_OutHyb [hOutHyb : Cert.OutHyb.Facts] : Prop :=
  ∀ (m : (ℓ : Loc Cert.OutHyb.nD Cert.OutHyb.τ Cert.OutHyb.sig) → Buf (Elt Bits) ℓ) (g : Dev Cert.OutHyb.nD → PrngReg), Pre_OutHyb m →
    θ_run (Cert.OutHyb.defs (F := Bits)) (onTc (τ := Cert.OutHyb.τ) (Cert.OutHyb.main (F := Bits))) ⟨m, fun _ => 0, g⟩ (fun r => (∀ c : Dev Cert.OutHyb.nD,
      r.2.mem ((c.tc : Thread Cert.OutHyb.nD Cert.OutHyb.τ).loc Cert.OutHyb.main_arg0) = m ((c.tc : Thread Cert.OutHyb.nD Cert.OutHyb.τ).loc Cert.OutHyb.main_arg0)
      ∧ r.2.mem ((c.tc : Thread Cert.OutHyb.nD Cert.OutHyb.τ).loc Cert.OutHyb.main_arg1) = m ((c.tc : Thread Cert.OutHyb.nD Cert.OutHyb.τ).loc Cert.OutHyb.main_arg1)
      ∧ r.2.mem ((c.tc : Thread Cert.OutHyb.nD Cert.OutHyb.τ).loc Cert.OutHyb.main_arg2) = m ((c.tc : Thread Cert.OutHyb.nD Cert.OutHyb.τ).loc Cert.OutHyb.main_arg2)
      ∧ r.2.mem ((c.tc : Thread Cert.OutHyb.nD Cert.OutHyb.τ).loc Cert.OutHyb.main_arg3) = m ((c.tc : Thread Cert.OutHyb.nD Cert.OutHyb.τ).loc Cert.OutHyb.main_arg3)
      ∧ r.2.mem ((c.tc : Thread Cert.OutHyb.nD Cert.OutHyb.τ).loc Cert.OutHyb.main_arg4) = m ((c.tc : Thread Cert.OutHyb.nD Cert.OutHyb.τ).loc Cert.OutHyb.main_arg4))
      ∧ r.2.sem = fun _ => 0)

def quiescent_OutHybIdeal [hOutHybIdeal : Cert.OutHybIdeal.Facts] : Prop :=
  ∀ (m : (ℓ : Loc Cert.OutHybIdeal.nD Cert.OutHybIdeal.τ Cert.OutHybIdeal.sig) → Buf (Elt Ideal) ℓ) (g : Dev Cert.OutHybIdeal.nD → PrngReg), Pre_OutHybIdeal m →
    θ_run (Cert.OutHybIdeal.defs (F := Ideal)) (onTc (τ := Cert.OutHybIdeal.τ) (Cert.OutHybIdeal.main (F := Ideal))) ⟨m, fun _ => 0, g⟩ (fun r => (∀ c : Dev Cert.OutHybIdeal.nD,
      r.2.mem ((c.tc : Thread Cert.OutHybIdeal.nD Cert.OutHybIdeal.τ).loc Cert.OutHybIdeal.main_arg0) = m ((c.tc : Thread Cert.OutHybIdeal.nD Cert.OutHybIdeal.τ).loc Cert.OutHybIdeal.main_arg0)
      ∧ r.2.mem ((c.tc : Thread Cert.OutHybIdeal.nD Cert.OutHybIdeal.τ).loc Cert.OutHybIdeal.main_arg1) = m ((c.tc : Thread Cert.OutHybIdeal.nD Cert.OutHybIdeal.τ).loc Cert.OutHybIdeal.main_arg1)
      ∧ r.2.mem ((c.tc : Thread Cert.OutHybIdeal.nD Cert.OutHybIdeal.τ).loc Cert.OutHybIdeal.main_arg2) = m ((c.tc : Thread Cert.OutHybIdeal.nD Cert.OutHybIdeal.τ).loc Cert.OutHybIdeal.main_arg2)
      ∧ r.2.mem ((c.tc : Thread Cert.OutHybIdeal.nD Cert.OutHybIdeal.τ).loc Cert.OutHybIdeal.main_arg3) = m ((c.tc : Thread Cert.OutHybIdeal.nD Cert.OutHybIdeal.τ).loc Cert.OutHybIdeal.main_arg3)
      ∧ r.2.mem ((c.tc : Thread Cert.OutHybIdeal.nD Cert.OutHybIdeal.τ).loc Cert.OutHybIdeal.main_arg4) = m ((c.tc : Thread Cert.OutHybIdeal.nD Cert.OutHybIdeal.τ).loc Cert.OutHybIdeal.main_arg4))
      ∧ r.2.sem = fun _ => 0)

def quiescent_OutHybRefIdeal [hOutHybRefIdeal : Cert.OutHybRefIdeal.Facts] : Prop :=
  ∀ (m : (ℓ : Loc Cert.OutHybRefIdeal.nD Cert.OutHybRefIdeal.τ Cert.OutHybRefIdeal.sig) → Buf (Elt Ideal) ℓ) (g : Dev Cert.OutHybRefIdeal.nD → PrngReg), Pre_OutHybRefIdeal m →
    θ_run (Cert.OutHybRefIdeal.defs (F := Ideal)) (onTc (τ := Cert.OutHybRefIdeal.τ) (Cert.OutHybRefIdeal.main (F := Ideal))) ⟨m, fun _ => 0, g⟩ (fun r => (∀ c : Dev Cert.OutHybRefIdeal.nD,
      r.2.mem ((c.tc : Thread Cert.OutHybRefIdeal.nD Cert.OutHybRefIdeal.τ).loc Cert.OutHybRefIdeal.main_arg0) = m ((c.tc : Thread Cert.OutHybRefIdeal.nD Cert.OutHybRefIdeal.τ).loc Cert.OutHybRefIdeal.main_arg0)
      ∧ r.2.mem ((c.tc : Thread Cert.OutHybRefIdeal.nD Cert.OutHybRefIdeal.τ).loc Cert.OutHybRefIdeal.main_arg1) = m ((c.tc : Thread Cert.OutHybRefIdeal.nD Cert.OutHybRefIdeal.τ).loc Cert.OutHybRefIdeal.main_arg1)
      ∧ r.2.mem ((c.tc : Thread Cert.OutHybRefIdeal.nD Cert.OutHybRefIdeal.τ).loc Cert.OutHybRefIdeal.main_arg2) = m ((c.tc : Thread Cert.OutHybRefIdeal.nD Cert.OutHybRefIdeal.τ).loc Cert.OutHybRefIdeal.main_arg2)
      ∧ r.2.mem ((c.tc : Thread Cert.OutHybRefIdeal.nD Cert.OutHybRefIdeal.τ).loc Cert.OutHybRefIdeal.main_arg3) = m ((c.tc : Thread Cert.OutHybRefIdeal.nD Cert.OutHybRefIdeal.τ).loc Cert.OutHybRefIdeal.main_arg3)
      ∧ r.2.mem ((c.tc : Thread Cert.OutHybRefIdeal.nD Cert.OutHybRefIdeal.τ).loc Cert.OutHybRefIdeal.main_arg4) = m ((c.tc : Thread Cert.OutHybRefIdeal.nD Cert.OutHybRefIdeal.τ).loc Cert.OutHybRefIdeal.main_arg4))
      ∧ r.2.sem = fun _ => 0)

def quiescent_PeerQ [hPeerQ : Cert.PeerQ.Facts] : Prop :=
  ∀ (m : (ℓ : Loc Cert.PeerQ.nD Cert.PeerQ.τ Cert.PeerQ.sig) → Buf (Elt Bits) ℓ) (g : Dev Cert.PeerQ.nD → PrngReg), Pre_PeerQ m →
    θ_run (Cert.PeerQ.defs (F := Bits)) (onTc (τ := Cert.PeerQ.τ) (Cert.PeerQ.main (F := Bits))) ⟨m, fun _ => 0, g⟩ (fun r => (∀ c : Dev Cert.PeerQ.nD,
      r.2.mem ((c.tc : Thread Cert.PeerQ.nD Cert.PeerQ.τ).loc Cert.PeerQ.main_arg0) = m ((c.tc : Thread Cert.PeerQ.nD Cert.PeerQ.τ).loc Cert.PeerQ.main_arg0)
      ∧ r.2.mem ((c.tc : Thread Cert.PeerQ.nD Cert.PeerQ.τ).loc Cert.PeerQ.main_arg1) = m ((c.tc : Thread Cert.PeerQ.nD Cert.PeerQ.τ).loc Cert.PeerQ.main_arg1)
      ∧ r.2.mem ((c.tc : Thread Cert.PeerQ.nD Cert.PeerQ.τ).loc Cert.PeerQ.main_arg2) = m ((c.tc : Thread Cert.PeerQ.nD Cert.PeerQ.τ).loc Cert.PeerQ.main_arg2)
      ∧ r.2.mem ((c.tc : Thread Cert.PeerQ.nD Cert.PeerQ.τ).loc Cert.PeerQ.main_arg3) = m ((c.tc : Thread Cert.PeerQ.nD Cert.PeerQ.τ).loc Cert.PeerQ.main_arg3)
      ∧ r.2.mem ((c.tc : Thread Cert.PeerQ.nD Cert.PeerQ.τ).loc Cert.PeerQ.main_arg4) = m ((c.tc : Thread Cert.PeerQ.nD Cert.PeerQ.τ).loc Cert.PeerQ.main_arg4))
      ∧ r.2.sem = fun _ => 0)

def quiescent_PeerQIdeal [hPeerQIdeal : Cert.PeerQIdeal.Facts] : Prop :=
  ∀ (m : (ℓ : Loc Cert.PeerQIdeal.nD Cert.PeerQIdeal.τ Cert.PeerQIdeal.sig) → Buf (Elt Ideal) ℓ) (g : Dev Cert.PeerQIdeal.nD → PrngReg), Pre_PeerQIdeal m →
    θ_run (Cert.PeerQIdeal.defs (F := Ideal)) (onTc (τ := Cert.PeerQIdeal.τ) (Cert.PeerQIdeal.main (F := Ideal))) ⟨m, fun _ => 0, g⟩ (fun r => (∀ c : Dev Cert.PeerQIdeal.nD,
      r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
      ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1)
      ∧ r.2.mem ((c.tc : Thread Cert.PeerQIdeal.nD Cert.PeerQIdeal.τ).loc Cert.PeerQIdeal.main_arg2) = m ((c.tc : Thread Cert.PeerQIdeal.nD Cert.PeerQIdeal.τ).loc Cert.PeerQIdeal.main_arg2)
      ∧ r.2.mem ((c.tc : Thread Cert.PeerQIdeal.nD Cert.PeerQIdeal.τ).loc Cert.PeerQIdeal.main_arg3) = m ((c.tc : Thread Cert.PeerQIdeal.nD Cert.PeerQIdeal.τ).loc Cert.PeerQIdeal.main_arg3)
      ∧ r.2.mem ((c.tc : Thread Cert.PeerQIdeal.nD Cert.PeerQIdeal.τ).loc Cert.PeerQIdeal.main_arg4) = m ((c.tc : Thread Cert.PeerQIdeal.nD Cert.PeerQIdeal.τ).loc Cert.PeerQIdeal.main_arg4))
      ∧ r.2.sem = fun _ => 0)

def quiescent_PeerQIdeal_pre_finite_q [hPeerQIdeal : Cert.PeerQIdeal.Facts] [hPre_finite_q : Cert.Pre_finite_q.Facts] : Prop :=
  ∀ (m : (ℓ : Loc Cert.PeerQIdeal.nD Cert.PeerQIdeal.τ Cert.PeerQIdeal.sig) → Buf (Elt Ideal) ℓ) (g : Dev Cert.PeerQIdeal.nD → PrngReg), Pre_PeerQIdeal_finite_q m →
    θ_run (Cert.PeerQIdeal.defs (F := Ideal)) (onTc (τ := Cert.PeerQIdeal.τ) (Cert.PeerQIdeal.main (F := Ideal))) ⟨m, fun _ => 0, g⟩ (fun r => (∀ c : Dev Cert.PeerQIdeal.nD,
      r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
      ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1)
      ∧ r.2.mem ((c.tc : Thread Cert.PeerQIdeal.nD Cert.PeerQIdeal.τ).loc Cert.PeerQIdeal.main_arg2) = m ((c.tc : Thread Cert.PeerQIdeal.nD Cert.PeerQIdeal.τ).loc Cert.PeerQIdeal.main_arg2)
      ∧ r.2.mem ((c.tc : Thread Cert.PeerQIdeal.nD Cert.PeerQIdeal.τ).loc Cert.PeerQIdeal.main_arg3) = m ((c.tc : Thread Cert.PeerQIdeal.nD Cert.PeerQIdeal.τ).loc Cert.PeerQIdeal.main_arg3)
      ∧ r.2.mem ((c.tc : Thread Cert.PeerQIdeal.nD Cert.PeerQIdeal.τ).loc Cert.PeerQIdeal.main_arg4) = m ((c.tc : Thread Cert.PeerQIdeal.nD Cert.PeerQIdeal.τ).loc Cert.PeerQIdeal.main_arg4))
      ∧ r.2.sem = fun _ => 0)

def quiescent_PeerQRefIdeal [hPeerQRefIdeal : Cert.PeerQRefIdeal.Facts] : Prop :=
  ∀ (m : (ℓ : Loc Cert.PeerQRefIdeal.nD Cert.PeerQRefIdeal.τ Cert.PeerQRefIdeal.sig) → Buf (Elt Ideal) ℓ) (g : Dev Cert.PeerQRefIdeal.nD → PrngReg), Pre_PeerQRefIdeal m →
    θ_run (Cert.PeerQRefIdeal.defs (F := Ideal)) (onTc (τ := Cert.PeerQRefIdeal.τ) (Cert.PeerQRefIdeal.main (F := Ideal))) ⟨m, fun _ => 0, g⟩ (fun r => (∀ c : Dev Cert.PeerQRefIdeal.nD,
      r.2.mem ((c.tc : Thread Cert.PeerQRefIdeal.nD Cert.PeerQRefIdeal.τ).loc Cert.PeerQRefIdeal.main_arg0) = m ((c.tc : Thread Cert.PeerQRefIdeal.nD Cert.PeerQRefIdeal.τ).loc Cert.PeerQRefIdeal.main_arg0)
      ∧ r.2.mem ((c.tc : Thread Cert.PeerQRefIdeal.nD Cert.PeerQRefIdeal.τ).loc Cert.PeerQRefIdeal.main_arg1) = m ((c.tc : Thread Cert.PeerQRefIdeal.nD Cert.PeerQRefIdeal.τ).loc Cert.PeerQRefIdeal.main_arg1)
      ∧ r.2.mem ((c.tc : Thread Cert.PeerQRefIdeal.nD Cert.PeerQRefIdeal.τ).loc Cert.PeerQRefIdeal.main_arg2) = m ((c.tc : Thread Cert.PeerQRefIdeal.nD Cert.PeerQRefIdeal.τ).loc Cert.PeerQRefIdeal.main_arg2)
      ∧ r.2.mem ((c.tc : Thread Cert.PeerQRefIdeal.nD Cert.PeerQRefIdeal.τ).loc Cert.PeerQRefIdeal.main_arg3) = m ((c.tc : Thread Cert.PeerQRefIdeal.nD Cert.PeerQRefIdeal.τ).loc Cert.PeerQRefIdeal.main_arg3)
      ∧ r.2.mem ((c.tc : Thread Cert.PeerQRefIdeal.nD Cert.PeerQRefIdeal.τ).loc Cert.PeerQRefIdeal.main_arg4) = m ((c.tc : Thread Cert.PeerQRefIdeal.nD Cert.PeerQRefIdeal.τ).loc Cert.PeerQRefIdeal.main_arg4))
      ∧ r.2.sem = fun _ => 0)

def quiescent_PeerQRefIdeal_pre_finite_q [hPeerQRefIdeal : Cert.PeerQRefIdeal.Facts] [hPre_finite_q : Cert.Pre_finite_q.Facts] : Prop :=
  ∀ (m : (ℓ : Loc Cert.PeerQRefIdeal.nD Cert.PeerQRefIdeal.τ Cert.PeerQRefIdeal.sig) → Buf (Elt Ideal) ℓ) (g : Dev Cert.PeerQRefIdeal.nD → PrngReg), Pre_PeerQRefIdeal_finite_q m →
    θ_run (Cert.PeerQRefIdeal.defs (F := Ideal)) (onTc (τ := Cert.PeerQRefIdeal.τ) (Cert.PeerQRefIdeal.main (F := Ideal))) ⟨m, fun _ => 0, g⟩ (fun r => (∀ c : Dev Cert.PeerQRefIdeal.nD,
      r.2.mem ((c.tc : Thread Cert.PeerQRefIdeal.nD Cert.PeerQRefIdeal.τ).loc Cert.PeerQRefIdeal.main_arg0) = m ((c.tc : Thread Cert.PeerQRefIdeal.nD Cert.PeerQRefIdeal.τ).loc Cert.PeerQRefIdeal.main_arg0)
      ∧ r.2.mem ((c.tc : Thread Cert.PeerQRefIdeal.nD Cert.PeerQRefIdeal.τ).loc Cert.PeerQRefIdeal.main_arg1) = m ((c.tc : Thread Cert.PeerQRefIdeal.nD Cert.PeerQRefIdeal.τ).loc Cert.PeerQRefIdeal.main_arg1)
      ∧ r.2.mem ((c.tc : Thread Cert.PeerQRefIdeal.nD Cert.PeerQRefIdeal.τ).loc Cert.PeerQRefIdeal.main_arg2) = m ((c.tc : Thread Cert.PeerQRefIdeal.nD Cert.PeerQRefIdeal.τ).loc Cert.PeerQRefIdeal.main_arg2)
      ∧ r.2.mem ((c.tc : Thread Cert.PeerQRefIdeal.nD Cert.PeerQRefIdeal.τ).loc Cert.PeerQRefIdeal.main_arg3) = m ((c.tc : Thread Cert.PeerQRefIdeal.nD Cert.PeerQRefIdeal.τ).loc Cert.PeerQRefIdeal.main_arg3)
      ∧ r.2.mem ((c.tc : Thread Cert.PeerQRefIdeal.nD Cert.PeerQRefIdeal.τ).loc Cert.PeerQRefIdeal.main_arg4) = m ((c.tc : Thread Cert.PeerQRefIdeal.nD Cert.PeerQRefIdeal.τ).loc Cert.PeerQRefIdeal.main_arg4))
      ∧ r.2.sem = fun _ => 0)

def quiescent_HybIn [hHybIn : Cert.HybIn.Facts] : Prop :=
  ∀ (m : (ℓ : Loc Cert.HybIn.nD Cert.HybIn.τ Cert.HybIn.sig) → Buf (Elt Bits) ℓ) (g : Dev Cert.HybIn.nD → PrngReg), Pre_HybIn m →
    θ_run (Cert.HybIn.defs (F := Bits)) (onTc (τ := Cert.HybIn.τ) (Cert.HybIn.main (F := Bits))) ⟨m, fun _ => 0, g⟩ (fun r => (∀ c : Dev Cert.HybIn.nD,
      r.2.mem ((c.tc : Thread Cert.HybIn.nD Cert.HybIn.τ).loc Cert.HybIn.main_arg0) = m ((c.tc : Thread Cert.HybIn.nD Cert.HybIn.τ).loc Cert.HybIn.main_arg0)
      ∧ r.2.mem ((c.tc : Thread Cert.HybIn.nD Cert.HybIn.τ).loc Cert.HybIn.main_arg1) = m ((c.tc : Thread Cert.HybIn.nD Cert.HybIn.τ).loc Cert.HybIn.main_arg1)
      ∧ r.2.mem ((c.tc : Thread Cert.HybIn.nD Cert.HybIn.τ).loc Cert.HybIn.main_arg2) = m ((c.tc : Thread Cert.HybIn.nD Cert.HybIn.τ).loc Cert.HybIn.main_arg2)
      ∧ r.2.mem ((c.tc : Thread Cert.HybIn.nD Cert.HybIn.τ).loc Cert.HybIn.main_arg3) = m ((c.tc : Thread Cert.HybIn.nD Cert.HybIn.τ).loc Cert.HybIn.main_arg3)
      ∧ r.2.mem ((c.tc : Thread Cert.HybIn.nD Cert.HybIn.τ).loc Cert.HybIn.main_arg4) = m ((c.tc : Thread Cert.HybIn.nD Cert.HybIn.τ).loc Cert.HybIn.main_arg4))
      ∧ r.2.sem = fun _ => 0)

def quiescent_HybInIdeal [hHybInIdeal : Cert.HybInIdeal.Facts] : Prop :=
  ∀ (m : (ℓ : Loc Cert.HybInIdeal.nD Cert.HybInIdeal.τ Cert.HybInIdeal.sig) → Buf (Elt Ideal) ℓ) (g : Dev Cert.HybInIdeal.nD → PrngReg), Pre_HybInIdeal m →
    θ_run (Cert.HybInIdeal.defs (F := Ideal)) (onTc (τ := Cert.HybInIdeal.τ) (Cert.HybInIdeal.main (F := Ideal))) ⟨m, fun _ => 0, g⟩ (fun r => (∀ c : Dev Cert.HybInIdeal.nD,
      r.2.mem ((c.tc : Thread Cert.HybInIdeal.nD Cert.HybInIdeal.τ).loc Cert.HybInIdeal.main_arg0) = m ((c.tc : Thread Cert.HybInIdeal.nD Cert.HybInIdeal.τ).loc Cert.HybInIdeal.main_arg0)
      ∧ r.2.mem ((c.tc : Thread Cert.HybInIdeal.nD Cert.HybInIdeal.τ).loc Cert.HybInIdeal.main_arg1) = m ((c.tc : Thread Cert.HybInIdeal.nD Cert.HybInIdeal.τ).loc Cert.HybInIdeal.main_arg1)
      ∧ r.2.mem ((c.tc : Thread Cert.HybInIdeal.nD Cert.HybInIdeal.τ).loc Cert.HybInIdeal.main_arg2) = m ((c.tc : Thread Cert.HybInIdeal.nD Cert.HybInIdeal.τ).loc Cert.HybInIdeal.main_arg2)
      ∧ r.2.mem ((c.tc : Thread Cert.HybInIdeal.nD Cert.HybInIdeal.τ).loc Cert.HybInIdeal.main_arg3) = m ((c.tc : Thread Cert.HybInIdeal.nD Cert.HybInIdeal.τ).loc Cert.HybInIdeal.main_arg3)
      ∧ r.2.mem ((c.tc : Thread Cert.HybInIdeal.nD Cert.HybInIdeal.τ).loc Cert.HybInIdeal.main_arg4) = m ((c.tc : Thread Cert.HybInIdeal.nD Cert.HybInIdeal.τ).loc Cert.HybInIdeal.main_arg4))
      ∧ r.2.sem = fun _ => 0)

def quiescent_HybInRefIdeal [hHybInRefIdeal : Cert.HybInRefIdeal.Facts] : Prop :=
  ∀ (m : (ℓ : Loc Cert.HybInRefIdeal.nD Cert.HybInRefIdeal.τ Cert.HybInRefIdeal.sig) → Buf (Elt Ideal) ℓ) (g : Dev Cert.HybInRefIdeal.nD → PrngReg), Pre_HybInRefIdeal m →
    θ_run (Cert.HybInRefIdeal.defs (F := Ideal)) (onTc (τ := Cert.HybInRefIdeal.τ) (Cert.HybInRefIdeal.main (F := Ideal))) ⟨m, fun _ => 0, g⟩ (fun r => (∀ c : Dev Cert.HybInRefIdeal.nD,
      r.2.mem ((c.tc : Thread Cert.HybInRefIdeal.nD Cert.HybInRefIdeal.τ).loc Cert.HybInRefIdeal.main_arg0) = m ((c.tc : Thread Cert.HybInRefIdeal.nD Cert.HybInRefIdeal.τ).loc Cert.HybInRefIdeal.main_arg0)
      ∧ r.2.mem ((c.tc : Thread Cert.HybInRefIdeal.nD Cert.HybInRefIdeal.τ).loc Cert.HybInRefIdeal.main_arg1) = m ((c.tc : Thread Cert.HybInRefIdeal.nD Cert.HybInRefIdeal.τ).loc Cert.HybInRefIdeal.main_arg1)
      ∧ r.2.mem ((c.tc : Thread Cert.HybInRefIdeal.nD Cert.HybInRefIdeal.τ).loc Cert.HybInRefIdeal.main_arg2) = m ((c.tc : Thread Cert.HybInRefIdeal.nD Cert.HybInRefIdeal.τ).loc Cert.HybInRefIdeal.main_arg2)
      ∧ r.2.mem ((c.tc : Thread Cert.HybInRefIdeal.nD Cert.HybInRefIdeal.τ).loc Cert.HybInRefIdeal.main_arg3) = m ((c.tc : Thread Cert.HybInRefIdeal.nD Cert.HybInRefIdeal.τ).loc Cert.HybInRefIdeal.main_arg3)
      ∧ r.2.mem ((c.tc : Thread Cert.HybInRefIdeal.nD Cert.HybInRefIdeal.τ).loc Cert.HybInRefIdeal.main_arg4) = m ((c.tc : Thread Cert.HybInRefIdeal.nD Cert.HybInRefIdeal.τ).loc Cert.HybInRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Attn3_Attn3Ideal : Prop :=
  True

def algebraic_Attn3Ideal_Attn3RefIdeal_pre_finite [hAttn3Ideal : Cert.Attn3Ideal.Facts] [hAttn3RefIdeal : Cert.Attn3RefIdeal.Facts] [hPre_finite : Cert.Pre_finite.Facts] : Prop :=
  ∀ (m : (ℓ : Loc Cert.Attn3Ideal.nD Cert.Attn3Ideal.τ Cert.Attn3Ideal.sig) → Buf (Elt Ideal) ℓ) (g : Dev Cert.Attn3Ideal.nD → PrngReg)
    (m' : (ℓ : Loc Cert.Attn3RefIdeal.nD Cert.Attn3RefIdeal.τ Cert.Attn3RefIdeal.sig) → Buf (Elt Ideal) ℓ) (g' : Dev Cert.Attn3RefIdeal.nD → PrngReg), Pre_Attn3Ideal_finite m →
    (∀ c : Dev Cert.Attn3Ideal.nD,
      m' ((c.tc : Thread Cert.Attn3RefIdeal.nD Cert.Attn3RefIdeal.τ).loc Cert.Attn3RefIdeal.main_arg0) = m ((c.tc : Thread Cert.Attn3Ideal.nD Cert.Attn3Ideal.τ).loc Cert.Attn3Ideal.main_arg0)
      ∧ m' ((c.tc : Thread Cert.Attn3RefIdeal.nD Cert.Attn3RefIdeal.τ).loc Cert.Attn3RefIdeal.main_arg1) = m ((c.tc : Thread Cert.Attn3Ideal.nD Cert.Attn3Ideal.τ).loc Cert.Attn3Ideal.main_arg1)
      ∧ m' ((c.tc : Thread Cert.Attn3RefIdeal.nD Cert.Attn3RefIdeal.τ).loc Cert.Attn3RefIdeal.main_arg2) = m ((c.tc : Thread Cert.Attn3Ideal.nD Cert.Attn3Ideal.τ).loc Cert.Attn3Ideal.main_arg2)
      ∧ m' ((c.tc : Thread Cert.Attn3RefIdeal.nD Cert.Attn3RefIdeal.τ).loc Cert.Attn3RefIdeal.main_arg3) = m ((c.tc : Thread Cert.Attn3Ideal.nD Cert.Attn3Ideal.τ).loc Cert.Attn3Ideal.main_arg3)
      ∧ m' ((c.tc : Thread Cert.Attn3RefIdeal.nD Cert.Attn3RefIdeal.τ).loc Cert.Attn3RefIdeal.main_arg4) = m ((c.tc : Thread Cert.Attn3Ideal.nD Cert.Attn3Ideal.τ).loc Cert.Attn3Ideal.main_arg4)
      ∧ m' ((c.tc : Thread Cert.Attn3RefIdeal.nD Cert.Attn3RefIdeal.τ).loc Cert.Attn3RefIdeal.main_arg5) = m ((c.tc : Thread Cert.Attn3Ideal.nD Cert.Attn3Ideal.τ).loc Cert.Attn3Ideal.main_arg5)
      ∧ m' ((c.tc : Thread Cert.Attn3RefIdeal.nD Cert.Attn3RefIdeal.τ).loc Cert.Attn3RefIdeal.main_arg6) = m ((c.tc : Thread Cert.Attn3Ideal.nD Cert.Attn3Ideal.τ).loc Cert.Attn3Ideal.main_arg6)
      ∧ m' ((c.tc : Thread Cert.Attn3RefIdeal.nD Cert.Attn3RefIdeal.τ).loc Cert.Attn3RefIdeal.main_arg7) = m ((c.tc : Thread Cert.Attn3Ideal.nD Cert.Attn3Ideal.τ).loc Cert.Attn3Ideal.main_arg7)) →
    ∃ (v0 : (c : Dev Cert.Attn3Ideal.nD) → Buf (Elt Ideal) ((c.tc : Thread Cert.Attn3Ideal.nD Cert.Attn3Ideal.τ).loc Cert.Attn3Ideal.main_v5)),
      θ_run (Cert.Attn3Ideal.defs (F := Ideal)) (onTc (τ := Cert.Attn3Ideal.τ) (Cert.Attn3Ideal.main (F := Ideal))) ⟨m, fun _ => 0, g⟩ (fun r => ∀ c : Dev Cert.Attn3Ideal.nD,
          r.2.mem ((c.tc : Thread Cert.Attn3Ideal.nD Cert.Attn3Ideal.τ).loc Cert.Attn3Ideal.main_v5) = v0 c
          ∧ r.2.mem ((c.tc : Thread Cert.Attn3Ideal.nD Cert.Attn3Ideal.τ).loc Cert.Attn3Ideal.main_arg0) = m ((c.tc : Thread Cert.Attn3Ideal.nD Cert.Attn3Ideal.τ).loc Cert.Attn3Ideal.main_arg0)
          ∧ r.2.mem ((c.tc : Thread Cert.Attn3Ideal.nD Cert.Attn3Ideal.τ).loc Cert.Attn3Ideal.main_arg1) = m ((c.tc : Thread Cert.Attn3Ideal.nD Cert.Attn3Ideal.τ).loc Cert.Attn3Ideal.main_arg1)
          ∧ r.2.mem ((c.tc : Thread Cert.Attn3Ideal.nD Cert.Attn3Ideal.τ).loc Cert.Attn3Ideal.main_arg2) = m ((c.tc : Thread Cert.Attn3Ideal.nD Cert.Attn3Ideal.τ).loc Cert.Attn3Ideal.main_arg2)
          ∧ r.2.mem ((c.tc : Thread Cert.Attn3Ideal.nD Cert.Attn3Ideal.τ).loc Cert.Attn3Ideal.main_arg3) = m ((c.tc : Thread Cert.Attn3Ideal.nD Cert.Attn3Ideal.τ).loc Cert.Attn3Ideal.main_arg3)
          ∧ r.2.mem ((c.tc : Thread Cert.Attn3Ideal.nD Cert.Attn3Ideal.τ).loc Cert.Attn3Ideal.main_arg4) = m ((c.tc : Thread Cert.Attn3Ideal.nD Cert.Attn3Ideal.τ).loc Cert.Attn3Ideal.main_arg4)
          ∧ r.2.mem ((c.tc : Thread Cert.Attn3Ideal.nD Cert.Attn3Ideal.τ).loc Cert.Attn3Ideal.main_arg5) = m ((c.tc : Thread Cert.Attn3Ideal.nD Cert.Attn3Ideal.τ).loc Cert.Attn3Ideal.main_arg5)
          ∧ r.2.mem ((c.tc : Thread Cert.Attn3Ideal.nD Cert.Attn3Ideal.τ).loc Cert.Attn3Ideal.main_arg6) = m ((c.tc : Thread Cert.Attn3Ideal.nD Cert.Attn3Ideal.τ).loc Cert.Attn3Ideal.main_arg6)
          ∧ r.2.mem ((c.tc : Thread Cert.Attn3Ideal.nD Cert.Attn3Ideal.τ).loc Cert.Attn3Ideal.main_arg7) = m ((c.tc : Thread Cert.Attn3Ideal.nD Cert.Attn3Ideal.τ).loc Cert.Attn3Ideal.main_arg7))
      ∧ θ_run (Cert.Attn3RefIdeal.defs (F := Ideal)) (onTc (τ := Cert.Attn3RefIdeal.τ) (Cert.Attn3RefIdeal.main (F := Ideal))) ⟨m', fun _ => 0, g'⟩ (fun r => ∀ c : Dev Cert.Attn3RefIdeal.nD,
          r.2.mem ((c.tc : Thread Cert.Attn3RefIdeal.nD Cert.Attn3RefIdeal.τ).loc Cert.Attn3RefIdeal.main_v60) = v0 c
          ∧ r.2.mem ((c.tc : Thread Cert.Attn3RefIdeal.nD Cert.Attn3RefIdeal.τ).loc Cert.Attn3RefIdeal.main_arg0) = m' ((c.tc : Thread Cert.Attn3RefIdeal.nD Cert.Attn3RefIdeal.τ).loc Cert.Attn3RefIdeal.main_arg0)
          ∧ r.2.mem ((c.tc : Thread Cert.Attn3RefIdeal.nD Cert.Attn3RefIdeal.τ).loc Cert.Attn3RefIdeal.main_arg1) = m' ((c.tc : Thread Cert.Attn3RefIdeal.nD Cert.Attn3RefIdeal.τ).loc Cert.Attn3RefIdeal.main_arg1)
          ∧ r.2.mem ((c.tc : Thread Cert.Attn3RefIdeal.nD Cert.Attn3RefIdeal.τ).loc Cert.Attn3RefIdeal.main_arg2) = m' ((c.tc : Thread Cert.Attn3RefIdeal.nD Cert.Attn3RefIdeal.τ).loc Cert.Attn3RefIdeal.main_arg2)
          ∧ r.2.mem ((c.tc : Thread Cert.Attn3RefIdeal.nD Cert.Attn3RefIdeal.τ).loc Cert.Attn3RefIdeal.main_arg3) = m' ((c.tc : Thread Cert.Attn3RefIdeal.nD Cert.Attn3RefIdeal.τ).loc Cert.Attn3RefIdeal.main_arg3)
          ∧ r.2.mem ((c.tc : Thread Cert.Attn3RefIdeal.nD Cert.Attn3RefIdeal.τ).loc Cert.Attn3RefIdeal.main_arg4) = m' ((c.tc : Thread Cert.Attn3RefIdeal.nD Cert.Attn3RefIdeal.τ).loc Cert.Attn3RefIdeal.main_arg4)
          ∧ r.2.mem ((c.tc : Thread Cert.Attn3RefIdeal.nD Cert.Attn3RefIdeal.τ).loc Cert.Attn3RefIdeal.main_arg5) = m' ((c.tc : Thread Cert.Attn3RefIdeal.nD Cert.Attn3RefIdeal.τ).loc Cert.Attn3RefIdeal.main_arg5)
          ∧ r.2.mem ((c.tc : Thread Cert.Attn3RefIdeal.nD Cert.Attn3RefIdeal.τ).loc Cert.Attn3RefIdeal.main_arg6) = m' ((c.tc : Thread Cert.Attn3RefIdeal.nD Cert.Attn3RefIdeal.τ).loc Cert.Attn3RefIdeal.main_arg6)
          ∧ r.2.mem ((c.tc : Thread Cert.Attn3RefIdeal.nD Cert.Attn3RefIdeal.τ).loc Cert.Attn3RefIdeal.main_arg7) = m' ((c.tc : Thread Cert.Attn3RefIdeal.nD Cert.Attn3RefIdeal.τ).loc Cert.Attn3RefIdeal.main_arg7))

def preserves_OutDiff_OutDiffIdeal : Prop :=
  True

def algebraic_OutDiffIdeal_OutDiffRefIdeal [hOutDiffIdeal : Cert.OutDiffIdeal.Facts] [hOutDiffRefIdeal : Cert.OutDiffRefIdeal.Facts] : Prop :=
  ∀ (m : (ℓ : Loc Cert.OutDiffIdeal.nD Cert.OutDiffIdeal.τ Cert.OutDiffIdeal.sig) → Buf (Elt Ideal) ℓ) (g : Dev Cert.OutDiffIdeal.nD → PrngReg)
    (m' : (ℓ : Loc Cert.OutDiffRefIdeal.nD Cert.OutDiffRefIdeal.τ Cert.OutDiffRefIdeal.sig) → Buf (Elt Ideal) ℓ) (g' : Dev Cert.OutDiffRefIdeal.nD → PrngReg), Pre_OutDiffIdeal m →
    (∀ c : Dev Cert.OutDiffIdeal.nD,
      m' ((c.tc : Thread Cert.OutDiffRefIdeal.nD Cert.OutDiffRefIdeal.τ).loc Cert.OutDiffRefIdeal.main_arg0) = m ((c.tc : Thread Cert.OutDiffIdeal.nD Cert.OutDiffIdeal.τ).loc Cert.OutDiffIdeal.main_arg0)
      ∧ m' ((c.tc : Thread Cert.OutDiffRefIdeal.nD Cert.OutDiffRefIdeal.τ).loc Cert.OutDiffRefIdeal.main_arg1) = m ((c.tc : Thread Cert.OutDiffIdeal.nD Cert.OutDiffIdeal.τ).loc Cert.OutDiffIdeal.main_arg1)
      ∧ m' ((c.tc : Thread Cert.OutDiffRefIdeal.nD Cert.OutDiffRefIdeal.τ).loc Cert.OutDiffRefIdeal.main_arg2) = m ((c.tc : Thread Cert.OutDiffIdeal.nD Cert.OutDiffIdeal.τ).loc Cert.OutDiffIdeal.main_arg2)
      ∧ m' ((c.tc : Thread Cert.OutDiffRefIdeal.nD Cert.OutDiffRefIdeal.τ).loc Cert.OutDiffRefIdeal.main_arg3) = m ((c.tc : Thread Cert.OutDiffIdeal.nD Cert.OutDiffIdeal.τ).loc Cert.OutDiffIdeal.main_arg3)) →
    ∃ (v0 : (c : Dev Cert.OutDiffIdeal.nD) → Buf (Elt Ideal) ((c.tc : Thread Cert.OutDiffIdeal.nD Cert.OutDiffIdeal.τ).loc Cert.OutDiffIdeal.main_v1)),
      θ_run (Cert.OutDiffIdeal.defs (F := Ideal)) (onTc (τ := Cert.OutDiffIdeal.τ) (Cert.OutDiffIdeal.main (F := Ideal))) ⟨m, fun _ => 0, g⟩ (fun r => ∀ c : Dev Cert.OutDiffIdeal.nD,
          r.2.mem ((c.tc : Thread Cert.OutDiffIdeal.nD Cert.OutDiffIdeal.τ).loc Cert.OutDiffIdeal.main_v1) = v0 c
          ∧ r.2.mem ((c.tc : Thread Cert.OutDiffIdeal.nD Cert.OutDiffIdeal.τ).loc Cert.OutDiffIdeal.main_arg0) = m ((c.tc : Thread Cert.OutDiffIdeal.nD Cert.OutDiffIdeal.τ).loc Cert.OutDiffIdeal.main_arg0)
          ∧ r.2.mem ((c.tc : Thread Cert.OutDiffIdeal.nD Cert.OutDiffIdeal.τ).loc Cert.OutDiffIdeal.main_arg1) = m ((c.tc : Thread Cert.OutDiffIdeal.nD Cert.OutDiffIdeal.τ).loc Cert.OutDiffIdeal.main_arg1)
          ∧ r.2.mem ((c.tc : Thread Cert.OutDiffIdeal.nD Cert.OutDiffIdeal.τ).loc Cert.OutDiffIdeal.main_arg2) = m ((c.tc : Thread Cert.OutDiffIdeal.nD Cert.OutDiffIdeal.τ).loc Cert.OutDiffIdeal.main_arg2)
          ∧ r.2.mem ((c.tc : Thread Cert.OutDiffIdeal.nD Cert.OutDiffIdeal.τ).loc Cert.OutDiffIdeal.main_arg3) = m ((c.tc : Thread Cert.OutDiffIdeal.nD Cert.OutDiffIdeal.τ).loc Cert.OutDiffIdeal.main_arg3))
      ∧ θ_run (Cert.OutDiffRefIdeal.defs (F := Ideal)) (onTc (τ := Cert.OutDiffRefIdeal.τ) (Cert.OutDiffRefIdeal.main (F := Ideal))) ⟨m', fun _ => 0, g'⟩ (fun r => ∀ c : Dev Cert.OutDiffRefIdeal.nD,
          r.2.mem ((c.tc : Thread Cert.OutDiffRefIdeal.nD Cert.OutDiffRefIdeal.τ).loc Cert.OutDiffRefIdeal.main_v7) = v0 c
          ∧ r.2.mem ((c.tc : Thread Cert.OutDiffRefIdeal.nD Cert.OutDiffRefIdeal.τ).loc Cert.OutDiffRefIdeal.main_arg0) = m' ((c.tc : Thread Cert.OutDiffRefIdeal.nD Cert.OutDiffRefIdeal.τ).loc Cert.OutDiffRefIdeal.main_arg0)
          ∧ r.2.mem ((c.tc : Thread Cert.OutDiffRefIdeal.nD Cert.OutDiffRefIdeal.τ).loc Cert.OutDiffRefIdeal.main_arg1) = m' ((c.tc : Thread Cert.OutDiffRefIdeal.nD Cert.OutDiffRefIdeal.τ).loc Cert.OutDiffRefIdeal.main_arg1)
          ∧ r.2.mem ((c.tc : Thread Cert.OutDiffRefIdeal.nD Cert.OutDiffRefIdeal.τ).loc Cert.OutDiffRefIdeal.main_arg2) = m' ((c.tc : Thread Cert.OutDiffRefIdeal.nD Cert.OutDiffRefIdeal.τ).loc Cert.OutDiffRefIdeal.main_arg2)
          ∧ r.2.mem ((c.tc : Thread Cert.OutDiffRefIdeal.nD Cert.OutDiffRefIdeal.τ).loc Cert.OutDiffRefIdeal.main_arg3) = m' ((c.tc : Thread Cert.OutDiffRefIdeal.nD Cert.OutDiffRefIdeal.τ).loc Cert.OutDiffRefIdeal.main_arg3))

def preserves_OutHyb_OutHybIdeal : Prop :=
  True

def algebraic_OutHybIdeal_OutHybRefIdeal [hOutHybIdeal : Cert.OutHybIdeal.Facts] [hOutHybRefIdeal : Cert.OutHybRefIdeal.Facts] : Prop :=
  ∀ (m : (ℓ : Loc Cert.OutHybIdeal.nD Cert.OutHybIdeal.τ Cert.OutHybIdeal.sig) → Buf (Elt Ideal) ℓ) (g : Dev Cert.OutHybIdeal.nD → PrngReg)
    (m' : (ℓ : Loc Cert.OutHybRefIdeal.nD Cert.OutHybRefIdeal.τ Cert.OutHybRefIdeal.sig) → Buf (Elt Ideal) ℓ) (g' : Dev Cert.OutHybRefIdeal.nD → PrngReg), Pre_OutHybIdeal m →
    (∀ c : Dev Cert.OutHybIdeal.nD,
      m' ((c.tc : Thread Cert.OutHybRefIdeal.nD Cert.OutHybRefIdeal.τ).loc Cert.OutHybRefIdeal.main_arg0) = m ((c.tc : Thread Cert.OutHybIdeal.nD Cert.OutHybIdeal.τ).loc Cert.OutHybIdeal.main_arg0)
      ∧ m' ((c.tc : Thread Cert.OutHybRefIdeal.nD Cert.OutHybRefIdeal.τ).loc Cert.OutHybRefIdeal.main_arg1) = m ((c.tc : Thread Cert.OutHybIdeal.nD Cert.OutHybIdeal.τ).loc Cert.OutHybIdeal.main_arg1)
      ∧ m' ((c.tc : Thread Cert.OutHybRefIdeal.nD Cert.OutHybRefIdeal.τ).loc Cert.OutHybRefIdeal.main_arg2) = m ((c.tc : Thread Cert.OutHybIdeal.nD Cert.OutHybIdeal.τ).loc Cert.OutHybIdeal.main_arg2)
      ∧ m' ((c.tc : Thread Cert.OutHybRefIdeal.nD Cert.OutHybRefIdeal.τ).loc Cert.OutHybRefIdeal.main_arg3) = m ((c.tc : Thread Cert.OutHybIdeal.nD Cert.OutHybIdeal.τ).loc Cert.OutHybIdeal.main_arg3)
      ∧ m' ((c.tc : Thread Cert.OutHybRefIdeal.nD Cert.OutHybRefIdeal.τ).loc Cert.OutHybRefIdeal.main_arg4) = m ((c.tc : Thread Cert.OutHybIdeal.nD Cert.OutHybIdeal.τ).loc Cert.OutHybIdeal.main_arg4)) →
    ∃ (v0 : (c : Dev Cert.OutHybIdeal.nD) → Buf (Elt Ideal) ((c.tc : Thread Cert.OutHybIdeal.nD Cert.OutHybIdeal.τ).loc Cert.OutHybIdeal.main_v5)),
      θ_run (Cert.OutHybIdeal.defs (F := Ideal)) (onTc (τ := Cert.OutHybIdeal.τ) (Cert.OutHybIdeal.main (F := Ideal))) ⟨m, fun _ => 0, g⟩ (fun r => ∀ c : Dev Cert.OutHybIdeal.nD,
          r.2.mem ((c.tc : Thread Cert.OutHybIdeal.nD Cert.OutHybIdeal.τ).loc Cert.OutHybIdeal.main_v5) = v0 c
          ∧ r.2.mem ((c.tc : Thread Cert.OutHybIdeal.nD Cert.OutHybIdeal.τ).loc Cert.OutHybIdeal.main_arg0) = m ((c.tc : Thread Cert.OutHybIdeal.nD Cert.OutHybIdeal.τ).loc Cert.OutHybIdeal.main_arg0)
          ∧ r.2.mem ((c.tc : Thread Cert.OutHybIdeal.nD Cert.OutHybIdeal.τ).loc Cert.OutHybIdeal.main_arg1) = m ((c.tc : Thread Cert.OutHybIdeal.nD Cert.OutHybIdeal.τ).loc Cert.OutHybIdeal.main_arg1)
          ∧ r.2.mem ((c.tc : Thread Cert.OutHybIdeal.nD Cert.OutHybIdeal.τ).loc Cert.OutHybIdeal.main_arg2) = m ((c.tc : Thread Cert.OutHybIdeal.nD Cert.OutHybIdeal.τ).loc Cert.OutHybIdeal.main_arg2)
          ∧ r.2.mem ((c.tc : Thread Cert.OutHybIdeal.nD Cert.OutHybIdeal.τ).loc Cert.OutHybIdeal.main_arg3) = m ((c.tc : Thread Cert.OutHybIdeal.nD Cert.OutHybIdeal.τ).loc Cert.OutHybIdeal.main_arg3)
          ∧ r.2.mem ((c.tc : Thread Cert.OutHybIdeal.nD Cert.OutHybIdeal.τ).loc Cert.OutHybIdeal.main_arg4) = m ((c.tc : Thread Cert.OutHybIdeal.nD Cert.OutHybIdeal.τ).loc Cert.OutHybIdeal.main_arg4))
      ∧ θ_run (Cert.OutHybRefIdeal.defs (F := Ideal)) (onTc (τ := Cert.OutHybRefIdeal.τ) (Cert.OutHybRefIdeal.main (F := Ideal))) ⟨m', fun _ => 0, g'⟩ (fun r => ∀ c : Dev Cert.OutHybRefIdeal.nD,
          r.2.mem ((c.tc : Thread Cert.OutHybRefIdeal.nD Cert.OutHybRefIdeal.τ).loc Cert.OutHybRefIdeal.main_v7) = v0 c
          ∧ r.2.mem ((c.tc : Thread Cert.OutHybRefIdeal.nD Cert.OutHybRefIdeal.τ).loc Cert.OutHybRefIdeal.main_arg0) = m' ((c.tc : Thread Cert.OutHybRefIdeal.nD Cert.OutHybRefIdeal.τ).loc Cert.OutHybRefIdeal.main_arg0)
          ∧ r.2.mem ((c.tc : Thread Cert.OutHybRefIdeal.nD Cert.OutHybRefIdeal.τ).loc Cert.OutHybRefIdeal.main_arg1) = m' ((c.tc : Thread Cert.OutHybRefIdeal.nD Cert.OutHybRefIdeal.τ).loc Cert.OutHybRefIdeal.main_arg1)
          ∧ r.2.mem ((c.tc : Thread Cert.OutHybRefIdeal.nD Cert.OutHybRefIdeal.τ).loc Cert.OutHybRefIdeal.main_arg2) = m' ((c.tc : Thread Cert.OutHybRefIdeal.nD Cert.OutHybRefIdeal.τ).loc Cert.OutHybRefIdeal.main_arg2)
          ∧ r.2.mem ((c.tc : Thread Cert.OutHybRefIdeal.nD Cert.OutHybRefIdeal.τ).loc Cert.OutHybRefIdeal.main_arg3) = m' ((c.tc : Thread Cert.OutHybRefIdeal.nD Cert.OutHybRefIdeal.τ).loc Cert.OutHybRefIdeal.main_arg3)
          ∧ r.2.mem ((c.tc : Thread Cert.OutHybRefIdeal.nD Cert.OutHybRefIdeal.τ).loc Cert.OutHybRefIdeal.main_arg4) = m' ((c.tc : Thread Cert.OutHybRefIdeal.nD Cert.OutHybRefIdeal.τ).loc Cert.OutHybRefIdeal.main_arg4))

def preserves_PeerQ_PeerQIdeal : Prop :=
  True

def algebraic_PeerQIdeal_PeerQRefIdeal_pre_finite_q [hPeerQIdeal : Cert.PeerQIdeal.Facts] [hPeerQRefIdeal : Cert.PeerQRefIdeal.Facts] [hPre_finite_q : Cert.Pre_finite_q.Facts] : Prop :=
  ∀ (m : (ℓ : Loc Cert.PeerQIdeal.nD Cert.PeerQIdeal.τ Cert.PeerQIdeal.sig) → Buf (Elt Ideal) ℓ) (g : Dev Cert.PeerQIdeal.nD → PrngReg)
    (m' : (ℓ : Loc Cert.PeerQRefIdeal.nD Cert.PeerQRefIdeal.τ Cert.PeerQRefIdeal.sig) → Buf (Elt Ideal) ℓ) (g' : Dev Cert.PeerQRefIdeal.nD → PrngReg), Pre_PeerQIdeal_finite_q m →
    (∀ c : Dev Cert.PeerQIdeal.nD,
      m' ((c.tc : Thread Cert.PeerQRefIdeal.nD Cert.PeerQRefIdeal.τ).loc Cert.PeerQRefIdeal.main_arg0) = m ((c.tc : Thread Cert.PeerQIdeal.nD Cert.PeerQIdeal.τ).loc Cert.PeerQIdeal.main_arg0)
      ∧ m' ((c.tc : Thread Cert.PeerQRefIdeal.nD Cert.PeerQRefIdeal.τ).loc Cert.PeerQRefIdeal.main_arg1) = m ((c.tc : Thread Cert.PeerQIdeal.nD Cert.PeerQIdeal.τ).loc Cert.PeerQIdeal.main_arg1)
      ∧ m' ((c.tc : Thread Cert.PeerQRefIdeal.nD Cert.PeerQRefIdeal.τ).loc Cert.PeerQRefIdeal.main_arg2) = m ((c.tc : Thread Cert.PeerQIdeal.nD Cert.PeerQIdeal.τ).loc Cert.PeerQIdeal.main_arg2)
      ∧ m' ((c.tc : Thread Cert.PeerQRefIdeal.nD Cert.PeerQRefIdeal.τ).loc Cert.PeerQRefIdeal.main_arg3) = m ((c.tc : Thread Cert.PeerQIdeal.nD Cert.PeerQIdeal.τ).loc Cert.PeerQIdeal.main_arg3)
      ∧ m' ((c.tc : Thread Cert.PeerQRefIdeal.nD Cert.PeerQRefIdeal.τ).loc Cert.PeerQRefIdeal.main_arg4) = m ((c.tc : Thread Cert.PeerQIdeal.nD Cert.PeerQIdeal.τ).loc Cert.PeerQIdeal.main_arg4)) →
    ∃ (v0 : (c : Dev Cert.PeerQIdeal.nD) → Buf (Elt Ideal) ((c.tc : Thread Cert.PeerQIdeal.nD Cert.PeerQIdeal.τ).loc Cert.PeerQIdeal.main_v5_0)) (v1 : (c : Dev Cert.PeerQIdeal.nD) → Buf (Elt Ideal) ((c.tc : Thread Cert.PeerQIdeal.nD Cert.PeerQIdeal.τ).loc Cert.PeerQIdeal.main_v5_1)),
      θ_run (Cert.PeerQIdeal.defs (F := Ideal)) (onTc (τ := Cert.PeerQIdeal.τ) (Cert.PeerQIdeal.main (F := Ideal))) ⟨m, fun _ => 0, g⟩ (fun r => ∀ c : Dev Cert.PeerQIdeal.nD,
          r.2.mem ((c.tc : Thread Cert.PeerQIdeal.nD Cert.PeerQIdeal.τ).loc Cert.PeerQIdeal.main_v5_0) = v0 c
          ∧ r.2.mem ((c.tc : Thread Cert.PeerQIdeal.nD Cert.PeerQIdeal.τ).loc Cert.PeerQIdeal.main_v5_1) = v1 c
          ∧ r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
          ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1)
          ∧ r.2.mem ((c.tc : Thread Cert.PeerQIdeal.nD Cert.PeerQIdeal.τ).loc Cert.PeerQIdeal.main_arg2) = m ((c.tc : Thread Cert.PeerQIdeal.nD Cert.PeerQIdeal.τ).loc Cert.PeerQIdeal.main_arg2)
          ∧ r.2.mem ((c.tc : Thread Cert.PeerQIdeal.nD Cert.PeerQIdeal.τ).loc Cert.PeerQIdeal.main_arg3) = m ((c.tc : Thread Cert.PeerQIdeal.nD Cert.PeerQIdeal.τ).loc Cert.PeerQIdeal.main_arg3)
          ∧ r.2.mem ((c.tc : Thread Cert.PeerQIdeal.nD Cert.PeerQIdeal.τ).loc Cert.PeerQIdeal.main_arg4) = m ((c.tc : Thread Cert.PeerQIdeal.nD Cert.PeerQIdeal.τ).loc Cert.PeerQIdeal.main_arg4))
      ∧ θ_run (Cert.PeerQRefIdeal.defs (F := Ideal)) (onTc (τ := Cert.PeerQRefIdeal.τ) (Cert.PeerQRefIdeal.main (F := Ideal))) ⟨m', fun _ => 0, g'⟩ (fun r => ∀ c : Dev Cert.PeerQRefIdeal.nD,
          r.2.mem ((c.tc : Thread Cert.PeerQRefIdeal.nD Cert.PeerQRefIdeal.τ).loc Cert.PeerQRefIdeal.main_v21) = v0 c
          ∧ r.2.mem ((c.tc : Thread Cert.PeerQRefIdeal.nD Cert.PeerQRefIdeal.τ).loc Cert.PeerQRefIdeal.main_v24) = v1 c
          ∧ r.2.mem ((c.tc : Thread Cert.PeerQRefIdeal.nD Cert.PeerQRefIdeal.τ).loc Cert.PeerQRefIdeal.main_arg0) = m' ((c.tc : Thread Cert.PeerQRefIdeal.nD Cert.PeerQRefIdeal.τ).loc Cert.PeerQRefIdeal.main_arg0)
          ∧ r.2.mem ((c.tc : Thread Cert.PeerQRefIdeal.nD Cert.PeerQRefIdeal.τ).loc Cert.PeerQRefIdeal.main_arg1) = m' ((c.tc : Thread Cert.PeerQRefIdeal.nD Cert.PeerQRefIdeal.τ).loc Cert.PeerQRefIdeal.main_arg1)
          ∧ r.2.mem ((c.tc : Thread Cert.PeerQRefIdeal.nD Cert.PeerQRefIdeal.τ).loc Cert.PeerQRefIdeal.main_arg2) = m' ((c.tc : Thread Cert.PeerQRefIdeal.nD Cert.PeerQRefIdeal.τ).loc Cert.PeerQRefIdeal.main_arg2)
          ∧ r.2.mem ((c.tc : Thread Cert.PeerQRefIdeal.nD Cert.PeerQRefIdeal.τ).loc Cert.PeerQRefIdeal.main_arg3) = m' ((c.tc : Thread Cert.PeerQRefIdeal.nD Cert.PeerQRefIdeal.τ).loc Cert.PeerQRefIdeal.main_arg3)
          ∧ r.2.mem ((c.tc : Thread Cert.PeerQRefIdeal.nD Cert.PeerQRefIdeal.τ).loc Cert.PeerQRefIdeal.main_arg4) = m' ((c.tc : Thread Cert.PeerQRefIdeal.nD Cert.PeerQRefIdeal.τ).loc Cert.PeerQRefIdeal.main_arg4))

def preserves_HybIn_HybInIdeal : Prop :=
  True

def algebraic_HybInIdeal_HybInRefIdeal [hHybInIdeal : Cert.HybInIdeal.Facts] [hHybInRefIdeal : Cert.HybInRefIdeal.Facts] : Prop :=
  ∀ (m : (ℓ : Loc Cert.HybInIdeal.nD Cert.HybInIdeal.τ Cert.HybInIdeal.sig) → Buf (Elt Ideal) ℓ) (g : Dev Cert.HybInIdeal.nD → PrngReg)
    (m' : (ℓ : Loc Cert.HybInRefIdeal.nD Cert.HybInRefIdeal.τ Cert.HybInRefIdeal.sig) → Buf (Elt Ideal) ℓ) (g' : Dev Cert.HybInRefIdeal.nD → PrngReg), Pre_HybInIdeal m →
    (∀ c : Dev Cert.HybInIdeal.nD,
      m' ((c.tc : Thread Cert.HybInRefIdeal.nD Cert.HybInRefIdeal.τ).loc Cert.HybInRefIdeal.main_arg0) = m ((c.tc : Thread Cert.HybInIdeal.nD Cert.HybInIdeal.τ).loc Cert.HybInIdeal.main_arg0)
      ∧ m' ((c.tc : Thread Cert.HybInRefIdeal.nD Cert.HybInRefIdeal.τ).loc Cert.HybInRefIdeal.main_arg1) = m ((c.tc : Thread Cert.HybInIdeal.nD Cert.HybInIdeal.τ).loc Cert.HybInIdeal.main_arg1)
      ∧ m' ((c.tc : Thread Cert.HybInRefIdeal.nD Cert.HybInRefIdeal.τ).loc Cert.HybInRefIdeal.main_arg2) = m ((c.tc : Thread Cert.HybInIdeal.nD Cert.HybInIdeal.τ).loc Cert.HybInIdeal.main_arg2)
      ∧ m' ((c.tc : Thread Cert.HybInRefIdeal.nD Cert.HybInRefIdeal.τ).loc Cert.HybInRefIdeal.main_arg3) = m ((c.tc : Thread Cert.HybInIdeal.nD Cert.HybInIdeal.τ).loc Cert.HybInIdeal.main_arg3)
      ∧ m' ((c.tc : Thread Cert.HybInRefIdeal.nD Cert.HybInRefIdeal.τ).loc Cert.HybInRefIdeal.main_arg4) = m ((c.tc : Thread Cert.HybInIdeal.nD Cert.HybInIdeal.τ).loc Cert.HybInIdeal.main_arg4)) →
    ∃ (v0 : (c : Dev Cert.HybInIdeal.nD) → Buf (Elt Ideal) ((c.tc : Thread Cert.HybInIdeal.nD Cert.HybInIdeal.τ).loc Cert.HybInIdeal.main_v13_0)) (v1 : (c : Dev Cert.HybInIdeal.nD) → Buf (Elt Ideal) ((c.tc : Thread Cert.HybInIdeal.nD Cert.HybInIdeal.τ).loc Cert.HybInIdeal.main_v13_1)) (v2 : (c : Dev Cert.HybInIdeal.nD) → Buf (Elt Ideal) ((c.tc : Thread Cert.HybInIdeal.nD Cert.HybInIdeal.τ).loc Cert.HybInIdeal.main_v13_2)),
      θ_run (Cert.HybInIdeal.defs (F := Ideal)) (onTc (τ := Cert.HybInIdeal.τ) (Cert.HybInIdeal.main (F := Ideal))) ⟨m, fun _ => 0, g⟩ (fun r => ∀ c : Dev Cert.HybInIdeal.nD,
          r.2.mem ((c.tc : Thread Cert.HybInIdeal.nD Cert.HybInIdeal.τ).loc Cert.HybInIdeal.main_v13_0) = v0 c
          ∧ r.2.mem ((c.tc : Thread Cert.HybInIdeal.nD Cert.HybInIdeal.τ).loc Cert.HybInIdeal.main_v13_1) = v1 c
          ∧ r.2.mem ((c.tc : Thread Cert.HybInIdeal.nD Cert.HybInIdeal.τ).loc Cert.HybInIdeal.main_v13_2) = v2 c
          ∧ r.2.mem ((c.tc : Thread Cert.HybInIdeal.nD Cert.HybInIdeal.τ).loc Cert.HybInIdeal.main_arg0) = m ((c.tc : Thread Cert.HybInIdeal.nD Cert.HybInIdeal.τ).loc Cert.HybInIdeal.main_arg0)
          ∧ r.2.mem ((c.tc : Thread Cert.HybInIdeal.nD Cert.HybInIdeal.τ).loc Cert.HybInIdeal.main_arg1) = m ((c.tc : Thread Cert.HybInIdeal.nD Cert.HybInIdeal.τ).loc Cert.HybInIdeal.main_arg1)
          ∧ r.2.mem ((c.tc : Thread Cert.HybInIdeal.nD Cert.HybInIdeal.τ).loc Cert.HybInIdeal.main_arg2) = m ((c.tc : Thread Cert.HybInIdeal.nD Cert.HybInIdeal.τ).loc Cert.HybInIdeal.main_arg2)
          ∧ r.2.mem ((c.tc : Thread Cert.HybInIdeal.nD Cert.HybInIdeal.τ).loc Cert.HybInIdeal.main_arg3) = m ((c.tc : Thread Cert.HybInIdeal.nD Cert.HybInIdeal.τ).loc Cert.HybInIdeal.main_arg3)
          ∧ r.2.mem ((c.tc : Thread Cert.HybInIdeal.nD Cert.HybInIdeal.τ).loc Cert.HybInIdeal.main_arg4) = m ((c.tc : Thread Cert.HybInIdeal.nD Cert.HybInIdeal.τ).loc Cert.HybInIdeal.main_arg4))
      ∧ θ_run (Cert.HybInRefIdeal.defs (F := Ideal)) (onTc (τ := Cert.HybInRefIdeal.τ) (Cert.HybInRefIdeal.main (F := Ideal))) ⟨m', fun _ => 0, g'⟩ (fun r => ∀ c : Dev Cert.HybInRefIdeal.nD,
          r.2.mem ((c.tc : Thread Cert.HybInRefIdeal.nD Cert.HybInRefIdeal.τ).loc Cert.HybInRefIdeal.main_v29) = v0 c
          ∧ r.2.mem ((c.tc : Thread Cert.HybInRefIdeal.nD Cert.HybInRefIdeal.τ).loc Cert.HybInRefIdeal.main_v30) = v1 c
          ∧ r.2.mem ((c.tc : Thread Cert.HybInRefIdeal.nD Cert.HybInRefIdeal.τ).loc Cert.HybInRefIdeal.main_v28) = v2 c
          ∧ r.2.mem ((c.tc : Thread Cert.HybInRefIdeal.nD Cert.HybInRefIdeal.τ).loc Cert.HybInRefIdeal.main_arg0) = m' ((c.tc : Thread Cert.HybInRefIdeal.nD Cert.HybInRefIdeal.τ).loc Cert.HybInRefIdeal.main_arg0)
          ∧ r.2.mem ((c.tc : Thread Cert.HybInRefIdeal.nD Cert.HybInRefIdeal.τ).loc Cert.HybInRefIdeal.main_arg1) = m' ((c.tc : Thread Cert.HybInRefIdeal.nD Cert.HybInRefIdeal.τ).loc Cert.HybInRefIdeal.main_arg1)
          ∧ r.2.mem ((c.tc : Thread Cert.HybInRefIdeal.nD Cert.HybInRefIdeal.τ).loc Cert.HybInRefIdeal.main_arg2) = m' ((c.tc : Thread Cert.HybInRefIdeal.nD Cert.HybInRefIdeal.τ).loc Cert.HybInRefIdeal.main_arg2)
          ∧ r.2.mem ((c.tc : Thread Cert.HybInRefIdeal.nD Cert.HybInRefIdeal.τ).loc Cert.HybInRefIdeal.main_arg3) = m' ((c.tc : Thread Cert.HybInRefIdeal.nD Cert.HybInRefIdeal.τ).loc Cert.HybInRefIdeal.main_arg3)
          ∧ r.2.mem ((c.tc : Thread Cert.HybInRefIdeal.nD Cert.HybInRefIdeal.τ).loc Cert.HybInRefIdeal.main_arg4) = m' ((c.tc : Thread Cert.HybInRefIdeal.nD Cert.HybInRefIdeal.τ).loc Cert.HybInRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v36_0)) (v1 : (c : Dev Cert.QkvIdeal.nD) → Buf (Elt Ideal) ((c.tc : Thread Cert.QkvIdeal.nD Cert.QkvIdeal.τ).loc Cert.QkvIdeal.main_v36_1)) (v2 : (c : Dev Cert.QkvIdeal.nD) → Buf (Elt Ideal) ((c.tc : Thread Cert.QkvIdeal.nD Cert.QkvIdeal.τ).loc Cert.QkvIdeal.main_v36_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v36_0) = v0 c
          ∧ r.2.mem ((c.tc : Thread Cert.QkvIdeal.nD Cert.QkvIdeal.τ).loc Cert.QkvIdeal.main_v36_1) = v1 c
          ∧ r.2.mem ((c.tc : Thread Cert.QkvIdeal.nD Cert.QkvIdeal.τ).loc Cert.QkvIdeal.main_v36_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v103) = v0 c
          ∧ r.2.mem ((c.tc : Thread Cert.QkvRefIdeal.nD Cert.QkvRefIdeal.τ).loc Cert.QkvRefIdeal.main_v105) = v1 c
          ∧ r.2.mem ((c.tc : Thread Cert.QkvRefIdeal.nD Cert.QkvRefIdeal.τ).loc Cert.QkvRefIdeal.main_v107) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v37) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def Claim : Prop :=
  ∃ (hKernel : Cert.Kernel.Facts) (hKernelIdeal : Cert.KernelIdeal.Facts) (hReferenceIdeal : Cert.ReferenceIdeal.Facts) (hAttn3 : Cert.Attn3.Facts) (hAttn3Ideal : Cert.Attn3Ideal.Facts) (hAttn3RefIdeal : Cert.Attn3RefIdeal.Facts) (hOutDiff : Cert.OutDiff.Facts) (hOutDiffIdeal : Cert.OutDiffIdeal.Facts) (hOutDiffRefIdeal : Cert.OutDiffRefIdeal.Facts) (hOutHyb : Cert.OutHyb.Facts) (hOutHybIdeal : Cert.OutHybIdeal.Facts) (hOutHybRefIdeal : Cert.OutHybRefIdeal.Facts) (hPeerQ : Cert.PeerQ.Facts) (hPeerQIdeal : Cert.PeerQIdeal.Facts) (hPeerQRefIdeal : Cert.PeerQRefIdeal.Facts) (hHybIn : Cert.HybIn.Facts) (hHybInIdeal : Cert.HybInIdeal.Facts) (hHybInRefIdeal : Cert.HybInRefIdeal.Facts) (hQkv : Cert.Qkv.Facts) (hQkvIdeal : Cert.QkvIdeal.Facts) (hQkvRefIdeal : Cert.QkvRefIdeal.Facts) (hAda : Cert.Ada.Facts) (hAdaIdeal : Cert.AdaIdeal.Facts) (hAdaRefIdeal : Cert.AdaRefIdeal.Facts) (hFinal : Cert.Final.Facts) (hFinalIdeal : Cert.FinalIdeal.Facts) (hFinalRefIdeal : Cert.FinalRefIdeal.Facts) (hPre_finite : Cert.Pre_finite.Facts) (hPre_finite_q : Cert.Pre_finite_q.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Attn3 (hAttn3 := hAttn3)
    ∧ quiescent_Attn3Ideal (hAttn3Ideal := hAttn3Ideal)
    ∧ quiescent_Attn3Ideal_pre_finite (hAttn3Ideal := hAttn3Ideal) (hPre_finite := hPre_finite)
    ∧ quiescent_Attn3RefIdeal (hAttn3RefIdeal := hAttn3RefIdeal)
    ∧ quiescent_Attn3RefIdeal_pre_finite (hAttn3RefIdeal := hAttn3RefIdeal) (hPre_finite := hPre_finite)
    ∧ quiescent_OutDiff (hOutDiff := hOutDiff)
    ∧ quiescent_OutDiffIdeal (hOutDiffIdeal := hOutDiffIdeal)
    ∧ quiescent_OutDiffRefIdeal (hOutDiffRefIdeal := hOutDiffRefIdeal)
    ∧ quiescent_OutHyb (hOutHyb := hOutHyb)
    ∧ quiescent_OutHybIdeal (hOutHybIdeal := hOutHybIdeal)
    ∧ quiescent_OutHybRefIdeal (hOutHybRefIdeal := hOutHybRefIdeal)
    ∧ quiescent_PeerQ (hPeerQ := hPeerQ)
    ∧ quiescent_PeerQIdeal (hPeerQIdeal := hPeerQIdeal)
    ∧ quiescent_PeerQIdeal_pre_finite_q (hPeerQIdeal := hPeerQIdeal) (hPre_finite_q := hPre_finite_q)
    ∧ quiescent_PeerQRefIdeal (hPeerQRefIdeal := hPeerQRefIdeal)
    ∧ quiescent_PeerQRefIdeal_pre_finite_q (hPeerQRefIdeal := hPeerQRefIdeal) (hPre_finite_q := hPre_finite_q)
    ∧ quiescent_HybIn (hHybIn := hHybIn)
    ∧ quiescent_HybInIdeal (hHybInIdeal := hHybInIdeal)
    ∧ quiescent_HybInRefIdeal (hHybInRefIdeal := hHybInRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Ada (hAda := hAda)
    ∧ quiescent_AdaIdeal (hAdaIdeal := hAdaIdeal)
    ∧ quiescent_AdaRefIdeal (hAdaRefIdeal := hAdaRefIdeal)
    ∧ quiescent_Final (hFinal := hFinal)
    ∧ quiescent_FinalIdeal (hFinalIdeal := hFinalIdeal)
    ∧ quiescent_FinalRefIdeal (hFinalRefIdeal := hFinalRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Attn3_Attn3Ideal
    ∧ algebraic_Attn3Ideal_Attn3RefIdeal_pre_finite (hAttn3Ideal := hAttn3Ideal) (hAttn3RefIdeal := hAttn3RefIdeal) (hPre_finite := hPre_finite)
    ∧ preserves_OutDiff_OutDiffIdeal
    ∧ algebraic_OutDiffIdeal_OutDiffRefIdeal (hOutDiffIdeal := hOutDiffIdeal) (hOutDiffRefIdeal := hOutDiffRefIdeal)
    ∧ preserves_OutHyb_OutHybIdeal
    ∧ algebraic_OutHybIdeal_OutHybRefIdeal (hOutHybIdeal := hOutHybIdeal) (hOutHybRefIdeal := hOutHybRefIdeal)
    ∧ preserves_PeerQ_PeerQIdeal
    ∧ algebraic_PeerQIdeal_PeerQRefIdeal_pre_finite_q (hPeerQIdeal := hPeerQIdeal) (hPeerQRefIdeal := hPeerQRefIdeal) (hPre_finite_q := hPre_finite_q)
    ∧ preserves_HybIn_HybInIdeal
    ∧ algebraic_HybInIdeal_HybInRefIdeal (hHybInIdeal := hHybInIdeal) (hHybInRefIdeal := hHybInRefIdeal)
    ∧ preserves_Qkv_QkvIdeal
    ∧ algebraic_QkvIdeal_QkvRefIdeal (hQkvIdeal := hQkvIdeal) (hQkvRefIdeal := hQkvRefIdeal)
    ∧ preserves_Ada_AdaIdeal
    ∧ algebraic_AdaIdeal_AdaRefIdeal (hAdaIdeal := hAdaIdeal) (hAdaRefIdeal := hAdaRefIdeal)
    ∧ preserves_Final_FinalIdeal
    ∧ algebraic_FinalIdeal_FinalRefIdeal (hFinalIdeal := hFinalIdeal) (hFinalRefIdeal := hFinalRefIdeal)
-- ==== Pre_finite.lean ====
abbrev S16384x1024 : Shape := ⟨2, ![16384, 1024]⟩
abbrev S64 : Shape := ⟨1, ![64]⟩
abbrev S128 : Shape := ⟨1, ![128]⟩
abbrev S_ : Shape := ⟨0, ![]⟩

class Facts : Prop where
  bcast_S_S16384x1024 : S_.BroadcastsInDim S16384x1024 (![] : Fin 0 → Fin S16384x1024.rank)
  bcast_S_S64 : S_.BroadcastsInDim S64 (![] : Fin 0 → Fin S64.rank)

variable [Facts]

def fn_part1 {F : FTy → Type} [FloatOps F] (main_arg6 : FVec F S64 .f32) (main_v2 : IVec S16384x1024 1) (main_v5 : IVec S16384x1024 1) (main_v8 : IVec S16384x1024 1) (main_v11 : IVec S64 1) (main_v14 : IVec S64 1) (main_v17 : IVec S64 1) : IVec S16384x1024 1 × IVec S16384x1024 1 × IVec S16384x1024 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S16384x1024 .bf16) (main_arg1 : FVec F S16384x1024 .bf16) (main_arg2 : FVec F S16384x1024 .bf16) (main_arg3 : FVec F S64 .f32) (main_arg4 : FVec F S64 .f32) (main_arg5 : FVec F S64 .f32) (main_arg6 : FVec F S64 .f32) (main_arg7 : FVec F S128 .f32) : IVec S16384x1024 1 × IVec S16384x1024 1 × IVec S16384x1024 1 × IVec S64 1 × IVec S64 1 × IVec S64 1 × IVec S64 1 :=
  let main_v0 : FVec F S16384x1024 .bf16 := Host.absf main_arg0
  let main_cst : FVec F S_ .bf16 := constant S_ .bf16 0x7F80#16
  let main_v1 : FVec F S16384x1024 .bf16 := broadcastInDim S16384x1024 ![] bcast_S_S16384x1024 main_cst
  let main_v2 : IVec S16384x1024 1 := cmpf .olt main_v0 main_v1
  let main_v3 : FVec F S16384x1024 .bf16 := Host.absf main_arg1
  let main_cst_0 : FVec F S_ .bf16 := constant S_ .bf16 0x7F80#16
  let main_v4 : FVec F S16384x1024 .bf16 := broadcastInDim S16384x1024 ![] bcast_S_S16384x1024 main_cst_0
  let main_v5 : IVec S16384x1024 1 := cmpf .olt main_v3 main_v4
  let main_v6 : FVec F S16384x1024 .bf16 := Host.absf main_arg2
  let main_cst_1 : FVec F S_ .bf16 := constant S_ .bf16 0x7F80#16
  let main_v7 : FVec F S16384x1024 .bf16 := broadcastInDim S16384x1024 ![] bcast_S_S16384x1024 main_cst_1
  let main_v8 : IVec S16384x1024 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_v2 main_v5 main_v8 main_v11 main_v14 main_v17
-- ==== Pre_finite_q.lean ====
abbrev S16384x1024 : Shape := ⟨2, ![16384, 1024]⟩
abbrev S1024 : Shape := ⟨1, ![1024]⟩
abbrev S8x1x1024 : Shape := ⟨3, ![8, 1, 1024]⟩
abbrev S1024x2048 : Shape := ⟨2, ![1024, 2048]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S8x1x1024 : S_.BroadcastsInDim S8x1x1024 (![] : Fin 0 → Fin S8x1x1024.rank)
  bcast_S_S1024x2048 : S_.BroadcastsInDim S1024x2048 (![] : Fin 0 → Fin S1024x2048.rank)

variable [Facts]

def fn {F : FTy → Type} [FloatOps F] (main_arg0 : FVec F S16384x1024 .f32) (main_arg1 : FVec F S1024 .f32) (main_arg2 : FVec F S8x1x1024 .f32) (main_arg3 : FVec F S8x1x1024 .f32) (main_arg4 : FVec F S1024x2048 .f32) : IVec S16384x1024 1 × IVec S1024 1 × IVec S8x1x1024 1 × IVec S8x1x1024 1 × IVec S1024x2048 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8x1x1024 .f32 := Host.absf main_arg2
  let main_cst_1 : FVec F S_ .f32 := constant S_ .f32 0x7F800000#32
  let main_v7 : FVec F S8x1x1024 .f32 := broadcastInDim S8x1x1024 ![] bcast_S_S8x1x1024 main_cst_1
  let main_v8 : IVec S8x1x1024 1 := cmpf .olt main_v6 main_v7
  let main_v9 : FVec F S8x1x1024 .f32 := Host.absf main_arg3
  let main_cst_2 : FVec F S_ .f32 := constant S_ .f32 0x7F800000#32
  let main_v10 : FVec F S8x1x1024 .f32 := broadcastInDim S8x1x1024 ![] bcast_S_S8x1x1024 main_cst_2
  let main_v11 : IVec S8x1x1024 1 := cmpf .olt main_v9 main_v10
  let main_v12 : FVec F S1024x2048 .f32 := Host.absf main_arg4
  let main_cst_3 : FVec F S_ .f32 := constant S_ .f32 0x7F800000#32
  let main_v13 : FVec F S1024x2048 .f32 := broadcastInDim S1024x2048 ![] bcast_S_S1024x2048 main_cst_3
  let main_v14 : IVec S1024x2048 1 := cmpf .olt main_v12 main_v13
  (main_v2, main_v5, main_v8, main_v11, main_v14)
-- ==== Kernel.lean ====
abbrev S16384x1024 : Shape := ⟨2, ![16384, 1024]⟩
abbrev S64 : Shape := ⟨1, ![64]⟩
abbrev S128 : Shape := ⟨1, ![128]⟩
abbrev S1x64 : Shape := ⟨2, ![1, 64]⟩
abbrev S1x128 : Shape := ⟨2, ![1, 128]⟩
abbrev S256x128 : Shape := ⟨2, ![256, 128]⟩
abbrev S2048x128 : Shape := ⟨2, ![2048, 128]⟩
abbrev S1 : Shape := ⟨1, ![1]⟩
abbrev S1x1 : Shape := ⟨2, ![1, 1]⟩
abbrev S256x512 : Shape := ⟨2, ![256, 512]⟩
abbrev S512x128 : Shape := ⟨2, ![512, 128]⟩
abbrev S256 : Shape := ⟨1, ![256]⟩
abbrev S256x1 : Shape := ⟨2, ![256, 1]⟩

abbrev nBuf : Space → Nat
  | .hbm => 14
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x128, .f32⟩
  | .hbm, ⟨13, _⟩ => ⟨S16384x1024, .bf16⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S256x128, .bf16⟩
  | .local _ .vmem, ⟨12, _⟩ => ⟨S256x128, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![8, 8, 8], ![false, false, false]⟩

def k0_cond1 (i : grid0.Coords) : BitVec 1 :=
  let arg2 : BitVec 32 := BitVec.ofNat 32 (i 2).val
  let c0_i32_18 : BitVec 32 := 0#32
  let v58 : BitVec 1 := Scalar.cmpi .sgt arg2 c0_i32_18
  let v59 : BitVec 32 := Scalar.extui v58
  let c0_i32_19 : BitVec 32 := 0#32
  let v60 : BitVec 1 := Scalar.cmpi .slt arg2 c0_i32_19
  let v61 : BitVec 32 := Scalar.extui v60
  let v62 : BitVec 32 := Scalar.subi v59 v61
  let c2_i32 : BitVec 32 := 2#32
  let c0_i32_20 : BitVec 32 := 0#32
  let v63 : BitVec 1 := Scalar.cmpi .sgt c2_i32 c0_i32_20
  let v64 : BitVec 32 := Scalar.extui v63
  let c0_i32_21 : BitVec 32 := 0#32
  let v65 : BitVec 1 := Scalar.cmpi .slt c2_i32 c0_i32_21
  let v66 : BitVec 32 := Scalar.extui v65
  let v67 : BitVec 32 := Scalar.subi v64 v66
  let v68 : BitVec 1 := Scalar.cmpi .ne v62 v67
  let v69 : BitVec 32 := Scalar.remsi arg2 c2_i32
  let c0_i32_22 : BitVec 32 := 0#32
  let v70 : BitVec 1 := Scalar.cmpi .ne v69 c0_i32_22
  let v71 : BitVec 1 := Scalar.andi v68 v70
  let v57 : BitVec 32 := Scalar.divsi arg2 c2_i32
  let c1_i32_23 : BitVec 32 := 1#32
  let v72 : BitVec 32 := Scalar.subi v57 c1_i32_23
  let v73 : BitVec 32 := Scalar.select v71 v72 v57
  let c0_i32_24 : BitVec 32 := 0#32
  let v74 : BitVec 1 := Scalar.cmpi .eq v73 c0_i32_24
  let v75 : BitVec 32 := Scalar.extui v74
  let c0_i32_25 : BitVec 32 := 0#32
  let v76 : BitVec 1 := Scalar.cmpi .ne v75 c0_i32_25
  v76

def k0_cond2 (i : grid0.Coords) : BitVec 1 :=
  let arg2 : BitVec 32 := BitVec.ofNat 32 (i 2).val
  let c0_i32_27 : BitVec 32 := 0#32
  let v78 : BitVec 1 := Scalar.cmpi .sgt arg2 c0_i32_27
  let v79 : BitVec 32 := Scalar.extui v78
  let c0_i32_28 : BitVec 32 := 0#32
  let v80 : BitVec 1 := Scalar.cmpi .slt arg2 c0_i32_28
  let v81 : BitVec 32 := Scalar.extui v80
  let v82 : BitVec 32 := Scalar.subi v79 v81
  let c2_i32_26 : BitVec 32 := 2#32
  let c0_i32_29 : BitVec 32 := 0#32
  let v83 : BitVec 1 := Scalar.cmpi .sgt c2_i32_26 c0_i32_29
  let v84 : BitVec 32 := Scalar.extui v83
  let c0_i32_30 : BitVec 32 := 0#32
  let v85 : BitVec 1 := Scalar.cmpi .slt c2_i32_26 c0_i32_30
  let v86 : BitVec 32 := Scalar.extui v85
  let v87 : BitVec 32 := Scalar.subi v84 v86
  let v88 : BitVec 1 := Scalar.cmpi .ne v82 v87
  let v89 : BitVec 32 := Scalar.remsi arg2 c2_i32_26
  let c0_i32_31 : BitVec 32 := 0#32
  let v90 : BitVec 1 := Scalar.cmpi .ne v89 c0_i32_31
  let v91 : BitVec 1 := Scalar.andi v88 v90
  let v77 : BitVec 32 := Scalar.divsi arg2 c2_i32_26
  let c1_i32_32 : BitVec 32 := 1#32
  let v92 : BitVec 32 := Scalar.subi v77 c1_i32_32
  let v93 : BitVec 32 := Scalar.select v91 v92 v77
  let c1_i32_33 : BitVec 32 := 1#32
  let v94 : BitVec 1 := Scalar.cmpi .eq v93 c1_i32_33
  let v95 : BitVec 32 := Scalar.extui v94
  let c0_i32_34 : BitVec 32 := 0#32
  let v96 : BitVec 1 := Scalar.cmpi .ne v95 c0_i32_34
  v96

def k0_cond3 (i : grid0.Coords) : BitVec 1 :=
  let arg2 : BitVec 32 := BitVec.ofNat 32 (i 2).val
  let c0_i32_36 : BitVec 32 := 0#32
  let v98 : BitVec 1 := Scalar.cmpi .sgt arg2 c0_i32_36
  let v99 : BitVec 32 := Scalar.extui v98
  let c0_i32_37 : BitVec 32 := 0#32
  let v100 : BitVec 1 := Scalar.cmpi .slt arg2 c0_i32_37
  let v101 : BitVec 32 := Scalar.extui v100
  let v102 : BitVec 32 := Scalar.subi v99 v101
  let c2_i32_35 : BitVec 32 := 2#32
  let c0_i32_38 : BitVec 32 := 0#32
  let v103 : BitVec 1 := Scalar.cmpi .sgt c2_i32_35 c0_i32_38
  let v104 : BitVec 32 := Scalar.extui v103
  let c0_i32_39 : BitVec 32 := 0#32
  let v105 : BitVec 1 := Scalar.cmpi .slt c2_i32_35 c0_i32_39
  let v106 : BitVec 32 := Scalar.extui v105
  let v107 : BitVec 32 := Scalar.subi v104 v106
  let v108 : BitVec 1 := Scalar.cmpi .ne v102 v107
  let v109 : BitVec 32 := Scalar.remsi arg2 c2_i32_35
  let c0_i32_40 : BitVec 32 := 0#32
  let v110 : BitVec 1 := Scalar.cmpi .ne v109 c0_i32_40
  let v111 : BitVec 1 := Scalar.andi v108 v110
  let v97 : BitVec 32 := Scalar.divsi arg2 c2_i32_35
  let c1_i32_41 : BitVec 32 := 1#32
  let v112 : BitVec 32 := Scalar.subi v97 c1_i32_41
  let v113 : BitVec 32 := Scalar.select v111 v112 v97
  let c2_i32_42 : BitVec 32 := 2#32
  let v114 : BitVec 1 := Scalar.cmpi .eq v113 c2_i32_42
  let v115 : BitVec 32 := Scalar.extui v114
  let c0_i32_43 : BitVec 32 := 0#32
  let v116 : BitVec 1 := Scalar.cmpi .ne v115 c0_i32_43
  v116

def k0_cond4 (i : grid0.Coords) : BitVec 1 :=
  let arg2 : BitVec 32 := BitVec.ofNat 32 (i 2).val
  let c0_i32_45 : BitVec 32 := 0#32
  let v118 : BitVec 1 := Scalar.cmpi .sgt arg2 c0_i32_45
  let v119 : BitVec 32 := Scalar.extui v118
  let c0_i32_46 : BitVec 32 := 0#32
  let v120 : BitVec 1 := Scalar.cmpi .slt arg2 c0_i32_46
  let v121 : BitVec 32 := Scalar.extui v120
  let v122 : BitVec 32 := Scalar.subi v119 v121
  let c2_i32_44 : BitVec 32 := 2#32
  let c0_i32_47 : BitVec 32 := 0#32
  let v123 : BitVec 1 := Scalar.cmpi .sgt c2_i32_44 c0_i32_47
  let v124 : BitVec 32 := Scalar.extui v123
  let c0_i32_48 : BitVec 32 := 0#32
  let v125 : BitVec 1 := Scalar.cmpi .slt c2_i32_44 c0_i32_48
  let v126 : BitVec 32 := Scalar.extui v125
  let v127 : BitVec 32 := Scalar.subi v124 v126
  let v128 : BitVec 1 := Scalar.cmpi .ne v122 v127
  let v129 : BitVec 32 := Scalar.remsi arg2 c2_i32_44
  let c0_i32_49 : BitVec 32 := 0#32
  let v130 : BitVec 1 := Scalar.cmpi .ne v129 c0_i32_49
  let v131 : BitVec 1 := Scalar.andi v128 v130
  let v117 : BitVec 32 := Scalar.divsi arg2 c2_i32_44
  let c1_i32_50 : BitVec 32 := 1#32
  let v132 : BitVec 32 := Scalar.subi v117 c1_i32_50
  let v133 : BitVec 32 := Scalar.select v131 v132 v117
  let c3_i32 : BitVec 32 := 3#32
  let v134 : BitVec 1 := Scalar.cmpi .eq v133 c3_i32
  let v135 : BitVec 32 := Scalar.extui v134
  let c0_i32_51 : BitVec 32 := 0#32
  let v136 : BitVec 1 := Scalar.cmpi .ne v135 c0_i32_51
  v136

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S16384x1024 : Shape := ⟨2, ![16384, 1024]⟩
abbrev S64 : Shape := ⟨1, ![64]⟩
abbrev S128 : Shape := ⟨1, ![128]⟩
abbrev S8x2048x8x2x64 : Shape := ⟨5, ![8, 2048, 8, 2, 64]⟩
abbrev S8x2048x8x128 : Shape := ⟨4, ![8, 2048, 8, 128]⟩
abbrev S_ : Shape := ⟨0, ![]⟩
abbrev S8x8x2x2048x2048 : Shape := ⟨5, ![8, 8, 2, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2x2048 : Shape := ⟨4, ![8, 8, 2, 2048]⟩
abbrev S8x8x2x2048x1 : Shape := ⟨5, ![8, 8, 2, 2048, 1]⟩
abbrev S8x8x1x2048x2048 : Shape := ⟨5, ![8, 8, 1, 2048, 2048]⟩
abbrev S8x8x2048x2048 : Shape := ⟨4, ![8, 8, 2048, 2048]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩

abbrev nBuf : Space → Nat
  | .hbm => 117
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S16384x1024, .f32⟩
  | .hbm, ⟨9, _⟩ => ⟨S8x2048x8x2x64, .f32⟩
  | .hbm, ⟨10, _⟩ => ⟨S16384x1024, .f32⟩
  | .hbm, ⟨11, _⟩ => ⟨S8x2048x8x2x64, .f32⟩
  | .hbm, ⟨12, _⟩ => ⟨S16384x1024, .f32⟩
  | .hbm, ⟨13, _⟩ => ⟨S8x2048x8x128, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x8x2x2048x2048, .f32⟩
  | .hbm, ⟨26, _⟩ => ⟨S2048, .i32⟩
  | .hbm, ⟨27, _⟩ => ⟨S_, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S2048, .i1⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S1x2048, .i32⟩
  | .hbm, ⟨46, _⟩ => ⟨S_, .i32⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S2048, .i32⟩
  | .hbm, ⟨55, _⟩ => ⟨S2048, .i32⟩
  | .hbm, ⟨56, _⟩ => ⟨S_, .i32⟩
  | .hbm, ⟨57, _⟩ => ⟨S2048, .i32⟩
  | .hbm, ⟨58, _⟩ => ⟨S2048, .i1⟩
  | .hbm, ⟨59, _⟩ => ⟨S2048, .i1⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S2048, .i32⟩
  | .hbm, ⟨64, _⟩ => ⟨S2048x1, .i32⟩
  | .hbm, ⟨65, _⟩ => ⟨S2048x2048, .i32⟩
  | .hbm, ⟨66, _⟩ => ⟨S2048x2048, .i32⟩
  | .hbm, ⟨67, _⟩ => ⟨S2048x2048, .i1⟩
  | .hbm, ⟨68, _⟩ => ⟨S_, .f32⟩
  | .hbm, ⟨69, _⟩ => ⟨S_, .f32⟩
  | .hbm, ⟨70, _⟩ => ⟨S8x8x2x2048x2048, .i1⟩
  | .hbm, ⟨71, _⟩ => ⟨S8x8x2x2048x2048, .f32⟩
  | .hbm, ⟨72, _⟩ => ⟨S8x8x2x2048x2048, .f32⟩
  | .hbm, ⟨73, _⟩ => ⟨S_, .f32⟩
  | .hbm, ⟨74, _⟩ => ⟨S8x8x2x2048, .f32⟩
  | .hbm, ⟨75, _⟩ => ⟨S_, .f32⟩
  | .hbm, ⟨76, _⟩ => ⟨S8x8x2x2048, .f32⟩
  | .hbm, ⟨77, _⟩ => ⟨S8x8x2x2048, .f32⟩
  | .hbm, ⟨78, _⟩ => ⟨S8x8x2x2048x1, .f32⟩
  | .hbm, ⟨79, _⟩ => ⟨S8x8x2x2048x2048, .f32⟩
  | .hbm, ⟨80, _⟩ => ⟨S8x8x2x2048x2048, .f32⟩
  | .hbm, ⟨81, _⟩ => ⟨S8x8x2x2048x2048, .f32⟩
  | .hbm, ⟨82, _⟩ => ⟨S_, .f32⟩
  | .hbm, ⟨83, _⟩ => ⟨S8x8x2x2048, .f32⟩
  | .hbm, ⟨84, _⟩ => ⟨S8x8x2x2048x1, .f32⟩
  | .hbm, ⟨85, _⟩ => ⟨S8x8x2x2048x2048, .f32⟩
  | .hbm, ⟨86, _⟩ => ⟨S8x8x2x2048x2048, .f32⟩
  | .hbm, ⟨87, _⟩ => ⟨S8x8x1x2048x2048, .f32⟩
  | .hbm, ⟨88, _⟩ => ⟨S8x8x2048x2048, .f32⟩
  | .hbm, ⟨89, _⟩ => ⟨S8x8x1x2048x2048, .f32⟩
  | .hbm, ⟨90, _⟩ => ⟨S8x8x2048x2048, .f32⟩
  | .hbm, ⟨91, _⟩ => ⟨S8x8x2048x2048, .f32⟩
  | .hbm, ⟨92, _⟩ => ⟨S8x8x2048x2048, .f32⟩
  | .hbm, ⟨93, _⟩ => ⟨S8x8x2048x2048, .f32⟩
  | .hbm, ⟨94, _⟩ => ⟨S8x8x128x2048, .f32⟩
  | .hbm, ⟨95, _⟩ => ⟨S8x2048x8x128, .f32⟩
  | .hbm, ⟨96, _⟩ => ⟨S8x2048x8x128, .f32⟩
  | .hbm, ⟨97, _⟩ => ⟨S_, .f32⟩
  | .hbm, ⟨98, _⟩ => ⟨S8x2048x8, .f32⟩
  | .hbm, ⟨99, _⟩ => ⟨S8x2048x8x1, .f32⟩
  | .hbm, ⟨100, _⟩ => ⟨S_, .f32⟩
  | .hbm, ⟨101, _⟩ => ⟨S8x2048x8x1, .f32⟩
  | .hbm, ⟨102, _⟩ => ⟨S8x2048x8x1, .f32⟩
  | .hbm, ⟨103, _⟩ => ⟨S_, .f32⟩
  | .hbm, ⟨104, _⟩ => ⟨S8x2048x8x1, .f32⟩
  | .hbm, ⟨105, _⟩ => ⟨S8x2048x8x1, .f32⟩
  | .hbm, ⟨106, _⟩ => ⟨S8x2048x8x1, .f32⟩
  | .hbm, ⟨107, _⟩ => ⟨S8x2048x8x128, .f32⟩
  | .hbm, ⟨108, _⟩ => ⟨S8x2048x8x128, .f32⟩
  | .hbm, ⟨109, _⟩ => ⟨S1x1x1x128, .f32⟩
  | .hbm, ⟨110, _⟩ => ⟨S8x2048x8x128, .f32⟩
  | .hbm, ⟨111, _⟩ => ⟨S8x2048x8x128, .f32⟩
  | .hbm, ⟨112, _⟩ => ⟨S_, .f32⟩
  | .hbm, ⟨113, _⟩ => ⟨S8x2048x8x128, .f32⟩
  | .hbm, ⟨114, _⟩ => ⟨S8x2048x8x128, .f32⟩
  | .hbm, ⟨115, _⟩ => ⟨S16384x1024, .f32⟩
  | .hbm, ⟨116, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v16 : Ref sig .tc := ⟨.hbm, 44, rfl⟩
abbrev main_v17 : Ref sig .tc := ⟨.hbm, 45, rfl⟩
abbrev main_c_2 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst_3 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v23 : Ref sig .tc := ⟨.hbm, 72, rfl⟩
abbrev main_cst_4 : Ref sig .tc := ⟨.hbm, 73, rfl⟩
abbrev main_v24 : Ref sig .tc := ⟨.hbm, 74, rfl⟩
abbrev main_cst_5 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_cst_6 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_cst_7 : Ref sig .tc := ⟨.hbm, 97, rfl⟩
abbrev main_v45 : Ref sig .tc := ⟨.hbm, 98, rfl⟩
abbrev main_v46 : Ref sig .tc := ⟨.hbm, 99, rfl⟩
abbrev main_cst_8 : Ref sig .tc := ⟨.hbm, 100, rfl⟩
abbrev main_v47 : Ref sig .tc := ⟨.hbm, 101, rfl⟩
abbrev main_v48 : Ref sig .tc := ⟨.hbm, 102, rfl⟩
abbrev main_cst_9 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_cst_10 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩

abbrev nD : Nat := 1
abbrev τ : Topo := Topo.v7x

variable {F : FTy → Type} [FloatOps F]
-- ==== Attn3.lean ====
abbrev S16384x1024 : Shape := ⟨2, ![16384, 1024]⟩
abbrev S64 : Shape := ⟨1, ![64]⟩
abbrev S128 : Shape := ⟨1, ![128]⟩
abbrev S1x64 : Shape := ⟨2, ![1, 64]⟩
abbrev S1x128 : Shape := ⟨2, ![1, 128]⟩
abbrev S256x128 : Shape := ⟨2, ![256, 128]⟩
abbrev S2048x128 : Shape := ⟨2, ![2048, 128]⟩
abbrev S1 : Shape := ⟨1, ![1]⟩
abbrev S1x1 : Shape := ⟨2, ![1, 1]⟩
abbrev S256x512 : Shape := ⟨2, ![256, 512]⟩
abbrev S512x128 : Shape := ⟨2, ![512, 128]⟩
abbrev S256 : Shape := ⟨1, ![256]⟩
abbrev S256x1 : Shape := ⟨2, ![256, 1]⟩

abbrev nBuf : Space → Nat
  | .hbm => 14
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x128, .f32⟩
  | .hbm, ⟨13, _⟩ => ⟨S16384x1024, .bf16⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S256x128, .bf16⟩
  | .local _ .vmem, ⟨12, _⟩ => ⟨S256x128, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![8, 8, 8], ![false, false, false]⟩

def k0_cond1 (i : grid0.Coords) : BitVec 1 :=
  let arg2 : BitVec 32 := BitVec.ofNat 32 (i 2).val
  let c0_i32_18 : BitVec 32 := 0#32
  let v58 : BitVec 1 := Scalar.cmpi .sgt arg2 c0_i32_18
  let v59 : BitVec 32 := Scalar.extui v58
  let c0_i32_19 : BitVec 32 := 0#32
  let v60 : BitVec 1 := Scalar.cmpi .slt arg2 c0_i32_19
  let v61 : BitVec 32 := Scalar.extui v60
  let v62 : BitVec 32 := Scalar.subi v59 v61
  let c2_i32 : BitVec 32 := 2#32
  let c0_i32_20 : BitVec 32 := 0#32
  let v63 : BitVec 1 := Scalar.cmpi .sgt c2_i32 c0_i32_20
  let v64 : BitVec 32 := Scalar.extui v63
  let c0_i32_21 : BitVec 32 := 0#32
  let v65 : BitVec 1 := Scalar.cmpi .slt c2_i32 c0_i32_21
  let v66 : BitVec 32 := Scalar.extui v65
  let v67 : BitVec 32 := Scalar.subi v64 v66
  let v68 : BitVec 1 := Scalar.cmpi .ne v62 v67
  let v69 : BitVec 32 := Scalar.remsi arg2 c2_i32
  let c0_i32_22 : BitVec 32 := 0#32
  let v70 : BitVec 1 := Scalar.cmpi .ne v69 c0_i32_22
  let v71 : BitVec 1 := Scalar.andi v68 v70
  let v57 : BitVec 32 := Scalar.divsi arg2 c2_i32
  let c1_i32_23 : BitVec 32 := 1#32
  let v72 : BitVec 32 := Scalar.subi v57 c1_i32_23
  let v73 : BitVec 32 := Scalar.select v71 v72 v57
  let c0_i32_24 : BitVec 32 := 0#32
  let v74 : BitVec 1 := Scalar.cmpi .eq v73 c0_i32_24
  let v75 : BitVec 32 := Scalar.extui v74
  let c0_i32_25 : BitVec 32 := 0#32
  let v76 : BitVec 1 := Scalar.cmpi .ne v75 c0_i32_25
  v76

def k0_cond2 (i : grid0.Coords) : BitVec 1 :=
  let arg2 : BitVec 32 := BitVec.ofNat 32 (i 2).val
  let c0_i32_27 : BitVec 32 := 0#32
  let v78 : BitVec 1 := Scalar.cmpi .sgt arg2 c0_i32_27
  let v79 : BitVec 32 := Scalar.extui v78
  let c0_i32_28 : BitVec 32 := 0#32
  let v80 : BitVec 1 := Scalar.cmpi .slt arg2 c0_i32_28
  let v81 : BitVec 32 := Scalar.extui v80
  let v82 : BitVec 32 := Scalar.subi v79 v81
  let c2_i32_26 : BitVec 32 := 2#32
  let c0_i32_29 : BitVec 32 := 0#32
  let v83 : BitVec 1 := Scalar.cmpi .sgt c2_i32_26 c0_i32_29
  let v84 : BitVec 32 := Scalar.extui v83
  let c0_i32_30 : BitVec 32 := 0#32
  let v85 : BitVec 1 := Scalar.cmpi .slt c2_i32_26 c0_i32_30
  let v86 : BitVec 32 := Scalar.extui v85
  let v87 : BitVec 32 := Scalar.subi v84 v86
  let v88 : BitVec 1 := Scalar.cmpi .ne v82 v87
  let v89 : BitVec 32 := Scalar.remsi arg2 c2_i32_26
  let c0_i32_31 : BitVec 32 := 0#32
  let v90 : BitVec 1 := Scalar.cmpi .ne v89 c0_i32_31
  let v91 : BitVec 1 := Scalar.andi v88 v90
  let v77 : BitVec 32 := Scalar.divsi arg2 c2_i32_26
  let c1_i32_32 : BitVec 32 := 1#32
  let v92 : BitVec 32 := Scalar.subi v77 c1_i32_32
  let v93 : BitVec 32 := Scalar.select v91 v92 v77
  let c1_i32_33 : BitVec 32 := 1#32
  let v94 : BitVec 1 := Scalar.cmpi .eq v93 c1_i32_33
  let v95 : BitVec 32 := Scalar.extui v94
  let c0_i32_34 : BitVec 32 := 0#32
  let v96 : BitVec 1 := Scalar.cmpi .ne v95 c0_i32_34
  v96

def k0_cond3 (i : grid0.Coords) : BitVec 1 :=
  let arg2 : BitVec 32 := BitVec.ofNat 32 (i 2).val
  let c0_i32_36 : BitVec 32 := 0#32
  let v98 : BitVec 1 := Scalar.cmpi .sgt arg2 c0_i32_36
  let v99 : BitVec 32 := Scalar.extui v98
  let c0_i32_37 : BitVec 32 := 0#32
  let v100 : BitVec 1 := Scalar.cmpi .slt arg2 c0_i32_37
  let v101 : BitVec 32 := Scalar.extui v100
  let v102 : BitVec 32 := Scalar.subi v99 v101
  let c2_i32_35 : BitVec 32 := 2#32
  let c0_i32_38 : BitVec 32 := 0#32
  let v103 : BitVec 1 := Scalar.cmpi .sgt c2_i32_35 c0_i32_38
  let v104 : BitVec 32 := Scalar.extui v103
  let c0_i32_39 : BitVec 32 := 0#32
  let v105 : BitVec 1 := Scalar.cmpi .slt c2_i32_35 c0_i32_39
  let v106 : BitVec 32 := Scalar.extui v105
  let v107 : BitVec 32 := Scalar.subi v104 v106
  let v108 : BitVec 1 := Scalar.cmpi .ne v102 v107
  let v109 : BitVec 32 := Scalar.remsi arg2 c2_i32_35
  let c0_i32_40 : BitVec 32 := 0#32
  let v110 : BitVec 1 := Scalar.cmpi .ne v109 c0_i32_40
  let v111 : BitVec 1 := Scalar.andi v108 v110
  let v97 : BitVec 32 := Scalar.divsi arg2 c2_i32_35
  let c1_i32_41 : BitVec 32 := 1#32
  let v112 : BitVec 32 := Scalar.subi v97 c1_i32_41
  let v113 : BitVec 32 := Scalar.select v111 v112 v97
  let c2_i32_42 : BitVec 32 := 2#32
  let v114 : BitVec 1 := Scalar.cmpi .eq v113 c2_i32_42
  let v115 : BitVec 32 := Scalar.extui v114
  let c0_i32_43 : BitVec 32 := 0#32
  let v116 : BitVec 1 := Scalar.cmpi .ne v115 c0_i32_43
  v116

def k0_cond4 (i : grid0.Coords) : BitVec 1 :=
  let arg2 : BitVec 32 := BitVec.ofNat 32 (i 2).val
  let c0_i32_45 : BitVec 32 := 0#32
  let v118 : BitVec 1 := Scalar.cmpi .sgt arg2 c0_i32_45
  let v119 : BitVec 32 := Scalar.extui v118
  let c0_i32_46 : BitVec 32 := 0#32
  let v120 : BitVec 1 := Scalar.cmpi .slt arg2 c0_i32_46
  let v121 : BitVec 32 := Scalar.extui v120
  let v122 : BitVec 32 := Scalar.subi v119 v121
  let c2_i32_44 : BitVec 32 := 2#32
  let c0_i32_47 : BitVec 32 := 0#32
  let v123 : BitVec 1 := Scalar.cmpi .sgt c2_i32_44 c0_i32_47
  let v124 : BitVec 32 := Scalar.extui v123
  let c0_i32_48 : BitVec 32 := 0#32
  let v125 : BitVec 1 := Scalar.cmpi .slt c2_i32_44 c0_i32_48
  let v126 : BitVec 32 := Scalar.extui v125
  let v127 : BitVec 32 := Scalar.subi v124 v126
  let v128 : BitVec 1 := Scalar.cmpi .ne v122 v127
  let v129 : BitVec 32 := Scalar.remsi arg2 c2_i32_44
  let c0_i32_49 : BitVec 32 := 0#32
  let v130 : BitVec 1 := Scalar.cmpi .ne v129 c0_i32_49
  let v131 : BitVec 1 := Scalar.andi v128 v130
  let v117 : BitVec 32 := Scalar.divsi arg2 c2_i32_44
  let c1_i32_50 : BitVec 32 := 1#32
  let v132 : BitVec 32 := Scalar.subi v117 c1_i32_50
  let v133 : BitVec 32 := Scalar.select v131 v132 v117
  let c3_i32 : BitVec 32 := 3#32
  let v134 : BitVec 1 := Scalar.cmpi .eq v133 c3_i32
  let v135 : BitVec 32 := Scalar.extui v134
  let c0_i32_51 : BitVec 32 := 0#32
  let v136 : BitVec 1 := Scalar.cmpi .ne v135 c0_i32_51
  v136

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Attn3RefIdeal.lean ====
abbrev S16384x1024 : Shape := ⟨2, ![16384, 1024]⟩
abbrev S64 : Shape := ⟨1, ![64]⟩
abbrev S128 : Shape := ⟨1, ![128]⟩
abbrev S8x2048x8x2x64 : Shape := ⟨5, ![8, 2048, 8, 2, 64]⟩
abbrev S8x2048x8x128 : Shape := ⟨4, ![8, 2048, 8, 128]⟩
abbrev S_ : Shape := ⟨0, ![]⟩
abbrev S8x8x2x2048x2048 : Shape := ⟨5, ![8, 8, 2, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2x2048 : Shape := ⟨4, ![8, 8, 2, 2048]⟩
abbrev S8x8x2x2048x1 : Shape := ⟨5, ![8, 8, 2, 2048, 1]⟩
abbrev S8x8x1x2048x2048 : Shape := ⟨5, ![8, 8, 1, 2048, 2048]⟩
abbrev S8x8x2048x2048 : Shape := ⟨4, ![8, 8, 2048, 2048]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩

abbrev nBuf : Space → Nat
  | .hbm => 117
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S16384x1024, .f32⟩
  | .hbm, ⟨9, _⟩ => ⟨S8x2048x8x2x64, .f32⟩
  | .hbm, ⟨10, _⟩ => ⟨S16384x1024, .f32⟩
  | .hbm, ⟨11, _⟩ => ⟨S8x2048x8x2x64, .f32⟩
  | .hbm, ⟨12, _⟩ => ⟨S16384x1024, .f32⟩
  | .hbm, ⟨13, _⟩ => ⟨S8x2048x8x128, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x8x2x2048x2048, .f32⟩
  | .hbm, ⟨26, _⟩ => ⟨S2048, .i32⟩
  | .hbm, ⟨27, _⟩ => ⟨S_, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S2048, .i1⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S1x2048, .i32⟩
  | .hbm, ⟨46, _⟩ => ⟨S_, .i32⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S2048, .i32⟩
  | .hbm, ⟨55, _⟩ => ⟨S2048, .i32⟩
  | .hbm, ⟨56, _⟩ => ⟨S_, .i32⟩
  | .hbm, ⟨57, _⟩ => ⟨S2048, .i32⟩
  | .hbm, ⟨58, _⟩ => ⟨S2048, .i1⟩
  | .hbm, ⟨59, _⟩ => ⟨S2048, .i1⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S2048, .i32⟩
  | .hbm, ⟨64, _⟩ => ⟨S2048x1, .i32⟩
  | .hbm, ⟨65, _⟩ => ⟨S2048x2048, .i32⟩
  | .hbm, ⟨66, _⟩ => ⟨S2048x2048, .i32⟩
  | .hbm, ⟨67, _⟩ => ⟨S2048x2048, .i1⟩
  | .hbm, ⟨68, _⟩ => ⟨S_, .f32⟩
  | .hbm, ⟨69, _⟩ => ⟨S_, .f32⟩
  | .hbm, ⟨70, _⟩ => ⟨S8x8x2x2048x2048, .i1⟩
  | .hbm, ⟨71, _⟩ => ⟨S8x8x2x2048x2048, .f32⟩
  | .hbm, ⟨72, _⟩ => ⟨S8x8x2x2048x2048, .f32⟩
  | .hbm, ⟨73, _⟩ => ⟨S_, .f32⟩
  | .hbm, ⟨74, _⟩ => ⟨S8x8x2x2048, .f32⟩
  | .hbm, ⟨75, _⟩ => ⟨S_, .f32⟩
  | .hbm, ⟨76, _⟩ => ⟨S8x8x2x2048, .f32⟩
  | .hbm, ⟨77, _⟩ => ⟨S8x8x2x2048, .f32⟩
  | .hbm, ⟨78, _⟩ => ⟨S8x8x2x2048x1, .f32⟩
  | .hbm, ⟨79, _⟩ => ⟨S8x8x2x2048x2048, .f32⟩
  | .hbm, ⟨80, _⟩ => ⟨S8x8x2x2048x2048, .f32⟩
  | .hbm, ⟨81, _⟩ => ⟨S8x8x2x2048x2048, .f32⟩
  | .hbm, ⟨82, _⟩ => ⟨S_, .f32⟩
  | .hbm, ⟨83, _⟩ => ⟨S8x8x2x2048, .f32⟩
  | .hbm, ⟨84, _⟩ => ⟨S8x8x2x2048x1, .f32⟩
  | .hbm, ⟨85, _⟩ => ⟨S8x8x2x2048x2048, .f32⟩
  | .hbm, ⟨86, _⟩ => ⟨S8x8x2x2048x2048, .f32⟩
  | .hbm, ⟨87, _⟩ => ⟨S8x8x1x2048x2048, .f32⟩
  | .hbm, ⟨88, _⟩ => ⟨S8x8x2048x2048, .f32⟩
  | .hbm, ⟨89, _⟩ => ⟨S8x8x1x2048x2048, .f32⟩
  | .hbm, ⟨90, _⟩ => ⟨S8x8x2048x2048, .f32⟩
  | .hbm, ⟨91, _⟩ => ⟨S8x8x2048x2048, .f32⟩
  | .hbm, ⟨92, _⟩ => ⟨S8x8x2048x2048, .f32⟩
  | .hbm, ⟨93, _⟩ => ⟨S8x8x2048x2048, .f32⟩
  | .hbm, ⟨94, _⟩ => ⟨S8x8x128x2048, .f32⟩
  | .hbm, ⟨95, _⟩ => ⟨S8x2048x8x128, .f32⟩
  | .hbm, ⟨96, _⟩ => ⟨S8x2048x8x128, .f32⟩
  | .hbm, ⟨97, _⟩ => ⟨S_, .f32⟩
  | .hbm, ⟨98, _⟩ => ⟨S8x2048x8, .f32⟩
  | .hbm, ⟨99, _⟩ => ⟨S8x2048x8x1, .f32⟩
  | .hbm, ⟨100, _⟩ => ⟨S_, .f32⟩
  | .hbm, ⟨101, _⟩ => ⟨S8x2048x8x1, .f32⟩
  | .hbm, ⟨102, _⟩ => ⟨S8x2048x8x1, .f32⟩
  | .hbm, ⟨103, _⟩ => ⟨S_, .f32⟩
  | .hbm, ⟨104, _⟩ => ⟨S8x2048x8x1, .f32⟩
  | .hbm, ⟨105, _⟩ => ⟨S8x2048x8x1, .f32⟩
  | .hbm, ⟨106, _⟩ => ⟨S8x2048x8x1, .f32⟩
  | .hbm, ⟨107, _⟩ => ⟨S8x2048x8x128, .f32⟩
  | .hbm, ⟨108, _⟩ => ⟨S8x2048x8x128, .f32⟩
  | .hbm, ⟨109, _⟩ => ⟨S1x1x1x128, .f32⟩
  | .hbm, ⟨110, _⟩ => ⟨S8x2048x8x128, .f32⟩
  | .hbm, ⟨111, _⟩ => ⟨S8x2048x8x128, .f32⟩
  | .hbm, ⟨112, _⟩ => ⟨S_, .f32⟩
  | .hbm, ⟨113, _⟩ => ⟨S8x2048x8x128, .f32⟩
  | .hbm, ⟨114, _⟩ => ⟨S8x2048x8x128, .f32⟩
  | .hbm, ⟨115, _⟩ => ⟨S16384x1024, .f32⟩
  | .hbm, ⟨116, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v16 : Ref sig .tc := ⟨.hbm, 44, rfl⟩
abbrev main_v17 : Ref sig .tc := ⟨.hbm, 45, rfl⟩
abbrev main_c_2 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst_3 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v23 : Ref sig .tc := ⟨.hbm, 72, rfl⟩
abbrev main_cst_4 : Ref sig .tc := ⟨.hbm, 73, rfl⟩
abbrev main_v24 : Ref sig .tc := ⟨.hbm, 74, rfl⟩
abbrev main_cst_5 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_cst_6 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_cst_7 : Ref sig .tc := ⟨.hbm, 97, rfl⟩
abbrev main_v45 : Ref sig .tc := ⟨.hbm, 98, rfl⟩
abbrev main_v46 : Ref sig .tc := ⟨.hbm, 99, rfl⟩
abbrev main_cst_8 : Ref sig .tc := ⟨.hbm, 100, rfl⟩
abbrev main_v47 : Ref sig .tc := ⟨.hbm, 101, rfl⟩
abbrev main_v48 : Ref sig .tc := ⟨.hbm, 102, rfl⟩
abbrev main_cst_9 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_cst_10 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩

abbrev nD : Nat := 1
abbrev τ : Topo := Topo.v7x

variable {F : FTy → Type} [FloatOps F]
-- ==== OutDiff.lean ====
abbrev S16384x1024 : Shape := ⟨2, ![16384, 1024]⟩
abbrev S8x1x1024 : Shape := ⟨3, ![8, 1, 1024]⟩
abbrev S1024x1024 : Shape := ⟨2, ![1024, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S8x1x1024, .f32⟩
  | .hbm, ⟨2, _⟩ => ⟨S16384x1024, .bf16⟩
  | .hbm, ⟨3, _⟩ => ⟨S1024x1024, .f32⟩
  | .hbm, ⟨4, _⟩ => ⟨S1024x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutDiffRefIdeal.lean ====
abbrev S16384x1024 : Shape := ⟨2, ![16384, 1024]⟩
abbrev S8x1x1024 : Shape := ⟨3, ![8, 1, 1024]⟩
abbrev S1024x1024 : Shape := ⟨2, ![1024, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1x1024, .f32⟩
  | .hbm, ⟨2, _⟩ => ⟨S16384x1024, .bf16⟩
  | .hbm, ⟨3, _⟩ => ⟨S1024x1024, .f32⟩
  | .hbm, ⟨4, _⟩ => ⟨S8x2048x1024, .f32⟩
  | .hbm, ⟨5, _⟩ => ⟨S16384x1024, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== OutHyb.lean ====
abbrev S16384x1024 : Shape := ⟨2, ![16384, 1024]⟩
abbrev S8x1x1024 : Shape := ⟨3, ![8, 1, 1024]⟩
abbrev S16384x512 : Shape := ⟨2, ![16384, 512]⟩
abbrev S1024x1024 : Shape := ⟨2, ![1024, 1024]⟩
abbrev S512x1024 : Shape := ⟨2, ![512, 1024]⟩
abbrev S1x1x1024 : Shape := ⟨3, ![1, 1, 1024]⟩
abbrev S512x512 : Shape := ⟨2, ![512, 512]⟩
abbrev S1x1024 : Shape := ⟨2, ![1, 1024]⟩

abbrev nBuf : Space → Nat
  | .hbm => 11
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S8x1x1024, .f32⟩
  | .hbm, ⟨2, _⟩ => ⟨S16384x512, .f32⟩
  | .hbm, ⟨3, _⟩ => ⟨S16384x512, .f32⟩
  | .hbm, ⟨4, _⟩ => ⟨S1024x1024, .f32⟩
  | .hbm, ⟨5, _⟩ => ⟨S1024x1024, .bf16⟩
  | .hbm, ⟨6, _⟩ => ⟨S16384x512, .bf16⟩
  | .hbm, ⟨7, _⟩ => ⟨S16384x512, .bf16⟩
  | .hbm, ⟨8, _⟩ => ⟨S512x1024, .bf16⟩
  | .hbm, ⟨9, _⟩ => ⟨S512x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutHybRefIdeal.lean ====
abbrev S16384x1024 : Shape := ⟨2, ![16384, 1024]⟩
abbrev S8x1x1024 : Shape := ⟨3, ![8, 1, 1024]⟩
abbrev S16384x512 : Shape := ⟨2, ![16384, 512]⟩
abbrev S1024x1024 : Shape := ⟨2, ![1024, 1024]⟩
abbrev S8x2048x1024 : Shape := ⟨3, ![8, 2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1x1024, .f32⟩
  | .hbm, ⟨2, _⟩ => ⟨S16384x512, .f32⟩
  | .hbm, ⟨3, _⟩ => ⟨S16384x512, .f32⟩
  | .hbm, ⟨4, _⟩ => ⟨S1024x1024, .f32⟩
  | .hbm, ⟨5, _⟩ => ⟨S8x2048x1024, .f32⟩
  | .hbm, ⟨6, _⟩ => ⟨S16384x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== PeerQ.lean ====
abbrev S16384x1024 : Shape := ⟨2, ![16384, 1024]⟩
abbrev S1024 : Shape := ⟨1, ![1024]⟩
abbrev S8x1x1024 : Shape := ⟨3, ![8, 1, 1024]⟩
abbrev S1024x2048 : Shape := ⟨2, ![1024, 2048]⟩
abbrev S1x1024 : Shape := ⟨2, ![1, 1024]⟩
abbrev S16384x2048 : Shape := ⟨2, ![16384, 2048]⟩
abbrev S1024x16384 : Shape := ⟨2, ![1024, 16384]⟩
abbrev S512x1024 : Shape := ⟨2, ![512, 1024]⟩
abbrev S1x1x1024 : Shape := ⟨3, ![1, 1, 1024]⟩
abbrev S512x2048 : Shape := ⟨2, ![512, 2048]⟩
abbrev S1024x512 : Shape := ⟨2, ![1024, 512]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2048, .f32⟩
  | .hbm, ⟨5, _⟩ => ⟨S1x1024, .f32⟩
  | .hbm, ⟨6, _⟩ => ⟨S1024x2048, .bf16⟩
  | .hbm, ⟨7, _⟩ => ⟨S1024x2048, .f32⟩
  | .hbm, ⟨8, _⟩ => ⟨S1024x2048, .f32⟩
  | .hbm, ⟨9, _⟩ => ⟨S1024x2048, .bf16⟩
  | .hbm, ⟨10, _⟩ => ⟨S16384x2048, .f32⟩
  | .hbm, ⟨11, _⟩ => ⟨S1024x16384, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S1024x2048, .bf16⟩
  | .local _ .vmem, ⟨9, _⟩ => ⟨S512x2048, .f32⟩
  | .local _ .vmem, ⟨10, _⟩ => ⟨S512x2048, .f32⟩
  | .local _ .vmem, ⟨11, _⟩ => ⟨S1024x512, .bf16⟩
  | .local _ .vmem, ⟨12, _⟩ => ⟨S1024x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PeerQRefIdeal.lean ====
abbrev S16384x1024 : Shape := ⟨2, ![16384, 1024]⟩
abbrev S1024 : Shape := ⟨1, ![1024]⟩
abbrev S8x1x1024 : Shape := ⟨3, ![8, 1, 1024]⟩
abbrev S1024x2048 : Shape := ⟨2, ![1024, 2048]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S16384x2048 : Shape := ⟨2, ![16384, 2048]⟩
abbrev S1024x16384 : Shape := ⟨2, ![1024, 16384]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2048, .f32⟩
  | .hbm, ⟨5, _⟩ => ⟨S8x2048x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x2048, .f32⟩
  | .hbm, ⟨30, _⟩ => ⟨S16384x2048, .f32⟩
  | .hbm, ⟨31, _⟩ => ⟨S16384x1024, .f32⟩
  | .hbm, ⟨32, _⟩ => ⟨S1024x16384, .f32⟩
  | .hbm, ⟨33, _⟩ => ⟨S1024x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== HybIn.lean ====
abbrev S16384x1024 : Shape := ⟨2, ![16384, 1024]⟩
abbrev S1024 : Shape := ⟨1, ![1024]⟩
abbrev S8x1x1024 : Shape := ⟨3, ![8, 1, 1024]⟩
abbrev S1024x2848 : Shape := ⟨2, ![1024, 2848]⟩
abbrev S1024x1024 : Shape := ⟨2, ![1024, 1024]⟩
abbrev S1024x1536 : Shape := ⟨2, ![1024, 1536]⟩
abbrev S1024x64 : Shape := ⟨2, ![1024, 64]⟩
abbrev S_ : Shape := ⟨0, ![]⟩
abbrev S1024x128 : Shape := ⟨2, ![1024, 128]⟩
abbrev S1024x160 : Shape := ⟨2, ![1024, 160]⟩
abbrev S1024x256 : Shape := ⟨2, ![1024, 256]⟩
abbrev S1024x512 : Shape := ⟨2, ![1024, 512]⟩
abbrev S1x1024 : Shape := ⟨2, ![1, 1024]⟩
abbrev S16384x1536 : Shape := ⟨2, ![16384, 1536]⟩
abbrev S16384x512 : Shape := ⟨2, ![16384, 512]⟩
abbrev S512x1024 : Shape := ⟨2, ![512, 1024]⟩
abbrev S1x1x1024 : Shape := ⟨3, ![1, 1, 1024]⟩
abbrev S512x1536 : Shape := ⟨2, ![512, 1536]⟩
abbrev S512x512 : Shape := ⟨2, ![512, 512]⟩
abbrev S512 : Shape := ⟨1, ![512]⟩
abbrev S512x1 : Shape := ⟨2, ![512, 1]⟩

abbrev nBuf : Space → Nat
  | .hbm => 27
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2848, .f32⟩
  | .hbm, ⟨5, _⟩ => ⟨S1024x1024, .f32⟩
  | .hbm, ⟨6, _⟩ => ⟨S1024x1024, .bf16⟩
  | .hbm, ⟨7, _⟩ => ⟨S1024x1536, .f32⟩
  | .hbm, ⟨8, _⟩ => ⟨S1024x1536, .bf16⟩
  | .hbm, ⟨9, _⟩ => ⟨S1024x64, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x64, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x160, .f32⟩
  | .hbm, ⟨18, _⟩ => ⟨S_, .i32⟩
  | .hbm, ⟨19, _⟩ => ⟨S_, .f32⟩
  | .hbm, ⟨20, _⟩ => ⟨S1024x256, .f32⟩
  | .hbm, ⟨21, _⟩ => ⟨S1024x512, .f32⟩
  | .hbm, ⟨22, _⟩ => ⟨S1024x512, .bf16⟩
  | .hbm, ⟨23, _⟩ => ⟨S1x1024, .f32⟩
  | .hbm, ⟨24, _⟩ => ⟨S16384x1024, .f32⟩
  | .hbm, ⟨25, _⟩ => ⟨S16384x1536, .f32⟩
  | .hbm, ⟨26, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1536, .bf16⟩
  | .local _ .vmem, ⟨9, _⟩ => ⟨S1024x512, .bf16⟩
  | .local _ .vmem, ⟨10, _⟩ => ⟨S512x1024, .f32⟩
  | .local _ .vmem, ⟨11, _⟩ => ⟨S512x1024, .f32⟩
  | .local _ .vmem, ⟨12, _⟩ => ⟨S512x1536, .f32⟩
  | .local _ .vmem, ⟨13, _⟩ => ⟨S512x1536, .f32⟩
  | .local _ .vmem, ⟨14, _⟩ => ⟨S512x512, .f32⟩
  | .local _ .vmem, ⟨15, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call2_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== HybInRefIdeal.lean ====
abbrev S16384x1024 : Shape := ⟨2, ![16384, 1024]⟩
abbrev S1024 : Shape := ⟨1, ![1024]⟩
abbrev S8x1x1024 : Shape := ⟨3, ![8, 1, 1024]⟩
abbrev S1024x2848 : Shape := ⟨2, ![1024, 2848]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2848 : Shape := ⟨3, ![8, 2048, 2848]⟩
abbrev S16384x2848 : Shape := ⟨2, ![16384, 2848]⟩
abbrev S16384x64 : Shape := ⟨2, ![16384, 64]⟩
abbrev S16384x128 : Shape := ⟨2, ![16384, 128]⟩
abbrev S16384x160 : Shape := ⟨2, ![16384, 160]⟩
abbrev S16384x256 : Shape := ⟨2, ![16384, 256]⟩
abbrev S16384x512 : Shape := ⟨2, ![16384, 512]⟩
abbrev S16384x1536 : Shape := ⟨2, ![16384, 1536]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2848, .f32⟩
  | .hbm, ⟨5, _⟩ => ⟨S8x2048x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x2848, .f32⟩
  | .hbm, ⟨30, _⟩ => ⟨S16384x2848, .f32⟩
  | .hbm, ⟨31, _⟩ => ⟨S16384x64, .f32⟩
  | .hbm, ⟨32, _⟩ => ⟨S_, .i32⟩
  | .hbm, ⟨33, _⟩ => ⟨S_, .f32⟩
  | .hbm, ⟨34, _⟩ => ⟨S16384x128, .f32⟩
  | .hbm, ⟨35, _⟩ => ⟨S16384x64, .f32⟩
  | .hbm, ⟨36, _⟩ => ⟨S_, .i32⟩
  | .hbm, ⟨37, _⟩ => ⟨S_, .f32⟩
  | .hbm, ⟨38, _⟩ => ⟨S16384x128, .f32⟩
  | .hbm, ⟨39, _⟩ => ⟨S16384x160, .f32⟩
  | .hbm, ⟨40, _⟩ => ⟨S_, .i32⟩
  | .hbm, ⟨41, _⟩ => ⟨S_, .f32⟩
  | .hbm, ⟨42, _⟩ => ⟨S16384x256, .f32⟩
  | .hbm, ⟨43, _⟩ => ⟨S16384x512, .f32⟩
  | .hbm, ⟨44, _⟩ => ⟨S16384x1024, .f32⟩
  | .hbm, ⟨45, _⟩ => ⟨S16384x1536, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_call1_v0 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_call2_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Qkv.lean ====
abbrev S16384x1024 : Shape := ⟨2, ![16384, 1024]⟩
abbrev S1024 : Shape := ⟨1, ![1024]⟩
abbrev S8x1x1024 : Shape := ⟨3, ![8, 1, 1024]⟩
abbrev S8x2048 : Shape := ⟨2, ![8, 2048]⟩
abbrev S1024x3072 : Shape := ⟨2, ![1024, 3072]⟩
abbrev S1x1024 : Shape := ⟨2, ![1, 1024]⟩
abbrev S16384x1 : Shape := ⟨2, ![16384, 1]⟩
abbrev S1024x1024 : Shape := ⟨2, ![1024, 1024]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S512x1024 : Shape := ⟨2, ![512, 1024]⟩
abbrev S1x1x1024 : Shape := ⟨3, ![1, 1, 1024]⟩
abbrev S512x1 : Shape := ⟨2, ![512, 1]⟩
abbrev S512 : Shape := ⟨1, ![512]⟩
abbrev S512x128 : Shape := ⟨2, ![512, 128]⟩

abbrev nBuf : Space → Nat
  | .hbm => 103
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S8x2048, .i32⟩
  | .hbm, ⟨5, _⟩ => ⟨S1024x3072, .f32⟩
  | .hbm, ⟨6, _⟩ => ⟨S1024x3072, .bf16⟩
  | .hbm, ⟨7, _⟩ => ⟨S1x1024, .f32⟩
  | .hbm, ⟨8, _⟩ => ⟨S16384x1, .i32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S128, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S_, .i32⟩
  | .hbm, ⟨38, _⟩ => ⟨S128, .i32⟩
  | .hbm, ⟨39, _⟩ => ⟨S128, .i1⟩
  | .hbm, ⟨40, _⟩ => ⟨S_, .i32⟩
  | .hbm, ⟨41, _⟩ => ⟨S128, .i32⟩
  | .hbm, ⟨42, _⟩ => ⟨S128, .i1⟩
  | .hbm, ⟨43, _⟩ => ⟨S_, .i32⟩
  | .hbm, ⟨44, _⟩ => ⟨S_, .i1⟩
  | .hbm, ⟨45, _⟩ => ⟨S128, .i1⟩
  | .hbm, ⟨46, _⟩ => ⟨S128, .i1⟩
  | .hbm, ⟨47, _⟩ => ⟨S128, .i1⟩
  | .hbm, ⟨48, _⟩ => ⟨S128, .i32⟩
  | .hbm, ⟨49, _⟩ => ⟨S128, .i32⟩
  | .hbm, ⟨50, _⟩ => ⟨S128, .i32⟩
  | .hbm, ⟨51, _⟩ => ⟨S_, .i32⟩
  | .hbm, ⟨52, _⟩ => ⟨S128, .i32⟩
  | .hbm, ⟨53, _⟩ => ⟨S128, .i1⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S128, .i32⟩
  | .hbm, ⟨61, _⟩ => ⟨S128, .i32⟩
  | .hbm, ⟨62, _⟩ => ⟨S_, .i32⟩
  | .hbm, ⟨63, _⟩ => ⟨S128, .i32⟩
  | .hbm, ⟨64, _⟩ => ⟨S128, .i1⟩
  | .hbm, ⟨65, _⟩ => ⟨S_, .i32⟩
  | .hbm, ⟨66, _⟩ => ⟨S128, .i32⟩
  | .hbm, ⟨67, _⟩ => ⟨S128, .i1⟩
  | .hbm, ⟨68, _⟩ => ⟨S_, .i32⟩
  | .hbm, ⟨69, _⟩ => ⟨S_, .i1⟩
  | .hbm, ⟨70, _⟩ => ⟨S128, .i1⟩
  | .hbm, ⟨71, _⟩ => ⟨S128, .i1⟩
  | .hbm, ⟨72, _⟩ => ⟨S128, .i1⟩
  | .hbm, ⟨73, _⟩ => ⟨S128, .i32⟩
  | .hbm, ⟨74, _⟩ => ⟨S128, .i32⟩
  | .hbm, ⟨75, _⟩ => ⟨S128, .i32⟩
  | .hbm, ⟨76, _⟩ => ⟨S_, .i32⟩
  | .hbm, ⟨77, _⟩ => ⟨S128, .i32⟩
  | .hbm, ⟨78, _⟩ => ⟨S128, .i1⟩
  | .hbm, ⟨79, _⟩ => ⟨S_, .i32⟩
  | .hbm, ⟨80, _⟩ => ⟨S128, .i32⟩
  | .hbm, ⟨81, _⟩ => ⟨S128, .i32⟩
  | .hbm, ⟨82, _⟩ => ⟨S128, .i32⟩
  | .hbm, ⟨83, _⟩ => ⟨S128x1, .i32⟩
  | .hbm, ⟨84, _⟩ => ⟨S128, .f32⟩
  | .hbm, ⟨85, _⟩ => ⟨S_, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S_, .i32⟩
  | .hbm, ⟨91, _⟩ => ⟨S128, .i32⟩
  | .hbm, ⟨92, _⟩ => ⟨S128, .i1⟩
  | .hbm, ⟨93, _⟩ => ⟨S_, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S128, .f32⟩
  | .hbm, ⟨98, _⟩ => ⟨S1x128, .f32⟩
  | .hbm, ⟨99, _⟩ => ⟨S1x128, .f32⟩
  | .hbm, ⟨100, _⟩ => ⟨S16384x1024, .bf16⟩
  | .hbm, ⟨101, _⟩ => ⟨S16384x1024, .bf16⟩
  | .hbm, ⟨102, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1, .i32⟩
  | .local _ .vmem, ⟨8, _⟩ => ⟨S512x1, .i32⟩
  | .local _ .vmem, ⟨9, _⟩ => ⟨S1x128, .f32⟩
  | .local _ .vmem, ⟨10, _⟩ => ⟨S1x128, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_v5 : Ref sig .tc := ⟨.hbm, 38, rfl⟩
abbrev main_call0_v6 : Ref sig .tc := ⟨.hbm, 39, rfl⟩
abbrev main_call0_c_2 : Ref sig .tc := ⟨.hbm, 40, rfl⟩
abbrev main_call0_v7 : Ref sig .tc := ⟨.hbm, 41, rfl⟩
abbrev main_call0_v8 : Ref sig .tc := ⟨.hbm, 42, rfl⟩
abbrev main_call0_c_3 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_v18 : Ref sig .tc := ⟨.hbm, 50, rfl⟩
abbrev main_c_4 : Ref sig .tc := ⟨.hbm, 51, rfl⟩
abbrev main_v19 : Ref sig .tc := ⟨.hbm, 52, rfl⟩
abbrev main_v20 : Ref sig .tc := ⟨.hbm, 53, rfl⟩
abbrev main_c_5 : Ref sig .tc := ⟨.hbm, 54, rfl⟩
abbrev main_call1_v0 : Ref sig .tc := ⟨.hbm, 55, rfl⟩
abbrev main_call1_c : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_1 : Ref sig .tc := ⟨.hbm, 62, rfl⟩
abbrev main_call1_v5 : Ref sig .tc := ⟨.hbm, 63, rfl⟩
abbrev main_call1_v6 : Ref sig .tc := ⟨.hbm, 64, rfl⟩
abbrev main_call1_c_2 : Ref sig .tc := ⟨.hbm, 65, rfl⟩
abbrev main_call1_v7 : Ref sig .tc := ⟨.hbm, 66, rfl⟩
abbrev main_call1_v8 : Ref sig .tc := ⟨.hbm, 67, rfl⟩
abbrev main_call1_c_3 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_v21 : Ref sig .tc := ⟨.hbm, 75, rfl⟩
abbrev main_c_6 : Ref sig .tc := ⟨.hbm, 76, rfl⟩
abbrev main_v22 : Ref sig .tc := ⟨.hbm, 77, rfl⟩
abbrev main_v23 : Ref sig .tc := ⟨.hbm, 78, rfl⟩
abbrev main_c_7 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_cst_8 : Ref sig .tc := ⟨.hbm, 85, rfl⟩
abbrev main_call2_v0 : Ref sig .tc := ⟨.hbm, 86, rfl⟩
abbrev main_call2_v1 : Ref sig .tc := ⟨.hbm, 87, rfl⟩
abbrev main_v29 : Ref sig .tc := ⟨.hbm, 88, rfl⟩
abbrev main_v30 : Ref sig .tc := ⟨.hbm, 89, rfl⟩
abbrev main_c_9 : Ref sig .tc := ⟨.hbm, 90, rfl⟩
abbrev main_v31 : Ref sig .tc := ⟨.hbm, 91, rfl⟩
abbrev main_v32 : Ref sig .tc := ⟨.hbm, 92, rfl⟩
abbrev main_cst_10 : Ref sig .tc := ⟨.hbm, 93, rfl⟩
abbrev main_cst_11 : Ref sig .tc := ⟨.hbm, 94, rfl⟩
abbrev main_call3_v0 : Ref sig .tc := ⟨.hbm, 95, rfl⟩
abbrev main_call3_v1 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36_0 : Ref sig .tc := ⟨.hbm, 100, rfl⟩
abbrev main_v36_1 : Ref sig .tc := ⟨.hbm, 101, rfl⟩
abbrev main_v36_2 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== QkvRefIdeal.lean ====
abbrev S16384x1024 : Shape := ⟨2, ![16384, 1024]⟩
abbrev S1024 : Shape := ⟨1, ![1024]⟩
abbrev S8x1x1024 : Shape := ⟨3, ![8, 1, 1024]⟩
abbrev S8x2048 : Shape := ⟨2, ![8, 2048]⟩
abbrev S1024x3072 : Shape := ⟨2, ![1024, 3072]⟩
abbrev S8x2048x1024 : Shape := ⟨3, ![8, 2048, 1024]⟩
abbrev S_ : Shape := ⟨0, ![]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8x2048x16x64 : Shape := ⟨4, ![8, 2048, 16, 64]⟩
abbrev S8 : Shape := ⟨1, ![8]⟩
abbrev S1x1x8 : Shape := ⟨3, ![1, 1, 8]⟩
abbrev S8x2048x8 : Shape := ⟨3, ![8, 2048, 8]⟩
abbrev S8x2048x1x8 : Shape := ⟨4, ![8, 2048, 1, 8]⟩
abbrev S8x2048x16x16 : Shape := ⟨4, ![8, 2048, 16, 16]⟩
abbrev S8x2048x16x8 : Shape := ⟨4, ![8, 2048, 16, 8]⟩
abbrev S8x2048x16x48 : Shape := ⟨4, ![8, 2048, 16, 48]⟩

abbrev nBuf : Space → Nat
  | .hbm => 129
  | .vmem => 0
  | .smem => 0
  | _ => 0

abbrev hbmTy0_0 (i : Nat) : BufTy := match i % 128 with
  | 0 => ⟨S16384x1024, .f32⟩
  | 1 => ⟨S1024, .f32⟩
  | 2 => ⟨S8x1x1024, .f32⟩
  | 3 => ⟨S8x1x1024, .f32⟩
  | 4 => ⟨S8x2048, .i32⟩
  | 5 => ⟨S1024x3072, .f32⟩
  | 6 => ⟨S8x2048x1024, .f32⟩
  | 7 => ⟨S8x2048x1024, .f32⟩
  | 8 => ⟨S_, .f32⟩
  | 9 => ⟨S8x2048, .f32⟩
  | 10 => ⟨S8x2048x1, .f32⟩
  | 11 => ⟨S_, .f32⟩
  | 12 => ⟨S8x2048x1, .f32⟩
  | 13 => ⟨S8x2048x1, .f32⟩
  | 14 => ⟨S_, .f32⟩
  | 15 => ⟨S8x2048x1, .f32⟩
  | 16 => ⟨S8x2048x1, .f32⟩
  | 17 => ⟨S8x2048x1, .f32⟩
  | 18 => ⟨S8x2048x1024, .f32⟩
  | 19 => ⟨S8x2048x1024, .f32⟩
  | 20 => ⟨S1x1x1024, .f32⟩
  | 21 => ⟨S8x2048x1024, .f32⟩
  | 22 => ⟨S8x2048x1024, .f32⟩
  | 23 => ⟨S_, .f32⟩
  | 24 => ⟨S8x1x1024, .f32⟩
  | 25 => ⟨S8x1x1024, .f32⟩
  | 26 => ⟨S8x2048x1024, .f32⟩
  | 27 => ⟨S8x2048x1024, .f32⟩
  | 28 => ⟨S8x2048x1024, .f32⟩
  | 29 => ⟨S8x2048x1024, .f32⟩
  | 30 => ⟨S8x2048x3072, .f32⟩
  | 31 => ⟨S8x2048x1024, .f32⟩
  | 32 => ⟨S8x2048x1024, .f32⟩
  | 33 => ⟨S8x2048x1024, .f32⟩
  | 34 => ⟨S8x2048x16x64, .f32⟩
  | 35 => ⟨S8, .f32⟩
  | 36 => ⟨S_, .f32⟩
  | 37 => ⟨S8, .f32⟩
  | 38 => ⟨S8, .f32⟩
  | 39 => ⟨S_, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S8x2048, .f32⟩
  | 52 => ⟨S8x2048x1, .f32⟩
  | 53 => ⟨S1x1x8, .f32⟩
  | 54 => ⟨S8x2048x8, .f32⟩
  | 55 => ⟨S8x2048x8, .f32⟩
  | 56 => ⟨S8x2048x8, .f32⟩
  | 57 => ⟨S8x2048x8, .f32⟩
  | 58 => ⟨S8x2048x1x8, .f32⟩
  | 59 => ⟨S8x2048x8, .f32⟩
  | 60 => ⟨S8x2048x1x8, .f32⟩
  | 61 => ⟨S8x2048x16x16, .f32⟩
  | 62 => ⟨S8x2048x16x8, .f32⟩
  | 63 => ⟨S8x2048x16x8, .f32⟩
  | 64 => ⟨S8x2048x16x8, .f32⟩
  | 65 => ⟨S8x2048x16x8, .f32⟩
  | 66 => ⟨S8x2048x16x8, .f32⟩
  | 67 => ⟨S8x2048x16x8, .f32⟩
  | 68 => ⟨S8x2048x16x8, .f32⟩
  | 69 => ⟨S8x2048x16x8, .f32⟩
  | 70 => ⟨S8x2048x16x8, .f32⟩
  | 71 => ⟨S8x2048x16x8, .f32⟩
  | 72 => ⟨S8x2048x16x8, .f32⟩
  | 73 => ⟨S8x2048x16x8, .f32⟩
  | 74 => ⟨S8x2048x16x16, .f32⟩
  | 75 => ⟨S8x2048x16x48, .f32⟩
  | 76 => ⟨S8x2048x16x64, .f32⟩
  | 77 => ⟨S_, .f32⟩
  | 78 => ⟨S8x2048x16x64, .f32⟩
  | 79 => ⟨S8x2048x16x64, .f32⟩
  | 80 => ⟨S8x2048x16x64, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S8, .f32⟩
  | 88 => ⟨S_, .f32⟩
  | 89 => ⟨S8, .f32⟩
  | 90 => ⟨S8, .f32⟩
  | 91 => ⟨S_, .f32⟩
  | 92 => ⟨S8, .f32⟩
  | 93 => ⟨S8, .f32⟩
  | 94 => ⟨S_, .f32⟩
  | 95 => ⟨S8, .f32⟩
  | 96 => ⟨S8, .f32⟩
  | 97 => ⟨S8x2048, .f32⟩
  | 98 => ⟨S8x2048x1, .f32⟩
  | 99 => ⟨S1x1x8, .f32⟩
  | 100 => ⟨S8x2048x8, .f32⟩
  | 101 => ⟨S8x2048x8, .f32⟩
  | 102 => ⟨S8x2048x8, .f32⟩
  | 103 => ⟨S8x2048x8, .f32⟩
  | 104 => ⟨S8x2048x1x8, .f32⟩
  | 105 => ⟨S8x2048x8, .f32⟩
  | 106 => ⟨S8x2048x1x8, .f32⟩
  | 107 => ⟨S8x2048x16x16, .f32⟩
  | 108 => ⟨S8x2048x16x8, .f32⟩
  | 109 => ⟨S8x2048x16x8, .f32⟩
  | 110 => ⟨S8x2048x16x8, .f32⟩
  | 111 => ⟨S8x2048x16x8, .f32⟩
  | 112 => ⟨S8x2048x16x8, .f32⟩
  | 113 => ⟨S8x2048x16x8, .f32⟩
  | 114 => ⟨S8x2048x16x8, .f32⟩
  | 115 => ⟨S8x2048x16x8, .f32⟩
  | 116 => ⟨S8x2048x16x8, .f32⟩
  | 117 => ⟨S8x2048x16x8, .f32⟩
  | 118 => ⟨S8x2048x16x8, .f32⟩
  | 119 => ⟨S8x2048x16x8, .f32⟩
  | 120 => ⟨S8x2048x16x16, .f32⟩
  | 121 => ⟨S8x2048x16x48, .f32⟩
  | 122 => ⟨S8x2048x16x64, .f32⟩
  | 123 => ⟨S16384x1024, .f32⟩
  | 124 => ⟨S16384x1024, .bf16⟩
  | 125 => ⟨S16384x1024, .f32⟩
  | 126 => ⟨S16384x1024, .bf16⟩
  | 127 => ⟨S16384x1024, .f32⟩
  | _ => ⟨S16384x1024, .f32⟩

abbrev hbmTy0_1 (i : Nat) : BufTy := match i % 128 with
  | 0 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_8 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_9 : Ref sig .tc := ⟨.hbm, 82, rfl⟩
abbrev main_v66 : Ref sig .tc := ⟨.hbm, 83, rfl⟩
abbrev main_v67 : Ref sig .tc := ⟨.hbm, 84, rfl⟩
abbrev main_cst_10 : Ref sig .tc := ⟨.hbm, 85, rfl⟩
abbrev main_v68 : Ref sig .tc := ⟨.hbm, 86, rfl⟩
abbrev main_v69 : Ref sig .tc := ⟨.hbm, 87, rfl⟩
abbrev main_cst_11 : Ref sig .tc := ⟨.hbm, 88, rfl⟩
abbrev main_v70 : Ref sig .tc := ⟨.hbm, 89, rfl⟩
abbrev main_v71 : Ref sig .tc := ⟨.hbm, 90, rfl⟩
abbrev main_cst_12 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩

abbrev nD : Nat := 1
abbrev τ : Topo := Topo.v7x

variable {F : FTy → Type} [FloatOps F]
-- ==== Ada.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S4x8x6144 : Shape := ⟨3, ![4, 8, 6144]⟩

abbrev nBuf : Space → Nat
  | .hbm => 49
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x1024x6144, .f32⟩
  | .hbm, ⟨29, _⟩ => ⟨S1024x6144, .f32⟩
  | .hbm, ⟨30, _⟩ => ⟨S8x6144, .f32⟩
  | .hbm, ⟨31, _⟩ => ⟨S1x6144, .f32⟩
  | .hbm, ⟨32, _⟩ => ⟨S6144, .f32⟩
  | .hbm, ⟨33, _⟩ => ⟨S1x6144, .f32⟩
  | .hbm, ⟨34, _⟩ => ⟨S8x6144, .f32⟩
  | .hbm, ⟨35, _⟩ => ⟨S8x6144, .f32⟩
  | .hbm, ⟨36, _⟩ => ⟨S1x1024x6144, .f32⟩
  | .hbm, ⟨37, _⟩ => ⟨S1024x6144, .f32⟩
  | .hbm, ⟨38, _⟩ => ⟨S8x6144, .f32⟩
  | .hbm, ⟨39, _⟩ => ⟨S1x6144, .f32⟩
  | .hbm, ⟨40, _⟩ => ⟨S6144, .f32⟩
  | .hbm, ⟨41, _⟩ => ⟨S1x6144, .f32⟩
  | .hbm, ⟨42, _⟩ => ⟨S8x6144, .f32⟩
  | .hbm, ⟨43, _⟩ => ⟨S8x6144, .f32⟩
  | .hbm, ⟨44, _⟩ => ⟨S1x8x6144, .f32⟩
  | .hbm, ⟨45, _⟩ => ⟨S1x8x6144, .f32⟩
  | .hbm, ⟨46, _⟩ => ⟨S1x8x6144, .f32⟩
  | .hbm, ⟨47, _⟩ => ⟨S1x8x6144, .f32⟩
  | .hbm, ⟨48, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Final.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.KOps.lean ====
/- The vocabulary of one block of the attention kernel, over vectors: the score block of a key block, the chunk mask, a row
   maximum, the exponentials against a row maximum, their row sums and their products with a value block; and how they are put
   together over one to four key blocks, then over the two maps. What each case of the kernel stores is one of these terms. -/
module

public import proofs.«01_k».proof.Proof.Gen.KernelIdeal.Value
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe

variable {F : FTy → Type} [FloatOps F]

/-- Floor division of every word by 64, as the program spells it: the truncated quotient, less one where the signs
    differ and the remainder is not zero. -/
def fdiv (x : IVec S256x512 32) : IVec S256x512 32 :=
  select (andi (cmpi .ne (subi (extui 32 (cmpi .sgt x (broadcast S256x512 0#32)) natLt_1_32)
      (extui 32 (cmpi .slt x (broadcast S256x512 0#32)) natLt_1_32))
    (broadcast S256x512 (Scalar.subi (Scalar.extui (Scalar.cmpi .sgt 64#32 0#32)) (Scalar.extui (Scalar.cmpi .slt 64#32 0#32)))))
      (cmpi .ne (remsi x (broadcast S256x512 64#32)) (broadcast S256x512 0#32)))
    (subi (divsi x (broadcast S256x512 64#32)) (broadcast S256x512 1#32)) (divsi x (broadcast S256x512 64#32))

/-- The row's position in its sequence: 256 times the query tile's number, plus the row. -/
def rowPos (i : grid0.Coords) : IVec S256x512 32 :=
  addi (broadcast S256x512 (Scalar.muli (BitVec.ofNat 32 (i 2).val) 256#32)) (iota .tc S256x512 32 [0] iota_S256x512_d0_w32)

/-- The column's position in its sequence, in the key block that starts at `b`. -/
def colPos (b : BitVec 32) : IVec S256x512 32 :=
  addi (broadcast S256x512 b) (iota .tc S256x512 32 [1] iota_S256x512_d1_w32)

/-- The scores of a query tile against a key block. -/
def score (q : Vec F S256x128 .bf16) (k : Vec F S512x128 .bf16) : FVec F S256x512 .f32 :=
  matmul dot_S256x128_S512x128_S256x512_1_1_0_0_n_n none q k (constant S256x512 .f32 0x00000000#32)

/-- The scores with the columns of later chunks at minus infinity. -/
def masked (i : grid0.Coords) (b : BitVec 32) (s : FVec F S256x512 .f32) : FVec F S256x512 .f32 :=
  select (cmpi .sle (fdiv (colPos b)) (fdiv (rowPos i))) s (broadcast S256x512 (Scalar.ofBits .f32 0xFF800000#32))

/-- The maximum of each row. -/
def rmax (s : FVec F S256x512 .f32) : FVec F S256x1 .f32 :=
  shapeCast S256x1 (multiReduction .maximumf [1] S256 s 0xFF800000#32 reduces_S256x512_S256 (.inl rfl) rfl) shapeCasts_S256_S256x1

/-- The exponential of the scores less the row's maximum. -/
def ex (s : FVec F S256x512 .f32) (m : FVec F S256x1 .f32) : FVec F S256x512 .f32 :=
  exp (subf s (broadcastTo S256x512 m broadcasts_S256x1_S256x512))

/-- The sum of each row. -/
def rsum (e : FVec F S256x512 .f32) : FVec F S256x1 .f32 :=
  shapeCast S256x1 (multiReduction .add [1] S256 e 0x00000000#32 reduces_S256x512_S256 (.inl rfl) rfl) shapeCasts_S256_S256x1

/-- The weights' product with a value block. -/
def wval (e : FVec F S256x512 .f32) (v : Vec F S512x128 .bf16) : FVec F S256x128 .f32 :=
  matmul dot_S256x512_S512x128_S256x128_1_0_0_1_n_n none (truncf .bf16 e bitsLt_bf16_f32) v (constant S256x128 .f32 0x00000000#32)

/-- Zero, to which a row's sums are added. -/
def l0 : FVec F S256x1 .f32 := broadcast S256x1 (Scalar.ofBits .f32 0x00000000#32)

/-- Zero, to which the products are added. -/
def a0 : FVec F S256x128 .f32 := broadcast S256x128 (Scalar.ofBits .f32 0x00000000#32)

/-- The products divided by the row's sum. -/
def quot (a : FVec F S256x128 .f32) (l : FVec F S256x1 .f32) : FVec F S256x128 .f32 :=
  divf a (broadcastTo S256x128 l broadcasts_S256x1_S256x128)

/-- One map of the attention over one key block. -/
def att1 (s0 : FVec F S256x512 .f32) (v0 : Vec F S512x128 .bf16) : FVec F S256x128 .f32 :=
  quot (addf a0 (wval (ex s0 (rmax s0)) v0)) (addf l0 (rsum (ex s0 (rmax s0))))

/-- One map over two key blocks, at the row maximum `m`. -/
def att2 (m : FVec F S256x1 .f32) (s0 s1 : FVec F S256x512 .f32) (v0 v1 : Vec F S512x128 .bf16) : FVec F S256x128 .f32 :=
  quot (addf (addf a0 (wval (ex s0 m) v0)) (wval (ex s1 m) v1)) (addf (addf l0 (rsum (ex s0 m))) (rsum (ex s1 m)))

/-- One map over three key blocks. -/
def att3 (m : FVec F S256x1 .f32) (s0 s1 s2 : FVec F S256x512 .f32) (v0 v1 v2 : Vec F S512x128 .bf16) : FVec F S256x128 .f32 :=
  quot (addf (addf (addf a0 (wval (ex s0 m) v0)) (wval (ex s1 m) v1)) (wval (ex s2 m) v2))
    (addf (addf (addf l0 (rsum (ex s0 m))) (rsum (ex s1 m))) (rsum (ex s2 m)))

/-- One map over four key blocks. -/
def att4 (m : FVec F S256x1 .f32) (s0 s1 s2 s3 : FVec F S256x512 .f32) (v0 v1 v2 v3 : Vec F S512x128 .bf16) : FVec F S256x128 .f32 :=
  quot (addf (addf (addf (addf a0 (wval (ex s0 m) v0)) (wval (ex s1 m) v1)) (wval (ex s2 m) v2)) (wval (ex s3 m) v3))
    (addf (addf (addf (addf l0 (rsum (ex s0 m))) (rsum (ex s1 m))) (rsum (ex s2 m))) (rsum (ex s3 m)))

/-- The row maximum over two, three and four key blocks. -/
def max2 (s0 s1 : FVec F S256x512 .f32) : FVec F S256x1 .f32 := maximumf (rmax s0) (rmax s1)
@[inherit_doc max2] def max3 (s0 s1 s2 : FVec F S256x512 .f32) : FVec F S256x1 .f32 := maximumf (max2 s0 s1) (rmax s2)
@[inherit_doc max2] def max4 (s0 s1 s2 s3 : FVec F S256x512 .f32) : FVec F S256x1 .f32 := maximumf (max3 s0 s1 s2) (rmax s3)

/-- The queries with every lane of the second map at zero, and with every lane of the first map at zero. -/
abbrev q0 (q : Vec F S256x128 .bf16) : Vec F S256x128 .bf16 := k0_pay63 q
@[inherit_doc q0] abbrev q1 (q : Vec F S256x128 .bf16) : Vec F S256x128 .bf16 := k0_pay64 q

/-- The difference of the two maps, the second scaled by lambda. -/
def comb (o0 o1 : FVec F S256x128 .f32) (lam : FVec F S1x1 .f32) : FVec F S256x128 .f32 :=
  subf o0 (mulf (broadcastTo S256x128 lam broadcasts_S1x1_S256x128) o1)

/-- The root mean square norm of the difference, its scale and the constant factor. -/
def norm (o : FVec F S256x128 .f32) (g : Vec F S1x128 .f32) : FVec F S256x128 .bf16 :=
  truncf .bf16 (mulf (mulf (mulf o (broadcastTo S256x128 (rsqrt (addf (divf
      (shapeCast S256x1 (multiReduction .add [1] S256 (mulf o o) 0x00000000#32 reduces_S256x128_S256 (.inl rfl) rfl) shapeCasts_S256_S256x1)
      (broadcast S256x1 (Scalar.ofBits .f32 0x43000000#32))) (broadcast S256x1 (Scalar.ofBits .f32 0x358637BD#32)))) broadcasts_S256x1_S256x128))
    (broadcastTo S256x128 (shapeCast S1x128 g shapeCasts_S1x128_S1x128) broadcasts_S1x128_S256x128))
    (broadcast S256x128 (Scalar.ofBits .f32 0x3F24FD5C#32))) bitsLt_bf16_f32

/-- Key (or value) block number `b` of a sequence's keys: 512 rows. -/
def kblk (k : Vec F S2048x128 .bf16) (b : Nat) (inb : ∀ a, (![b, 0] : Fin 2 → Nat) a + S512x128.size a ≤ S2048x128.size a) : Vec F S512x128 .bf16 :=
  View.ld k (Rect.unit (s := S2048x128) ![b, 0] S512x128.size inb)

end Cert.Attn

end
-- ==== Proof.KCases.lean ====
/- What each of the kernel's four cases leaves in its output block: the named term over the case's one to four key blocks. -/
module

public import proofs.«01_k».proof.Proof.KOps

@[expose] public section

set_option maxRecDepth 16384

noncomputable section

namespace Cert.Attn

open Cert.KernelIdeal Cert.KernelIdeal.Gen Idealize.ShloMosaic Idealize.ShloMosaic.TcCoe

variable {F : FTy → Type} [FloatOps F]

variable (c : Dev nD) (i : grid0.Coords) (arg3 : Memref sig .tc .vmem S256x128 .bf16) (harg3 : arg3.IsWhole)
  (arg4 : Memref sig .tc .vmem S2048x128 .bf16) (harg4 : arg4.IsWhole) (arg5 : Memref sig .tc .vmem S2048x128 .bf16) (harg5 : arg5.IsWhole)
  (arg6 : Memref sig .tc .vmem S1x64 .f32) (harg6 : arg6.IsWhole) (arg7 : Memref sig .tc .vmem S1x64 .f32) (harg7 : arg7.IsWhole)
  (arg8 : Memref sig .tc .vmem S1x64 .f32) (harg8 : arg8.IsWhole) (arg9 : Memref sig .tc .vmem S1x64 .f32) (harg9 : arg9.IsWhole)
  (arg10 : Memref sig .tc .vmem S1x128 .f32) (harg10 : arg10.IsWhole) (arg11 : Memref sig .tc .vmem S256x128 .bf16) (harg11 : arg11.IsWhole)
  (x0 : Vec F S256x128 .bf16) (x1 x2 : Vec F S2048x128 .bf16) (x3 x4 x5 x6 : Vec F S1x64 .f32) (x7 : Vec F S1x128 .f32)

/-- The four key blocks of a sequence, in order. -/
abbrev kb0 (k : Vec F S2048x128 .bf16) : Vec F S512x128 .bf16 := kblk k 0 inb_S2048x128_S512x128_0_0
@[inherit_doc kb0] abbrev kb1 (k : Vec F S2048x128 .bf16) : Vec F S512x128 .bf16 := kblk k 512 inb_S2048x128_S512x128_512_0
@[inherit_doc kb0] abbrev kb2 (k : Vec F S2048x128 .bf16) : Vec F S512x128 .bf16 := kblk k 1024 inb_S2048x128_S512x128_1024_0
@[inherit_doc kb0] abbrev kb3 (k : Vec F S2048x128 .bf16) : Vec F S512x128 .bf16 := kblk k 1536 inb_S2048x128_S512x128_1536_0

/-- One map over the case's key blocks, of the queries `q`: only the last block is masked. -/
def mapA (q : Vec F S256x128 .bf16) : FVec F S256x128 .f32 := att1 (masked i 0#32 (score q (kb0 x1))) (kb0 x2)
@[inherit_doc mapA] def mapB (q : Vec F S256x128 .bf16) : FVec F S256x128 .f32 :=
  att2 (max2 (score q (kb0 x1)) (masked i 512#32 (score q (kb1 x1)))) (score q (kb0 x1)) (masked i 512#32 (score q (kb1 x1))) (kb0 x2) (kb1 x2)
@[inherit_doc mapA] def mapC (q : Vec F S256x128 .bf16) : FVec F S256x128 .f32 :=
  att3 (max3 (score q (kb0 x1)) (score q (kb1 x1)) (masked i 1024#32 (score q (kb2 x1)))) (score q (kb0 x1)) (score q (kb1 x1)) (masked i 1024#32 (score q (kb2 x1))) (kb0 x2) (kb1 x2) (kb2 x2)
@[inherit_doc mapA] def mapD (q : Vec F S256x128 .bf16) : FVec F S256x128 .f32 :=
  att4 (max4 (score q (kb0 x1)) (score q (kb1 x1)) (score q (kb2 x1)) (masked i 1536#32 (score q (kb3 x1)))) (score q (kb0 x1)) (score q (kb1 x1)) (score q (kb2 x1)) (masked i 1536#32 (score q (kb3 x1))) (kb0 x2) (kb1 x2) (kb2 x2) (kb3 x2)

/-- What case A stores: the two maps over 1 key block, combined and normalised. -/
theorem out_A (hc0 : cond0_0 i) (hc1 : ¬cond0_1 i) (hc2 : ¬cond0_2 i) (hc3 : ¬cond0_3 i) :
    out0_A_8 c i arg3 harg3 arg4 harg4 arg5 harg5 arg6 harg6 arg7 harg7 arg8 harg8 arg9 harg9 arg10 harg10 arg11 harg11 hc0 hc1 hc2 hc3 x0 x1 x2 x3 x4 x5 x6 x7
      = norm (comb (mapA i x1 x2 (q0 x0)) (mapA i x1 x2 (q1 x0)) (k0_pay65 x3 x4 x5 x6)) x7 := by
  frame_out
  rfl

/-- What case B stores: the two maps over 2 key blocks, combined and normalised. -/
theorem out_B (hc0 : ¬cond0_0 i) (hc1 : cond0_1 i) (hc2 : ¬cond0_2 i) (hc3 : ¬cond0_3 i) :
    out0_B_8 c i arg3 harg3 arg4 harg4 arg5 harg5 arg6 harg6 arg7 harg7 arg8 harg8 arg9 harg9 arg10 harg10 arg11 harg11 hc0 hc1 hc2 hc3 x0 x1 x2 x3 x4 x5 x6 x7
      = norm (comb (mapB i x1 x2 (q0 x0)) (mapB i x1 x2 (q1 x0)) (k0_pay65 x3 x4 x5 x6)) x7 := by
  frame_out
  rfl

/-- What case C stores: the two maps over 3 key blocks, combined and normalised. -/
theorem out_C (hc0 : ¬cond0_0 i) (hc1 : ¬cond0_1 i) (hc2 : cond0_2 i) (hc3 : ¬cond0_3 i) :
    out0_C_8 c i arg3 harg3 arg4 harg4 arg5 harg5 arg6 harg6 arg7 harg7 arg8 harg8 arg9 harg9 arg10 harg10 arg11 harg11 hc0 hc1 hc2 hc3 x0 x1 x2 x3 x4 x5 x6 x7
      = norm (comb (mapC i x1 x2 (q0 x0)) (mapC i x1 x2 (q1 x0)) (k0_pay65 x3 x4 x5 x6)) x7 := by
  frame_out
  rfl

/-- What case D stores: the two maps over 4 key blocks, combined and normalised. -/
theorem out_D (hc0 : ¬cond0_0 i) (hc1 : ¬cond0_1 i) (hc2 : ¬cond0_2 i) (hc3 : cond0_3 i) :
    out0_D_8 c i arg3 harg3 arg4 harg4 arg5 harg5 arg6 harg6 arg7 harg7 arg8 harg8 arg9 harg9 arg10 harg10 arg11 harg11 hc0 hc1 hc2 hc3 x0 x1 x2 x3 x4 x5 x6 x7
      = norm (comb (mapD i x1 x2 (q0 x0)) (mapD i x1 x2 (q1 x0)) (k0_pay65 x3 x4 x5 x6)) x7 := by
  frame_out
  rfl

end Cert.Attn

end
-- ==== Proof.KRead.lean ====
/- The block vocabulary at an index, over the extended reals. -/
module

public import proofs.«01_k».proof.Proof.KCases
public import Idealize.ShloMosaic.Lib.Pointwise

@[expose] public section

set_option maxRecDepth 16384

noncomputable section

namespace Cert.Attn

open Cert.KernelIdeal Cert.KernelIdeal.Gen Idealize.ShloMosaic Idealize.ShloMosaic.TcCoe

/-- The literal minus infinity is the least extended real. -/
theorem lit_bot : Ideal.ofBits .f32 0xFF800000#32 = (⊥ : EReal) := by
  simp [Ideal.ofBits, Ideal.ieee]

theorem score_apply (q : Vec Ideal S256x128 .bf16) (k : Vec Ideal S512x128 .bf16) (r : Fin 256) (c : Fin 512) :
    score q k (ix2 r c) = ∑ l : Fin 128, q (ix2 r l) * k (ix2 c l) := by
  pointwise [score, dot_S256x128_S512x128_S256x512_1_1_0_0_n_n]

theorem wval_apply (e : FVec Ideal S256x512 .f32) (v : Vec Ideal S512x128 .bf16) (r : Fin 256) (l : Fin 128) :
    wval e v (ix2 r l) = ∑ c : Fin 512, e (ix2 r c) * v (ix2 c l) := by
  pointwise [wval, dot_S256x512_S512x128_S256x128_1_0_0_1_n_n]

theorem rmax_apply (s : FVec Ideal S256x512 .f32) (r : Fin 256) (z : Fin 1) :
    rmax s (ix2 r z) = Finset.univ.sup fun c : Fin 512 => s (ix2 r c) := by
  pointwise [rmax]
  rw [lit_bot]; rfl

theorem rsum_apply (s : FVec Ideal S256x512 .f32) (r : Fin 256) (z : Fin 1) :
    rsum s (ix2 r z) = ∑ c : Fin 512, s (ix2 r c) := by
  pointwise [rsum]

theorem ex_apply (s : FVec Ideal S256x512 .f32) (m : FVec Ideal S256x1 .f32) (r : Fin 256) (c : Fin 512) :
    ex s m (ix2 r c) = Ideal.exp (s (ix2 r c) - m (ix2 r 0)) := by
  pointwise [ex]

theorem quot_apply (a : FVec Ideal S256x128 .f32) (m : FVec Ideal S256x1 .f32) (r : Fin 256) (c : Fin 128) :
    quot a m (ix2 r c) = Ideal.div (a (ix2 r c)) (m (ix2 r 0)) := by
  pointwise [quot]

theorem l0_apply (j) : (l0 (F := Ideal)) j = 0 := by pointwise [l0]
theorem a0_apply (j) : (a0 (F := Ideal)) j = 0 := by pointwise [a0]

theorem comb_apply (o0 o1 : FVec Ideal S256x128 .f32) (lam : FVec Ideal S1x1 .f32) (r : Fin 256) (l : Fin 128) :
    comb o0 o1 lam (ix2 r l) = o0 (ix2 r l) - lam (ix2 0 0) * o1 (ix2 r l) := by
  pointwise [comb]

theorem norm_apply (o : FVec Ideal S256x128 .f32) (g : Vec Ideal S1x128 .f32) (r : Fin 256) (l : Fin 128) :
    norm o g (ix2 r l) = o (ix2 r l) * Ideal.rsqrt (Ideal.div (∑ d : Fin 128, o (ix2 r d) * o (ix2 r d)) (Ideal.ofBits .f32 0x43000000#32)
      + Ideal.ofBits .f32 0x358637BD#32) * g (ix2 0 l) * Ideal.ofBits .f32 0x3F24FD5C#32 := by
  pointwise [norm]

theorem lam_apply (a b c d : Vec Ideal S1x64 .f32) :
    k0_pay65 a b c d (ix2 0 0) = Ideal.exp (∑ l : Fin 64, a (ix2 0 l) * b (ix2 0 l)) - Ideal.exp (∑ l : Fin 64, c (ix2 0 l) * d (ix2 0 l))
      + Ideal.ofBits .f32 0x3EB60549#32 := by
  pointwise [k0_pay65]

/-- The signed comparisons of a lane number with 64. -/
theorem slt_64 : ∀ l : Fin 128, IntOp.cmpi .slt (BitVec.ofNat 32 l.val) 64#32 = if l.val < 64 then 1#1 else 0#1 := by decide +kernel
theorem sge_64 : ∀ l : Fin 128, IntOp.cmpi .sge (BitVec.ofNat 32 l.val) 64#32 = if 64 ≤ l.val then 1#1 else 0#1 := by decide +kernel

theorem q0_apply (q : Vec Ideal S256x128 .bf16) (r : Fin 256) (l : Fin 128) :
    q0 q (ix2 r l) = if l.val < 64 then q (ix2 r l) else 0 := by
  pointwise [q0, k0_pay63, k0_pay62]
  rw [slt_64]; split <;> rfl

theorem q1_apply (q : Vec Ideal S256x128 .bf16) (r : Fin 256) (l : Fin 128) :
    q1 q (ix2 r l) = if 64 ≤ l.val then q (ix2 r l) else 0 := by
  pointwise [q1, k0_pay64, k0_pay62]
  rw [sge_64]; split <;> rfl

/-- Floor division of one word by 64, as the program spells it. -/
def fdivW (x : BitVec 32) : BitVec 32 :=
  Scalar.select
      (IntOp.andi
        (IntOp.cmpi .ne
          (IntOp.subi (BitVec.setWidth 32 (IntOp.cmpi .sgt x 0#32)) (BitVec.setWidth 32 (IntOp.cmpi .slt x 0#32)))
          (Scalar.subi (Scalar.extui (Scalar.cmpi .sgt 64#32 0#32)) (Scalar.extui (Scalar.cmpi .slt 64#32 0#32))))
        (IntOp.cmpi .ne (IntOp.remsi ArithUnit.vector x 64#32) 0#32))
      (IntOp.subi (IntOp.divsi ArithUnit.vector x 64#32) 1#32) (IntOp.divsi ArithUnit.vector x 64#32)

theorem fdiv_apply (x : IVec S256x512 32) (j) : fdiv x j = fdivW (x j) := rfl

theorem fdivW_ofNat : ∀ n : Fin 2048, fdivW (BitVec.ofNat 32 n.val) = BitVec.ofNat 32 (n.val / 64) := by decide +kernel

theorem sle_chunk : ∀ a b : Fin 32, IntOp.cmpi .sle (BitVec.ofNat 32 a.val) (BitVec.ofNat 32 b.val) = if a.val ≤ b.val then 1#1 else 0#1 := by
  decide +kernel

theorem colPos_apply (b : Nat) (r : Fin 256) (c : Fin 512) : colPos (BitVec.ofNat 32 b) (ix2 r c) = BitVec.ofNat 32 (b + c.val) := by
  pointwise [colPos]
  exact (BitVec.ofNat_add ..).symm

theorem rowPos_apply (i : grid0.Coords) (r : Fin 256) (c : Fin 512) :
    rowPos i (ix2 r c) = BitVec.ofNat 32 (256 * (i 2).val + r.val) := by
  pointwise [rowPos]
  show BitVec.ofNat 32 _ * BitVec.ofNat 32 256 + BitVec.ofNat 32 _ = _
  rw [← BitVec.ofNat_mul, ← BitVec.ofNat_add, Nat.mul_comm]

/-- The masked scores: minus infinity in the columns whose chunk comes after the row's. -/
theorem masked_apply (i : grid0.Coords) (b : Nat) (hb : b ≤ 1536) (s : FVec Ideal S256x512 .f32) (r : Fin 256) (c : Fin 512) :
    masked i (BitVec.ofNat 32 b) s (ix2 r c) = if (b + c.val) / 64 ≤ (256 * (i 2).val + r.val) / 64 then s (ix2 r c) else (⊥ : EReal) := by
  have hi : (i 2).val < 8 := (i 2).isLt
  have h1 : b + c.val < 2048 := by omega
  have h2 : 256 * (i 2).val + r.val < 2048 := by omega
  pointwise [masked]
  rw [fdiv_apply, fdiv_apply, colPos_apply, rowPos_apply, fdivW_ofNat ⟨_, h1⟩, fdivW_ofNat ⟨_, h2⟩, lit_bot,
    sle_chunk ⟨(b + c.val) / 64, by omega⟩ ⟨(256 * (i 2).val + r.val) / 64, by omega⟩]
  split <;> rfl

theorem kblk_apply (k : Vec Ideal S2048x128 .bf16) (b : Nat) (inb) (r : Fin 512) (l : Fin 128) (hb : b + r.val < 2048) :
    kblk k b inb (ix2 r l) = k (ix2 ⟨b + r.val, hb⟩ l) := by
  pointwise [kblk]

end Cert.Attn

end
-- ==== Proof.Soft.lean ====
/- A softmax weighted sum over 2048 keys, over the extended reals, and the same sum taken block by block of 512 keys with
   the blocks of nothing but minus infinity left out. -/
module

public import Idealize.ShloMosaic.PureOps.Ideal
public import Mathlib.Logic.Equiv.Fin.Basic
public import Mathlib.Data.Finset.Lattice.Prod

@[expose] public section

noncomputable section

namespace Cert.Attn

open Idealize.ShloMosaic

/-- The softmax of the scores `S`, as weights of the values `v`. -/
def soft (S v : Fin 2048 → EReal) : EReal :=
  Ideal.div (∑ t, Ideal.exp (S t - Finset.univ.sup S) * v t) (∑ t, Ideal.exp (S t - Finset.univ.sup S))

/-- Block `n` of a row of 2048. -/
def blk (f : Fin 2048 → EReal) (n : Fin 4) (c : Fin 512) : EReal := f ⟨512 * n.val + c.val, by omega⟩

theorem exp_bot_sub (x : EReal) : Ideal.exp (⊥ - x) = 0 := by rw [EReal.bot_sub]; rfl

theorem sum_blk (f : Fin 2048 → EReal) :
    ∑ t, f t = (∑ c, blk f 0 c) + (∑ c, blk f 1 c) + (∑ c, blk f 2 c) + (∑ c, blk f 3 c) := by
  have h : ∀ n c, f (finProdFinEquiv (m := 4) (n := 512) (n, c)) = blk f n c := fun n c => congrArg f (Fin.ext (Nat.add_comm _ _))
  rw [← Equiv.sum_comp (finProdFinEquiv (m := 4) (n := 512)) f, Fintype.sum_prod_type, Fin.sum_univ_four]
  simp only [h]

theorem sup_blk (f : Fin 2048 → EReal) :
    Finset.univ.sup f = Finset.univ.sup (blk f 0) ⊔ Finset.univ.sup (blk f 1) ⊔ Finset.univ.sup (blk f 2) ⊔ Finset.univ.sup (blk f 3) := by
  apply le_antisymm
  · refine Finset.sup_le fun t _ => ?_
    have key : ∀ n : Fin 4, 512 * n.val ≤ t.val → t.val < 512 * n.val + 512 → f t ≤ Finset.univ.sup (blk f n) := fun n h1 h2 => by
      have : f t = blk f n ⟨t.val - 512 * n.val, by omega⟩ := congrArg f (Fin.ext (by show t.val = 512 * n.val + (t.val - 512 * n.val); omega))
      rw [this]; exact Finset.le_sup (Finset.mem_univ _)
    have ht := t.isLt
    rcases lt_or_ge t.val 512 with h | h
    · exact (key 0 (by simp) (by simpa using h)).trans (le_sup_left.trans (le_sup_left.trans le_sup_left))
    rcases lt_or_ge t.val 1024 with h' | h'
    · exact (key 1 (by simpa using h) (by simpa using h')).trans (le_sup_right.trans (le_sup_left.trans le_sup_left))
    rcases lt_or_ge t.val 1536 with h'' | h''
    · exact (key 2 (by simpa using h') (by simpa using h'')).trans (le_sup_right.trans le_sup_left)
    · exact (key 3 (by simpa using h'') (by simpa using ht)).trans le_sup_right
  · have : ∀ n, Finset.univ.sup (blk f n) ≤ Finset.univ.sup f := fun n =>
      Finset.sup_le fun c _ => Finset.le_sup (f := f) (Finset.mem_univ _)
    exact sup_le (sup_le (sup_le (this 0) (this 1)) (this 2)) (this 3)

/-- Block `n` of the weights, and of the weighted values, at the row maximum `M`. -/
def lsum (M : EReal) (s : Fin 512 → EReal) : EReal := ∑ c, Ideal.exp (s c - M)
@[inherit_doc lsum] def vsum (M : EReal) (s v : Fin 512 → EReal) : EReal := ∑ c, Ideal.exp (s c - M) * v c

theorem soft_blk (S v : Fin 2048 → EReal) (M : EReal) (hM : Finset.univ.sup S = M) :
    soft S v = Ideal.div (vsum M (blk S 0) (blk v 0) + vsum M (blk S 1) (blk v 1) + vsum M (blk S 2) (blk v 2) + vsum M (blk S 3) (blk v 3))
      (lsum M (blk S 0) + lsum M (blk S 1) + lsum M (blk S 2) + lsum M (blk S 3)) := by
  unfold soft
  rw [hM, sum_blk, sum_blk (fun t => Ideal.exp (S t - M))]; rfl

theorem lsum_bot (M : EReal) (s : Fin 512 → EReal) (h : ∀ c, s c = ⊥) : lsum M s = 0 := by
  simp only [lsum, h, exp_bot_sub, Finset.sum_const_zero]
theorem vsum_bot (M : EReal) (s v : Fin 512 → EReal) (h : ∀ c, s c = ⊥) : vsum M s v = 0 := by
  simp only [vsum, h, exp_bot_sub, zero_mul, Finset.sum_const_zero]
theorem sup_bot' (s : Fin 512 → EReal) (h : ∀ c, s c = ⊥) : Finset.univ.sup s = ⊥ := by
  rw [show s = fun _ => ⊥ from funext h]; exact Finset.sup_bot _

end Cert.Attn

end
-- ==== Proof.KMap.lean ====
/- One map of the kernel's attention at a row and a value lane: in every case the softmax of the row's masked scores. -/
module

public import proofs.«01_k».proof.Proof.KRead
public import proofs.«01_k».proof.Proof.Soft

@[expose] public section

set_option maxRecDepth 16384

noncomputable section

namespace Cert.Attn

open Cert.KernelIdeal Cert.KernelIdeal.Gen Idealize.ShloMosaic Idealize.ShloMosaic.TcCoe

variable (i : grid0.Coords) (q : Vec Ideal S256x128 .bf16) (k v : Vec Ideal S2048x128 .bf16) (r : Fin 256) (e : Fin 128)

/-- The row's scores against every key of its sequence, at minus infinity past the row's chunk. -/
def rowS (t : Fin 2048) : EReal :=
  if t.val / 64 ≤ (256 * (i 2).val + r.val) / 64 then ∑ l : Fin 128, q (ix2 r l) * k (ix2 t l) else ⊥

/-- A value lane over the keys. -/
def colV (t : Fin 2048) : EReal := v (ix2 t e)

variable (n : Fin 4) (b : Nat) (inb : ∀ a, (![b, 0] : Fin 2 → Nat) a + S512x128.size a ≤ S2048x128.size a)

theorem score_kblk (hb : b = 512 * n.val) (c : Fin 512) :
    score q (kblk k b inb) (ix2 r c) = ∑ l : Fin 128, q (ix2 r l) * k (ix2 ⟨512 * n.val + c.val, by omega⟩ l) := by
  subst hb
  rw [score_apply]
  exact Finset.sum_congr rfl fun l _ => by rw [kblk_apply _ _ _ _ _ (by omega)]

theorem score_seen (hb : b = 512 * n.val) (h : 512 * n.val + 512 ≤ 256 * (i 2).val) (c : Fin 512) :
    score q (kblk k b inb) (ix2 r c) = blk (rowS i q k r) n c := by
  rw [score_kblk q k r n b inb hb c]
  unfold blk rowS
  rw [if_pos (by show (512 * n.val + c.val) / 64 ≤ _; exact Nat.div_le_div_right (by omega))]

theorem score_last (hb : b = 512 * n.val) (c : Fin 512) :
    masked i (BitVec.ofNat 32 b) (score q (kblk k b inb)) (ix2 r c) = blk (rowS i q k r) n c := by
  rw [masked_apply i b (by omega), score_kblk q k r n b inb hb c]
  subst hb; rfl

theorem score_past (h : 256 * (i 2).val + 256 ≤ 512 * n.val) (c : Fin 512) : blk (rowS i q k r) n c = ⊥ := by
  unfold blk rowS
  rw [if_neg (by show ¬(512 * n.val + c.val) / 64 ≤ _; omega)]

theorem value_kblk (hb : b = 512 * n.val) (c : Fin 512) : kblk v b inb (ix2 c e) = blk (colV v e) n c := by
  subst hb
  rw [kblk_apply _ _ _ _ _ (by omega)]; rfl

variable (s : FVec Ideal S256x512 .f32) (m : FVec Ideal S256x1 .f32) (hs : ∀ c, s (ix2 r c) = blk (rowS i q k r) n c)

include hs in
theorem rmax_blk (z : Fin 1) : rmax s (ix2 r z) = Finset.univ.sup (blk (rowS i q k r) n) := by
  rw [rmax_apply]; exact Finset.sup_congr rfl fun c _ => hs c

include hs in
theorem lsum_blk (z : Fin 1) : rsum (ex s m) (ix2 r z) = lsum (m (ix2 r 0)) (blk (rowS i q k r) n) := by
  rw [rsum_apply]; exact Finset.sum_congr rfl fun c _ => by rw [ex_apply, hs]

include hs in
theorem vsum_blk (hb : b = 512 * n.val) :
    wval (ex s m) (kblk v b inb) (ix2 r e) = vsum (m (ix2 r 0)) (blk (rowS i q k r) n) (blk (colV v e) n) := by
  rw [wval_apply]; exact Finset.sum_congr rfl fun c _ => by rw [ex_apply, hs, value_kblk v e n b inb hb]

theorem addf_at {S : Shape} (x y : FVec Ideal S .f32) (j) : addf x y j = x j + y j := rfl
theorem maximumf_at {S : Shape} (x y : FVec Ideal S .f32) (j) : maximumf x y j = x j ⊔ y j := rfl

theorem mapA_apply (hi : 0 ≤ (i 2).val ∧ (i 2).val ≤ 1) : mapA i k v q (ix2 r e) = soft (rowS i q k r) (colV v e) := by
  have h0 := score_last i q k r 0 0 inb_S2048x128_S512x128_0_0 rfl
  have p1 := score_past i q k r 1 (by show _ ≤ 512 * 1; omega)
  have p2 := score_past i q k r 2 (by show _ ≤ 512 * 2; omega)
  have p3 := score_past i q k r 3 (by show _ ≤ 512 * 3; omega)
  have hM : Finset.univ.sup (rowS i q k r) = (rmax (masked i 0#32 (score q (kb0 k)))) (ix2 r 0) := by
    rw [sup_blk, sup_bot' _ p1, sup_bot' _ p2, sup_bot' _ p3]
    simp only [rmax_blk i q k r 0 _ h0, sup_bot_eq]
  rw [soft_blk _ _ _ hM, lsum_bot _ _ p1, vsum_bot _ _ _ p1, lsum_bot _ _ p2, vsum_bot _ _ _ p2, lsum_bot _ _ p3, vsum_bot _ _ _ p3]
  simp only [mapA, att1, quot_apply, addf_at, l0_apply, a0_apply, zero_add, add_zero, lsum_blk i q k r 0 _ _ h0, vsum_blk i q k v r e 0 0 _ _ _ h0 rfl]

theorem mapB_apply (hi : 2 ≤ (i 2).val ∧ (i 2).val ≤ 3) : mapB i k v q (ix2 r e) = soft (rowS i q k r) (colV v e) := by
  have h0 := score_seen i q k r 0 0 inb_S2048x128_S512x128_0_0 rfl (by show 512 * 0 + 512 ≤ _; omega)
  have h1 := score_last i q k r 1 512 inb_S2048x128_S512x128_512_0 rfl
  have p2 := score_past i q k r 2 (by show _ ≤ 512 * 2; omega)
  have p3 := score_past i q k r 3 (by show _ ≤ 512 * 3; omega)
  have hM : Finset.univ.sup (rowS i q k r) = (max2 (score q (kb0 k)) (masked i 512#32 (score q (kb1 k)))) (ix2 r 0) := by
    rw [sup_blk, sup_bot' _ p2, sup_bot' _ p3]
    simp only [max2, maximumf_at, rmax_blk i q k r 0 _ h0, rmax_blk i q k r 1 _ h1, sup_bot_eq]
  rw [soft_blk _ _ _ hM, lsum_bot _ _ p2, vsum_bot _ _ _ p2, lsum_bot _ _ p3, vsum_bot _ _ _ p3]
  simp only [mapB, att2, quot_apply, addf_at, l0_apply, a0_apply, zero_add, add_zero, lsum_blk i q k r 0 _ _ h0, lsum_blk i q k r 1 _ _ h1, vsum_blk i q k v r e 0 0 _ _ _ h0 rfl, vsum_blk i q k v r e 1 512 _ _ _ h1 rfl]

theorem mapC_apply (hi : 4 ≤ (i 2).val ∧ (i 2).val ≤ 5) : mapC i k v q (ix2 r e) = soft (rowS i q k r) (colV v e) := by
  have h0 := score_seen i q k r 0 0 inb_S2048x128_S512x128_0_0 rfl (by show 512 * 0 + 512 ≤ _; omega)
  have h1 := score_seen i q k r 1 512 inb_S2048x128_S512x128_512_0 rfl (by show 512 * 1 + 512 ≤ _; omega)
  have h2 := score_last i q k r 2 1024 inb_S2048x128_S512x128_1024_0 rfl
  have p3 := score_past i q k r 3 (by show _ ≤ 512 * 3; omega)
  have hM : Finset.univ.sup (rowS i q k r) = (max3 (score q (kb0 k)) (score q (kb1 k)) (masked i 1024#32 (score q (kb2 k)))) (ix2 r 0) := by
    rw [sup_blk, sup_bot' _ p3]
    simp only [max3, max2, maximumf_at, rmax_blk i q k r 0 _ h0, rmax_blk i q k r 1 _ h1, rmax_blk i q k r 2 _ h2, sup_bot_eq]
  rw [soft_blk _ _ _ hM, lsum_bot _ _ p3, vsum_bot _ _ _ p3]
  simp only [mapC, att3, quot_apply, addf_at, l0_apply, a0_apply, zero_add, add_zero, lsum_blk i q k r 0 _ _ h0, lsum_blk i q k r 1 _ _ h1, lsum_blk i q k r 2 _ _ h2, vsum_blk i q k v r e 0 0 _ _ _ h0 rfl, vsum_blk i q k v r e 1 512 _ _ _ h1 rfl, vsum_blk i q k v r e 2 1024 _ _ _ h2 rfl]

theorem mapD_apply (hi : 6 ≤ (i 2).val ∧ (i 2).val ≤ 7) : mapD i k v q (ix2 r e) = soft (rowS i q k r) (colV v e) := by
  have h0 := score_seen i q k r 0 0 inb_S2048x128_S512x128_0_0 rfl (by show 512 * 0 + 512 ≤ _; omega)
  have h1 := score_seen i q k r 1 512 inb_S2048x128_S512x128_512_0 rfl (by show 512 * 1 + 512 ≤ _; omega)
  have h2 := score_seen i q k r 2 1024 inb_S2048x128_S512x128_1024_0 rfl (by show 512 * 2 + 512 ≤ _; omega)
  have h3 := score_last i q k r 3 1536 inb_S2048x128_S512x128_1536_0 rfl
  have hM : Finset.univ.sup (rowS i q k r) = (max4 (score q (kb0 k)) (score q (kb1 k)) (score q (kb2 k)) (masked i 1536#32 (score q (kb3 k)))) (ix2 r 0) := by
    rw [sup_blk]
    simp only [max4, max3, max2, maximumf_at, rmax_blk i q k r 0 _ h0, rmax_blk i q k r 1 _ h1, rmax_blk i q k r 2 _ h2, rmax_blk i q k r 3 _ h3, sup_bot_eq]
  rw [soft_blk _ _ _ hM]
  simp only [mapD, att4, quot_apply, addf_at, l0_apply, a0_apply, zero_add, add_zero, lsum_blk i q k r 0 _ _ h0, lsum_blk i q k r 1 _ _ h1, lsum_blk i q k r 2 _ _ h2, lsum_blk i q k r 3 _ _ h3, vsum_blk i q k v r e 0 0 _ _ _ h0 rfl, vsum_blk i q k v r e 1 512 _ _ _ h1 rfl, vsum_blk i q k v r e 2 1024 _ _ _ h2 rfl, vsum_blk i q k v r e 3 1536 _ _ _ h3 rfl]

end Cert.Attn

end
-- ==== Proof.KBlock.lean ====
/- What every point of the kernel's grid stores, at a row and a lane: two softmaxes of the row's scores, combined and normalised. -/
module

public import proofs.«01_k».proof.Proof.KCases
public import proofs.«01_k».proof.Proof.KMap
public import proofs.«01_k».proof.Proof.Gen.KernelIdeal.Value

@[expose] public section

set_option maxRecDepth 16384

noncomputable section

namespace Cert.Attn

open Cert.KernelIdeal Cert.KernelIdeal.Gen Idealize.ShloMosaic Idealize.ShloMosaic.TcCoe

/-- The weight of the second map, from the four lambda vectors. -/
def lamE (a b c d : Fin 64 → EReal) : EReal :=
  Ideal.exp (∑ l, a l * b l) - Ideal.exp (∑ l, c l * d l) + Ideal.ofBits .f32 0x3EB60549#32

/-- The root mean square norm of a head's lanes `o`, times the gain `g` and the depth constant. -/
def normE (o g : Fin 128 → EReal) (e : Fin 128) : EReal :=
  o e * Ideal.rsqrt (Ideal.div (∑ l, o l * o l) (Ideal.ofBits .f32 0x43000000#32) + Ideal.ofBits .f32 0x358637BD#32) * g e
    * Ideal.ofBits .f32 0x3F24FD5C#32

/-- A row of the output: the two softmaxes of the scores `S0` and `S1`, as weights of the value lanes, combined and normalised. -/
def rowE (S0 S1 : Fin 2048 → EReal) (v : Fin 128 → Fin 2048 → EReal) (lam : EReal) (g : Fin 128 → EReal) (e : Fin 128) : EReal :=
  normE (fun l => soft S0 (v l) - lam * soft S1 (v l)) g e

/-- The scores of 128 lanes, of which one half is masked, are the sum over the other half. -/
theorem sum_low (q k : Fin 128 → EReal) :
    ∑ l : Fin 128, (if l.val < 64 then q l else 0) * k l = ∑ d : Fin 64, q ⟨d.val, by omega⟩ * k ⟨d.val, by omega⟩ := by
  refine (Fin.sum_univ_add (a := 64) (b := 64) _).trans ?_
  have h2 : ∑ d : Fin 64, (if (Fin.natAdd 64 d).val < 64 then q (Fin.natAdd 64 d) else 0) * k (Fin.natAdd 64 d) = 0 :=
    Finset.sum_eq_zero fun d _ => by rw [if_neg (by simp), zero_mul]
  refine (congrArg (_ + ·) h2).trans ((add_zero _).trans (Finset.sum_congr rfl fun d _ => ?_))
  rw [if_pos (by simp)]; rfl

@[inherit_doc sum_low] theorem sum_high (q k : Fin 128 → EReal) :
    ∑ l : Fin 128, (if 64 ≤ l.val then q l else 0) * k l = ∑ d : Fin 64, q ⟨64 + d.val, by omega⟩ * k ⟨64 + d.val, by omega⟩ := by
  refine (Fin.sum_univ_add (a := 64) (b := 64) _).trans ?_
  have h2 : ∑ d : Fin 64, (if 64 ≤ (Fin.castAdd 64 d).val then q (Fin.castAdd 64 d) else 0) * k (Fin.castAdd 64 d) = 0 :=
    Finset.sum_eq_zero fun d _ => by rw [if_neg (by simp), zero_mul]
  refine (congrArg (· + _) h2).trans ((zero_add _).trans (Finset.sum_congr rfl fun d _ => ?_))
  rw [if_pos (by simp)]; rfl

variable (i : grid0.Coords) (x0 : Vec Ideal S256x128 .bf16) (x1 x2 : Vec Ideal S2048x128 .bf16)
  (x3 x4 x5 x6 : Vec Ideal S1x64 .f32) (x7 : Vec Ideal S1x128 .f32) (r : Fin 256) (e : Fin 128)

/-- The row of a block's output. -/
def blkE : EReal :=
  rowE
    (fun t => if t.val / 64 ≤ (256 * (i 2).val + r.val) / 64 then
      ∑ d : Fin 64, x0 (ix2 r ⟨d.val, by omega⟩) * x1 (ix2 t ⟨d.val, by omega⟩) else ⊥)
    (fun t => if t.val / 64 ≤ (256 * (i 2).val + r.val) / 64 then
      ∑ d : Fin 64, x0 (ix2 r ⟨64 + d.val, by omega⟩) * x1 (ix2 t ⟨64 + d.val, by omega⟩) else ⊥)
    (fun l t => x2 (ix2 t l))
    (lamE (fun l => x3 (ix2 0 l)) (fun l => x4 (ix2 0 l)) (fun l => x5 (ix2 0 l)) (fun l => x6 (ix2 0 l)))
    (fun l => x7 (ix2 0 l)) e

theorem norm_comb (o0 o1 : FVec Ideal S256x128 .f32)
    (h0 : ∀ e, o0 (ix2 r e) = soft (rowS i (q0 x0) x1 r) (colV x2 e))
    (h1 : ∀ e, o1 (ix2 r e) = soft (rowS i (q1 x0) x1 r) (colV x2 e)) :
    norm (comb o0 o1 (k0_pay65 x3 x4 x5 x6)) x7 (ix2 r e) = blkE i x0 x1 x2 x3 x4 x5 x6 x7 r e := by
  rw [norm_apply]
  simp only [comb_apply, h0, h1, lam_apply]
  have e0 : rowS i (q0 x0) x1 r = fun t => if t.val / 64 ≤ (256 * (i 2).val + r.val) / 64 then
      ∑ d : Fin 64, x0 (ix2 r ⟨d.val, by omega⟩) * x1 (ix2 t ⟨d.val, by omega⟩) else ⊥ := funext fun t => by
    unfold rowS
    simp only [q0_apply]
    rw [sum_low (fun l => x0 (ix2 r l)) (fun l => x1 (ix2 t l))]
  have e1 : rowS i (q1 x0) x1 r = fun t => if t.val / 64 ≤ (256 * (i 2).val + r.val) / 64 then
      ∑ d : Fin 64, x0 (ix2 r ⟨64 + d.val, by omega⟩) * x1 (ix2 t ⟨64 + d.val, by omega⟩) else ⊥ := funext fun t => by
    unfold rowS
    simp only [q1_apply]
    rw [sum_high (fun l => x0 (ix2 r l)) (fun l => x1 (ix2 t l))]
  rw [e0, e1]
  rfl

variable (m : (ℓ : Loc nD τ sig) → Buf (Elt Ideal) ℓ)

/-- The grid point's last coordinate. -/
theorem coord2 : ∀ t : Fin grid0.N, (grid0.coords t 2).val = t.val % 8 := by decide +kernel

/-- What a grid point leaves in the output's staging buffer. -/
theorem outsAt_apply (c : Dev nD) (t : Fin cfg0.N) :
    outsAt0 m c t.val t.isLt (ix2 r e)
      = blkE (grid0.coords t) (iblk m c 0 t) (iblk m c 1 t) (iblk m c 2 t) (iblk m c 3 t) (iblk m c 4 t) (iblk m c 5 t) (iblk m c 6 t)
          (iblk m c 7 t) r e := by
  have h2 := coord2 t
  by_cases c0 : t.val % 8 ≤ 1
  · rw [outsAt0_A m c t c0 (by omega) (by omega) (by omega), out_A]
    exact norm_comb _ _ _ _ _ _ _ _ _ _ _ _ _ (fun e => mapA_apply _ _ _ _ _ _ (by omega)) (fun e => mapA_apply _ _ _ _ _ _ (by omega))
  by_cases c1 : t.val % 8 ≤ 3
  · rw [outsAt0_B m c t c0 (by omega) (by omega) (by omega), out_B]
    exact norm_comb _ _ _ _ _ _ _ _ _ _ _ _ _ (fun e => mapB_apply _ _ _ _ _ _ (by omega)) (fun e => mapB_apply _ _ _ _ _ _ (by omega))
  by_cases c2 : t.val % 8 ≤ 5
  · rw [outsAt0_C m c t c0 (by omega) (by omega) (by omega), out_C]
    exact norm_comb _ _ _ _ _ _ _ _ _ _ _ _ _ (fun e => mapC_apply _ _ _ _ _ _ (by omega)) (fun e => mapC_apply _ _ _ _ _ _ (by omega))
  · rw [outsAt0_D m c t c0 (by omega) (by omega) (by omega), out_D]
    exact norm_comb _ _ _ _ _ _ _ _ _ _ _ _ _ (fun e => mapD_apply _ _ _ _ _ _ (by omega)) (fun e => mapD_apply _ _ _ _ _ _ (by omega))

end Cert.Attn

end
-- ==== Proof.KArray.lean ====
/- What the kernel's result array holds, at every row and column, of the argument arrays. -/
module

public import proofs.«01_k».proof.Proof.KBlock
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe

/-- The result at row `n` of batch `b`, head `h`, lane `e`, of the arguments. -/
def attE (Q K V : Fin 16384 → Fin 1024 → EReal) (la lb lc ld : Fin 64 → EReal) (g : Fin 128 → EReal)
    (b : Fin 8) (n : Fin 2048) (h : Fin 8) (e : Fin 128) : EReal :=
  rowE
    (fun t => if t.val / 64 ≤ n.val / 64 then
      ∑ d : Fin 64, Q ⟨2048 * b.val + n.val, by omega⟩ ⟨128 * h.val + d.val, by omega⟩
        * K ⟨2048 * b.val + t.val, by omega⟩ ⟨128 * h.val + d.val, by omega⟩ else ⊥)
    (fun t => if t.val / 64 ≤ n.val / 64 then
      ∑ d : Fin 64, Q ⟨2048 * b.val + n.val, by omega⟩ ⟨128 * h.val + (64 + d.val), by omega⟩
        * K ⟨2048 * b.val + t.val, by omega⟩ ⟨128 * h.val + (64 + d.val), by omega⟩ else ⊥)
    (fun l t => V ⟨2048 * b.val + t.val, by omega⟩ ⟨128 * h.val + l.val, by omega⟩)
    (lamE la lb lc ld) g e

variable (m : (ℓ : Loc nD τ sig) → Buf (Elt Ideal) ℓ) (c : Dev nD)

theorem index0 : ∀ t : Fin grid0.N, win0_0.index t = ![8 * (t.val / 64) + t.val % 8, (t.val / 8) % 8] := by decide +kernel
theorem index1 : ∀ t : Fin grid0.N, win0_1.index t = ![t.val / 64, (t.val / 8) % 8] := by decide +kernel
theorem index2 : ∀ t : Fin grid0.N, win0_2.index t = ![t.val / 64, (t.val / 8) % 8] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![8 * (t.val / 64) + t.val % 8, (t.val / 8) % 8] := by decide +kernel

/-- The arguments, by their coordinates. -/
def argQ (R : Fin 16384) (C : Fin 1024) : EReal := m ((c : Thread nD τ).loc main_arg0) (ix2 R C)
@[inherit_doc argQ] def argK (R : Fin 16384) (C : Fin 1024) : EReal := m ((c : Thread nD τ).loc main_arg1) (ix2 R C)
@[inherit_doc argQ] def argV (R : Fin 16384) (C : Fin 1024) : EReal := m ((c : Thread nD τ).loc main_arg2) (ix2 R C)
@[inherit_doc argQ] def arg3 (l : Fin 64) : EReal := m ((c : Thread nD τ).loc main_arg3) (ix1 l)
@[inherit_doc argQ] def arg4 (l : Fin 64) : EReal := m ((c : Thread nD τ).loc main_arg4) (ix1 l)
@[inherit_doc argQ] def arg5 (l : Fin 64) : EReal := m ((c : Thread nD τ).loc main_arg5) (ix1 l)
@[inherit_doc argQ] def arg6 (l : Fin 64) : EReal := m ((c : Thread nD τ).loc main_arg6) (ix1 l)
@[inherit_doc argQ] def arg7 (l : Fin 128) : EReal := m ((c : Thread nD τ).loc main_arg7) (ix1 l)

variable (t : Fin cfg0.N)

theorem lt_N : t.val < 512 := lt_of_lt_of_eq t.isLt N_0

theorem read0 (r : Fin 256) (l : Fin 128) : iblk m c 0 t (ix2 r l) =
    argQ m c ⟨2048 * (t.val / 64) + (256 * (t.val % 8) + r.val), by have := lt_N t; omega⟩ ⟨128 * ((t.val / 8) % 8) + l.val, by omega⟩ := by
  unfold argQ
  blk_ext! [iblk, V_main_arg0, index0 t]
theorem read1 (r : Fin 2048) (l : Fin 128) : iblk m c 1 t (ix2 r l) =
    argK m c ⟨2048 * (t.val / 64) + r.val, by have := lt_N t; omega⟩ ⟨128 * ((t.val / 8) % 8) + l.val, by omega⟩ := by
  unfold argK
  blk_ext! [iblk, V_main_arg1, index1 t]
theorem read2 (r : Fin 2048) (l : Fin 128) : iblk m c 2 t (ix2 r l) =
    argV m c ⟨2048 * (t.val / 64) + r.val, by have := lt_N t; omega⟩ ⟨128 * ((t.val / 8) % 8) + l.val, by omega⟩ := by
  unfold argV
  blk_ext! [iblk, V_main_arg2, index2 t]
theorem read3 (l : Fin 64) : iblk m c 3 t (ix2 0 l) = arg3 m c l := by
  unfold arg3
  blk_ext! [iblk, V, index3 t]
theorem read4 (l : Fin 64) : iblk m c 4 t (ix2 0 l) = arg4 m c l := by
  unfold arg4
  blk_ext! [iblk, V, index4 t]
theorem read5 (l : Fin 64) : iblk m c 5 t (ix2 0 l) = arg5 m c l := by
  unfold arg5
  blk_ext! [iblk, V, index5 t]
theorem read6 (l : Fin 64) : iblk m c 6 t (ix2 0 l) = arg6 m c l := by
  unfold arg6
  blk_ext! [iblk, V, index6 t]
theorem read7 (l : Fin 128) : iblk m c 7 t (ix2 0 l) = arg7 m c l := by
  unfold arg7
  blk_ext! [iblk, V, index7 t]

/-- What the kernel's array ends holding. -/
def resE (R : Fin 16384) (C : Fin 1024) : EReal :=
  attE (argQ m c) (argK m c) (argV m c) (arg3 m c) (arg4 m c) (arg5 m c) (arg6 m c) (arg7 m c)
    ⟨R.val / 2048, by omega⟩ ⟨R.val % 2048, by omega⟩ ⟨C.val / 128, by omega⟩ ⟨C.val % 128, by omega⟩

theorem blkE_read (r : Fin 256) (e : Fin 128) :
    blkE (grid0.coords t) (iblk m c 0 t) (iblk m c 1 t) (iblk m c 2 t) (iblk m c 3 t) (iblk m c 4 t) (iblk m c 5 t) (iblk m c 6 t)
          (iblk m c 7 t) r e
      = attE (argQ m c) (argK m c) (argV m c) (arg3 m c) (arg4 m c) (arg5 m c) (arg6 m c) (arg7 m c)
          ⟨t.val / 64, by have := lt_N t; omega⟩ ⟨256 * (t.val % 8) + r.val, by omega⟩ ⟨(t.val / 8) % 8, by omega⟩ e := by
  unfold blkE attE
  simp only [read0, read1, read2, read3, read4, read5, read6, read7, coord2]

theorem final (i : S16384x1024.Idx) : (dats m 0 c).arrAt 8 cfg0.N i = resE m c (i 0) (i 1) := by
  refine (dats m 0 c).arrAt_forall_of_covers 8 (fun i v => v = resE m c (i 0) (i 1)) (by decide +kernel) (fun t hf y => ?_) i
  blk_simp
  rw [after0_8]
  have ht := lt_N t
  have hy : y = ix2 (n0 := 256) (n1 := 128) (y 0) (y 1) := by funext a; match a with | ⟨0, _⟩ => rfl | ⟨1, _⟩ => rfl
  have h0 : ((((cfg0.win 8).blk t).view.emb y 0 : Fin 16384) : Nat) = (8 * (t.val / 64) + t.val % 8) * 256 + (y 0).val := by
    blk_simp [index8 t]
  have h1 : ((((cfg0.win 8).blk t).view.emb y 1 : Fin 1024) : Nat) = ((t.val / 8) % 8) * 128 + (y 1).val := by
    blk_simp [index8 t]
  have hb0 : (y 0).val < 256 := (y 0).isLt
  have hb1 : (y 1).val < 128 := (y 1).isLt
  refine (congrArg (outsAt0 m c t.val t.isLt) hy).trans (((outsAt_apply (y 0) (y 1) m c t).trans (blkE_read m c t (y 0) (y 1))).trans ?_)
  unfold resE
  congr 1 <;> apply Fin.ext <;> simp only [h0, h1] <;> omega

end Cert.Attn

end
-- ==== Proof.RefRead.lean ====
/- What the reference's result holds, at every row and column, of its argument arrays. -/
module

public import proofs.«01_k».proof.Proof.KArray
public import proofs.«01_k».proof.Proof.Gen.ReferenceIdeal.Read

@[expose] public section

set_option maxRecDepth 16384

noncomputable section

namespace Cert.Attn

open Cert.ReferenceIdeal Cert.ReferenceIdeal.Read Idealize.ShloMosaic

variable (x0 x1 x2 : (⟨S16384x1024, .bf16⟩ : BufTy).Contents (Elt Ideal)) (x3 x4 x5 x6 : (⟨S64, .f32⟩ : BufTy).Contents (Elt Ideal))
  (x7 : (⟨S128, .f32⟩ : BufTy).Contents (Elt Ideal))

/-- Map `j`'s scores of row `n` of batch `b`, head `h`. -/
def refS (b h : Fin 8) (j : Fin 2) (n t : Fin 2048) : EReal :=
  if t.val / 64 ≤ n.val / 64 then
    ∑ d : Fin 64, x0 (ix2 ⟨b.val * 2048 + n.val, by omega⟩ ⟨h.val * 128 + j.val * 64 + d.val, by omega⟩)
      * x1 (ix2 ⟨b.val * 2048 + t.val, by omega⟩ ⟨h.val * 128 + j.val * 64 + d.val, by omega⟩) else ⊥

theorem score_read (b h : Fin 8) (j : Fin 2) (n t : Fin 2048) : val_main_v14 (F := Ideal) x0 x1 (ix5 b h j n t) =
    ∑ d : Fin 64, x0 (ix2 ⟨b.val * 2048 + n.val, by omega⟩ ⟨h.val * 128 + j.val * 64 + d.val, by omega⟩)
      * x1 (ix2 ⟨b.val * 2048 + t.val, by omega⟩ ⟨h.val * 128 + j.val * 64 + d.val, by omega⟩) := by
  rw [val_main_v14_apply]
  pointwise [val_main_v1, val_main_v3, val_main_v0, val_main_v2]

/-- Floor division of one word by 64, as the reference's host line spells it. -/
def sgnW (x : BitVec 32) : BitVec 32 := if x = 0 then 0 else if x.msb then -1 else 1
@[inherit_doc sgnW] def hdivW (x : BitVec 32) : BitVec 32 :=
  Scalar.select (IntOp.andi (IntOp.cmpi .ne (sgnW x) (sgnW 64#32)) (IntOp.cmpi .ne (IntOp.remsi .host x 64#32) 0#32))
    (IntOp.subi (IntOp.divsi .host x 64#32) 1#32) (IntOp.divsi .host x 64#32)

theorem hdivW_ofNat : ∀ n : Fin 2048, hdivW (BitVec.ofNat 32 n.val) = BitVec.ofNat 32 (n.val / 64) := by decide +kernel

theorem chunk0 (n : Fin 2048) : val_main_v16 (F := Ideal) (ix1 n) = BitVec.ofNat 32 (n.val / 64) := by
  simp only [val_main_v16_apply, val_main_call0_v0_apply, val_main_call0_v1_apply, val_main_call0_v2_apply, val_main_call0_v5_apply, val_main_call0_v6_apply, val_main_call0_v7_apply, val_main_call0_v8_apply, val_main_call0_c_apply, val_main_call0_v9_apply, val_main_call0_v10_apply, val_main_call0_v11_apply, val_main_call0_c_0_apply, val_main_call0_v12_apply, val_main_call0_v13_apply, val_main_call0_v3, val_main_call0_v4, val_main_v15_apply, val_main_c_apply, val_main_c_2_apply, signi]
  exact hdivW_ofNat n

theorem chunk1 (n : Fin 2048) : val_main_v18 (F := Ideal) (ix1 n) = BitVec.ofNat 32 (n.val / 64) := by
  simp only [val_main_v18_apply, val_main_call1_v0_apply, val_main_call1_v1_apply, val_main_call1_v2_apply, val_main_call1_v5_apply, val_main_call1_v6_apply, val_main_call1_v7_apply, val_main_call1_v8_apply, val_main_call1_c_apply, val_main_call1_v9_apply, val_main_call1_v10_apply, val_main_call1_v11_apply, val_main_call1_c_0_apply, val_main_call1_v12_apply, val_main_call1_v13_apply, val_main_call1_v3, val_main_call1_v4, val_main_v15_apply, val_main_c_apply, val_main_c_2_apply, signi]
  exact hdivW_ofNat n

theorem mask_read (n t : Fin 2048) : val_main_v22 (F := Ideal) (ix2 n t) = if t.val / 64 ≤ n.val / 64 then 1#1 else 0#1 := by
  pointwise [val_main_v22, val_main_v20, val_main_v21, val_main_v17, val_main_v19]
  rw [chunk0, chunk1]
  exact sle_chunk ⟨t.val / 64, by omega⟩ ⟨n.val / 64, by omega⟩

theorem masked_read (b h : Fin 8) (j : Fin 2) (n t : Fin 2048) : val_main_v23 (F := Ideal) x0 x1 (ix5 b h j n t) = refS x0 x1 b h j n t := by
  pointwise [val_main_v23, val_main_call2_v1, val_main_call2_v2, val_main_call2_v0, val_main_cst_3]
  have hc : (id (constant (F := Ideal) S_ .f32 0xFF800000#32) ix0 : EReal) = ⊥ := lit_bot
  rw [mask_read, score_read, hc]
  unfold refS
  split <;> rfl

theorem fold_read (b h : Fin 8) (j : Fin 2) (n : Fin 2048) :
    val_main_v24 (F := Ideal) x0 x1 (ix4 b h j n) = Finset.univ.sup (refS x0 x1 b h j n) := by
  pointwise [val_main_v24]
  have hc : val_main_cst_4 (F := Ideal) (Shape.Idx.first Gen.h_S_) = (⊥ : EReal) := (val_main_cst_4_apply _).trans lit_bot
  rw [hc]
  simp only [masked_read]
  rfl

theorem max_read (b h : Fin 8) (j : Fin 2) (n : Fin 2048) :
    val_main_v26 (F := Ideal) x0 x1 (ix4 b h j n) = Finset.univ.sup (refS x0 x1 b h j n) := by
  rw [val_main_v26_apply, val_main_v25_apply, val_main_cst_5_apply, fold_read]
  refine Eq.trans ?_ (bot_sup_eq (Finset.univ.sup (refS x0 x1 b h j n)))
  generalize Finset.univ.sup (refS x0 x1 b h j n) = M
  exact congrArg (· ⊔ M) lit_bot

theorem exp_read (b h : Fin 8) (j : Fin 2) (n t : Fin 2048) : val_main_v30 (F := Ideal) x0 x1 (ix5 b h j n t)
    = Ideal.exp (refS x0 x1 b h j n t - Finset.univ.sup (refS x0 x1 b h j n)) := by
  pointwise [val_main_v30, val_main_v29, val_main_v28, val_main_v27]
  rw [masked_read, max_read]

theorem sum_read (b h : Fin 8) (j : Fin 2) (n : Fin 2048) : val_main_v31 (F := Ideal) x0 x1 (ix4 b h j n)
    = ∑ t, Ideal.exp (refS x0 x1 b h j n t - Finset.univ.sup (refS x0 x1 b h j n)) := by
  pointwise [val_main_v31, val_main_cst_6]
  simp only [exp_read]

/-- The softmax weight of key `t`. -/
def wt (S : Fin 2048 → EReal) (t : Fin 2048) : EReal :=
  Ideal.div (Ideal.exp (S t - Finset.univ.sup S)) (∑ t, Ideal.exp (S t - Finset.univ.sup S))

theorem wt_read (b h : Fin 8) (j : Fin 2) (n t : Fin 2048) : val_main_v34 (F := Ideal) x0 x1 (ix5 b h j n t) = wt (refS x0 x1 b h j n) t := by
  pointwise [val_main_v34, val_main_v33, val_main_v32]
  rw [exp_read, sum_read]; rfl

end Cert.Attn

end
-- ==== Proof.RefOut.lean ====
/- What the reference's result holds, at every row and column, of its argument arrays. -/
module

public import proofs.«01_k».proof.Proof.RefRead
public import proofs.«01_k».proof.Proof.Gen.ReferenceIdeal.Read

@[expose] public section

set_option maxRecDepth 16384

noncomputable section

namespace Cert.Attn

open Cert.ReferenceIdeal Cert.ReferenceIdeal.Read Idealize.ShloMosaic

variable (x0 x1 x2 : (⟨S16384x1024, .bf16⟩ : BufTy).Contents (Elt Ideal)) (x3 x4 x5 x6 : (⟨S64, .f32⟩ : BufTy).Contents (Elt Ideal))
  (x7 : (⟨S128, .f32⟩ : BufTy).Contents (Elt Ideal))

theorem lit_zero : Ideal.ofBits .f32 0x00000000#32 = (0 : EReal) := by simp [Ideal.ofBits, Ideal.ieee]

theorem lam_read (i : S_.Idx) : val_main_v13 (F := Ideal) x3 x4 x5 x6 i
    = lamE (fun l => x3 (ix1 l)) (fun l => x4 (ix1 l)) (fun l => x5 (ix1 l)) (fun l => x6 (ix1 l)) := by
  pointwise [val_main_v13, val_main_v12, val_main_v11, val_main_v10, val_main_v9, val_main_v8, val_main_v7, val_main_v6]
  simp only [val_main_cst_apply, val_main_cst_0_apply, val_main_cst_1_apply]
  have hz : FloatOps.ofBits (F := Ideal) .f32 0x00000000#32 = (0 : EReal) := lit_zero
  rw [hz, zero_add, zero_add]
  rfl

theorem diff_read (b h : Fin 8) (n t : Fin 2048) : val_main_v41 (F := Ideal) x0 x1 x3 x4 x5 x6 (ix4 b h n t)
    = wt (refS x0 x1 b h 0 n) t - lamE (fun l => x3 (ix1 l)) (fun l => x4 (ix1 l)) (fun l => x5 (ix1 l)) (fun l => x6 (ix1 l)) * wt (refS x0 x1 b h 1 n) t := by
  have e0 : idx_main_v35 (idx_main_v36 (ix4 b h n t)) = ix5 b h 0 n t := by
    funext a
    match a with
    | ⟨0, _⟩ => exact Fin.ext (by show (((b.val * 8 + h.val) * 2048 + n.val) * 2048 + t.val) / 33554432 = b.val; omega)
    | ⟨1, _⟩ => exact Fin.ext (by show (((b.val * 8 + h.val) * 2048 + n.val) * 2048 + t.val) / 4194304 % 8 = h.val; omega)
    | ⟨2, _⟩ => rfl
    | ⟨3, _⟩ => exact Fin.ext (by show (((b.val * 8 + h.val) * 2048 + n.val) * 2048 + t.val) / 2048 % 2048 = n.val; omega)
    | ⟨4, _⟩ => exact Fin.ext (by show (((b.val * 8 + h.val) * 2048 + n.val) * 2048 + t.val) % 2048 = t.val; omega)
  have e1 : idx_main_v37 (idx_main_v38 (ix4 b h n t)) = ix5 b h 1 n t := by
    funext a
    match a with
    | ⟨0, _⟩ => exact Fin.ext (by show (((b.val * 8 + h.val) * 2048 + n.val) * 2048 + t.val) / 33554432 = b.val; omega)
    | ⟨1, _⟩ => exact Fin.ext (by show (((b.val * 8 + h.val) * 2048 + n.val) * 2048 + t.val) / 4194304 % 8 = h.val; omega)
    | ⟨2, _⟩ => rfl
    | ⟨3, _⟩ => exact Fin.ext (by show (((b.val * 8 + h.val) * 2048 + n.val) * 2048 + t.val) / 2048 % 2048 = n.val; omega)
    | ⟨4, _⟩ => exact Fin.ext (by show (((b.val * 8 + h.val) * 2048 + n.val) * 2048 + t.val) % 2048 = t.val; omega)
  rw [val_main_v41_apply, val_main_v36_apply, val_main_v35_apply, val_main_v40_apply, val_main_v39_apply, val_main_v38_apply,
    val_main_v37_apply, e0, e1, wt_read, wt_read, lam_read]
  rfl

/-- Lane `e` of head `h` before its norm. -/
def refO (b h : Fin 8) (n : Fin 2048) (e : Fin 128) : EReal :=
  ∑ t : Fin 2048, x2 (ix2 ⟨b.val * 2048 + t.val, by omega⟩ ⟨h.val * 128 + e.val, by omega⟩)
    * (wt (refS x0 x1 b h 0 n) t - lamE (fun l => x3 (ix1 l)) (fun l => x4 (ix1 l)) (fun l => x5 (ix1 l)) (fun l => x6 (ix1 l)) * wt (refS x0 x1 b h 1 n) t)

theorem out_read (b h : Fin 8) (n : Fin 2048) (e : Fin 128) :
    val_main_v43 (F := Ideal) x0 x1 x2 x3 x4 x5 x6 (ix4 b n h e) = refO x0 x1 x2 x3 x4 x5 x6 b h n e := by
  pointwise [val_main_v43]
  rw [val_main_v42_apply]
  pointwise [val_main_v5, val_main_v4]
  refine Finset.sum_congr rfl fun t _ => ?_
  have hr : ridx_main_v42 (ix4 b h e n) t = ix4 b h n t := by
    funext a
    match a with
    | ⟨0, _⟩ => rfl
    | ⟨1, _⟩ => rfl
    | ⟨2, _⟩ => rfl
    | ⟨3, _⟩ => rfl
  rw [hr, diff_read]

theorem norm_read (b h : Fin 8) (n : Fin 2048) (e : Fin 128) :
    val_main_v58 (F := Ideal) x0 x1 x2 x3 x4 x5 x6 x7 (ix4 b n h e) = normE (refO x0 x1 x2 x3 x4 x5 x6 b h n) (fun l => x7 (ix1 l)) e := by
  pointwise [val_main_v58, val_main_v57, val_main_v56, val_main_v55, val_main_v54, val_main_v53, val_main_v52, val_main_v51, val_main_v50, val_main_v49,
    val_main_v48, val_main_v47, val_main_v46, val_main_v45, val_main_v44]
  simp only [out_read, val_main_cst_7_apply, val_main_cst_8_apply, val_main_cst_9_apply, val_main_cst_10_apply]
  have hz : FloatOps.ofBits (F := Ideal) .f32 0x00000000#32 = (0 : EReal) := lit_zero
  rw [hz, zero_add]
  rfl

theorem ref_read (R : Fin 16384) (C : Fin 1024) : val_main_v60 (F := Ideal) x0 x1 x2 x3 x4 x5 x6 x7 (ix2 R C)
    = normE (refO x0 x1 x2 x3 x4 x5 x6 ⟨R.val / 2048, by omega⟩ ⟨C.val / 128, by omega⟩ ⟨R.val % 2048, by omega⟩) (fun l => x7 (ix1 l)) ⟨C.val % 128, by omega⟩ := by
  rw [← norm_read]
  pointwise [val_main_v60, val_main_v59]

end Cert.Attn

end
-- ==== Proof.Reals.lean ====
/- The equation of the two programs where the scores and the values are real: the difference of two normalised sums is the
   sum weighted by the difference of the normalised weights. -/
module

public import proofs.«01_k».proof.Proof.RefRead

@[expose] public section

noncomputable section

namespace Cert.Attn

open Idealize.ShloMosaic

/-- An extended real that is a real number. -/
def IsReal (x : EReal) : Prop := ∃ r : ℝ, x = r

theorem IsReal.of_ne {x : EReal} (h1 : x ≠ ⊤) (h2 : x ≠ ⊥) : IsReal x := ⟨x.toReal, (EReal.coe_toReal h1 h2).symm⟩
theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.exp {x : EReal} (hx : IsReal x) : IsReal (Ideal.exp x) := by
  obtain ⟨a, rfl⟩ := hx; exact ⟨Real.exp a, rfl⟩

/-- A finite sum of reals, as an extended real. -/
theorem coe_sum {n : Nat} (f : Fin n → ℝ) : ((∑ t, f t : ℝ) : EReal) = ∑ t, (f t : EReal) :=
  map_sum (⟨⟨Real.toEReal, EReal.coe_zero⟩, EReal.coe_add⟩ : ℝ →+ EReal) f Finset.univ

theorem IsReal.sum {n : Nat} {f : Fin n → EReal} (h : ∀ t, IsReal (f t)) : IsReal (∑ t, f t) := by
  choose g hg using h
  exact ⟨∑ t, g t, by rw [coe_sum]; exact Finset.sum_congr rfl fun t _ => hg t⟩

theorem lamE_real {a b c d : Fin 64 → EReal} (ha : ∀ l, IsReal (a l)) (hb : ∀ l, IsReal (b l)) (hc : ∀ l, IsReal (c l))
    (hd : ∀ l, IsReal (d l)) : IsReal (lamE a b c d) := by
  have hk : IsReal (Ideal.ofBits .f32 0x3EB60549#32) := by
    simp [Ideal.ofBits, Ideal.ieee]
    exact IsReal.mul ⟨_, rfl⟩ ⟨_, rfl⟩
  exact ((IsReal.sum fun l => (ha l).mul (hb l)).exp.sub (IsReal.sum fun l => (hc l).mul (hd l)).exp).add hk

/-- Scores below infinity, one of them above minus infinity: the weights are reals, and the normalised sum is the weighted sum. -/
theorem soft_real (S : Fin 2048 → EReal) (hS : ∀ t, S t ≠ ⊤) (t0 : Fin 2048) (h0 : S t0 ≠ ⊥) :
    ∃ w : Fin 2048 → ℝ, (∀ t, wt S t = w t) ∧ ∀ v : Fin 2048 → ℝ, soft S (fun t => v t) = ((∑ t, w t * v t : ℝ) : EReal) := by
  obtain ⟨t1, -, h1⟩ := Finset.exists_mem_eq_sup Finset.univ ⟨t0, Finset.mem_univ t0⟩ S
  have hM : IsReal (Finset.univ.sup S) := .of_ne (h1 ▸ hS t1) fun hb =>
    h0 (le_bot_iff.mp (hb ▸ Finset.le_sup (f := S) (Finset.mem_univ t0)))
  have he : ∀ t, ∃ e : ℝ, Ideal.exp (S t - Finset.univ.sup S) = e ∧ 0 ≤ e ∧ (S t ≠ ⊥ → 0 < e) := fun t => by
    obtain ⟨μ, hμ⟩ := hM
    rw [hμ]
    by_cases hb : S t = ⊥
    · exact ⟨0, by rw [hb, exp_bot_sub]; rfl, le_rfl, fun h => absurd hb h⟩
    · obtain ⟨s, hs⟩ := IsReal.of_ne (hS t) hb
      exact ⟨Real.exp (s - μ), by rw [hs, ← EReal.coe_sub]; rfl, (Real.exp_pos _).le, fun _ => Real.exp_pos _⟩
  choose e he hpos hlt using he
  have hL : ∑ t, Ideal.exp (S t - Finset.univ.sup S) = ((∑ t, e t : ℝ) : EReal) := by
    rw [coe_sum]; exact Finset.sum_congr rfl fun t _ => he t
  have hl : 0 < ∑ t, e t := Finset.sum_pos' (fun t _ => hpos t) ⟨t0, Finset.mem_univ _, hlt t0 h0⟩
  have hdiv : ∀ x : ℝ, Ideal.div x ((∑ t, e t : ℝ) : EReal) = ((x * (∑ t, e t)⁻¹ : ℝ) : EReal) := fun x => by
    unfold Ideal.div
    rw [if_neg (by exact_mod_cast hl.ne'), ← EReal.coe_inv, ← EReal.coe_mul]
  refine ⟨fun t => e t * (∑ t, e t)⁻¹, fun t => ?_, fun v => ?_⟩
  · unfold wt
    rw [hL, he, hdiv]
  · unfold soft
    have hA : ∑ t, Ideal.exp (S t - Finset.univ.sup S) * (v t : EReal) = ((∑ t, e t * v t : ℝ) : EReal) := by
      rw [coe_sum]; exact Finset.sum_congr rfl fun t _ => by rw [he, EReal.coe_mul]
    rw [hL, hA, hdiv, Finset.sum_mul]
    exact congrArg _ (Finset.sum_congr rfl fun t _ => by ring)

/-- Two softmaxes, combined after the sum and before it. -/
theorem soft_sub (S0 S1 v : Fin 2048 → EReal) (lam : EReal) (hS0 : ∀ t, S0 t ≠ ⊤) (hS1 : ∀ t, S1 t ≠ ⊤) (t0 t1 : Fin 2048)
    (h0 : S0 t0 ≠ ⊥) (h1 : S1 t1 ≠ ⊥) (hv : ∀ t, IsReal (v t)) (hlam : IsReal lam) :
    soft S0 v - lam * soft S1 v = ∑ t, v t * (wt S0 t - lam * wt S1 t) := by
  obtain ⟨w0, hw0, e0⟩ := soft_real S0 hS0 t0 h0
  obtain ⟨w1, hw1, e1⟩ := soft_real S1 hS1 t1 h1
  choose y hy using hv
  obtain ⟨l, rfl⟩ := hlam
  obtain rfl : v = fun t => (y t : EReal) := funext hy
  rw [e0, e1]
  simp only [hw0, hw1, ← EReal.coe_mul, ← EReal.coe_sub, ← coe_sum]
  rw [Finset.mul_sum, ← Finset.sum_sub_distrib]
  exact congrArg _ (Finset.sum_congr rfl fun t _ => by ring)

end Cert.Attn

end
-- ==== Proof.Equation.lean ====
/- The kernel's array is the reference's, where the queries, keys, values and lambda weights are real numbers. -/
module

public import proofs.«01_k».proof.Proof.RefOut
public import proofs.«01_k».proof.Proof.Reals

@[expose] public section

set_option maxRecDepth 16384

noncomputable section

namespace Cert.Attn

open Cert.ReferenceIdeal Cert.ReferenceIdeal.Read Idealize.ShloMosaic

variable (x0 x1 x2 : (⟨S16384x1024, .bf16⟩ : BufTy).Contents (Elt Ideal)) (x3 x4 x5 x6 : (⟨S64, .f32⟩ : BufTy).Contents (Elt Ideal))
  (x7 : (⟨S128, .f32⟩ : BufTy).Contents (Elt Ideal))
  (h0 : ∀ i, IsReal (x0 i)) (h1 : ∀ i, IsReal (x1 i)) (h2 : ∀ i, IsReal (x2 i)) (h3 : ∀ i, IsReal (x3 i)) (h4 : ∀ i, IsReal (x4 i))
  (h5 : ∀ i, IsReal (x5 i)) (h6 : ∀ i, IsReal (x6 i)) (b h : Fin 8) (n : Fin 2048)

include h0 h1 in
theorem refS_real (j : Fin 2) (t : Fin 2048) : refS x0 x1 b h j n t ≠ ⊤ := by
  unfold refS
  split
  · exact (IsReal.sum fun d => (h0 _).mul (h1 _)).ne_top
  · exact bot_ne_top

include h0 h1 in
theorem refS_seen (j : Fin 2) : refS x0 x1 b h j n n ≠ ⊥ := by
  unfold refS
  rw [if_pos le_rfl]
  exact (IsReal.sum fun d => (h0 _).mul (h1 _)).ne_bot

include h0 h1 h2 h3 h4 h5 h6 in
/-- The kernel's row is the reference's. -/
theorem att_eq (e : Fin 128) :
    attE (fun R C => x0 (ix2 R C)) (fun R C => x1 (ix2 R C)) (fun R C => x2 (ix2 R C)) (fun l => x3 (ix1 l)) (fun l => x4 (ix1 l))
        (fun l => x5 (ix1 l)) (fun l => x6 (ix1 l)) (fun l => x7 (ix1 l)) b n h e
      = normE (refO x0 x1 x2 x3 x4 x5 x6 b h n) (fun l => x7 (ix1 l)) e := by
  have s0 : (fun t : Fin 2048 => if t.val / 64 ≤ n.val / 64 then
      ∑ d : Fin 64, x0 (ix2 ⟨2048 * b.val + n.val, by omega⟩ ⟨128 * h.val + d.val, by omega⟩)
        * x1 (ix2 ⟨2048 * b.val + t.val, by omega⟩ ⟨128 * h.val + d.val, by omega⟩) else (⊥ : EReal)) = refS x0 x1 b h 0 n := by
    funext t
    unfold refS
    refine if_congr Iff.rfl (Finset.sum_congr rfl fun d _ => congrArg₂ (· * ·) (congrArg x0 (congrArg₂ ix2 ?_ ?_)) (congrArg x1 (congrArg₂ ix2 ?_ ?_))) rfl
      <;> apply Fin.ext <;> dsimp only [Fin.val_zero] <;> omega
  have s1 : (fun t : Fin 2048 => if t.val / 64 ≤ n.val / 64 then
      ∑ d : Fin 64, x0 (ix2 ⟨2048 * b.val + n.val, by omega⟩ ⟨128 * h.val + (64 + d.val), by omega⟩)
        * x1 (ix2 ⟨2048 * b.val + t.val, by omega⟩ ⟨128 * h.val + (64 + d.val), by omega⟩) else (⊥ : EReal)) = refS x0 x1 b h 1 n := by
    funext t
    unfold refS
    refine if_congr Iff.rfl (Finset.sum_congr rfl fun d _ => congrArg₂ (· * ·) (congrArg x0 (congrArg₂ ix2 ?_ ?_)) (congrArg x1 (congrArg₂ ix2 ?_ ?_))) rfl
      <;> apply Fin.ext <;> dsimp only [Fin.val_one] <;> omega
  unfold attE rowE
  rw [s0, s1]
  refine congrArg (fun o => normE o _ e) (funext fun l => ?_)
  rw [soft_sub _ _ _ _ (refS_real x0 x1 h0 h1 b h n 0) (refS_real x0 x1 h0 h1 b h n 1) n n (refS_seen x0 x1 h0 h1 b h n 0)
    (refS_seen x0 x1 h0 h1 b h n 1) (fun t => h2 _) (lamE_real (fun l => h3 _) (fun l => h4 _) (fun l => h5 _) (fun l => h6 _))]
  unfold refO
  refine Finset.sum_congr rfl fun t _ => congrArg (· * _) (congrArg x2 (congrArg₂ ix2 ?_ ?_)) <;> apply Fin.ext <;> dsimp only <;> omega

end Cert.Attn

end
-- ==== Proof.AttnClaims.lean ====
/- The attention's value claim: the two runs leave the same array, given that the precondition makes the arguments real. -/
module

public import proofs.«01_k».proof.Proof.Equation
public import proofs.«01_k».proof.Proof.Gen.ReferenceIdeal.Run
public import proofs.«01_k».proof.Proof.Gen.ReferenceIdeal
public import proofs.«01_k».proof.Proof.Gen.KernelIdeal
public import proofs.«01_k».proof.Defs

@[expose] public section

set_option maxRecDepth 16384

noncomputable section

namespace Cert.Attn

open Idealize.ShloMosaic Idealize.SL.Sem

/-- An absolute value below infinity is a real number's. -/
theorem real_of_abs (x : EReal) (h : Ideal.cmp .olt (max x (-x)) ⊤ = 1#1) : IsReal x := by
  have hlt : max x (-x) < ⊤ := by
    by_contra hn
    rw [Ideal.cmp] at h
    simp only [decide_eq_false hn] at h
    exact absurd h (by decide)
  refine .of_ne (fun e => ?_) (fun e => ?_) <;> subst e <;> simp at hlt

theorem real_of_mask {S : Shape} {t : FTy} (x y : FVec Ideal S t) (hy : ∀ i, y i = (⊤ : EReal)) (h : cmpf .olt (Host.absf x) y = fun _ => 1#1) (i : S.Idx) :
    IsReal (x i) := by
  have h' : Ideal.cmp .olt (max (x i) (-(x i))) (y i) = 1#1 := congrFun h i
  rw [hy] at h'
  exact real_of_abs _ h'

theorem facts_finite : Cert.Pre_finite.Facts := ⟨by decide, by decide⟩

theorem inf_bf16 : Ideal.ofBits .bf16 0x7F80#16 = (⊤ : EReal) := by simp [Ideal.ofBits, Ideal.ieee]
theorem inf_f32 : Ideal.ofBits .f32 0x7F800000#32 = (⊤ : EReal) := by simp [Ideal.ofBits, Ideal.ieee]

instance : Cert.Pre_finite.Facts := facts_finite

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem arrays_eq (hpre : Cert.Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v60 m' c = (Cert.KernelIdeal.Gen.dats m 0 c).arrAt 8 Cert.KernelIdeal.cfg0.N := by
  obtain ⟨p0, p1, p2, p3, p4, p5, p6⟩ := hpre c
  rw [Cert.ReferenceIdeal.Read.val_main_v60_eq, h0, h1, h2, h3, h4, h5, h6, h7]
  funext i
  have hi : i = ix2 (n0 := 16384) (n1 := 1024) (i 0) (i 1) := by funext a; match a with | ⟨0, _⟩ => rfl | ⟨1, _⟩ => rfl
  refine Eq.trans ?_ (final m c i).symm
  refine (congrArg (Cert.ReferenceIdeal.Read.val_main_v60 (F := Ideal) _ _ _ _ _ _ _ _) hi).trans ?_
  refine (ref_read _ _ _ _ _ _ _ _ (i 0) (i 1)).trans ?_
  refine (att_eq _ _ _ _ _ _ _ _ (real_of_mask _ _ (fun _ => inf_bf16) p0) (real_of_mask _ _ (fun _ => inf_bf16) p1) (real_of_mask _ _ (fun _ => inf_bf16) p2)
    (real_of_mask _ _ (fun _ => inf_f32) p3) (real_of_mask _ _ (fun _ => inf_f32) p4) (real_of_mask _ _ (fun _ => inf_f32) p5)
    (real_of_mask _ _ (fun _ => inf_f32) p6) _ _ _ _).symm

theorem algebraic : Cert.algebraic_KernelIdeal_ReferenceIdeal_pre_finite := fun m g m' g' hpre hagree =>
  ⟨fun c => (Cert.KernelIdeal.Gen.dats m 0 c).arrAt 8 Cert.KernelIdeal.cfg0.N, Cert.KernelIdeal.Value.run_blocks m g,
    (θ_run Cert.ReferenceIdeal.defs _ _).mono (fun r h c => by
      obtain ⟨h0, h1, h2, h3, h4, h5, h6, h7⟩ := hagree c
      exact ⟨(h c).1.trans (arrays_eq m m' hpre c h0 h1 h2 h3 h4 h5 h6 h7), (h c).2⟩) (Cert.ReferenceIdeal.Value.run m' g')⟩

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The reference's frame on the same memories as the value claim's. -/
theorem frame_ref_pre : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run m ρ)

end Cert.Attn

end
-- ==== Proof.L3KOps.lean ====
/- The vocabulary of one block of the attention kernel, over vectors: the score block of a key block, the chunk mask, a row
   maximum, the exponentials against a row maximum, their row sums and their products with a value block; and how they are put
   together over one to four key blocks, then over the two maps. What each case of the kernel stores is one of these terms. For the last layer. -/
module

public import proofs.«01_k».proof.Proof.Soft
public import proofs.«01_k».proof.Proof.Gen.Attn3Ideal.Value
public import Idealize.ShloMosaic.Lib.Pipeline.ValueKit

@[expose] public section

set_option maxRecDepth 16384

noncomputable section

namespace Cert.AttnL

open Cert.Attn Cert.Attn3Ideal Cert.Attn3Ideal.Gen Idealize.ShloMosaic Idealize.ShloMosaic.TcCoe

variable {F : FTy → Type} [FloatOps F]

/-- Floor division of every word by 64, as the program spells it: the truncated quotient, less one where the signs
    differ and the remainder is not zero. -/
def fdiv (x : IVec S256x512 32) : IVec S256x512 32 :=
  select (andi (cmpi .ne (subi (extui 32 (cmpi .sgt x (broadcast S256x512 0#32)) natLt_1_32)
      (extui 32 (cmpi .slt x (broadcast S256x512 0#32)) natLt_1_32))
    (broadcast S256x512 (Scalar.subi (Scalar.extui (Scalar.cmpi .sgt 64#32 0#32)) (Scalar.extui (Scalar.cmpi .slt 64#32 0#32)))))
      (cmpi .ne (remsi x (broadcast S256x512 64#32)) (broadcast S256x512 0#32)))
    (subi (divsi x (broadcast S256x512 64#32)) (broadcast S256x512 1#32)) (divsi x (broadcast S256x512 64#32))

/-- The row's position in its sequence: 256 times the query tile's number, plus the row. -/
def rowPos (i : grid0.Coords) : IVec S256x512 32 :=
  addi (broadcast S256x512 (Scalar.muli (BitVec.ofNat 32 (i 2).val) 256#32)) (iota .tc S256x512 32 [0] iota_S256x512_d0_w32)

/-- The column's position in its sequence, in the key block that starts at `b`. -/
def colPos (b : BitVec 32) : IVec S256x512 32 :=
  addi (broadcast S256x512 b) (iota .tc S256x512 32 [1] iota_S256x512_d1_w32)

/-- The scores of a query tile against a key block. -/
def score (q : Vec F S256x128 .bf16) (k : Vec F S512x128 .bf16) : FVec F S256x512 .f32 :=
  matmul dot_S256x128_S512x128_S256x512_1_1_0_0_n_n none q k (constant S256x512 .f32 0x00000000#32)

/-- The scores with the columns of later chunks at minus infinity. -/
def masked (i : grid0.Coords) (b : BitVec 32) (s : FVec F S256x512 .f32) : FVec F S256x512 .f32 :=
  select (cmpi .sle (fdiv (colPos b)) (fdiv (rowPos i))) s (broadcast S256x512 (Scalar.ofBits .f32 0xFF800000#32))

/-- The maximum of each row. -/
def rmax (s : FVec F S256x512 .f32) : FVec F S256x1 .f32 :=
  shapeCast S256x1 (multiReduction .maximumf [1] S256 s 0xFF800000#32 reduces_S256x512_S256 (.inl rfl) rfl) shapeCasts_S256_S256x1

/-- The exponential of the scores less the row's maximum. -/
def ex (s : FVec F S256x512 .f32) (m : FVec F S256x1 .f32) : FVec F S256x512 .f32 :=
  exp (subf s (broadcastTo S256x512 m broadcasts_S256x1_S256x512))

/-- The sum of each row. -/
def rsum (e : FVec F S256x512 .f32) : FVec F S256x1 .f32 :=
  shapeCast S256x1 (multiReduction .add [1] S256 e 0x00000000#32 reduces_S256x512_S256 (.inl rfl) rfl) shapeCasts_S256_S256x1

/-- The weights' product with a value block. -/
def wval (e : FVec F S256x512 .f32) (v : Vec F S512x128 .bf16) : FVec F S256x128 .f32 :=
  matmul dot_S256x512_S512x128_S256x128_1_0_0_1_n_n none (truncf .bf16 e bitsLt_bf16_f32) v (constant S256x128 .f32 0x00000000#32)

/-- Zero, to which a row's sums are added. -/
def l0 : FVec F S256x1 .f32 := broadcast S256x1 (Scalar.ofBits .f32 0x00000000#32)

/-- Zero, to which the products are added. -/
def a0 : FVec F S256x128 .f32 := broadcast S256x128 (Scalar.ofBits .f32 0x00000000#32)

/-- The products divided by the row's sum. -/
def quot (a : FVec F S256x128 .f32) (l : FVec F S256x1 .f32) : FVec F S256x128 .f32 :=
  divf a (broadcastTo S256x128 l broadcasts_S256x1_S256x128)

/-- One map of the attention over one key block. -/
def att1 (s0 : FVec F S256x512 .f32) (v0 : Vec F S512x128 .bf16) : FVec F S256x128 .f32 :=
  quot (addf a0 (wval (ex s0 (rmax s0)) v0)) (addf l0 (rsum (ex s0 (rmax s0))))

/-- One map over two key blocks, at the row maximum `m`. -/
def att2 (m : FVec F S256x1 .f32) (s0 s1 : FVec F S256x512 .f32) (v0 v1 : Vec F S512x128 .bf16) : FVec F S256x128 .f32 :=
  quot (addf (addf a0 (wval (ex s0 m) v0)) (wval (ex s1 m) v1)) (addf (addf l0 (rsum (ex s0 m))) (rsum (ex s1 m)))

/-- One map over three key blocks. -/
def att3 (m : FVec F S256x1 .f32) (s0 s1 s2 : FVec F S256x512 .f32) (v0 v1 v2 : Vec F S512x128 .bf16) : FVec F S256x128 .f32 :=
  quot (addf (addf (addf a0 (wval (ex s0 m) v0)) (wval (ex s1 m) v1)) (wval (ex s2 m) v2))
    (addf (addf (addf l0 (rsum (ex s0 m))) (rsum (ex s1 m))) (rsum (ex s2 m)))

/-- One map over four key blocks. -/
def att4 (m : FVec F S256x1 .f32) (s0 s1 s2 s3 : FVec F S256x512 .f32) (v0 v1 v2 v3 : Vec F S512x128 .bf16) : FVec F S256x128 .f32 :=
  quot (addf (addf (addf (addf a0 (wval (ex s0 m) v0)) (wval (ex s1 m) v1)) (wval (ex s2 m) v2)) (wval (ex s3 m) v3))
    (addf (addf (addf (addf l0 (rsum (ex s0 m))) (rsum (ex s1 m))) (rsum (ex s2 m))) (rsum (ex s3 m)))

/-- The row maximum over two, three and four key blocks. -/
def max2 (s0 s1 : FVec F S256x512 .f32) : FVec F S256x1 .f32 := maximumf (rmax s0) (rmax s1)
@[inherit_doc max2] def max3 (s0 s1 s2 : FVec F S256x512 .f32) : FVec F S256x1 .f32 := maximumf (max2 s0 s1) (rmax s2)
@[inherit_doc max2] def max4 (s0 s1 s2 s3 : FVec F S256x512 .f32) : FVec F S256x1 .f32 := maximumf (max3 s0 s1 s2) (rmax s3)

/-- The queries with every lane of the second map at zero, and with every lane of the first map at zero. -/
abbrev q0 (q : Vec F S256x128 .bf16) : Vec F S256x128 .bf16 := k0_pay63 q
@[inherit_doc q0] abbrev q1 (q : Vec F S256x128 .bf16) : Vec F S256x128 .bf16 := k0_pay64 q

/-- The difference of the two maps, the second scaled by lambda. -/
def comb (o0 o1 : FVec F S256x128 .f32) (lam : FVec F S1x1 .f32) : FVec F S256x128 .f32 :=
  subf o0 (mulf (broadcastTo S256x128 lam broadcasts_S1x1_S256x128) o1)

/-- The root mean square norm of the difference, its scale and the constant factor. -/
def norm (o : FVec F S256x128 .f32) (g : Vec F S1x128 .f32) : FVec F S256x128 .bf16 :=
  truncf .bf16 (mulf (mulf (mulf o (broadcastTo S256x128 (rsqrt (addf (divf
      (shapeCast S256x1 (multiReduction .add [1] S256 (mulf o o) 0x00000000#32 reduces_S256x128_S256 (.inl rfl) rfl) shapeCasts_S256_S256x1)
      (broadcast S256x1 (Scalar.ofBits .f32 0x43000000#32))) (broadcast S256x1 (Scalar.ofBits .f32 0x358637BD#32)))) broadcasts_S256x1_S256x128))
    (broadcastTo S256x128 (shapeCast S1x128 g shapeCasts_S1x128_S1x128) broadcasts_S1x128_S256x128))
    (broadcast S256x128 (Scalar.ofBits .f32 0x3EE34C57#32))) bitsLt_bf16_f32

/-- Key (or value) block number `b` of a sequence's keys: 512 rows. -/
def kblk (k : Vec F S2048x128 .bf16) (b : Nat) (inb : ∀ a, (![b, 0] : Fin 2 → Nat) a + S512x128.size a ≤ S2048x128.size a) : Vec F S512x128 .bf16 :=
  View.ld k (Rect.unit (s := S2048x128) ![b, 0] S512x128.size inb)

end Cert.AttnL

end
-- ==== Proof.L3KCases.lean ====
/- What each of the kernel's four cases leaves in its output block: the named term over the case's one to four key blocks. For the last layer. -/
module

public import proofs.«01_k».proof.Proof.L3KOps

@[expose] public section

set_option maxRecDepth 16384

noncomputable section

namespace Cert.AttnL

open Cert.Attn Cert.Attn3Ideal Cert.Attn3Ideal.Gen Idealize.ShloMosaic Idealize.ShloMosaic.TcCoe

variable {F : FTy → Type} [FloatOps F]

variable (c : Dev nD) (i : grid0.Coords) (arg3 : Memref sig .tc .vmem S256x128 .bf16) (harg3 : arg3.IsWhole)
  (arg4 : Memref sig .tc .vmem S2048x128 .bf16) (harg4 : arg4.IsWhole) (arg5 : Memref sig .tc .vmem S2048x128 .bf16) (harg5 : arg5.IsWhole)
  (arg6 : Memref sig .tc .vmem S1x64 .f32) (harg6 : arg6.IsWhole) (arg7 : Memref sig .tc .vmem S1x64 .f32) (harg7 : arg7.IsWhole)
  (arg8 : Memref sig .tc .vmem S1x64 .f32) (harg8 : arg8.IsWhole) (arg9 : Memref sig .tc .vmem S1x64 .f32) (harg9 : arg9.IsWhole)
  (arg10 : Memref sig .tc .vmem S1x128 .f32) (harg10 : arg10.IsWhole) (arg11 : Memref sig .tc .vmem S256x128 .bf16) (harg11 : arg11.IsWhole)
  (x0 : Vec F S256x128 .bf16) (x1 x2 : Vec F S2048x128 .bf16) (x3 x4 x5 x6 : Vec F S1x64 .f32) (x7 : Vec F S1x128 .f32)

/-- The four key blocks of a sequence, in order. -/
abbrev kb0 (k : Vec F S2048x128 .bf16) : Vec F S512x128 .bf16 := kblk k 0 inb_S2048x128_S512x128_0_0
@[inherit_doc kb0] abbrev kb1 (k : Vec F S2048x128 .bf16) : Vec F S512x128 .bf16 := kblk k 512 inb_S2048x128_S512x128_512_0
@[inherit_doc kb0] abbrev kb2 (k : Vec F S2048x128 .bf16) : Vec F S512x128 .bf16 := kblk k 1024 inb_S2048x128_S512x128_1024_0
@[inherit_doc kb0] abbrev kb3 (k : Vec F S2048x128 .bf16) : Vec F S512x128 .bf16 := kblk k 1536 inb_S2048x128_S512x128_1536_0

/-- One map over the case's key blocks, of the queries `q`: only the last block is masked. -/
def mapA (q : Vec F S256x128 .bf16) : FVec F S256x128 .f32 := att1 (masked i 0#32 (score q (kb0 x1))) (kb0 x2)
@[inherit_doc mapA] def mapB (q : Vec F S256x128 .bf16) : FVec F S256x128 .f32 :=
  att2 (max2 (score q (kb0 x1)) (masked i 512#32 (score q (kb1 x1)))) (score q (kb0 x1)) (masked i 512#32 (score q (kb1 x1))) (kb0 x2) (kb1 x2)
@[inherit_doc mapA] def mapC (q : Vec F S256x128 .bf16) : FVec F S256x128 .f32 :=
  att3 (max3 (score q (kb0 x1)) (score q (kb1 x1)) (masked i 1024#32 (score q (kb2 x1)))) (score q (kb0 x1)) (score q (kb1 x1)) (masked i 1024#32 (score q (kb2 x1))) (kb0 x2) (kb1 x2) (kb2 x2)
@[inherit_doc mapA] def mapD (q : Vec F S256x128 .bf16) : FVec F S256x128 .f32 :=
  att4 (max4 (score q (kb0 x1)) (score q (kb1 x1)) (score q (kb2 x1)) (masked i 1536#32 (score q (kb3 x1)))) (score q (kb0 x1)) (score q (kb1 x1)) (score q (kb2 x1)) (masked i 1536#32 (score q (kb3 x1))) (kb0 x2) (kb1 x2) (kb2 x2) (kb3 x2)

/-- What case A stores: the two maps over 1 key block, combined and normalised. -/
theorem out_A (hc0 : cond0_0 i) (hc1 : ¬cond0_1 i) (hc2 : ¬cond0_2 i) (hc3 : ¬cond0_3 i) :
    out0_A_8 c i arg3 harg3 arg4 harg4 arg5 harg5 arg6 harg6 arg7 harg7 arg8 harg8 arg9 harg9 arg10 harg10 arg11 harg11 hc0 hc1 hc2 hc3 x0 x1 x2 x3 x4 x5 x6 x7
      = norm (comb (mapA i x1 x2 (q0 x0)) (mapA i x1 x2 (q1 x0)) (k0_pay65 x3 x4 x5 x6)) x7 := by
  frame_out
  rfl

/-- What case B stores: the two maps over 2 key blocks, combined and normalised. -/
theorem out_B (hc0 : ¬cond0_0 i) (hc1 : cond0_1 i) (hc2 : ¬cond0_2 i) (hc3 : ¬cond0_3 i) :
    out0_B_8 c i arg3 harg3 arg4 harg4 arg5 harg5 arg6 harg6 arg7 harg7 arg8 harg8 arg9 harg9 arg10 harg10 arg11 harg11 hc0 hc1 hc2 hc3 x0 x1 x2 x3 x4 x5 x6 x7
      = norm (comb (mapB i x1 x2 (q0 x0)) (mapB i x1 x2 (q1 x0)) (k0_pay65 x3 x4 x5 x6)) x7 := by
  frame_out
  rfl

/-- What case C stores: the two maps over 3 key blocks, combined and normalised. -/
theorem out_C (hc0 : ¬cond0_0 i) (hc1 : ¬cond0_1 i) (hc2 : cond0_2 i) (hc3 : ¬cond0_3 i) :
    out0_C_8 c i arg3 harg3 arg4 harg4 arg5 harg5 arg6 harg6 arg7 harg7 arg8 harg8 arg9 harg9 arg10 harg10 arg11 harg11 hc0 hc1 hc2 hc3 x0 x1 x2 x3 x4 x5 x6 x7
      = norm (comb (mapC i x1 x2 (q0 x0)) (mapC i x1 x2 (q1 x0)) (k0_pay65 x3 x4 x5 x6)) x7 := by
  frame_out
  rfl

/-- What case D stores: the two maps over 4 key blocks, combined and normalised. -/
theorem out_D (hc0 : ¬cond0_0 i) (hc1 : ¬cond0_1 i) (hc2 : ¬cond0_2 i) (hc3 : cond0_3 i) :
    out0_D_8 c i arg3 harg3 arg4 harg4 arg5 harg5 arg6 harg6 arg7 harg7 arg8 harg8 arg9 harg9 arg10 harg10 arg11 harg11 hc0 hc1 hc2 hc3 x0 x1 x2 x3 x4 x5 x6 x7
      = norm (comb (mapD i x1 x2 (q0 x0)) (mapD i x1 x2 (q1 x0)) (k0_pay65 x3 x4 x5 x6)) x7 := by
  frame_out
  rfl

end Cert.AttnL

end
-- ==== Proof.L3KRead.lean ====
/- The block vocabulary at an index, over the extended reals. For the last layer. -/
module

public import proofs.«01_k».proof.Proof.L3KCases
public import Idealize.ShloMosaic.Lib.Pointwise

@[expose] public section

set_option maxRecDepth 16384

noncomputable section

namespace Cert.AttnL

open Cert.Attn Cert.Attn3Ideal Cert.Attn3Ideal.Gen Idealize.ShloMosaic Idealize.ShloMosaic.TcCoe

/-- The literal minus infinity is the least extended real. -/
theorem lit_bot : Ideal.ofBits .f32 0xFF800000#32 = (⊥ : EReal) := by
  simp [Ideal.ofBits, Ideal.ieee]

theorem score_apply (q : Vec Ideal S256x128 .bf16) (k : Vec Ideal S512x128 .bf16) (r : Fin 256) (c : Fin 512) :
    score q k (ix2 r c) = ∑ l : Fin 128, q (ix2 r l) * k (ix2 c l) := by
  pointwise [score, dot_S256x128_S512x128_S256x512_1_1_0_0_n_n]

theorem wval_apply (e : FVec Ideal S256x512 .f32) (v : Vec Ideal S512x128 .bf16) (r : Fin 256) (l : Fin 128) :
    wval e v (ix2 r l) = ∑ c : Fin 512, e (ix2 r c) * v (ix2 c l) := by
  pointwise [wval, dot_S256x512_S512x128_S256x128_1_0_0_1_n_n]

theorem rmax_apply (s : FVec Ideal S256x512 .f32) (r : Fin 256) (z : Fin 1) :
    rmax s (ix2 r z) = Finset.univ.sup fun c : Fin 512 => s (ix2 r c) := by
  pointwise [rmax]
  rw [lit_bot]; rfl

theorem rsum_apply (s : FVec Ideal S256x512 .f32) (r : Fin 256) (z : Fin 1) :
    rsum s (ix2 r z) = ∑ c : Fin 512, s (ix2 r c) := by
  pointwise [rsum]

theorem ex_apply (s : FVec Ideal S256x512 .f32) (m : FVec Ideal S256x1 .f32) (r : Fin 256) (c : Fin 512) :
    ex s m (ix2 r c) = Ideal.exp (s (ix2 r c) - m (ix2 r 0)) := by
  pointwise [ex]

theorem quot_apply (a : FVec Ideal S256x128 .f32) (m : FVec Ideal S256x1 .f32) (r : Fin 256) (c : Fin 128) :
    quot a m (ix2 r c) = Ideal.div (a (ix2 r c)) (m (ix2 r 0)) := by
  pointwise [quot]

theorem l0_apply (j) : (l0 (F := Ideal)) j = 0 := by pointwise [l0]
theorem a0_apply (j) : (a0 (F := Ideal)) j = 0 := by pointwise [a0]

theorem comb_apply (o0 o1 : FVec Ideal S256x128 .f32) (lam : FVec Ideal S1x1 .f32) (r : Fin 256) (l : Fin 128) :
    comb o0 o1 lam (ix2 r l) = o0 (ix2 r l) - lam (ix2 0 0) * o1 (ix2 r l) := by
  pointwise [comb]

theorem norm_apply (o : FVec Ideal S256x128 .f32) (g : Vec Ideal S1x128 .f32) (r : Fin 256) (l : Fin 128) :
    norm o g (ix2 r l) = o (ix2 r l) * Ideal.rsqrt (Ideal.div (∑ d : Fin 128, o (ix2 r d) * o (ix2 r d)) (Ideal.ofBits .f32 0x43000000#32)
      + Ideal.ofBits .f32 0x358637BD#32) * g (ix2 0 l) * Ideal.ofBits .f32 0x3EE34C57#32 := by
  pointwise [norm]

theorem lam_apply (a b c d : Vec Ideal S1x64 .f32) :
    k0_pay65 a b c d (ix2 0 0) = Ideal.exp (∑ l : Fin 64, a (ix2 0 l) * b (ix2 0 l)) - Ideal.exp (∑ l : Fin 64, c (ix2 0 l) * d (ix2 0 l))
      + Ideal.ofBits .f32 0x3F0E59D5#32 := by
  pointwise [k0_pay65]

/-- The signed comparisons of a lane number with 64. -/
theorem slt_64 : ∀ l : Fin 128, IntOp.cmpi .slt (BitVec.ofNat 32 l.val) 64#32 = if l.val < 64 then 1#1 else 0#1 := by decide +kernel
theorem sge_64 : ∀ l : Fin 128, IntOp.cmpi .sge (BitVec.ofNat 32 l.val) 64#32 = if 64 ≤ l.val then 1#1 else 0#1 := by decide +kernel

theorem q0_apply (q : Vec Ideal S256x128 .bf16) (r : Fin 256) (l : Fin 128) :
    q0 q (ix2 r l) = if l.val < 64 then q (ix2 r l) else 0 := by
  pointwise [q0, k0_pay63, k0_pay62]
  rw [slt_64]; split <;> rfl

theorem q1_apply (q : Vec Ideal S256x128 .bf16) (r : Fin 256) (l : Fin 128) :
    q1 q (ix2 r l) = if 64 ≤ l.val then q (ix2 r l) else 0 := by
  pointwise [q1, k0_pay64, k0_pay62]
  rw [sge_64]; split <;> rfl

/-- Floor division of one word by 64, as the program spells it. -/
def fdivW (x : BitVec 32) : BitVec 32 :=
  Scalar.select
      (IntOp.andi
        (IntOp.cmpi .ne
          (IntOp.subi (BitVec.setWidth 32 (IntOp.cmpi .sgt x 0#32)) (BitVec.setWidth 32 (IntOp.cmpi .slt x 0#32)))
          (Scalar.subi (Scalar.extui (Scalar.cmpi .sgt 64#32 0#32)) (Scalar.extui (Scalar.cmpi .slt 64#32 0#32))))
        (IntOp.cmpi .ne (IntOp.remsi ArithUnit.vector x 64#32) 0#32))
      (IntOp.subi (IntOp.divsi ArithUnit.vector x 64#32) 1#32) (IntOp.divsi ArithUnit.vector x 64#32)

theorem fdiv_apply (x : IVec S256x512 32) (j) : fdiv x j = fdivW (x j) := rfl

theorem fdivW_ofNat : ∀ n : Fin 2048, fdivW (BitVec.ofNat 32 n.val) = BitVec.ofNat 32 (n.val / 64) := by decide +kernel

theorem sle_chunk : ∀ a b : Fin 32, IntOp.cmpi .sle (BitVec.ofNat 32 a.val) (BitVec.ofNat 32 b.val) = if a.val ≤ b.val then 1#1 else 0#1 := by
  decide +kernel

theorem colPos_apply (b : Nat) (r : Fin 256) (c : Fin 512) : colPos (BitVec.ofNat 32 b) (ix2 r c) = BitVec.ofNat 32 (b + c.val) := by
  pointwise [colPos]
  exact (BitVec.ofNat_add ..).symm

theorem rowPos_apply (i : grid0.Coords) (r : Fin 256) (c : Fin 512) :
    rowPos i (ix2 r c) = BitVec.ofNat 32 (256 * (i 2).val + r.val) := by
  pointwise [rowPos]
  show BitVec.ofNat 32 _ * BitVec.ofNat 32 256 + BitVec.ofNat 32 _ = _
  rw [← BitVec.ofNat_mul, ← BitVec.ofNat_add, Nat.mul_comm]

/-- The masked scores: minus infinity in the columns whose chunk comes after the row's. -/
theorem masked_apply (i : grid0.Coords) (b : Nat) (hb : b ≤ 1536) (s : FVec Ideal S256x512 .f32) (r : Fin 256) (c : Fin 512) :
    masked i (BitVec.ofNat 32 b) s (ix2 r c) = if (b + c.val) / 64 ≤ (256 * (i 2).val + r.val) / 64 then s (ix2 r c) else (⊥ : EReal) := by
  have hi : (i 2).val < 8 := (i 2).isLt
  have h1 : b + c.val < 2048 := by omega
  have h2 : 256 * (i 2).val + r.val < 2048 := by omega
  pointwise [masked]
  rw [fdiv_apply, fdiv_apply, colPos_apply, rowPos_apply, fdivW_ofNat ⟨_, h1⟩, fdivW_ofNat ⟨_, h2⟩, lit_bot,
    sle_chunk ⟨(b + c.val) / 64, by omega⟩ ⟨(256 * (i 2).val + r.val) / 64, by omega⟩]
  split <;> rfl

theorem kblk_apply (k : Vec Ideal S2048x128 .bf16) (b : Nat) (inb) (r : Fin 512) (l : Fin 128) (hb : b + r.val < 2048) :
    kblk k b inb (ix2 r l) = k (ix2 ⟨b + r.val, hb⟩ l) := by
  pointwise [kblk]

end Cert.AttnL

end
-- ==== Proof.L3KMap.lean ====
/- One map of the kernel's attention at a row and a value lane: in every case the softmax of the row's masked scores. For the last layer. -/
module

public import proofs.«01_k».proof.Proof.L3KRead
public import proofs.«01_k».proof.Proof.Soft

@[expose] public section

set_option maxRecDepth 16384

noncomputable section

namespace Cert.AttnL

open Cert.Attn Cert.Attn3Ideal Cert.Attn3Ideal.Gen Idealize.ShloMosaic Idealize.ShloMosaic.TcCoe

variable (i : grid0.Coords) (q : Vec Ideal S256x128 .bf16) (k v : Vec Ideal S2048x128 .bf16) (r : Fin 256) (e : Fin 128)

/-- The row's scores against every key of its sequence, at minus infinity past the row's chunk. -/
def rowS (t : Fin 2048) : EReal :=
  if t.val / 64 ≤ (256 * (i 2).val + r.val) / 64 then ∑ l : Fin 128, q (ix2 r l) * k (ix2 t l) else ⊥

/-- A value lane over the keys. -/
def colV (t : Fin 2048) : EReal := v (ix2 t e)

variable (n : Fin 4) (b : Nat) (inb : ∀ a, (![b, 0] : Fin 2 → Nat) a + S512x128.size a ≤ S2048x128.size a)

theorem score_kblk (hb : b = 512 * n.val) (c : Fin 512) :
    score q (kblk k b inb) (ix2 r c) = ∑ l : Fin 128, q (ix2 r l) * k (ix2 ⟨512 * n.val + c.val, by omega⟩ l) := by
  subst hb
  rw [score_apply]
  exact Finset.sum_congr rfl fun l _ => by rw [kblk_apply _ _ _ _ _ (by omega)]

theorem score_seen (hb : b = 512 * n.val) (h : 512 * n.val + 512 ≤ 256 * (i 2).val) (c : Fin 512) :
    score q (kblk k b inb) (ix2 r c) = blk (rowS i q k r) n c := by
  rw [score_kblk q k r n b inb hb c]
  unfold blk rowS
  rw [if_pos (by show (512 * n.val + c.val) / 64 ≤ _; exact Nat.div_le_div_right (by omega))]

theorem score_last (hb : b = 512 * n.val) (c : Fin 512) :
    masked i (BitVec.ofNat 32 b) (score q (kblk k b inb)) (ix2 r c) = blk (rowS i q k r) n c := by
  rw [masked_apply i b (by omega), score_kblk q k r n b inb hb c]
  subst hb; rfl

theorem score_past (h : 256 * (i 2).val + 256 ≤ 512 * n.val) (c : Fin 512) : blk (rowS i q k r) n c = ⊥ := by
  unfold blk rowS
  rw [if_neg (by show ¬(512 * n.val + c.val) / 64 ≤ _; omega)]

theorem value_kblk (hb : b = 512 * n.val) (c : Fin 512) : kblk v b inb (ix2 c e) = blk (colV v e) n c := by
  subst hb
  rw [kblk_apply _ _ _ _ _ (by omega)]; rfl

variable (s : FVec Ideal S256x512 .f32) (m : FVec Ideal S256x1 .f32) (hs : ∀ c, s (ix2 r c) = blk (rowS i q k r) n c)

include hs in
theorem rmax_blk (z : Fin 1) : rmax s (ix2 r z) = Finset.univ.sup (blk (rowS i q k r) n) := by
  rw [rmax_apply]; exact Finset.sup_congr rfl fun c _ => hs c

include hs in
theorem lsum_blk (z : Fin 1) : rsum (ex s m) (ix2 r z) = lsum (m (ix2 r 0)) (blk (rowS i q k r) n) := by
  rw [rsum_apply]; exact Finset.sum_congr rfl fun c _ => by rw [ex_apply, hs]

include hs in
theorem vsum_blk (hb : b = 512 * n.val) :
    wval (ex s m) (kblk v b inb) (ix2 r e) = vsum (m (ix2 r 0)) (blk (rowS i q k r) n) (blk (colV v e) n) := by
  rw [wval_apply]; exact Finset.sum_congr rfl fun c _ => by rw [ex_apply, hs, value_kblk v e n b inb hb]

theorem addf_at {S : Shape} (x y : FVec Ideal S .f32) (j) : addf x y j = x j + y j := rfl
theorem maximumf_at {S : Shape} (x y : FVec Ideal S .f32) (j) : maximumf x y j = x j ⊔ y j := rfl

theorem mapA_apply (hi : 0 ≤ (i 2).val ∧ (i 2).val ≤ 1) : mapA i k v q (ix2 r e) = soft (rowS i q k r) (colV v e) := by
  have h0 := score_last i q k r 0 0 inb_S2048x128_S512x128_0_0 rfl
  have p1 := score_past i q k r 1 (by show _ ≤ 512 * 1; omega)
  have p2 := score_past i q k r 2 (by show _ ≤ 512 * 2; omega)
  have p3 := score_past i q k r 3 (by show _ ≤ 512 * 3; omega)
  have hM : Finset.univ.sup (rowS i q k r) = (rmax (masked i 0#32 (score q (kb0 k)))) (ix2 r 0) := by
    rw [sup_blk, sup_bot' _ p1, sup_bot' _ p2, sup_bot' _ p3]
    simp only [rmax_blk i q k r 0 _ h0, sup_bot_eq]
  rw [soft_blk _ _ _ hM, lsum_bot _ _ p1, vsum_bot _ _ _ p1, lsum_bot _ _ p2, vsum_bot _ _ _ p2, lsum_bot _ _ p3, vsum_bot _ _ _ p3]
  simp only [mapA, att1, quot_apply, addf_at, l0_apply, a0_apply, zero_add, add_zero, lsum_blk i q k r 0 _ _ h0, vsum_blk i q k v r e 0 0 _ _ _ h0 rfl]

theorem mapB_apply (hi : 2 ≤ (i 2).val ∧ (i 2).val ≤ 3) : mapB i k v q (ix2 r e) = soft (rowS i q k r) (colV v e) := by
  have h0 := score_seen i q k r 0 0 inb_S2048x128_S512x128_0_0 rfl (by show 512 * 0 + 512 ≤ _; omega)
  have h1 := score_last i q k r 1 512 inb_S2048x128_S512x128_512_0 rfl
  have p2 := score_past i q k r 2 (by show _ ≤ 512 * 2; omega)
  have p3 := score_past i q k r 3 (by show _ ≤ 512 * 3; omega)
  have hM : Finset.univ.sup (rowS i q k r) = (max2 (score q (kb0 k)) (masked i 512#32 (score q (kb1 k)))) (ix2 r 0) := by
    rw [sup_blk, sup_bot' _ p2, sup_bot' _ p3]
    simp only [max2, maximumf_at, rmax_blk i q k r 0 _ h0, rmax_blk i q k r 1 _ h1, sup_bot_eq]
  rw [soft_blk _ _ _ hM, lsum_bot _ _ p2, vsum_bot _ _ _ p2, lsum_bot _ _ p3, vsum_bot _ _ _ p3]
  simp only [mapB, att2, quot_apply, addf_at, l0_apply, a0_apply, zero_add, add_zero, lsum_blk i q k r 0 _ _ h0, lsum_blk i q k r 1 _ _ h1, vsum_blk i q k v r e 0 0 _ _ _ h0 rfl, vsum_blk i q k v r e 1 512 _ _ _ h1 rfl]

theorem mapC_apply (hi : 4 ≤ (i 2).val ∧ (i 2).val ≤ 5) : mapC i k v q (ix2 r e) = soft (rowS i q k r) (colV v e) := by
  have h0 := score_seen i q k r 0 0 inb_S2048x128_S512x128_0_0 rfl (by show 512 * 0 + 512 ≤ _; omega)
  have h1 := score_seen i q k r 1 512 inb_S2048x128_S512x128_512_0 rfl (by show 512 * 1 + 512 ≤ _; omega)
  have h2 := score_last i q k r 2 1024 inb_S2048x128_S512x128_1024_0 rfl
  have p3 := score_past i q k r 3 (by show _ ≤ 512 * 3; omega)
  have hM : Finset.univ.sup (rowS i q k r) = (max3 (score q (kb0 k)) (score q (kb1 k)) (masked i 1024#32 (score q (kb2 k)))) (ix2 r 0) := by
    rw [sup_blk, sup_bot' _ p3]
    simp only [max3, max2, maximumf_at, rmax_blk i q k r 0 _ h0, rmax_blk i q k r 1 _ h1, rmax_blk i q k r 2 _ h2, sup_bot_eq]
  rw [soft_blk _ _ _ hM, lsum_bot _ _ p3, vsum_bot _ _ _ p3]
  simp only [mapC, att3, quot_apply, addf_at, l0_apply, a0_apply, zero_add, add_zero, lsum_blk i q k r 0 _ _ h0, lsum_blk i q k r 1 _ _ h1, lsum_blk i q k r 2 _ _ h2, vsum_blk i q k v r e 0 0 _ _ _ h0 rfl, vsum_blk i q k v r e 1 512 _ _ _ h1 rfl, vsum_blk i q k v r e 2 1024 _ _ _ h2 rfl]

theorem mapD_apply (hi : 6 ≤ (i 2).val ∧ (i 2).val ≤ 7) : mapD i k v q (ix2 r e) = soft (rowS i q k r) (colV v e) := by
  have h0 := score_seen i q k r 0 0 inb_S2048x128_S512x128_0_0 rfl (by show 512 * 0 + 512 ≤ _; omega)
  have h1 := score_seen i q k r 1 512 inb_S2048x128_S512x128_512_0 rfl (by show 512 * 1 + 512 ≤ _; omega)
  have h2 := score_seen i q k r 2 1024 inb_S2048x128_S512x128_1024_0 rfl (by show 512 * 2 + 512 ≤ _; omega)
  have h3 := score_last i q k r 3 1536 inb_S2048x128_S512x128_1536_0 rfl
  have hM : Finset.univ.sup (rowS i q k r) = (max4 (score q (kb0 k)) (score q (kb1 k)) (score q (kb2 k)) (masked i 1536#32 (score q (kb3 k)))) (ix2 r 0) := by
    rw [sup_blk]
    simp only [max4, max3, max2, maximumf_at, rmax_blk i q k r 0 _ h0, rmax_blk i q k r 1 _ h1, rmax_blk i q k r 2 _ h2, rmax_blk i q k r 3 _ h3, sup_bot_eq]
  rw [soft_blk _ _ _ hM]
  simp only [mapD, att4, quot_apply, addf_at, l0_apply, a0_apply, zero_add, add_zero, lsum_blk i q k r 0 _ _ h0, lsum_blk i q k r 1 _ _ h1, lsum_blk i q k r 2 _ _ h2, lsum_blk i q k r 3 _ _ h3, vsum_blk i q k v r e 0 0 _ _ _ h0 rfl, vsum_blk i q k v r e 1 512 _ _ _ h1 rfl, vsum_blk i q k v r e 2 1024 _ _ _ h2 rfl, vsum_blk i q k v r e 3 1536 _ _ _ h3 rfl]

end Cert.AttnL

end
-- ==== Proof.L3KBlock.lean ====
/- What every point of the kernel's grid stores, at a row and a lane: two softmaxes of the row's scores, combined and normalised. For the last layer. -/
module

public import proofs.«01_k».proof.Proof.L3KCases
public import proofs.«01_k».proof.Proof.L3KMap
public import proofs.«01_k».proof.Proof.Gen.Attn3Ideal.Value

@[expose] public section

set_option maxRecDepth 16384

noncomputable section

namespace Cert.AttnL

open Cert.Attn Cert.Attn3Ideal Cert.Attn3Ideal.Gen Idealize.ShloMosaic Idealize.ShloMosaic.TcCoe

/-- The weight of the second map, from the four lambda vectors. -/
def lamE (a b c d : Fin 64 → EReal) : EReal :=
  Ideal.exp (∑ l, a l * b l) - Ideal.exp (∑ l, c l * d l) + Ideal.ofBits .f32 0x3F0E59D5#32

/-- The root mean square norm of a head's lanes `o`, times the gain `g` and the depth constant. -/
def normE (o g : Fin 128 → EReal) (e : Fin 128) : EReal :=
  o e * Ideal.rsqrt (Ideal.div (∑ l, o l * o l) (Ideal.ofBits .f32 0x43000000#32) + Ideal.ofBits .f32 0x358637BD#32) * g e
    * Ideal.ofBits .f32 0x3EE34C57#32

/-- A row of the output: the two softmaxes of the scores `S0` and `S1`, as weights of the value lanes, combined and normalised. -/
def rowE (S0 S1 : Fin 2048 → EReal) (v : Fin 128 → Fin 2048 → EReal) (lam : EReal) (g : Fin 128 → EReal) (e : Fin 128) : EReal :=
  normE (fun l => soft S0 (v l) - lam * soft S1 (v l)) g e

/-- The scores of 128 lanes, of which one half is masked, are the sum over the other half. -/
theorem sum_low (q k : Fin 128 → EReal) :
    ∑ l : Fin 128, (if l.val < 64 then q l else 0) * k l = ∑ d : Fin 64, q ⟨d.val, by omega⟩ * k ⟨d.val, by omega⟩ := by
  refine (Fin.sum_univ_add (a := 64) (b := 64) _).trans ?_
  have h2 : ∑ d : Fin 64, (if (Fin.natAdd 64 d).val < 64 then q (Fin.natAdd 64 d) else 0) * k (Fin.natAdd 64 d) = 0 :=
    Finset.sum_eq_zero fun d _ => by rw [if_neg (by simp), zero_mul]
  refine (congrArg (_ + ·) h2).trans ((add_zero _).trans (Finset.sum_congr rfl fun d _ => ?_))
  rw [if_pos (by simp)]; rfl

@[inherit_doc sum_low] theorem sum_high (q k : Fin 128 → EReal) :
    ∑ l : Fin 128, (if 64 ≤ l.val then q l else 0) * k l = ∑ d : Fin 64, q ⟨64 + d.val, by omega⟩ * k ⟨64 + d.val, by omega⟩ := by
  refine (Fin.sum_univ_add (a := 64) (b := 64) _).trans ?_
  have h2 : ∑ d : Fin 64, (if 64 ≤ (Fin.castAdd 64 d).val then q (Fin.castAdd 64 d) else 0) * k (Fin.castAdd 64 d) = 0 :=
    Finset.sum_eq_zero fun d _ => by rw [if_neg (by simp), zero_mul]
  refine (congrArg (· + _) h2).trans ((zero_add _).trans (Finset.sum_congr rfl fun d _ => ?_))
  rw [if_pos (by simp)]; rfl

variable (i : grid0.Coords) (x0 : Vec Ideal S256x128 .bf16) (x1 x2 : Vec Ideal S2048x128 .bf16)
  (x3 x4 x5 x6 : Vec Ideal S1x64 .f32) (x7 : Vec Ideal S1x128 .f32) (r : Fin 256) (e : Fin 128)

/-- The row of a block's output. -/
def blkE : EReal :=
  rowE
    (fun t => if t.val / 64 ≤ (256 * (i 2).val + r.val) / 64 then
      ∑ d : Fin 64, x0 (ix2 r ⟨d.val, by omega⟩) * x1 (ix2 t ⟨d.val, by omega⟩) else ⊥)
    (fun t => if t.val / 64 ≤ (256 * (i 2).val + r.val) / 64 then
      ∑ d : Fin 64, x0 (ix2 r ⟨64 + d.val, by omega⟩) * x1 (ix2 t ⟨64 + d.val, by omega⟩) else ⊥)
    (fun l t => x2 (ix2 t l))
    (lamE (fun l => x3 (ix2 0 l)) (fun l => x4 (ix2 0 l)) (fun l => x5 (ix2 0 l)) (fun l => x6 (ix2 0 l)))
    (fun l => x7 (ix2 0 l)) e

theorem norm_comb (o0 o1 : FVec Ideal S256x128 .f32)
    (h0 : ∀ e, o0 (ix2 r e) = soft (rowS i (q0 x0) x1 r) (colV x2 e))
    (h1 : ∀ e, o1 (ix2 r e) = soft (rowS i (q1 x0) x1 r) (colV x2 e)) :
    norm (comb o0 o1 (k0_pay65 x3 x4 x5 x6)) x7 (ix2 r e) = blkE i x0 x1 x2 x3 x4 x5 x6 x7 r e := by
  rw [norm_apply]
  simp only [comb_apply, h0, h1, lam_apply]
  have e0 : rowS i (q0 x0) x1 r = fun t => if t.val / 64 ≤ (256 * (i 2).val + r.val) / 64 then
      ∑ d : Fin 64, x0 (ix2 r ⟨d.val, by omega⟩) * x1 (ix2 t ⟨d.val, by omega⟩) else ⊥ := funext fun t => by
    unfold rowS
    simp only [q0_apply]
    rw [sum_low (fun l => x0 (ix2 r l)) (fun l => x1 (ix2 t l))]
  have e1 : rowS i (q1 x0) x1 r = fun t => if t.val / 64 ≤ (256 * (i 2).val + r.val) / 64 then
      ∑ d : Fin 64, x0 (ix2 r ⟨64 + d.val, by omega⟩) * x1 (ix2 t ⟨64 + d.val, by omega⟩) else ⊥ := funext fun t => by
    unfold rowS
    simp only [q1_apply]
    rw [sum_high (fun l => x0 (ix2 r l)) (fun l => x1 (ix2 t l))]
  rw [e0, e1]
  rfl

variable (m : (ℓ : Loc nD τ sig) → Buf (Elt Ideal) ℓ)

/-- The grid point's last coordinate. -/
theorem coord2 : ∀ t : Fin grid0.N, (grid0.coords t 2).val = t.val % 8 := by decide +kernel

/-- What a grid point leaves in the output's staging buffer. -/
theorem outsAt_apply (c : Dev nD) (t : Fin cfg0.N) :
    outsAt0 m c t.val t.isLt (ix2 r e)
      = blkE (grid0.coords t) (iblk m c 0 t) (iblk m c 1 t) (iblk m c 2 t) (iblk m c 3 t) (iblk m c 4 t) (iblk m c 5 t) (iblk m c 6 t)
          (iblk m c 7 t) r e := by
  have h2 := coord2 t
  by_cases c0 : t.val % 8 ≤ 1
  · rw [outsAt0_A m c t c0 (by omega) (by omega) (by omega), out_A]
    exact norm_comb _ _ _ _ _ _ _ _ _ _ _ _ _ (fun e => mapA_apply _ _ _ _ _ _ (by omega)) (fun e => mapA_apply _ _ _ _ _ _ (by omega))
  by_cases c1 : t.val % 8 ≤ 3
  · rw [outsAt0_B m c t c0 (by omega) (by omega) (by omega), out_B]
    exact norm_comb _ _ _ _ _ _ _ _ _ _ _ _ _ (fun e => mapB_apply _ _ _ _ _ _ (by omega)) (fun e => mapB_apply _ _ _ _ _ _ (by omega))
  by_cases c2 : t.val % 8 ≤ 5
  · rw [outsAt0_C m c t c0 (by omega) (by omega) (by omega), out_C]
    exact norm_comb _ _ _ _ _ _ _ _ _ _ _ _ _ (fun e => mapC_apply _ _ _ _ _ _ (by omega)) (fun e => mapC_apply _ _ _ _ _ _ (by omega))
  · rw [outsAt0_D m c t c0 (by omega) (by omega) (by omega), out_D]
    exact norm_comb _ _ _ _ _ _ _ _ _ _ _ _ _ (fun e => mapD_apply _ _ _ _ _ _ (by omega)) (fun e => mapD_apply _ _ _ _ _ _ (by omega))

end Cert.AttnL

end
-- ==== Proof.L3KArray.lean ====
/- What the kernel's result array holds, at every row and column, of the argument arrays. For the last layer. -/
module

public import proofs.«01_k».proof.Proof.L3KBlock
public import Idealize.ShloMosaic.Lib.Pipeline.ValueKit

@[expose] public section

set_option maxRecDepth 16384

noncomputable section

namespace Cert.AttnL

open Cert.Attn Cert.Attn3Ideal Cert.Attn3Ideal.Gen Idealize.ShloMosaic Idealize.ShloMosaic.TcCoe

/-- The result at row `n` of batch `b`, head `h`, lane `e`, of the arguments. -/
def attE (Q K V : Fin 16384 → Fin 1024 → EReal) (la lb lc ld : Fin 64 → EReal) (g : Fin 128 → EReal)
    (b : Fin 8) (n : Fin 2048) (h : Fin 8) (e : Fin 128) : EReal :=
  rowE
    (fun t => if t.val / 64 ≤ n.val / 64 then
      ∑ d : Fin 64, Q ⟨2048 * b.val + n.val, by omega⟩ ⟨128 * h.val + d.val, by omega⟩
        * K ⟨2048 * b.val + t.val, by omega⟩ ⟨128 * h.val + d.val, by omega⟩ else ⊥)
    (fun t => if t.val / 64 ≤ n.val / 64 then
      ∑ d : Fin 64, Q ⟨2048 * b.val + n.val, by omega⟩ ⟨128 * h.val + (64 + d.val), by omega⟩
        * K ⟨2048 * b.val + t.val, by omega⟩ ⟨128 * h.val + (64 + d.val), by omega⟩ else ⊥)
    (fun l t => V ⟨2048 * b.val + t.val, by omega⟩ ⟨128 * h.val + l.val, by omega⟩)
    (lamE la lb lc ld) g e

variable (m : (ℓ : Loc nD τ sig) → Buf (Elt Ideal) ℓ) (c : Dev nD)

theorem index0 : ∀ t : Fin grid0.N, win0_0.index t = ![8 * (t.val / 64) + t.val % 8, (t.val / 8) % 8] := by decide +kernel
theorem index1 : ∀ t : Fin grid0.N, win0_1.index t = ![t.val / 64, (t.val / 8) % 8] := by decide +kernel
theorem index2 : ∀ t : Fin grid0.N, win0_2.index t = ![t.val / 64, (t.val / 8) % 8] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![8 * (t.val / 64) + t.val % 8, (t.val / 8) % 8] := by decide +kernel

/-- The arguments, by their coordinates. -/
def argQ (R : Fin 16384) (C : Fin 1024) : EReal := m ((c : Thread nD τ).loc main_arg0) (ix2 R C)
@[inherit_doc argQ] def argK (R : Fin 16384) (C : Fin 1024) : EReal := m ((c : Thread nD τ).loc main_arg1) (ix2 R C)
@[inherit_doc argQ] def argV (R : Fin 16384) (C : Fin 1024) : EReal := m ((c : Thread nD τ).loc main_arg2) (ix2 R C)
@[inherit_doc argQ] def arg3 (l : Fin 64) : EReal := m ((c : Thread nD τ).loc main_arg3) (ix1 l)
@[inherit_doc argQ] def arg4 (l : Fin 64) : EReal := m ((c : Thread nD τ).loc main_arg4) (ix1 l)
@[inherit_doc argQ] def arg5 (l : Fin 64) : EReal := m ((c : Thread nD τ).loc main_arg5) (ix1 l)
@[inherit_doc argQ] def arg6 (l : Fin 64) : EReal := m ((c : Thread nD τ).loc main_arg6) (ix1 l)
@[inherit_doc argQ] def arg7 (l : Fin 128) : EReal := m ((c : Thread nD τ).loc main_arg7) (ix1 l)

variable (t : Fin cfg0.N)

theorem lt_N : t.val < 512 := lt_of_lt_of_eq t.isLt N_0

theorem read0 (r : Fin 256) (l : Fin 128) : iblk m c 0 t (ix2 r l) =
    argQ m c ⟨2048 * (t.val / 64) + (256 * (t.val % 8) + r.val), by have := lt_N t; omega⟩ ⟨128 * ((t.val / 8) % 8) + l.val, by omega⟩ := by
  unfold argQ
  blk_ext! [iblk, V_main_arg0, index0 t]
theorem read1 (r : Fin 2048) (l : Fin 128) : iblk m c 1 t (ix2 r l) =
    argK m c ⟨2048 * (t.val / 64) + r.val, by have := lt_N t; omega⟩ ⟨128 * ((t.val / 8) % 8) + l.val, by omega⟩ := by
  unfold argK
  blk_ext! [iblk, V_main_arg1, index1 t]
theorem read2 (r : Fin 2048) (l : Fin 128) : iblk m c 2 t (ix2 r l) =
    argV m c ⟨2048 * (t.val / 64) + r.val, by have := lt_N t; omega⟩ ⟨128 * ((t.val / 8) % 8) + l.val, by omega⟩ := by
  unfold argV
  blk_ext! [iblk, V_main_arg2, index2 t]
theorem read3 (l : Fin 64) : iblk m c 3 t (ix2 0 l) = arg3 m c l := by
  unfold arg3
  blk_ext! [iblk, V, index3 t]
theorem read4 (l : Fin 64) : iblk m c 4 t (ix2 0 l) = arg4 m c l := by
  unfold arg4
  blk_ext! [iblk, V, index4 t]
theorem read5 (l : Fin 64) : iblk m c 5 t (ix2 0 l) = arg5 m c l := by
  unfold arg5
  blk_ext! [iblk, V, index5 t]
theorem read6 (l : Fin 64) : iblk m c 6 t (ix2 0 l) = arg6 m c l := by
  unfold arg6
  blk_ext! [iblk, V, index6 t]
theorem read7 (l : Fin 128) : iblk m c 7 t (ix2 0 l) = arg7 m c l := by
  unfold arg7
  blk_ext! [iblk, V, index7 t]

/-- What the kernel's array ends holding. -/
def resE (R : Fin 16384) (C : Fin 1024) : EReal :=
  attE (argQ m c) (argK m c) (argV m c) (arg3 m c) (arg4 m c) (arg5 m c) (arg6 m c) (arg7 m c)
    ⟨R.val / 2048, by omega⟩ ⟨R.val % 2048, by omega⟩ ⟨C.val / 128, by omega⟩ ⟨C.val % 128, by omega⟩

theorem blkE_read (r : Fin 256) (e : Fin 128) :
    blkE (grid0.coords t) (iblk m c 0 t) (iblk m c 1 t) (iblk m c 2 t) (iblk m c 3 t) (iblk m c 4 t) (iblk m c 5 t) (iblk m c 6 t)
          (iblk m c 7 t) r e
      = attE (argQ m c) (argK m c) (argV m c) (arg3 m c) (arg4 m c) (arg5 m c) (arg6 m c) (arg7 m c)
          ⟨t.val / 64, by have := lt_N t; omega⟩ ⟨256 * (t.val % 8) + r.val, by omega⟩ ⟨(t.val / 8) % 8, by omega⟩ e := by
  unfold blkE attE
  simp only [read0, read1, read2, read3, read4, read5, read6, read7, coord2]

theorem final (i : S16384x1024.Idx) : (dats m 0 c).arrAt 8 cfg0.N i = resE m c (i 0) (i 1) := by
  refine (dats m 0 c).arrAt_forall_of_covers 8 (fun i v => v = resE m c (i 0) (i 1)) (by decide +kernel) (fun t hf y => ?_) i
  blk_simp
  rw [after0_8]
  have ht := lt_N t
  have hy : y = ix2 (n0 := 256) (n1 := 128) (y 0) (y 1) := by funext a; match a with | ⟨0, _⟩ => rfl | ⟨1, _⟩ => rfl
  have h0 : ((((cfg0.win 8).blk t).view.emb y 0 : Fin 16384) : Nat) = (8 * (t.val / 64) + t.val % 8) * 256 + (y 0).val := by
    blk_simp [index8 t]
  have h1 : ((((cfg0.win 8).blk t).view.emb y 1 : Fin 1024) : Nat) = ((t.val / 8) % 8) * 128 + (y 1).val := by
    blk_simp [index8 t]
  have hb0 : (y 0).val < 256 := (y 0).isLt
  have hb1 : (y 1).val < 128 := (y 1).isLt
  refine (congrArg (outsAt0 m c t.val t.isLt) hy).trans (((outsAt_apply (y 0) (y 1) m c t).trans (blkE_read m c t (y 0) (y 1))).trans ?_)
  unfold resE
  congr 1 <;> apply Fin.ext <;> simp only [h0, h1] <;> omega

end Cert.AttnL

end
-- ==== Proof.L3RefRead.lean ====
/- What the reference's result holds, at every row and column, of its argument arrays. For the last layer. -/
module

public import proofs.«01_k».proof.Proof.L3KArray
public import proofs.«01_k».proof.Proof.Gen.Attn3RefIdeal.Read

@[expose] public section

set_option maxRecDepth 16384

noncomputable section

namespace Cert.AttnL

open Cert.Attn Cert.Attn3RefIdeal Cert.Attn3RefIdeal.Read Idealize.ShloMosaic

variable (x0 x1 x2 : (⟨S16384x1024, .bf16⟩ : BufTy).Contents (Elt Ideal)) (x3 x4 x5 x6 : (⟨S64, .f32⟩ : BufTy).Contents (Elt Ideal))
  (x7 : (⟨S128, .f32⟩ : BufTy).Contents (Elt Ideal))

/-- Map `j`'s scores of row `n` of batch `b`, head `h`. -/
def refS (b h : Fin 8) (j : Fin 2) (n t : Fin 2048) : EReal :=
  if t.val / 64 ≤ n.val / 64 then
    ∑ d : Fin 64, x0 (ix2 ⟨b.val * 2048 + n.val, by omega⟩ ⟨h.val * 128 + j.val * 64 + d.val, by omega⟩)
      * x1 (ix2 ⟨b.val * 2048 + t.val, by omega⟩ ⟨h.val * 128 + j.val * 64 + d.val, by omega⟩) else ⊥

theorem score_read (b h : Fin 8) (j : Fin 2) (n t : Fin 2048) : val_main_v14 (F := Ideal) x0 x1 (ix5 b h j n t) =
    ∑ d : Fin 64, x0 (ix2 ⟨b.val * 2048 + n.val, by omega⟩ ⟨h.val * 128 + j.val * 64 + d.val, by omega⟩)
      * x1 (ix2 ⟨b.val * 2048 + t.val, by omega⟩ ⟨h.val * 128 + j.val * 64 + d.val, by omega⟩) := by
  rw [val_main_v14_apply]
  pointwise [val_main_v1, val_main_v3, val_main_v0, val_main_v2]

/-- Floor division of one word by 64, as the reference's host line spells it. -/
def sgnW (x : BitVec 32) : BitVec 32 := if x = 0 then 0 else if x.msb then -1 else 1
@[inherit_doc sgnW] def hdivW (x : BitVec 32) : BitVec 32 :=
  Scalar.select (IntOp.andi (IntOp.cmpi .ne (sgnW x) (sgnW 64#32)) (IntOp.cmpi .ne (IntOp.remsi .host x 64#32) 0#32))
    (IntOp.subi (IntOp.divsi .host x 64#32) 1#32) (IntOp.divsi .host x 64#32)

theorem hdivW_ofNat : ∀ n : Fin 2048, hdivW (BitVec.ofNat 32 n.val) = BitVec.ofNat 32 (n.val / 64) := by decide +kernel

theorem chunk0 (n : Fin 2048) : val_main_v16 (F := Ideal) (ix1 n) = BitVec.ofNat 32 (n.val / 64) := by
  simp only [val_main_v16_apply, val_main_call0_v0_apply, val_main_call0_v1_apply, val_main_call0_v2_apply, val_main_call0_v5_apply, val_main_call0_v6_apply, val_main_call0_v7_apply, val_main_call0_v8_apply, val_main_call0_c_apply, val_main_call0_v9_apply, val_main_call0_v10_apply, val_main_call0_v11_apply, val_main_call0_c_0_apply, val_main_call0_v12_apply, val_main_call0_v13_apply, val_main_call0_v3, val_main_call0_v4, val_main_v15_apply, val_main_c_apply, val_main_c_2_apply, signi]
  exact hdivW_ofNat n

theorem chunk1 (n : Fin 2048) : val_main_v18 (F := Ideal) (ix1 n) = BitVec.ofNat 32 (n.val / 64) := by
  simp only [val_main_v18_apply, val_main_call1_v0_apply, val_main_call1_v1_apply, val_main_call1_v2_apply, val_main_call1_v5_apply, val_main_call1_v6_apply, val_main_call1_v7_apply, val_main_call1_v8_apply, val_main_call1_c_apply, val_main_call1_v9_apply, val_main_call1_v10_apply, val_main_call1_v11_apply, val_main_call1_c_0_apply, val_main_call1_v12_apply, val_main_call1_v13_apply, val_main_call1_v3, val_main_call1_v4, val_main_v15_apply, val_main_c_apply, val_main_c_2_apply, signi]
  exact hdivW_ofNat n

theorem mask_read (n t : Fin 2048) : val_main_v22 (F := Ideal) (ix2 n t) = if t.val / 64 ≤ n.val / 64 then 1#1 else 0#1 := by
  pointwise [val_main_v22, val_main_v20, val_main_v21, val_main_v17, val_main_v19]
  rw [chunk0, chunk1]
  exact sle_chunk ⟨t.val / 64, by omega⟩ ⟨n.val / 64, by omega⟩

theorem masked_read (b h : Fin 8) (j : Fin 2) (n t : Fin 2048) : val_main_v23 (F := Ideal) x0 x1 (ix5 b h j n t) = refS x0 x1 b h j n t := by
  pointwise [val_main_v23, val_main_call2_v1, val_main_call2_v2, val_main_call2_v0, val_main_cst_3]
  have hc : (id (constant (F := Ideal) S_ .f32 0xFF800000#32) ix0 : EReal) = ⊥ := lit_bot
  rw [mask_read, score_read, hc]
  unfold refS
  split <;> rfl

theorem fold_read (b h : Fin 8) (j : Fin 2) (n : Fin 2048) :
    val_main_v24 (F := Ideal) x0 x1 (ix4 b h j n) = Finset.univ.sup (refS x0 x1 b h j n) := by
  pointwise [val_main_v24]
  have hc : val_main_cst_4 (F := Ideal) (Shape.Idx.first Gen.h_S_) = (⊥ : EReal) := (val_main_cst_4_apply _).trans lit_bot
  rw [hc]
  simp only [masked_read]
  rfl

theorem max_read (b h : Fin 8) (j : Fin 2) (n : Fin 2048) :
    val_main_v26 (F := Ideal) x0 x1 (ix4 b h j n) = Finset.univ.sup (refS x0 x1 b h j n) := by
  rw [val_main_v26_apply, val_main_v25_apply, val_main_cst_5_apply, fold_read]
  refine Eq.trans ?_ (bot_sup_eq (Finset.univ.sup (refS x0 x1 b h j n)))
  generalize Finset.univ.sup (refS x0 x1 b h j n) = M
  exact congrArg (· ⊔ M) lit_bot

theorem exp_read (b h : Fin 8) (j : Fin 2) (n t : Fin 2048) : val_main_v30 (F := Ideal) x0 x1 (ix5 b h j n t)
    = Ideal.exp (refS x0 x1 b h j n t - Finset.univ.sup (refS x0 x1 b h j n)) := by
  pointwise [val_main_v30, val_main_v29, val_main_v28, val_main_v27]
  rw [masked_read, max_read]

theorem sum_read (b h : Fin 8) (j : Fin 2) (n : Fin 2048) : val_main_v31 (F := Ideal) x0 x1 (ix4 b h j n)
    = ∑ t, Ideal.exp (refS x0 x1 b h j n t - Finset.univ.sup (refS x0 x1 b h j n)) := by
  pointwise [val_main_v31, val_main_cst_6]
  simp only [exp_read]

/-- The softmax weight of key `t`. -/
def wt (S : Fin 2048 → EReal) (t : Fin 2048) : EReal :=
  Ideal.div (Ideal.exp (S t - Finset.univ.sup S)) (∑ t, Ideal.exp (S t - Finset.univ.sup S))

theorem wt_read (b h : Fin 8) (j : Fin 2) (n t : Fin 2048) : val_main_v34 (F := Ideal) x0 x1 (ix5 b h j n t) = wt (refS x0 x1 b h j n) t := by
  pointwise [val_main_v34, val_main_v33, val_main_v32]
  rw [exp_read, sum_read]; rfl

end Cert.AttnL

end
-- ==== Proof.L3RefOut.lean ====
/- What the reference's result holds, at every row and column, of its argument arrays. For the last layer. -/
module

public import proofs.«01_k».proof.Proof.L3RefRead
public import proofs.«01_k».proof.Proof.Gen.Attn3RefIdeal.Read

@[expose] public section

set_option maxRecDepth 16384

noncomputable section

namespace Cert.AttnL

open Cert.Attn Cert.Attn3RefIdeal Cert.Attn3RefIdeal.Read Idealize.ShloMosaic

variable (x0 x1 x2 : (⟨S16384x1024, .bf16⟩ : BufTy).Contents (Elt Ideal)) (x3 x4 x5 x6 : (⟨S64, .f32⟩ : BufTy).Contents (Elt Ideal))
  (x7 : (⟨S128, .f32⟩ : BufTy).Contents (Elt Ideal))

theorem lit_zero : Ideal.ofBits .f32 0x00000000#32 = (0 : EReal) := by simp [Ideal.ofBits, Ideal.ieee]

theorem lam_read (i : S_.Idx) : val_main_v13 (F := Ideal) x3 x4 x5 x6 i
    = lamE (fun l => x3 (ix1 l)) (fun l => x4 (ix1 l)) (fun l => x5 (ix1 l)) (fun l => x6 (ix1 l)) := by
  pointwise [val_main_v13, val_main_v12, val_main_v11, val_main_v10, val_main_v9, val_main_v8, val_main_v7, val_main_v6]
  simp only [val_main_cst_apply, val_main_cst_0_apply, val_main_cst_1_apply]
  have hz : FloatOps.ofBits (F := Ideal) .f32 0x00000000#32 = (0 : EReal) := lit_zero
  rw [hz, zero_add, zero_add]
  rfl

theorem diff_read (b h : Fin 8) (n t : Fin 2048) : val_main_v41 (F := Ideal) x0 x1 x3 x4 x5 x6 (ix4 b h n t)
    = wt (refS x0 x1 b h 0 n) t - lamE (fun l => x3 (ix1 l)) (fun l => x4 (ix1 l)) (fun l => x5 (ix1 l)) (fun l => x6 (ix1 l)) * wt (refS x0 x1 b h 1 n) t := by
  have e0 : idx_main_v35 (idx_main_v36 (ix4 b h n t)) = ix5 b h 0 n t := by
    funext a
    match a with
    | ⟨0, _⟩ => exact Fin.ext (by show (((b.val * 8 + h.val) * 2048 + n.val) * 2048 + t.val) / 33554432 = b.val; omega)
    | ⟨1, _⟩ => exact Fin.ext (by show (((b.val * 8 + h.val) * 2048 + n.val) * 2048 + t.val) / 4194304 % 8 = h.val; omega)
    | ⟨2, _⟩ => rfl
    | ⟨3, _⟩ => exact Fin.ext (by show (((b.val * 8 + h.val) * 2048 + n.val) * 2048 + t.val) / 2048 % 2048 = n.val; omega)
    | ⟨4, _⟩ => exact Fin.ext (by show (((b.val * 8 + h.val) * 2048 + n.val) * 2048 + t.val) % 2048 = t.val; omega)
  have e1 : idx_main_v37 (idx_main_v38 (ix4 b h n t)) = ix5 b h 1 n t := by
    funext a
    match a with
    | ⟨0, _⟩ => exact Fin.ext (by show (((b.val * 8 + h.val) * 2048 + n.val) * 2048 + t.val) / 33554432 = b.val; omega)
    | ⟨1, _⟩ => exact Fin.ext (by show (((b.val * 8 + h.val) * 2048 + n.val) * 2048 + t.val) / 4194304 % 8 = h.val; omega)
    | ⟨2, _⟩ => rfl
    | ⟨3, _⟩ => exact Fin.ext (by show (((b.val * 8 + h.val) * 2048 + n.val) * 2048 + t.val) / 2048 % 2048 = n.val; omega)
    | ⟨4, _⟩ => exact Fin.ext (by show (((b.val * 8 + h.val) * 2048 + n.val) * 2048 + t.val) % 2048 = t.val; omega)
  rw [val_main_v41_apply, val_main_v36_apply, val_main_v35_apply, val_main_v40_apply, val_main_v39_apply, val_main_v38_apply,
    val_main_v37_apply, e0, e1, wt_read, wt_read, lam_read]
  rfl

/-- Lane `e` of head `h` before its norm. -/
def refO (b h : Fin 8) (n : Fin 2048) (e : Fin 128) : EReal :=
  ∑ t : Fin 2048, x2 (ix2 ⟨b.val * 2048 + t.val, by omega⟩ ⟨h.val * 128 + e.val, by omega⟩)
    * (wt (refS x0 x1 b h 0 n) t - lamE (fun l => x3 (ix1 l)) (fun l => x4 (ix1 l)) (fun l => x5 (ix1 l)) (fun l => x6 (ix1 l)) * wt (refS x0 x1 b h 1 n) t)

theorem out_read (b h : Fin 8) (n : Fin 2048) (e : Fin 128) :
    val_main_v43 (F := Ideal) x0 x1 x2 x3 x4 x5 x6 (ix4 b n h e) = refO x0 x1 x2 x3 x4 x5 x6 b h n e := by
  pointwise [val_main_v43]
  rw [val_main_v42_apply]
  pointwise [val_main_v5, val_main_v4]
  refine Finset.sum_congr rfl fun t _ => ?_
  have hr : ridx_main_v42 (ix4 b h e n) t = ix4 b h n t := by
    funext a
    match a with
    | ⟨0, _⟩ => rfl
    | ⟨1, _⟩ => rfl
    | ⟨2, _⟩ => rfl
    | ⟨3, _⟩ => rfl
  rw [hr, diff_read]

theorem norm_read (b h : Fin 8) (n : Fin 2048) (e : Fin 128) :
    val_main_v58 (F := Ideal) x0 x1 x2 x3 x4 x5 x6 x7 (ix4 b n h e) = normE (refO x0 x1 x2 x3 x4 x5 x6 b h n) (fun l => x7 (ix1 l)) e := by
  pointwise [val_main_v58, val_main_v57, val_main_v56, val_main_v55, val_main_v54, val_main_v53, val_main_v52, val_main_v51, val_main_v50, val_main_v49,
    val_main_v48, val_main_v47, val_main_v46, val_main_v45, val_main_v44]
  simp only [out_read, val_main_cst_7_apply, val_main_cst_8_apply, val_main_cst_9_apply, val_main_cst_10_apply]
  have hz : FloatOps.ofBits (F := Ideal) .f32 0x00000000#32 = (0 : EReal) := lit_zero
  rw [hz, zero_add]
  rfl

theorem ref_read (R : Fin 16384) (C : Fin 1024) : val_main_v60 (F := Ideal) x0 x1 x2 x3 x4 x5 x6 x7 (ix2 R C)
    = normE (refO x0 x1 x2 x3 x4 x5 x6 ⟨R.val / 2048, by omega⟩ ⟨C.val / 128, by omega⟩ ⟨R.val % 2048, by omega⟩) (fun l => x7 (ix1 l)) ⟨C.val % 128, by omega⟩ := by
  rw [← norm_read]
  pointwise [val_main_v60, val_main_v59]

end Cert.AttnL

end
-- ==== Proof.L3Equation.lean ====
/- The kernel's array is the reference's, where the queries, keys, values and lambda weights are real numbers. For the last layer. -/
module

public import proofs.«01_k».proof.Proof.L3RefOut
public import proofs.«01_k».proof.Proof.Reals

@[expose] public section

set_option maxRecDepth 16384

noncomputable section

namespace Cert.AttnL

open Cert.Attn Cert.Attn3RefIdeal Cert.Attn3RefIdeal.Read Idealize.ShloMosaic

theorem lamE_real {a b c d : Fin 64 → EReal} (ha : ∀ l, IsReal (a l)) (hb : ∀ l, IsReal (b l)) (hc : ∀ l, IsReal (c l))
    (hd : ∀ l, IsReal (d l)) : IsReal (lamE a b c d) := by
  have hk : IsReal (Ideal.ofBits .f32 0x3F0E59D5#32) := by
    simp [Ideal.ofBits, Ideal.ieee]
    exact IsReal.mul ⟨_, rfl⟩ ⟨_, rfl⟩
  exact ((IsReal.sum fun l => (ha l).mul (hb l)).exp.sub (IsReal.sum fun l => (hc l).mul (hd l)).exp).add hk

variable (x0 x1 x2 : (⟨S16384x1024, .bf16⟩ : BufTy).Contents (Elt Ideal)) (x3 x4 x5 x6 : (⟨S64, .f32⟩ : BufTy).Contents (Elt Ideal))
  (x7 : (⟨S128, .f32⟩ : BufTy).Contents (Elt Ideal))
  (h0 : ∀ i, IsReal (x0 i)) (h1 : ∀ i, IsReal (x1 i)) (h2 : ∀ i, IsReal (x2 i)) (h3 : ∀ i, IsReal (x3 i)) (h4 : ∀ i, IsReal (x4 i))
  (h5 : ∀ i, IsReal (x5 i)) (h6 : ∀ i, IsReal (x6 i)) (b h : Fin 8) (n : Fin 2048)

include h0 h1 in
theorem refS_real (j : Fin 2) (t : Fin 2048) : refS x0 x1 b h j n t ≠ ⊤ := by
  unfold refS
  split
  · exact (IsReal.sum fun d => (h0 _).mul (h1 _)).ne_top
  · exact bot_ne_top

include h0 h1 in
theorem refS_seen (j : Fin 2) : refS x0 x1 b h j n n ≠ ⊥ := by
  unfold refS
  rw [if_pos le_rfl]
  exact (IsReal.sum fun d => (h0 _).mul (h1 _)).ne_bot

include h0 h1 h2 h3 h4 h5 h6 in
/-- The kernel's row is the reference's. -/
theorem att_eq (e : Fin 128) :
    attE (fun R C => x0 (ix2 R C)) (fun R C => x1 (ix2 R C)) (fun R C => x2 (ix2 R C)) (fun l => x3 (ix1 l)) (fun l => x4 (ix1 l))
        (fun l => x5 (ix1 l)) (fun l => x6 (ix1 l)) (fun l => x7 (ix1 l)) b n h e
      = normE (refO x0 x1 x2 x3 x4 x5 x6 b h n) (fun l => x7 (ix1 l)) e := by
  have s0 : (fun t : Fin 2048 => if t.val / 64 ≤ n.val / 64 then
      ∑ d : Fin 64, x0 (ix2 ⟨2048 * b.val + n.val, by omega⟩ ⟨128 * h.val + d.val, by omega⟩)
        * x1 (ix2 ⟨2048 * b.val + t.val, by omega⟩ ⟨128 * h.val + d.val, by omega⟩) else (⊥ : EReal)) = refS x0 x1 b h 0 n := by
    funext t
    unfold refS
    refine if_congr Iff.rfl (Finset.sum_congr rfl fun d _ => congrArg₂ (· * ·) (congrArg x0 (congrArg₂ ix2 ?_ ?_)) (congrArg x1 (congrArg₂ ix2 ?_ ?_))) rfl
      <;> apply Fin.ext <;> dsimp only [Fin.val_zero] <;> omega
  have s1 : (fun t : Fin 2048 => if t.val / 64 ≤ n.val / 64 then
      ∑ d : Fin 64, x0 (ix2 ⟨2048 * b.val + n.val, by omega⟩ ⟨128 * h.val + (64 + d.val), by omega⟩)
        * x1 (ix2 ⟨2048 * b.val + t.val, by omega⟩ ⟨128 * h.val + (64 + d.val), by omega⟩) else (⊥ : EReal)) = refS x0 x1 b h 1 n := by
    funext t
    unfold refS
    refine if_congr Iff.rfl (Finset.sum_congr rfl fun d _ => congrArg₂ (· * ·) (congrArg x0 (congrArg₂ ix2 ?_ ?_)) (congrArg x1 (congrArg₂ ix2 ?_ ?_))) rfl
      <;> apply Fin.ext <;> dsimp only [Fin.val_one] <;> omega
  unfold attE rowE
  rw [s0, s1]
  refine congrArg (fun o => normE o _ e) (funext fun l => ?_)
  rw [soft_sub _ _ _ _ (refS_real x0 x1 h0 h1 b h n 0) (refS_real x0 x1 h0 h1 b h n 1) n n (refS_seen x0 x1 h0 h1 b h n 0)
    (refS_seen x0 x1 h0 h1 b h n 1) (fun t => h2 _) (lamE_real (fun l => h3 _) (fun l => h4 _) (fun l => h5 _) (fun l => h6 _))]
  unfold refO
  refine Finset.sum_congr rfl fun t _ => congrArg (· * _) (congrArg x2 (congrArg₂ ix2 ?_ ?_)) <;> apply Fin.ext <;> dsimp only <;> omega

end Cert.AttnL

end
-- ==== Proof.L3AttnClaims.lean ====
/- The attention's value claim: the two runs leave the same array, given that the precondition makes the arguments real. For the last layer. -/
module

public import proofs.«01_k».proof.Proof.L3Equation
public import proofs.«01_k».proof.Proof.AttnClaims
public import proofs.«01_k».proof.Proof.Gen.Attn3RefIdeal.Run
public import proofs.«01_k».proof.Proof.Gen.Attn3RefIdeal
public import proofs.«01_k».proof.Proof.Gen.Attn3Ideal
public import proofs.«01_k».proof.Defs

@[expose] public section

set_option maxRecDepth 16384

noncomputable section

namespace Cert.AttnL

open Cert.Attn Idealize.ShloMosaic Idealize.SL.Sem

variable (m : (ℓ : Loc Cert.Attn3Ideal.nD Cert.Attn3Ideal.τ Cert.Attn3Ideal.sig) → Buf (Elt Ideal) ℓ)
  (m' : (ℓ : Loc Cert.Attn3RefIdeal.nD Cert.Attn3RefIdeal.τ Cert.Attn3RefIdeal.sig) → Buf (Elt Ideal) ℓ)

theorem arrays_eq (hpre : Cert.Pre_Attn3Ideal_finite m) (c : Dev Cert.Attn3Ideal.nD)
    (h0 : m' ((c.tc : Thread Cert.Attn3RefIdeal.nD Cert.Attn3RefIdeal.τ).loc Cert.Attn3RefIdeal.main_arg0) = m ((c.tc : Thread Cert.Attn3Ideal.nD Cert.Attn3Ideal.τ).loc Cert.Attn3Ideal.main_arg0))
    (h1 : m' ((c.tc : Thread Cert.Attn3RefIdeal.nD Cert.Attn3RefIdeal.τ).loc Cert.Attn3RefIdeal.main_arg1) = m ((c.tc : Thread Cert.Attn3Ideal.nD Cert.Attn3Ideal.τ).loc Cert.Attn3Ideal.main_arg1))
    (h2 : m' ((c.tc : Thread Cert.Attn3RefIdeal.nD Cert.Attn3RefIdeal.τ).loc Cert.Attn3RefIdeal.main_arg2) = m ((c.tc : Thread Cert.Attn3Ideal.nD Cert.Attn3Ideal.τ).loc Cert.Attn3Ideal.main_arg2))
    (h3 : m' ((c.tc : Thread Cert.Attn3RefIdeal.nD Cert.Attn3RefIdeal.τ).loc Cert.Attn3RefIdeal.main_arg3) = m ((c.tc : Thread Cert.Attn3Ideal.nD Cert.Attn3Ideal.τ).loc Cert.Attn3Ideal.main_arg3))
    (h4 : m' ((c.tc : Thread Cert.Attn3RefIdeal.nD Cert.Attn3RefIdeal.τ).loc Cert.Attn3RefIdeal.main_arg4) = m ((c.tc : Thread Cert.Attn3Ideal.nD Cert.Attn3Ideal.τ).loc Cert.Attn3Ideal.main_arg4))
    (h5 : m' ((c.tc : Thread Cert.Attn3RefIdeal.nD Cert.Attn3RefIdeal.τ).loc Cert.Attn3RefIdeal.main_arg5) = m ((c.tc : Thread Cert.Attn3Ideal.nD Cert.Attn3Ideal.τ).loc Cert.Attn3Ideal.main_arg5))
    (h6 : m' ((c.tc : Thread Cert.Attn3RefIdeal.nD Cert.Attn3RefIdeal.τ).loc Cert.Attn3RefIdeal.main_arg6) = m ((c.tc : Thread Cert.Attn3Ideal.nD Cert.Attn3Ideal.τ).loc Cert.Attn3Ideal.main_arg6))
    (h7 : m' ((c.tc : Thread Cert.Attn3RefIdeal.nD Cert.Attn3RefIdeal.τ).loc Cert.Attn3RefIdeal.main_arg7) = m ((c.tc : Thread Cert.Attn3Ideal.nD Cert.Attn3Ideal.τ).loc Cert.Attn3Ideal.main_arg7)) :
    Cert.Attn3RefIdeal.Value.res_main_v60 m' c = (Cert.Attn3Ideal.Gen.dats m 0 c).arrAt 8 Cert.Attn3Ideal.cfg0.N := by
  obtain ⟨p0, p1, p2, p3, p4, p5, p6⟩ := hpre c
  rw [Cert.Attn3RefIdeal.Read.val_main_v60_eq, h0, h1, h2, h3, h4, h5, h6, h7]
  funext i
  have hi : i = ix2 (n0 := 16384) (n1 := 1024) (i 0) (i 1) := by funext a; match a with | ⟨0, _⟩ => rfl | ⟨1, _⟩ => rfl
  refine Eq.trans ?_ (final m c i).symm
  refine (congrArg (Cert.Attn3RefIdeal.Read.val_main_v60 (F := Ideal) _ _ _ _ _ _ _ _) hi).trans ?_
  refine (ref_read _ _ _ _ _ _ _ _ (i 0) (i 1)).trans ?_
  refine (att_eq _ _ _ _ _ _ _ _ (real_of_mask _ _ (fun _ => inf_bf16) p0) (real_of_mask _ _ (fun _ => inf_bf16) p1) (real_of_mask _ _ (fun _ => inf_bf16) p2)
    (real_of_mask _ _ (fun _ => inf_f32) p3) (real_of_mask _ _ (fun _ => inf_f32) p4) (real_of_mask _ _ (fun _ => inf_f32) p5)
    (real_of_mask _ _ (fun _ => inf_f32) p6) _ _ _ _).symm

theorem algebraic : Cert.algebraic_Attn3Ideal_Attn3RefIdeal_pre_finite := fun m g m' g' hpre hagree =>
  ⟨fun c => (Cert.Attn3Ideal.Gen.dats m 0 c).arrAt 8 Cert.Attn3Ideal.cfg0.N, Cert.Attn3Ideal.Value.run_blocks m g,
    (θ_run Cert.Attn3RefIdeal.defs _ _).mono (fun r h c => by
      obtain ⟨h0, h1, h2, h3, h4, h5, h6, h7⟩ := hagree c
      exact ⟨(h c).1.trans (arrays_eq m m' hpre c h0 h1 h2 h3 h4 h5 h6 h7), (h c).2⟩) (Cert.Attn3RefIdeal.Value.run m' g')⟩

theorem frame_ref : Cert.quiescent_Attn3RefIdeal := fun m ρ _ =>
  (θ_run Cert.Attn3RefIdeal.defs _ _).mono (fun r h => ⟨fun c => (h c).2, sem_eq_zero_of_no_sems (by decide) r.2⟩)
    (Cert.Attn3RefIdeal.Value.run m ρ)

/-- The reference's frame on the same memories as the value claim's. -/
theorem frame_ref_pre : Cert.quiescent_Attn3RefIdeal_pre_finite := fun m ρ _ =>
  (θ_run Cert.Attn3RefIdeal.defs _ _).mono (fun r h => ⟨fun c => (h c).2, sem_eq_zero_of_no_sems (by decide) r.2⟩)
    (Cert.Attn3RefIdeal.Value.run m ρ)

end Cert.AttnL

end
-- ==== Proof.OutDiff.lean ====
/- The output projection of an odd layer: the kernel's array and the reference's result are the same sum at every row and column. -/
module

public import proofs.«01_k».proof.Proof.Gen.OutDiffIdeal.Value
public import proofs.«01_k».proof.Proof.Gen.OutDiffIdeal
public import proofs.«01_k».proof.Proof.Gen.OutDiffRefIdeal.Run
public import proofs.«01_k».proof.Proof.Gen.OutDiffRefIdeal.Read
public import proofs.«01_k».proof.Proof.Gen.OutDiffRefIdeal
public import proofs.«01_k».proof.Defs
public import Idealize.ShloMosaic.Lib.Pipeline.ValueKit
public import Idealize.ShloMosaic.Lib.Pointwise

@[expose] public section

set_option maxRecDepth 16384

noncomputable section

namespace Cert.OutD

open Idealize.ShloMosaic Idealize.SL.Sem

/-- The residual at row `R`, column `C`. -/
def resid (x : Fin 16384 → Fin 1024 → EReal) (g : Fin 8 → Fin 1024 → EReal) (y : Fin 16384 → Fin 1024 → EReal)
    (w : Fin 1024 → Fin 1024 → EReal) (R : Fin 16384) (C : Fin 1024) : EReal :=
  x R C + g ⟨R.val / 2048, by omega⟩ C * ∑ k : Fin 1024, y R k * w k C

section kernel
open Cert.OutDiffIdeal Cert.OutDiffIdeal.Gen Idealize.ShloMosaic.TcCoe

theorem pay_apply (y : Vec Ideal S512x1024 .bf16) (w : Vec Ideal S1024x1024 .bf16) (x : Vec Ideal S512x1024 .f32) (g : Vec Ideal S1x1x1024 .f32)
    (r : Fin 512) (l : Fin 1024) :
    k0_pay1 (F := Ideal) y w x g (ix2 r l) = x (ix2 r l) + g (ix3 0 0 l) * ∑ k : Fin 1024, y (ix2 r k) * w (ix2 k l) := by
  pointwise [k0_pay1, dot_S512x1024_S1024x1024_S512x1024_1_0_0_1_n_n]

theorem out_eq (x : Vec Ideal S512x1024 .f32) (g : Vec Ideal S1x1x1024 .f32) (y : Vec Ideal S512x1024 .bf16) (w : Vec Ideal S1024x1024 .bf16) :
    out0_4 x g y w = k0_pay1 y w x g := by
  frame_out

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![t.val / 4, 0, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![t.val, 0] := by decide +kernel

variable (t : Fin cfg0.N)

theorem lt_N : t.val < 32 := lt_of_lt_of_eq t.isLt N_0

theorem read0 (r : Fin 512) (l : Fin 1024) : iblk m c 0 t (ix2 r l) =
    m ((c : Thread nD τ).loc main_arg0) (ix2 ⟨t.val * 512 + r.val, by have := lt_N t; omega⟩ l) := by
  blk_ext! [iblk, V_main_arg0, index0 t]
theorem read1 (l : Fin 1024) : iblk m c 1 t (ix3 0 0 l) =
    m ((c : Thread nD τ).loc main_arg1) (ix3 ⟨t.val / 4, by have := lt_N t; omega⟩ 0 l) := by
  blk_ext! [iblk, V_main_arg1, index1 t]
theorem read2 (r : Fin 512) (l : Fin 1024) : iblk m c 2 t (ix2 r l) =
    m ((c : Thread nD τ).loc main_arg2) (ix2 ⟨t.val * 512 + r.val, by have := lt_N t; omega⟩ l) := by
  blk_ext! [iblk, V_main_arg2, index2 t]
theorem read3 (k l : Fin 1024) : iblk m c 3 t (ix2 k l) = m ((c : Thread nD τ).loc main_arg3) (ix2 k l) := by
  blk_ext! [iblk, V, index3 t]

theorem blk_val (r : Fin 512) (l : Fin 1024) :
    k0_pay1 (F := Ideal) (iblk m c 2 t) (iblk m c 3 t) (iblk m c 0 t) (iblk m c 1 t) (ix2 r l) =
    resid (fun R C => m ((c : Thread nD τ).loc main_arg0) (ix2 R C)) (fun b C => m ((c : Thread nD τ).loc main_arg1) (ix3 b 0 C))
      (fun R C => m ((c : Thread nD τ).loc main_arg2) (ix2 R C)) (fun k C => m ((c : Thread nD τ).loc main_arg3) (ix2 k C))
      ⟨t.val * 512 + r.val, by have := lt_N t; omega⟩ l := by
  rw [pay_apply, read0, read1]
  simp only [read2, read3]
  have hd : t.val / 4 = (t.val * 512 + r.val) / 2048 := by omega
  unfold resid
  simp only [hd]

theorem final (i : S16384x1024.Idx) : (dats m 0 c).arrAt 4 cfg0.N i =
    resid (fun R C => m ((c : Thread nD τ).loc main_arg0) (ix2 R C)) (fun b C => m ((c : Thread nD τ).loc main_arg1) (ix3 b 0 C))
      (fun R C => m ((c : Thread nD τ).loc main_arg2) (ix2 R C)) (fun k C => m ((c : Thread nD τ).loc main_arg3) (ix2 k C)) (i 0) (i 1) := by
  refine (dats m 0 c).arrAt_forall_of_covers 4 (fun i v => v =
    resid (fun R C => m ((c : Thread nD τ).loc main_arg0) (ix2 R C)) (fun b C => m ((c : Thread nD τ).loc main_arg1) (ix3 b 0 C))
      (fun R C => m ((c : Thread nD τ).loc main_arg2) (ix2 R C)) (fun k C => m ((c : Thread nD τ).loc main_arg3) (ix2 k C)) (i 0) (i 1))
    (by decide +kernel) (fun t hf y => ?_) i
  blk_simp
  rw [after0_4, out_eq]
  have hy : y = ix2 (n0 := 512) (n1 := 1024) (y 0) (y 1) := by funext a; match a with | ⟨0, _⟩ => rfl | ⟨1, _⟩ => rfl
  have h0 : ((((cfg0.win 4).blk t).view.emb y 0 : Fin 16384) : Nat) = t.val * 512 + (y 0).val := by blk_simp [index4 t]
  have h1 : ((((cfg0.win 4).blk t).view.emb y 1 : Fin 1024) : Nat) = (y 1).val := by blk_simp [index4 t]
  exact (congrArg _ hy).trans ((blk_val m c t (y 0) (y 1)).trans (congrArg₂ _ (Fin.ext h0.symm) (Fin.ext h1.symm)))
end kernel

section reference
open Cert.OutDiffRefIdeal Cert.OutDiffRefIdeal.Read

variable (x0 : (⟨S16384x1024, .f32⟩ : BufTy).Contents (Elt Ideal)) (x1 : (⟨S8x1x1024, .f32⟩ : BufTy).Contents (Elt Ideal))
  (x2 : (⟨S16384x1024, .bf16⟩ : BufTy).Contents (Elt Ideal)) (x3 : (⟨S1024x1024, .f32⟩ : BufTy).Contents (Elt Ideal))

theorem ref_read (R : Fin 16384) (C : Fin 1024) : val_main_v7 (F := Ideal) x0 x1 x2 x3 (ix2 R C) =
    resid (fun R C => x0 (ix2 R C)) (fun b C => x1 (ix3 b 0 C)) (fun R C => x2 (ix2 R C)) (fun k C => x3 (ix2 k C)) R C := by
  have e : idx_main_v7 (ix2 R C) = ix3 (⟨R.val / 2048, by omega⟩ : Fin 8) (⟨R.val % 2048, by omega⟩ : Fin 2048) C := by
    funext a
    match a with
    | ⟨0, _⟩ => exact Fin.ext (by show (R.val * 1024 + C.val) / 2097152 = R.val / 2048; omega)
    | ⟨1, _⟩ => exact Fin.ext (by show (R.val * 1024 + C.val) / 1024 % 2048 = R.val % 2048; omega)
    | ⟨2, _⟩ => exact Fin.ext (by show (R.val * 1024 + C.val) % 1024 = C.val; omega)
  rw [val_main_v7_apply, e, val_main_v6_apply, val_main_v5_apply, val_main_v3_apply]
  have hX : ∀ k : Fin 1024, idx_main_v0 (ix3 (⟨R.val / 2048, by omega⟩ : Fin 8) (⟨R.val % 2048, by omega⟩ : Fin 2048) k) = ix2 R k := fun k => by
    funext a
    match a with
    | ⟨0, _⟩ => exact Fin.ext (by show ((R.val / 2048 * 2048 + R.val % 2048) * 1024 + k.val) / 1024 = R.val; omega)
    | ⟨1, _⟩ => exact Fin.ext (by show ((R.val / 2048 * 2048 + R.val % 2048) * 1024 + k.val) % 1024 = k.val; omega)
  have hL : ∀ k : Fin 1024, lidx_main_v3 (ix3 (⟨R.val / 2048, by omega⟩ : Fin 8) (⟨R.val % 2048, by omega⟩ : Fin 2048) C) k
      = ix3 (⟨R.val / 2048, by omega⟩ : Fin 8) (⟨R.val % 2048, by omega⟩ : Fin 2048) k := fun k => by
    funext a; match a with | ⟨0, _⟩ => rfl | ⟨1, _⟩ => rfl | ⟨2, _⟩ => rfl
  have hR : ∀ k : Fin 1024, ridx_main_v3 (ix3 (⟨R.val / 2048, by omega⟩ : Fin 8) (⟨R.val % 2048, by omega⟩ : Fin 2048) C) k = ix2 k C := fun k => by
    funext a; match a with | ⟨0, _⟩ => rfl | ⟨1, _⟩ => rfl
  have hG : idx_main_v4 (ix3 (⟨R.val / 2048, by omega⟩ : Fin 8) (⟨R.val % 2048, by omega⟩ : Fin 2048) C) = ix3 (⟨R.val / 2048, by omega⟩ : Fin 8) (0 : Fin 1) C := by
    funext a; match a with | ⟨0, _⟩ => rfl | ⟨1, _⟩ => rfl | ⟨2, _⟩ => rfl
  simp only [hL, hR, val_main_v2_apply, val_main_v1_apply, val_main_v0_apply, val_main_v4_apply, hG]
  rw [hX C]
  unfold resid
  refine congrArg₂ _ rfl (congrArg₂ _ rfl (Finset.sum_congr rfl fun k _ => congrArg₂ _ (congrArg x2 (hX k)) rfl))

theorem frame_ref : Cert.quiescent_OutDiffRefIdeal := fun m ρ _ =>
  (θ_run Cert.OutDiffRefIdeal.defs _ _).mono (fun r h => ⟨fun c => (h c).2, sem_eq_zero_of_no_sems (by decide) r.2⟩)
    (Cert.OutDiffRefIdeal.Value.run m ρ)
end reference

theorem algebraic : Cert.algebraic_OutDiffIdeal_OutDiffRefIdeal := fun m g m' g' _ hagree =>
  ⟨fun c => (Cert.OutDiffIdeal.Gen.dats m 0 c).arrAt 4 Cert.OutDiffIdeal.cfg0.N, Cert.OutDiffIdeal.Value.run_blocks m g,
    (θ_run Cert.OutDiffRefIdeal.defs _ _).mono (fun r h c => by
      obtain ⟨h0, h1, h2, h3⟩ := hagree c
      refine ⟨(h c).1.trans ((Cert.OutDiffRefIdeal.Read.val_main_v7_eq _ _ _ _).trans ?_), (h c).2⟩
      rw [h0, h1, h2, h3]
      funext i
      have hi : i = ix2 (n0 := 16384) (n1 := 1024) (i 0) (i 1) := by funext a; match a with | ⟨0, _⟩ => rfl | ⟨1, _⟩ => rfl
      exact ((congrArg _ hi).trans (ref_read _ _ _ _ (i 0) (i 1))).trans (final m c i).symm) (Cert.OutDiffRefIdeal.Value.run m' g')⟩

end Cert.OutD

end
-- ==== Proof.OutHyb.lean ====
/- The output projection of an even layer: the kernel's array and the reference's result are the same sum at every row and column. -/
module

public import proofs.«01_k».proof.Proof.Gen.OutHybIdeal.Value
public import proofs.«01_k».proof.Proof.Gen.OutHybIdeal
public import proofs.«01_k».proof.Proof.Gen.OutHybRefIdeal.Run
public import proofs.«01_k».proof.Proof.Gen.OutHybRefIdeal.Read
public import proofs.«01_k».proof.Proof.Gen.OutHybRefIdeal
public import proofs.«01_k».proof.Defs
public import Idealize.ShloMosaic.Lib.Pipeline.ValueKit
public import Idealize.ShloMosaic.Lib.Pointwise

@[expose] public section

set_option maxRecDepth 16384

noncomputable section

namespace Cert.OutH

open Idealize.ShloMosaic Idealize.SL.Sem

/-- Row `R` of the two halves side by side, at column `k`. -/
def side (ya yb : Fin 16384 → Fin 512 → EReal) (R : Fin 16384) (k : Fin 1024) : EReal :=
  if h : k.val < 512 then ya R ⟨k.val, h⟩ else yb R ⟨k.val - 512, by omega⟩

/-- The residual at row `R`, column `C`. -/
def resid (x : Fin 16384 → Fin 1024 → EReal) (g : Fin 8 → Fin 1024 → EReal) (ya yb : Fin 16384 → Fin 512 → EReal)
    (w : Fin 1024 → Fin 1024 → EReal) (R : Fin 16384) (C : Fin 1024) : EReal :=
  x R C + g ⟨R.val / 2048, by omega⟩ C * ∑ k : Fin 1024, side ya yb R k * w k C

/-- The sum over all columns is the sum over the first half and the sum over the second. -/
theorem sum_halves (ya yb : Fin 16384 → Fin 512 → EReal) (f : Fin 1024 → EReal) (R : Fin 16384) :
    ∑ k : Fin 1024, side ya yb R k * f k =
    (∑ k : Fin 512, ya R k * f ⟨k.val, by omega⟩) + ∑ k : Fin 512, yb R k * f ⟨512 + k.val, by omega⟩ := by
  refine (Fin.sum_univ_add (a := 512) (b := 512) (fun k : Fin (512 + 512) => side ya yb R k * f k)).trans (congrArg₂ _ ?_ ?_)
  · refine Finset.sum_congr rfl fun k _ => ?_
    have h : (Fin.castAdd 512 k : Fin 1024).val < 512 := k.isLt
    exact congrArg₂ _ (dif_pos h) rfl
  · refine Finset.sum_congr rfl fun k _ => ?_
    have h : ¬ (Fin.natAdd 512 k : Fin 1024).val < 512 := by show ¬ (512 + k.val < 512); omega
    refine congrArg₂ _ ((dif_neg h).trans (congrArg (yb R) (Fin.ext ?_))) rfl
    show 512 + k.val - 512 = k.val
    omega

section kernel
open Cert.OutHybIdeal Cert.OutHybIdeal.Gen Idealize.ShloMosaic.TcCoe

theorem pay_apply (ya : Vec Ideal S512x512 .bf16) (wa : Vec Ideal S512x1024 .bf16) (yb : Vec Ideal S512x512 .bf16) (wb : Vec Ideal S512x1024 .bf16)
    (x : Vec Ideal S512x1024 .f32) (g : Vec Ideal S1x1x1024 .f32) (r : Fin 512) (l : Fin 1024) :
    k0_pay1 (F := Ideal) ya wa yb wb x g (ix2 r l) =
    x (ix2 r l) + g (ix3 0 0 l) * ((∑ k : Fin 512, ya (ix2 r k) * wa (ix2 k l)) + ∑ k : Fin 512, yb (ix2 r k) * wb (ix2 k l)) := by
  pointwise [k0_pay1, dot_S512x512_S512x1024_S512x1024_1_0_0_1_n_n]

theorem out_eq (x : Vec Ideal S512x1024 .f32) (g : Vec Ideal S1x1x1024 .f32) (ya yb : Vec Ideal S512x512 .bf16) (wa wb : Vec Ideal S512x1024 .bf16) :
    out0_6 x g ya yb wa wb = k0_pay1 ya wa yb wb x g := by
  frame_out

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![t.val / 4, 0, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![t.val, 0] := by decide +kernel

variable (t : Fin cfg0.N)

theorem lt_N : t.val < 32 := lt_of_lt_of_eq t.isLt N_0

theorem read0 (r : Fin 512) (l : Fin 1024) : iblk m c 0 t (ix2 r l) =
    m ((c : Thread nD τ).loc main_arg0) (ix2 ⟨t.val * 512 + r.val, by have := lt_N t; omega⟩ l) := by
  blk_ext! [iblk, V_main_arg0, index0 t]
theorem read1 (l : Fin 1024) : iblk m c 1 t (ix3 0 0 l) =
    m ((c : Thread nD τ).loc main_arg1) (ix3 ⟨t.val / 4, by have := lt_N t; omega⟩ 0 l) := by
  blk_ext! [iblk, V_main_arg1, index1 t]
theorem read2 (r : Fin 512) (l : Fin 512) : iblk m c 2 t (ix2 r l) =
    m ((c : Thread nD τ).loc main_arg2) (ix2 ⟨t.val * 512 + r.val, by have := lt_N t; omega⟩ l) := by
  blk_ext! [iblk, V, index2 t]
theorem read3 (r : Fin 512) (l : Fin 512) : iblk m c 3 t (ix2 r l) =
    m ((c : Thread nD τ).loc main_arg3) (ix2 ⟨t.val * 512 + r.val, by have := lt_N t; omega⟩ l) := by
  blk_ext! [iblk, V, index3 t]
theorem read4 (k : Fin 512) (l : Fin 1024) : iblk m c 4 t (ix2 k l) = m ((c : Thread nD τ).loc main_arg4) (ix2 ⟨k.val, by omega⟩ l) := by
  blk_ext! [iblk, V, index4 t]
theorem read5 (k : Fin 512) (l : Fin 1024) : iblk m c 5 t (ix2 k l) = m ((c : Thread nD τ).loc main_arg4) (ix2 ⟨512 + k.val, by omega⟩ l) := by
  blk_ext! [iblk, V, index5 t]

theorem blk_val (r : Fin 512) (l : Fin 1024) :
    k0_pay1 (F := Ideal) (iblk m c 2 t) (iblk m c 4 t) (iblk m c 3 t) (iblk m c 5 t) (iblk m c 0 t) (iblk m c 1 t) (ix2 r l) =
    resid (fun R C => m ((c : Thread nD τ).loc main_arg0) (ix2 R C)) (fun b C => m ((c : Thread nD τ).loc main_arg1) (ix3 b 0 C))
      (fun R C => m ((c : Thread nD τ).loc main_arg2) (ix2 R C)) (fun R C => m ((c : Thread nD τ).loc main_arg3) (ix2 R C)) (fun k C => m ((c : Thread nD τ).loc main_arg4) (ix2 k C))
      ⟨t.val * 512 + r.val, by have := lt_N t; omega⟩ l := by
  rw [pay_apply, read0, read1]
  simp only [read2, read3, read4, read5]
  have hd : t.val / 4 = (t.val * 512 + r.val) / 2048 := by omega
  unfold resid
  rw [sum_halves]
  simp only [hd]

theorem final (i : S16384x1024.Idx) : (dats m 0 c).arrAt 6 cfg0.N i =
    resid (fun R C => m ((c : Thread nD τ).loc main_arg0) (ix2 R C)) (fun b C => m ((c : Thread nD τ).loc main_arg1) (ix3 b 0 C))
      (fun R C => m ((c : Thread nD τ).loc main_arg2) (ix2 R C)) (fun R C => m ((c : Thread nD τ).loc main_arg3) (ix2 R C)) (fun k C => m ((c : Thread nD τ).loc main_arg4) (ix2 k C)) (i 0) (i 1) := by
  refine (dats m 0 c).arrAt_forall_of_covers 6 (fun i v => v =
    resid (fun R C => m ((c : Thread nD τ).loc main_arg0) (ix2 R C)) (fun b C => m ((c : Thread nD τ).loc main_arg1) (ix3 b 0 C))
      (fun R C => m ((c : Thread nD τ).loc main_arg2) (ix2 R C)) (fun R C => m ((c : Thread nD τ).loc main_arg3) (ix2 R C)) (fun k C => m ((c : Thread nD τ).loc main_arg4) (ix2 k C)) (i 0) (i 1))
    (by decide +kernel) (fun t hf y => ?_) i
  blk_simp
  rw [after0_6, out_eq]
  have hy : y = ix2 (n0 := 512) (n1 := 1024) (y 0) (y 1) := by funext a; match a with | ⟨0, _⟩ => rfl | ⟨1, _⟩ => rfl
  have h0 : ((((cfg0.win 6).blk t).view.emb y 0 : Fin 16384) : Nat) = t.val * 512 + (y 0).val := by blk_simp [index6 t]
  have h1 : ((((cfg0.win 6).blk t).view.emb y 1 : Fin 1024) : Nat) = (y 1).val := by blk_simp [index6 t]
  exact (congrArg _ hy).trans ((blk_val m c t (y 0) (y 1)).trans (congrArg₂ _ (Fin.ext h0.symm) (Fin.ext h1.symm)))
end kernel

section reference
open Cert.OutHybRefIdeal Cert.OutHybRefIdeal.Read

variable (x0 : (⟨S16384x1024, .f32⟩ : BufTy).Contents (Elt Ideal)) (x1 : (⟨S8x1x1024, .f32⟩ : BufTy).Contents (Elt Ideal))
  (x2 x3 : (⟨S16384x512, .f32⟩ : BufTy).Contents (Elt Ideal)) (x4 : (⟨S1024x1024, .f32⟩ : BufTy).Contents (Elt Ideal))

theorem side_read (R : Fin 16384) (k : Fin 1024) : val_main_v1 (F := Ideal) x2 x3 (ix2 R k) =
    side (fun R C => x2 (ix2 R C)) (fun R C => x3 (ix2 R C)) R k := by
  unfold side
  pointwise [val_main_v1]

theorem ref_read (R : Fin 16384) (C : Fin 1024) : val_main_v7 (F := Ideal) x0 x1 x2 x3 x4 (ix2 R C) =
    resid (fun R C => x0 (ix2 R C)) (fun b C => x1 (ix3 b 0 C)) (fun R C => x2 (ix2 R C)) (fun R C => x3 (ix2 R C)) (fun k C => x4 (ix2 k C)) R C := by
  have e : idx_main_v7 (ix2 R C) = ix3 (⟨R.val / 2048, by omega⟩ : Fin 8) (⟨R.val % 2048, by omega⟩ : Fin 2048) C := by
    funext a
    match a with
    | ⟨0, _⟩ => exact Fin.ext (by show (R.val * 1024 + C.val) / 2097152 = R.val / 2048; omega)
    | ⟨1, _⟩ => exact Fin.ext (by show (R.val * 1024 + C.val) / 1024 % 2048 = R.val % 2048; omega)
    | ⟨2, _⟩ => exact Fin.ext (by show (R.val * 1024 + C.val) % 1024 = C.val; omega)
  rw [val_main_v7_apply, e, val_main_v6_apply, val_main_v5_apply, val_main_v3_apply]
  have hX0 : ∀ k : Fin 1024, idx_main_v0 (ix3 (⟨R.val / 2048, by omega⟩ : Fin 8) (⟨R.val % 2048, by omega⟩ : Fin 2048) k) = ix2 R k := fun k => by
    funext a
    match a with
    | ⟨0, _⟩ => exact Fin.ext (by show ((R.val / 2048 * 2048 + R.val % 2048) * 1024 + k.val) / 1024 = R.val; omega)
    | ⟨1, _⟩ => exact Fin.ext (by show ((R.val / 2048 * 2048 + R.val % 2048) * 1024 + k.val) % 1024 = k.val; omega)
  have hX : ∀ k : Fin 1024, idx_main_v2 (ix3 (⟨R.val / 2048, by omega⟩ : Fin 8) (⟨R.val % 2048, by omega⟩ : Fin 2048) k) = ix2 R k := hX0
  have hL : ∀ k : Fin 1024, lidx_main_v3 (ix3 (⟨R.val / 2048, by omega⟩ : Fin 8) (⟨R.val % 2048, by omega⟩ : Fin 2048) C) k
      = ix3 (⟨R.val / 2048, by omega⟩ : Fin 8) (⟨R.val % 2048, by omega⟩ : Fin 2048) k := fun k => by
    funext a; match a with | ⟨0, _⟩ => rfl | ⟨1, _⟩ => rfl | ⟨2, _⟩ => rfl
  have hR : ∀ k : Fin 1024, ridx_main_v3 (ix3 (⟨R.val / 2048, by omega⟩ : Fin 8) (⟨R.val % 2048, by omega⟩ : Fin 2048) C) k = ix2 k C := fun k => by
    funext a; match a with | ⟨0, _⟩ => rfl | ⟨1, _⟩ => rfl
  have hG : idx_main_v4 (ix3 (⟨R.val / 2048, by omega⟩ : Fin 8) (⟨R.val % 2048, by omega⟩ : Fin 2048) C) = ix3 (⟨R.val / 2048, by omega⟩ : Fin 8) (0 : Fin 1) C := by
    funext a; match a with | ⟨0, _⟩ => rfl | ⟨1, _⟩ => rfl | ⟨2, _⟩ => rfl
  simp only [hL, hR, val_main_v2_apply, val_main_v0_apply, val_main_v4_apply, hG]
  rw [hX0 C]
  unfold resid
  refine congrArg₂ _ rfl (congrArg₂ _ rfl (Finset.sum_congr rfl fun k _ => congrArg₂ _ ((congrArg (val_main_v1 (F := Ideal) x2 x3) (hX k)).trans (side_read x2 x3 R k)) rfl))

theorem frame_ref : Cert.quiescent_OutHybRefIdeal := fun m ρ _ =>
  (θ_run Cert.OutHybRefIdeal.defs _ _).mono (fun r h => ⟨fun c => (h c).2, sem_eq_zero_of_no_sems (by decide) r.2⟩)
    (Cert.OutHybRefIdeal.Value.run m ρ)
end reference

theorem algebraic : Cert.algebraic_OutHybIdeal_OutHybRefIdeal := fun m g m' g' _ hagree =>
  ⟨fun c => (Cert.OutHybIdeal.Gen.dats m 0 c).arrAt 6 Cert.OutHybIdeal.cfg0.N, Cert.OutHybIdeal.Value.run_blocks m g,
    (θ_run Cert.OutHybRefIdeal.defs _ _).mono (fun r h c => by
      obtain ⟨h0, h1, h2, h3, h4⟩ := hagree c
      refine ⟨(h c).1.trans ((Cert.OutHybRefIdeal.Read.val_main_v7_eq _ _ _ _ _).trans ?_), (h c).2⟩
      rw [h0, h1, h2, h3, h4]
      funext i
      have hi : i = ix2 (n0 := 16384) (n1 := 1024) (i 0) (i 1) := by funext a; match a with | ⟨0, _⟩ => rfl | ⟨1, _⟩ => rfl
      exact ((congrArg _ hi).trans (ref_read _ _ _ _ _ (i 0) (i 1))).trans (final m c i).symm) (Cert.OutHybRefIdeal.Value.run m' g')⟩

end Cert.OutH

end
-- ==== Proof.Mod.lean ====
/- A row normed and modulated: its formula on extended reals, and that it is real where its arguments are. -/
module

public import proofs.«01_k».proof.Proof.Reals

@[expose] public section

noncomputable section

namespace Cert.Mod

open Idealize.ShloMosaic Cert.Attn

theorem eps_pos : ∃ r : ℝ, 0 < r ∧ Ideal.ofBits .f32 0x358637BD#32 = (r : EReal) := by
  refine ⟨8796093 * (2 ^ 43)⁻¹, by positivity, ?_⟩
  simp [Ideal.ofBits, Ideal.ieee]

theorem width_pos : ∃ r : ℝ, 0 < r ∧ Ideal.ofBits .f32 0x44800000#32 = (r : EReal) := by
  refine ⟨8388608 * (2 ^ 13)⁻¹, by positivity, ?_⟩
  simp [Ideal.ofBits, Ideal.ieee]

theorem one_real : IsReal (Ideal.ofBits .f32 0x3F800000#32) := by
  refine ⟨8388608 * (2 ^ 23)⁻¹, ?_⟩
  simp [Ideal.ofBits, Ideal.ieee]

/-- Entry `C` of row `X` over the root of the mean of its squares. -/
def normE (X : Fin 1024 → EReal) (C : Fin 1024) : EReal :=
  X C * Ideal.rsqrt (Ideal.div (∑ d : Fin 1024, X d * X d) (Ideal.ofBits .f32 0x44800000#32) + Ideal.ofBits .f32 0x358637BD#32)

/-- The same with the weights `g`, scaled by one more than `sc` and shifted by `sh`. -/
def modE (X g sh sc : Fin 1024 → EReal) (C : Fin 1024) : EReal :=
  normE X C * g C * (Ideal.ofBits .f32 0x3F800000#32 + sc C) + sh C

theorem norm_real {X : Fin 1024 → EReal} (hX : ∀ d, IsReal (X d)) (C : Fin 1024) : IsReal (normE X C) := by
  refine (hX C).mul ?_
  choose f hf using hX
  obtain ⟨e, he, hE⟩ := eps_pos
  obtain ⟨n, hn, hN⟩ := width_pos
  have hs : (∑ d : Fin 1024, X d * X d) = ((∑ d : Fin 1024, f d * f d : ℝ) : EReal) := by
    rw [coe_sum]
    exact Finset.sum_congr rfl fun d _ => by rw [hf d, EReal.coe_mul]
  have hn0 : ((n : ℝ) : EReal) ≠ 0 := by exact_mod_cast hn.ne'
  have hnn : 0 ≤ ∑ d : Fin 1024, f d * f d := Finset.sum_nonneg fun d _ => mul_self_nonneg _
  have hp : 0 < (∑ d : Fin 1024, f d * f d) * n⁻¹ + e := by positivity
  rw [hs, hE, hN, Ideal.div, if_neg hn0, ← EReal.coe_inv, ← EReal.coe_mul, ← EReal.coe_add]
  refine ⟨(Real.sqrt ((∑ d : Fin 1024, f d * f d) * n⁻¹ + e))⁻¹, ?_⟩
  show (if _ then _ else if _ then _ else _) = _
  rw [if_neg (not_lt.mpr hp.le), if_neg hp.ne']

theorem mod_real {X g sh sc : Fin 1024 → EReal} (hX : ∀ d, IsReal (X d)) (hg : ∀ d, IsReal (g d)) (hsh : ∀ d, IsReal (sh d))
    (hsc : ∀ d, IsReal (sc d)) (C : Fin 1024) : IsReal (modE X g sh sc C) :=
  (((norm_real hX C).mul (hg C)).mul (one_real.add (hsc C))).add (hsh C)

end Cert.Mod

end
-- ==== Proof.PeerQ.lean ====
/- The peer queries: the kernel's two arrays and the reference's two results are the same at every index, where the arguments are real. -/
module

public import proofs.«01_k».proof.Proof.Gen.PeerQIdeal.Value
public import proofs.«01_k».proof.Proof.Gen.PeerQIdeal
public import proofs.«01_k».proof.Proof.Mod
public import Idealize.ShloMosaic.Lib.Pipeline.ValueKit
public import Idealize.ShloMosaic.Lib.Pointwise

@[expose] public section

set_option maxRecDepth 16384

noncomputable section

namespace Cert.PeerK

open Idealize.ShloMosaic Idealize.SL.Sem Cert.Mod

open Cert.PeerQIdeal Cert.PeerQIdeal.Gen Idealize.ShloMosaic.TcCoe

/-- The row of `R`, modulated with its batch's shift and scale. -/
def rowE (x : Fin 16384 → Fin 1024 → EReal) (g : Fin 1024 → EReal) (sh sc : Fin 8 → Fin 1024 → EReal) (R : Fin 16384) : Fin 1024 → EReal :=
  modE (x R) g (sh ⟨R.val / 2048, by omega⟩) (sc ⟨R.val / 2048, by omega⟩)

theorem mod_apply (x : Vec Ideal S512x1024 .f32) (g : Vec Ideal S1x1024 .f32) (sh sc : Vec Ideal S1x1x1024 .f32) (r : Fin 512) (l : Fin 1024) :
    k0_pay2 (F := Ideal) x g sh sc (ix2 r l) =
    modE (fun d => x (ix2 r d)) (fun d => g (ix2 0 d)) (fun d => sh (ix3 0 0 d)) (fun d => sc (ix3 0 0 d)) l := by
  unfold modE normE
  pointwise [k0_pay2]

theorem emit_apply (h : FVec Ideal S512x1024 .f32) (l : Fin 1024) (r : Fin 512) : k0_pay1 (F := Ideal) h (ix2 l r) = h (ix2 r l) := by
  pointwise [k0_pay1]

theorem dot_apply (x : Vec Ideal S512x1024 .f32) (g : Vec Ideal S1x1024 .f32) (sh sc : Vec Ideal S1x1x1024 .f32) (wh wl : Vec Ideal S1024x2048 .bf16)
    (r : Fin 512) (l : Fin 2048) :
    k0_pay3 (F := Ideal) x g sh sc wh wl (ix2 r l) =
    (∑ k : Fin 1024, k0_pay2 (F := Ideal) x g sh sc (ix2 r k) * wh (ix2 k l))
      + (∑ k : Fin 1024, (k0_pay2 (F := Ideal) x g sh sc (ix2 r k) - k0_pay2 (F := Ideal) x g sh sc (ix2 r k)) * wh (ix2 k l))
      + ∑ k : Fin 1024, k0_pay2 (F := Ideal) x g sh sc (ix2 r k) * wl (ix2 k l) := by
  unfold k0_pay3
  generalize k0_pay2 (F := Ideal) x g sh sc = h
  pointwise [dot_S512x1024_S1024x2048_S512x2048_1_0_0_1_n_n]

theorem out6_eq (x : Vec Ideal S512x1024 .f32) (g : Vec Ideal S1x1024 .f32) (sh sc : Vec Ideal S1x1x1024 .f32) (wh wl : Vec Ideal S1024x2048 .bf16) :
    out0_6 x g sh sc wh wl = k0_pay3 x g sh sc wh wl := by
  frame_out

theorem out7_eq (x : Vec Ideal S512x1024 .f32) (g : Vec Ideal S1x1024 .f32) (sh sc : Vec Ideal S1x1x1024 .f32) (wh wl : Vec Ideal S1024x2048 .bf16) :
    out0_7 x g sh sc wh wl = k0_pay1 (k0_pay2 x g sh sc) := by
  frame_out

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val / 4, 0, 0] := by decide +kernel
theorem index3 : ∀ t : Fin grid0.N, win0_3.index t = ![t.val / 4, 0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![t.val, 0] := by decide +kernel
theorem index7 : ∀ t : Fin grid0.N, win0_7.index t = ![0, t.val] := by decide +kernel

variable (t : Fin cfg0.N)

theorem lt_N : t.val < 32 := lt_of_lt_of_eq t.isLt N_0

theorem read0 (r : Fin 512) (l : Fin 1024) : iblk m c 0 t (ix2 r l) =
    m ((c : Thread nD τ).loc main_arg0) (ix2 ⟨t.val * 512 + r.val, by have := lt_N t; omega⟩ l) := by
  blk_ext! [iblk, V_main_arg0, index0 t]
theorem read1 (l : Fin 1024) : iblk m c 1 t (ix2 0 l) = m ((c : Thread nD τ).loc main_arg1) (ix1 l) := by
  blk_ext! [iblk, V, index1 t]
theorem read2 (l : Fin 1024) : iblk m c 2 t (ix3 0 0 l) =
    m ((c : Thread nD τ).loc main_arg2) (ix3 ⟨t.val / 4, by have := lt_N t; omega⟩ 0 l) := by
  blk_ext! [iblk, V_main_arg2, index2 t]
theorem read3 (l : Fin 1024) : iblk m c 3 t (ix3 0 0 l) =
    m ((c : Thread nD τ).loc main_arg3) (ix3 ⟨t.val / 4, by have := lt_N t; omega⟩ 0 l) := by
  blk_ext! [iblk, V_main_arg3, index3 t]
theorem read4 (k : Fin 1024) (l : Fin 2048) : iblk m c 4 t (ix2 k l) = m ((c : Thread nD τ).loc main_arg4) (ix2 k l) := by
  blk_ext! [iblk, V, index4 t]
/-- The weights. -/
abbrev wts (k : Fin 1024) (l : Fin 2048) : EReal := m ((c : Thread nD τ).loc main_arg4) (ix2 k l)
theorem read5 (k : Fin 1024) (l : Fin 2048) : iblk m c 5 t (ix2 k l) = wts m c k l - wts m c k l := by
  blk_ext! [iblk, V, index5 t]

/-- The modulated row of `R` of the kernel's arguments. -/
def rowM (R : Fin 16384) : Fin 1024 → EReal :=
  rowE (fun R C => m ((c : Thread nD τ).loc main_arg0) (ix2 R C)) (fun C => m ((c : Thread nD τ).loc main_arg1) (ix1 C))
    (fun b C => m ((c : Thread nD τ).loc main_arg2) (ix3 b 0 C)) (fun b C => m ((c : Thread nD τ).loc main_arg3) (ix3 b 0 C)) R

theorem mod_val (r : Fin 512) (l : Fin 1024) :
    k0_pay2 (F := Ideal) (iblk m c 0 t) (iblk m c 1 t) (iblk m c 2 t) (iblk m c 3 t) (ix2 r l) =
    rowM m c ⟨t.val * 512 + r.val, by have := lt_N t; omega⟩ l := by
  rw [mod_apply]
  simp only [read0, read1, read2, read3]
  have hd : t.val / 4 = (t.val * 512 + r.val) / 2048 := by omega
  unfold rowM rowE
  simp only [hd]

theorem emit_val (l : Fin 1024) (r : Fin 512) :
    k0_pay1 (F := Ideal) (k0_pay2 (iblk m c 0 t) (iblk m c 1 t) (iblk m c 2 t) (iblk m c 3 t)) (ix2 l r) =
    rowM m c ⟨t.val * 512 + r.val, by have := lt_N t; omega⟩ l := by
  rw [emit_apply, mod_val]

/-- A sum of products, with the two corrections that vanish on reals. -/
theorem corrections (h w : Fin 1024 → EReal) (hh : ∀ k, Cert.Attn.IsReal (h k)) (hw : ∀ k, Cert.Attn.IsReal (w k)) :
    (∑ k, h k * w k) + (∑ k, (h k - h k) * w k) + (∑ k, h k * (w k - w k)) = ∑ k, h k * w k := by
  have e1 : ∀ k, (h k - h k) * w k = 0 := fun k => by rw [EReal.sub_self (hh k).ne_top (hh k).ne_bot, zero_mul]
  have e2 : ∀ k, h k * (w k - w k) = 0 := fun k => by rw [EReal.sub_self (hw k).ne_top (hw k).ne_bot, mul_zero]
  simp only [e1, e2, Finset.sum_const_zero, add_zero]

/-- Every entry of the arguments is real. -/
structure Real : Prop where
  x : ∀ R C, Cert.Attn.IsReal (m ((c : Thread nD τ).loc main_arg0) (ix2 R C) : EReal)
  g : ∀ C, Cert.Attn.IsReal (m ((c : Thread nD τ).loc main_arg1) (ix1 C) : EReal)
  sh : ∀ b C, Cert.Attn.IsReal (m ((c : Thread nD τ).loc main_arg2) (ix3 b 0 C) : EReal)
  sc : ∀ b C, Cert.Attn.IsReal (m ((c : Thread nD τ).loc main_arg3) (ix3 b 0 C) : EReal)
  w : ∀ k C, Cert.Attn.IsReal (m ((c : Thread nD τ).loc main_arg4) (ix2 k C) : EReal)

/-- The query at row `R`, column `C`. -/
def query (R : Fin 16384) (C : Fin 2048) : EReal := ∑ k : Fin 1024, rowM m c R k * wts m c k C

theorem blk_val (hr : Real m c) (r : Fin 512) (l : Fin 2048) :
    k0_pay3 (F := Ideal) (iblk m c 0 t) (iblk m c 1 t) (iblk m c 2 t) (iblk m c 3 t) (iblk m c 4 t) (iblk m c 5 t) (ix2 r l) =
    query m c ⟨t.val * 512 + r.val, by have := lt_N t; omega⟩ l := by
  rw [dot_apply]
  simp only [mod_val, read4, read5]
  exact corrections _ (fun k => wts m c k l)
    (fun k => mod_real (fun d => hr.x _ d) hr.g (fun d => hr.sh _ d) (fun d => hr.sc _ d) k) (fun k => hr.w k l)

theorem final6 (hr : Real m c) (i : S16384x2048.Idx) : (dats m 0 c).arrAt 6 cfg0.N i = query m c (i 0) (i 1) := by
  refine (dats m 0 c).arrAt_forall_of_covers 6 (fun i v => v = query m c (i 0) (i 1)) (by decide +kernel) (fun t hf y => ?_) i
  blk_simp
  rw [after0_6, out6_eq]
  have hy : y = ix2 (n0 := 512) (n1 := 2048) (y 0) (y 1) := by funext a; match a with | ⟨0, _⟩ => rfl | ⟨1, _⟩ => rfl
  have h0 : ((((cfg0.win 6).blk t).view.emb y 0 : Fin 16384) : Nat) = t.val * 512 + (y 0).val := by blk_simp [index6 t]
  have h1 : ((((cfg0.win 6).blk t).view.emb y 1 : Fin 2048) : Nat) = (y 1).val := by blk_simp [index6 t]
  exact (congrArg _ hy).trans ((blk_val m c t hr (y 0) (y 1)).trans (congrArg₂ (query m c) (Fin.ext h0.symm) (Fin.ext h1.symm)))

theorem final7 (i : S1024x16384.Idx) : (dats m 0 c).arrAt 7 cfg0.N i = rowM m c (i 1) (i 0) := by
  refine (dats m 0 c).arrAt_forall_of_covers 7 (fun i v => v = rowM m c (i 1) (i 0)) (by decide +kernel) (fun t hf y => ?_) i
  blk_simp
  rw [after0_7, out7_eq]
  have hy : y = ix2 (n0 := 1024) (n1 := 512) (y 0) (y 1) := by funext a; match a with | ⟨0, _⟩ => rfl | ⟨1, _⟩ => rfl
  have h0 : ((((cfg0.win 7).blk t).view.emb y 0 : Fin 1024) : Nat) = (y 0).val := by blk_simp [index7 t]
  have h1 : ((((cfg0.win 7).blk t).view.emb y 1 : Fin 16384) : Nat) = t.val * 512 + (y 1).val := by blk_simp [index7 t]
  exact (congrArg _ hy).trans ((emit_val m c t (y 0) (y 1)).trans (congrArg₂ (rowM m c) (Fin.ext h1.symm) (Fin.ext h0.symm)))

end Cert.PeerK

end
-- ==== Proof.PeerQRef.lean ====
/- The reference of the peer queries, read at an index. -/
module

public import proofs.«01_k».proof.Proof.Gen.PeerQRefIdeal.Read
public import proofs.«01_k».proof.Proof.Gen.PeerQRefIdeal
public import proofs.«01_k».proof.Proof.Mod
public import Idealize.ShloMosaic.Lib.Pipeline.ValueKit
public import Idealize.ShloMosaic.Lib.Pointwise

@[expose] public section

set_option maxRecDepth 16384

noncomputable section

namespace Cert.PeerR

open Idealize.ShloMosaic Idealize.SL.Sem Cert.Mod
open Cert.PeerQRefIdeal Cert.PeerQRefIdeal.Read

variable (x0 : (⟨S16384x1024, .f32⟩ : BufTy).Contents (Elt Ideal)) (x1 : (⟨S1024, .f32⟩ : BufTy).Contents (Elt Ideal))
  (x2 x3 : (⟨S8x1x1024, .f32⟩ : BufTy).Contents (Elt Ideal))

theorem zero_lit : Ideal.ofBits .f32 0x00000000#32 = (0 : EReal) := by simp [Ideal.ofBits, Ideal.ieee]

/-- Row `S` of batch `b` of the flattened rows. -/
abbrev at3 {n : Nat} (R : Fin 16384) (k : Fin n) : (⟨3, ![8, 2048, n]⟩ : Shape).Idx :=
  ix3 (⟨R.val / 2048, by omega⟩ : Fin 8) (⟨R.val % 2048, by omega⟩ : Fin 2048) k

theorem row_apply (R : Fin 16384) (k : Fin 1024) : val_main_v0 (F := Ideal) x0 (at3 R k) = x0 (ix2 R k) := by
  rw [val_main_v0_apply]
  refine congrArg x0 ?_
  funext a
  match a with
  | ⟨0, _⟩ => exact Fin.ext (by show ((R.val / 2048 * 2048 + R.val % 2048) * 1024 + k.val) / 1024 = R.val; omega)
  | ⟨1, _⟩ => exact Fin.ext (by show ((R.val / 2048 * 2048 + R.val % 2048) * 1024 + k.val) % 1024 = k.val; omega)

theorem squares (R : Fin 16384) (k : Fin 1024) :
    val_main_v2 (F := Ideal) x0 (idx_main_v3 (idx_main_v9 (at3 R k))) = ∑ d : Fin 1024, x0 (ix2 R d) * x0 (ix2 R d) := by
  rw [val_main_v2_apply]
  refine (congrArg₂ _ zero_lit rfl).trans ((zero_add _).trans (Finset.sum_congr rfl fun d _ => ?_))
  rw [val_main_v1_apply]
  have e : idx_main_v2 (idx_main_v3 (idx_main_v9 (at3 R k))) d = at3 R d := by
    funext a; match a with | ⟨0, _⟩ => rfl | ⟨1, _⟩ => rfl | ⟨2, _⟩ => rfl
  rw [e, row_apply]
  rfl

theorem mod_read (R : Fin 16384) (k : Fin 1024) : val_main_v19 (F := Ideal) x0 x1 x2 x3 (at3 R k) =
    modE (fun d => x0 (ix2 R d)) (fun d => x1 (ix1 d)) (fun d => x2 (ix3 ⟨R.val / 2048, by omega⟩ 0 d)) (fun d => x3 (ix3 ⟨R.val / 2048, by omega⟩ 0 d)) k := by
  rw [val_main_v19_apply, val_main_v17_apply, val_main_v13_apply, val_main_v10_apply, val_main_v9_apply, val_main_v8_apply, val_main_v7_apply,
    val_main_v5_apply, val_main_v3_apply, squares, row_apply, val_main_v4_apply, val_main_v6_apply, val_main_v12_apply, val_main_v11_apply,
    val_main_v16_apply, val_main_v15_apply, val_main_v14_apply, val_main_v18_apply]
  have e1 : idx_main_v11 (idx_main_v12 (at3 R k)) = ix1 k := by funext a; match a with | ⟨0, _⟩ => rfl
  have e2 : idx_main_v16 (at3 R k) = ix3 (⟨R.val / 2048, by omega⟩ : Fin 8) (0 : Fin 1) k := by
    funext a; match a with | ⟨0, _⟩ => rfl | ⟨1, _⟩ => rfl | ⟨2, _⟩ => rfl
  have e3 : idx_main_v18 (at3 R k) = ix3 (⟨R.val / 2048, by omega⟩ : Fin 8) (0 : Fin 1) k := by
    funext a; match a with | ⟨0, _⟩ => rfl | ⟨1, _⟩ => rfl | ⟨2, _⟩ => rfl
  rw [e1, e2, e3]
  rfl

variable (x4 : (⟨S1024x2048, .f32⟩ : BufTy).Contents (Elt Ideal))

theorem dot_read (R : Fin 16384) (C : Fin 2048) : val_main_v21 (F := Ideal) x0 x1 x2 x3 x4 (ix2 R C) =
    ∑ k : Fin 1024, modE (fun d => x0 (ix2 R d)) (fun d => x1 (ix1 d)) (fun d => x2 (ix3 ⟨R.val / 2048, by omega⟩ 0 d))
      (fun d => x3 (ix3 ⟨R.val / 2048, by omega⟩ 0 d)) k * x4 (ix2 k C) := by
  have e : idx_main_v21 (ix2 R C) = at3 R C := by
    funext a
    match a with
    | ⟨0, _⟩ => exact Fin.ext (by show (R.val * 2048 + C.val) / 4194304 = R.val / 2048; omega)
    | ⟨1, _⟩ => exact Fin.ext (by show (R.val * 2048 + C.val) / 2048 % 2048 = R.val % 2048; omega)
    | ⟨2, _⟩ => exact Fin.ext (by show (R.val * 2048 + C.val) % 2048 = C.val; omega)
  rw [val_main_v21_apply, e, val_main_v20_apply]
  refine Finset.sum_congr rfl fun k _ => ?_
  have hL : lidx_main_v20 (at3 R C) k = at3 R k := by
    funext a; match a with | ⟨0, _⟩ => rfl | ⟨1, _⟩ => rfl | ⟨2, _⟩ => rfl
  have hR : ridx_main_v20 (at3 R C) k = ix2 k C := by
    funext a; match a with | ⟨0, _⟩ => rfl | ⟨1, _⟩ => rfl
  rw [hL, hR, mod_read]

theorem emit_read (C : Fin 1024) (R : Fin 16384) : val_main_v24 (F := Ideal) x0 x1 x2 x3 (ix2 C R) =
    modE (fun d => x0 (ix2 R d)) (fun d => x1 (ix1 d)) (fun d => x2 (ix3 ⟨R.val / 2048, by omega⟩ 0 d)) (fun d => x3 (ix3 ⟨R.val / 2048, by omega⟩ 0 d)) C := by
  have e : idx_main_v22 (idx_main_v23 (ix2 C R)) = at3 R C := by
    funext a
    match a with
    | ⟨0, _⟩ => exact Fin.ext (by show (R.val * 1024 + C.val) / 2097152 = R.val / 2048; omega)
    | ⟨1, _⟩ => exact Fin.ext (by show (R.val * 1024 + C.val) / 1024 % 2048 = R.val % 2048; omega)
    | ⟨2, _⟩ => exact Fin.ext (by show (R.val * 1024 + C.val) % 1024 = C.val; omega)
  rw [val_main_v24_apply, val_main_v23_apply, val_main_v22_apply, e, mod_read]
  rfl

end Cert.PeerR

end
-- ==== Proof.PeerQClaims.lean ====
/- The value claim of the peer queries and its reference's frames. -/
module

public import proofs.«01_k».proof.Proof.PeerQ
public import proofs.«01_k».proof.Proof.PeerQRef
public import proofs.«01_k».proof.Proof.Gen.PeerQRefIdeal.Run
public import proofs.«01_k».proof.Proof.AttnClaims
public import proofs.«01_k».proof.Defs

@[expose] public section

set_option maxRecDepth 16384

noncomputable section

namespace Cert.PeerK

open Idealize.ShloMosaic Idealize.SL.Sem Cert.Attn

theorem facts_finite_q : Cert.Pre_finite_q.Facts := ⟨by decide, by decide, by decide, by decide⟩

instance : Cert.Pre_finite_q.Facts := facts_finite_q

theorem real_of_pre (m : (ℓ : Loc Cert.PeerQIdeal.nD Cert.PeerQIdeal.τ Cert.PeerQIdeal.sig) → Buf (Elt Ideal) ℓ)
    (hpre : Cert.Pre_PeerQIdeal_finite_q m) (c : Dev Cert.PeerQIdeal.nD) : Real m c := by
  obtain ⟨p0, p1, p2, p3, p4⟩ := hpre c
  exact ⟨fun R C => real_of_mask _ _ (fun _ => inf_f32) p0 _, fun C => real_of_mask _ _ (fun _ => inf_f32) p1 _,
    fun b C => real_of_mask _ _ (fun _ => inf_f32) p2 _, fun b C => real_of_mask _ _ (fun _ => inf_f32) p3 _,
    fun k C => real_of_mask _ _ (fun _ => inf_f32) p4 _⟩

theorem algebraic : Cert.algebraic_PeerQIdeal_PeerQRefIdeal_pre_finite_q := fun m g m' g' hpre hagree =>
  ⟨fun c => (Cert.PeerQIdeal.Gen.dats m 0 c).arrAt 6 Cert.PeerQIdeal.cfg0.N, fun c => (Cert.PeerQIdeal.Gen.dats m 0 c).arrAt 7 Cert.PeerQIdeal.cfg0.N,
    Cert.PeerQIdeal.Value.run_blocks m g,
    (θ_run Cert.PeerQRefIdeal.defs _ _).mono (fun r h c => by
      obtain ⟨h0, h1, h2, h3, h4⟩ := hagree c
      refine ⟨(h c).1.trans ((Cert.PeerQRefIdeal.Read.val_main_v21_eq _ _ _ _ _).trans ?_),
        (h c).2.1.trans ((Cert.PeerQRefIdeal.Read.val_main_v24_eq _ _ _ _).trans ?_), (h c).2.2⟩
      · rw [h0, h1, h2, h3, h4]
        funext i
        have hi : i = ix2 (n0 := 16384) (n1 := 2048) (i 0) (i 1) := by funext a; match a with | ⟨0, _⟩ => rfl | ⟨1, _⟩ => rfl
        exact ((congrArg _ hi).trans (Cert.PeerR.dot_read _ _ _ _ _ (i 0) (i 1))).trans (final6 m c (real_of_pre m hpre c) i).symm
      · rw [h0, h1, h2, h3]
        funext i
        have hi : i = ix2 (n0 := 1024) (n1 := 16384) (i 0) (i 1) := by funext a; match a with | ⟨0, _⟩ => rfl | ⟨1, _⟩ => rfl
        exact ((congrArg _ hi).trans (Cert.PeerR.emit_read _ _ _ _ (i 0) (i 1))).trans (final7 m c i).symm)
      (Cert.PeerQRefIdeal.Value.run m' g')⟩

theorem frame_ref : Cert.quiescent_PeerQRefIdeal := fun m ρ _ =>
  (θ_run Cert.PeerQRefIdeal.defs _ _).mono (fun r h => ⟨fun c => (h c).2.2, sem_eq_zero_of_no_sems (by decide) r.2⟩)
    (Cert.PeerQRefIdeal.Value.run m ρ)

/-- The reference's frame on the same memories as the value claim's. -/
theorem frame_ref_pre : Cert.quiescent_PeerQRefIdeal_pre_finite_q := fun m ρ _ =>
  (θ_run Cert.PeerQRefIdeal.defs _ _).mono (fun r h => ⟨fun c => (h c).2.2, sem_eq_zero_of_no_sems (by decide) r.2⟩)
    (Cert.PeerQRefIdeal.Value.run m ρ)

end Cert.PeerK

end
-- ==== Proof.Pad.lean ====
/- The third piece of the input projection: which of the last columns stands at each of its columns. -/
module

public import proofs.«01_k».proof.Proof.Mod

@[expose] public section

noncomputable section

namespace Cert.Mod

open Idealize.ShloMosaic

/-- The column behind column `j` of the third piece: three stretches of the last columns, each followed by zeros. -/
def padE (w : Fin 2848 → EReal) (j : Fin 512) : EReal :=
  if h : j.val < 128 then if h1 : j.val < 64 then w ⟨2560 + j.val, by omega⟩ else 0
  else
    if h : j.val - 128 < 128 then if h1 : j.val - 128 < 64 then w ⟨2624 + (j.val - 128), by omega⟩ else 0
    else if h1 : j.val - 128 - 128 < 160 then w ⟨2688 + (j.val - 128 - 128), by omega⟩ else 0

theorem sum_pad (h : Fin 1024 → EReal) (w : Fin 1024 → Fin 2848 → EReal) (j : Fin 512) :
    ∑ k, h k * padE (w k) j = padE (fun C => ∑ k, h k * w k C) j := by
  unfold padE
  split_ifs <;> simp only [mul_zero, Finset.sum_const_zero]

theorem zero_int : (FloatOps.sitofp .f32 (0#32) : Ideal .f32) = (0 : EReal) := by
  show (((0#32 : BitVec 32).toInt : ℝ) : EReal) = 0
  simp

end Cert.Mod

end
-- ==== Proof.HybInHost.lean ====
/- The arrays the input projection's kernel is given, computed from its arguments before it starts. -/
module

public import proofs.«01_k».proof.Proof.Gen.HybInIdeal.Value
public import proofs.«01_k».proof.Proof.Gen.HybInIdeal
public import proofs.«01_k».proof.Proof.Pad
public import Idealize.ShloMosaic.Lib.Pipeline.ValueKit
public import Idealize.ShloMosaic.Lib.Pointwise

@[expose] public section

set_option maxRecDepth 16384

noncomputable section

namespace Cert.HybK

open Idealize.ShloMosaic Idealize.SL.Sem Cert.Mod
open Cert.HybInIdeal Cert.HybInIdeal.Gen Idealize.ShloMosaic.TcCoe Idealize.ShloMosaic.StableHlo

variable (m : (ℓ : Loc nD τ sig) → Buf (Elt Ideal) ℓ) (c : Dev nD)

theorem host12 : V m c main_v12 = shapeCast S1x1024 (m ((c : Thread nD τ).loc main_arg1)) shapeCasts_S1024_S1x1024 := by
  simp only [V, hostOps0, hostOps0_1, hostOps0_2, hostOps0_3, hostOps0_4, hostOps0_5, hostOps0_6, List.flatten_cons, List.flatten_nil,
    List.append_nil, List.cons_append, List.nil_append]
  after_results <;> rfl

theorem host1 : V m c main_v1 = truncf .bf16 (extractStridedSlice S1024x1024 ![0, 0] (show FVec Ideal S1024x2848 .f32 from m ((c : Thread nD τ).loc main_arg4)) slices_S1024x2848_S1024x1024_0_0) bitsLt_bf16_f32 := by
  simp only [V, hostOps0, hostOps0_1, hostOps0_2, hostOps0_3, hostOps0_4, hostOps0_5, hostOps0_6, List.flatten_cons, List.flatten_nil,
    List.append_nil, List.cons_append, List.nil_append]
  after_results <;> rfl

theorem host3 : V m c main_v3 = truncf .bf16 (extractStridedSlice S1024x1536 ![0, 1024] (show FVec Ideal S1024x2848 .f32 from m ((c : Thread nD τ).loc main_arg4)) slices_S1024x2848_S1024x1536_0_1024) bitsLt_bf16_f32 := by
  simp only [V, hostOps0, hostOps0_1, hostOps0_2, hostOps0_3, hostOps0_4, hostOps0_5, hostOps0_6, List.flatten_cons, List.flatten_nil,
    List.append_nil, List.cons_append, List.nil_append]
  after_results <;> rfl

/-- The padded weights of the third piece. -/
def padded (w : FVec Ideal S1024x2848 .f32) : FVec Ideal S1024x512 .f32 :=
  concatenate S1024x512 1
    [⟨S1024x128, pad S1024x128 ![0, 0] ![0, 64] ![0, 0] (extractStridedSlice S1024x64 ![0, 2560] w slices_S1024x2848_S1024x64_0_2560)
        (sitofp .f32 (constantI S_ 32 0#32)) pads_S1024x64_S1024x128_000_0640 h_S_⟩,
     ⟨S1024x128, pad S1024x128 ![0, 0] ![0, 64] ![0, 0] (extractStridedSlice S1024x64 ![0, 2624] w slices_S1024x2848_S1024x64_0_2624)
        (sitofp .f32 (constantI S_ 32 0#32)) pads_S1024x64_S1024x128_000_0640 h_S_⟩,
     ⟨S1024x256, pad S1024x256 ![0, 0] ![0, 96] ![0, 0] (extractStridedSlice S1024x160 ![0, 2688] w slices_S1024x2848_S1024x160_0_2688)
        (sitofp .f32 (constantI S_ 32 0#32)) pads_S1024x160_S1024x256_000_0960 h_S_⟩]
    concatenates_S1024x128_S1024x128_S1024x256_S1024x512_d1

theorem host11 : V m c main_v11 = truncf .bf16 (padded (m ((c : Thread nD τ).loc main_arg4))) bitsLt_bf16_f32 := by
  simp only [V, hostOps0, hostOps0_1, hostOps0_2, hostOps0_3, hostOps0_4, hostOps0_5, hostOps0_6, List.flatten_cons, List.flatten_nil,
    List.append_nil, List.cons_append, List.nil_append]
  after_results <;> rfl

theorem padded_apply (w : FVec Ideal S1024x2848 .f32) (k : Fin 1024) (l : Fin 512) : padded w (ix2 k l) = padE (fun C => w (ix2 k C)) l := by
  unfold padE
  pointwise [padded, zero_int]

theorem one_row (g : FVec Ideal S1024 .f32) (l : Fin 1024) : shapeCast S1x1024 g shapeCasts_S1024_S1x1024 (ix2 0 l) = g (ix1 l) := by
  pointwise []

theorem first_cols (w : FVec Ideal S1024x2848 .f32) (k l : Fin 1024) :
    truncf (F := Ideal) .bf16 (extractStridedSlice S1024x1024 ![0, 0] w slices_S1024x2848_S1024x1024_0_0) bitsLt_bf16_f32 (ix2 k l) = w (ix2 k ⟨l.val, by omega⟩) := by
  pointwise []

theorem second_cols (w : FVec Ideal S1024x2848 .f32) (k : Fin 1024) (l : Fin 1536) :
    truncf (F := Ideal) .bf16 (extractStridedSlice S1024x1536 ![0, 1024] w slices_S1024x2848_S1024x1536_0_1024) bitsLt_bf16_f32 (ix2 k l) = w (ix2 k ⟨1024 + l.val, by omega⟩) := by
  pointwise []

end Cert.HybK

end
-- ==== Proof.HybIn.lean ====
/- The input projection of an even layer: the kernel's three arrays, index by index. -/
module

public import proofs.«01_k».proof.Proof.Gen.HybInIdeal.Value
public import proofs.«01_k».proof.Proof.Gen.HybInIdeal
public import proofs.«01_k».proof.Proof.HybInHost
public import Idealize.ShloMosaic.Lib.Pipeline.ValueKit
public import Idealize.ShloMosaic.Lib.Pointwise

@[expose] public section

set_option maxRecDepth 16384

noncomputable section

namespace Cert.HybK

open Idealize.ShloMosaic Idealize.SL.Sem Cert.Mod

open Cert.HybInIdeal Cert.HybInIdeal.Gen Idealize.ShloMosaic.TcCoe

/-- The row of `R`, modulated with its batch's shift and scale. -/
def rowE (x : Fin 16384 → Fin 1024 → EReal) (g : Fin 1024 → EReal) (sh sc : Fin 8 → Fin 1024 → EReal) (R : Fin 16384) : Fin 1024 → EReal :=
  modE (x R) g (sh ⟨R.val / 2048, by omega⟩) (sc ⟨R.val / 2048, by omega⟩)

theorem mod_apply (x : Vec Ideal S512x1024 .f32) (g : Vec Ideal S1x1024 .f32) (sh sc : Vec Ideal S1x1x1024 .f32) (r : Fin 512) (l : Fin 1024) :
    k0_pay2 (F := Ideal) x g sh sc (ix2 r l) =
    modE (fun d => x (ix2 r d)) (fun d => g (ix2 0 d)) (fun d => sh (ix3 0 0 d)) (fun d => sc (ix3 0 0 d)) l := by
  unfold modE normE
  pointwise [k0_pay2]

theorem dotc_apply (x : Vec Ideal S512x1024 .f32) (g : Vec Ideal S1x1024 .f32) (sh sc : Vec Ideal S1x1x1024 .f32) (w : Vec Ideal S1024x1024 .bf16)
    (r : Fin 512) (l : Fin 1024) :
    k0_pay3 (F := Ideal) x g sh sc w (ix2 r l) = ∑ k : Fin 1024, k0_pay2 (F := Ideal) x g sh sc (ix2 r k) * w (ix2 k l) := by
  unfold k0_pay3
  generalize k0_pay2 (F := Ideal) x g sh sc = h
  pointwise [dot_S512x1024_S1024x1024_S512x1024_1_0_0_1_n_n]

theorem dotr_apply (x : Vec Ideal S512x1024 .f32) (g : Vec Ideal S1x1024 .f32) (sh sc : Vec Ideal S1x1x1024 .f32) (w : Vec Ideal S1024x1536 .bf16)
    (r : Fin 512) (l : Fin 1536) :
    k0_pay4 (F := Ideal) x g sh sc w (ix2 r l) = ∑ k : Fin 1024, k0_pay2 (F := Ideal) x g sh sc (ix2 r k) * w (ix2 k l) := by
  unfold k0_pay4
  generalize k0_pay2 (F := Ideal) x g sh sc = h
  pointwise [dot_S512x1024_S1024x1536_S512x1536_1_0_0_1_n_n]

theorem dotl_apply (h : FVec Ideal S512x1024 .bf16) (w : Vec Ideal S1024x512 .bf16) (r l : Fin 512) :
    k0_pay1 (F := Ideal) h w (ix2 r l) = ∑ k : Fin 1024, h (ix2 r k) * w (ix2 k l) := by
  pointwise [k0_pay1, dot_S512x1024_S1024x512_S512x512_1_0_0_1_n_n]

section pieces
variable (x : Vec Ideal S512x1024 .f32) (g : Vec Ideal S1x1024 .f32) (sh sc : Vec Ideal S1x1x1024 .f32) (wc : Vec Ideal S1024x1024 .bf16)
  (wr : Vec Ideal S1024x1536 .bf16) (wl : Vec Ideal S1024x512 .bf16)
theorem out7_eq : out0_7 x g sh sc wc wr wl = k0_pay3 x g sh sc wc := by
  frame_out
theorem out8_eq : out0_8 x g sh sc wc wr wl = k0_pay4 x g sh sc wr := by
  frame_out
theorem out9_eq : out0_9 x g sh sc wc wr wl = k0_pay1 (k0_pay2 x g sh sc) wl := by
  frame_out
end pieces

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val / 4, 0, 0] := by decide +kernel
theorem index3 : ∀ t : Fin grid0.N, win0_3.index t = ![t.val / 4, 0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![t.val, 0] := by decide +kernel
theorem index8 : ∀ t : Fin grid0.N, win0_8.index t = ![t.val, 0] := by decide +kernel
theorem index9 : ∀ t : Fin grid0.N, win0_9.index t = ![t.val, 0] := by decide +kernel

variable (t : Fin cfg0.N)

theorem lt_N : t.val < 32 := lt_of_lt_of_eq t.isLt N_0

theorem emb1 (k : Fin 1) (l : Fin 1024) : (win0_1.blk t).view.emb (ix2 k l) = ix2 k l := by
  funext a
  match a with
  | ⟨0, _⟩ => exact Fin.ext (by blk_simp [index1 t])
  | ⟨1, _⟩ => exact Fin.ext (by blk_simp [index1 t])
theorem emb4 (k : Fin 1024) (l : Fin 1024) : (win0_4.blk t).view.emb (ix2 k l) = ix2 k l := by
  funext a
  match a with
  | ⟨0, _⟩ => exact Fin.ext (by blk_simp [index4 t])
  | ⟨1, _⟩ => exact Fin.ext (by blk_simp [index4 t])
theorem emb5 (k : Fin 1024) (l : Fin 1536) : (win0_5.blk t).view.emb (ix2 k l) = ix2 k l := by
  funext a
  match a with
  | ⟨0, _⟩ => exact Fin.ext (by blk_simp [index5 t])
  | ⟨1, _⟩ => exact Fin.ext (by blk_simp [index5 t])
theorem emb6 (k : Fin 1024) (l : Fin 512) : (win0_6.blk t).view.emb (ix2 k l) = ix2 k l := by
  funext a
  match a with
  | ⟨0, _⟩ => exact Fin.ext (by blk_simp [index6 t])
  | ⟨1, _⟩ => exact Fin.ext (by blk_simp [index6 t])

theorem read0 (r : Fin 512) (l : Fin 1024) : iblk m c 0 t (ix2 r l) =
    m ((c : Thread nD τ).loc main_arg0) (ix2 ⟨t.val * 512 + r.val, by have := lt_N t; omega⟩ l) := by
  blk_ext! [iblk, V_main_arg0, index0 t]
theorem read1 (l : Fin 1024) : iblk m c 1 t (ix2 0 l) = m ((c : Thread nD τ).loc main_arg1) (ix1 l) := by
  refine (congrArg (V m c main_v12) (emb1 t 0 l)).trans ?_
  rw [host12]
  exact one_row _ l
theorem read2 (l : Fin 1024) : iblk m c 2 t (ix3 0 0 l) =
    m ((c : Thread nD τ).loc main_arg2) (ix3 ⟨t.val / 4, by have := lt_N t; omega⟩ 0 l) := by
  blk_ext! [iblk, V_main_arg2, index2 t]
theorem read3 (l : Fin 1024) : iblk m c 3 t (ix3 0 0 l) =
    m ((c : Thread nD τ).loc main_arg3) (ix3 ⟨t.val / 4, by have := lt_N t; omega⟩ 0 l) := by
  blk_ext! [iblk, V_main_arg3, index3 t]
/-- The weights. -/
abbrev wts (k : Fin 1024) (l : Fin 2848) : EReal := m ((c : Thread nD τ).loc main_arg4) (ix2 k l)
theorem read4 (k : Fin 1024) (l : Fin 1024) : iblk m c 4 t (ix2 k l) = wts m c k ⟨l.val, by omega⟩ := by
  refine (congrArg (V m c main_v1) (emb4 t k l)).trans ?_
  rw [host1]
  exact first_cols _ k l
theorem read5 (k : Fin 1024) (l : Fin 1536) : iblk m c 5 t (ix2 k l) = wts m c k ⟨1024 + l.val, by omega⟩ := by
  refine (congrArg (V m c main_v3) (emb5 t k l)).trans ?_
  rw [host3]
  exact second_cols _ k l
theorem read6 (k : Fin 1024) (l : Fin 512) : iblk m c 6 t (ix2 k l) = padE (wts m c k) l := by
  refine (congrArg (V m c main_v11) (emb6 t k l)).trans ?_
  rw [host11]
  exact padded_apply _ k l

/-- The modulated row of `R` of the kernel's arguments. -/
def rowM (R : Fin 16384) : Fin 1024 → EReal :=
  rowE (fun R C => m ((c : Thread nD τ).loc main_arg0) (ix2 R C)) (fun C => m ((c : Thread nD τ).loc main_arg1) (ix1 C))
    (fun b C => m ((c : Thread nD τ).loc main_arg2) (ix3 b 0 C)) (fun b C => m ((c : Thread nD τ).loc main_arg3) (ix3 b 0 C)) R

theorem mod_val (r : Fin 512) (l : Fin 1024) :
    k0_pay2 (F := Ideal) (iblk m c 0 t) (iblk m c 1 t) (iblk m c 2 t) (iblk m c 3 t) (ix2 r l) =
    rowM m c ⟨t.val * 512 + r.val, by have := lt_N t; omega⟩ l := by
  rw [mod_apply]
  simp only [read0, read1, read2, read3]
  have hd : t.val / 4 = (t.val * 512 + r.val) / 2048 := by omega
  unfold rowM rowE
  simp only [hd]

/-- The projected row `R` at column `C`. -/
def proj (R : Fin 16384) (C : Fin 2848) : EReal := ∑ k : Fin 1024, rowM m c R k * wts m c k C

/-- The first piece at row `R`, column `C`. -/
def projc (R : Fin 16384) (C : Fin 1024) : EReal := proj m c R ⟨C.val, by omega⟩

/-- The second piece at row `R`, column `C`. -/
def projr (R : Fin 16384) (C : Fin 1536) : EReal := proj m c R ⟨1024 + C.val, by omega⟩

/-- The third piece at row `R`, column `C`. -/
def projl (R : Fin 16384) (C : Fin 512) : EReal := padE (proj m c R) C

theorem val7 (r : Fin 512) (l : Fin 1024) : k0_pay3 (F := Ideal) (iblk m c 0 t) (iblk m c 1 t) (iblk m c 2 t) (iblk m c 3 t) (iblk m c 4 t) (ix2 r l) = projc m c ⟨t.val * 512 + r.val, by have := lt_N t; omega⟩ l := by
  rw [dotc_apply]
  simp only [mod_val, read4]
  rfl

theorem final7 (i : S16384x1024.Idx) : (dats m 0 c).arrAt 7 cfg0.N i = projc m c (i 0) (i 1) := by
  refine (dats m 0 c).arrAt_forall_of_covers 7 (fun i v => v = projc m c (i 0) (i 1)) (by decide +kernel) (fun t hf y => ?_) i
  blk_simp
  rw [after0_7, out7_eq]
  have hy : y = ix2 (n0 := 512) (n1 := 1024) (y 0) (y 1) := by funext a; match a with | ⟨0, _⟩ => rfl | ⟨1, _⟩ => rfl
  have h0 : ((((cfg0.win 7).blk t).view.emb y 0 : Fin 16384) : Nat) = t.val * 512 + (y 0).val := by blk_simp [index7 t]
  have h1 : ((((cfg0.win 7).blk t).view.emb y 1 : Fin 1024) : Nat) = (y 1).val := by blk_simp [index7 t]
  exact (congrArg _ hy).trans ((val7 m c t (y 0) (y 1)).trans (congrArg₂ (projc m c) (Fin.ext h0.symm) (Fin.ext h1.symm)))

theorem val8 (r : Fin 512) (l : Fin 1536) : k0_pay4 (F := Ideal) (iblk m c 0 t) (iblk m c 1 t) (iblk m c 2 t) (iblk m c 3 t) (iblk m c 5 t) (ix2 r l) = projr m c ⟨t.val * 512 + r.val, by have := lt_N t; omega⟩ l := by
  rw [dotr_apply]
  simp only [mod_val, read5]
  rfl

theorem final8 (i : S16384x1536.Idx) : (dats m 0 c).arrAt 8 cfg0.N i = projr m c (i 0) (i 1) := by
  refine (dats m 0 c).arrAt_forall_of_covers 8 (fun i v => v = projr m c (i 0) (i 1)) (by decide +kernel) (fun t hf y => ?_) i
  blk_simp
  rw [after0_8, out8_eq]
  have hy : y = ix2 (n0 := 512) (n1 := 1536) (y 0) (y 1) := by funext a; match a with | ⟨0, _⟩ => rfl | ⟨1, _⟩ => rfl
  have h0 : ((((cfg0.win 8).blk t).view.emb y 0 : Fin 16384) : Nat) = t.val * 512 + (y 0).val := by blk_simp [index8 t]
  have h1 : ((((cfg0.win 8).blk t).view.emb y 1 : Fin 1536) : Nat) = (y 1).val := by blk_simp [index8 t]
  exact (congrArg _ hy).trans ((val8 m c t (y 0) (y 1)).trans (congrArg₂ (projr m c) (Fin.ext h0.symm) (Fin.ext h1.symm)))

theorem val9 (r : Fin 512) (l : Fin 512) : k0_pay1 (F := Ideal) (k0_pay2 (iblk m c 0 t) (iblk m c 1 t) (iblk m c 2 t) (iblk m c 3 t)) (iblk m c 6 t) (ix2 r l) = projl m c ⟨t.val * 512 + r.val, by have := lt_N t; omega⟩ l := by
  rw [dotl_apply]
  simp only [mod_val, read6]
  exact sum_pad _ _ _

theorem final9 (i : S16384x512.Idx) : (dats m 0 c).arrAt 9 cfg0.N i = projl m c (i 0) (i 1) := by
  refine (dats m 0 c).arrAt_forall_of_covers 9 (fun i v => v = projl m c (i 0) (i 1)) (by decide +kernel) (fun t hf y => ?_) i
  blk_simp
  rw [after0_9, out9_eq]
  have hy : y = ix2 (n0 := 512) (n1 := 512) (y 0) (y 1) := by funext a; match a with | ⟨0, _⟩ => rfl | ⟨1, _⟩ => rfl
  have h0 : ((((cfg0.win 9).blk t).view.emb y 0 : Fin 16384) : Nat) = t.val * 512 + (y 0).val := by blk_simp [index9 t]
  have h1 : ((((cfg0.win 9).blk t).view.emb y 1 : Fin 512) : Nat) = (y 1).val := by blk_simp [index9 t]
  exact (congrArg _ hy).trans ((val9 m c t (y 0) (y 1)).trans (congrArg₂ (projl m c) (Fin.ext h0.symm) (Fin.ext h1.symm)))

end Cert.HybK

end
-- ==== Proof.HybInRef.lean ====
/- The reference of the input projection, read at an index. -/
module

public import proofs.«01_k».proof.Proof.Gen.HybInRefIdeal.Read
public import proofs.«01_k».proof.Proof.Gen.HybInRefIdeal
public import proofs.«01_k».proof.Proof.Pad
public import Idealize.ShloMosaic.Lib.Pipeline.ValueKit
public import Idealize.ShloMosaic.Lib.Pointwise

@[expose] public section

set_option maxRecDepth 16384

noncomputable section

namespace Cert.HybR

open Idealize.ShloMosaic Idealize.SL.Sem Cert.Mod
open Cert.HybInRefIdeal Cert.HybInRefIdeal.Read

variable (x0 : (⟨S16384x1024, .f32⟩ : BufTy).Contents (Elt Ideal)) (x1 : (⟨S1024, .f32⟩ : BufTy).Contents (Elt Ideal))
  (x2 x3 : (⟨S8x1x1024, .f32⟩ : BufTy).Contents (Elt Ideal))

theorem zero_lit : Ideal.ofBits .f32 0x00000000#32 = (0 : EReal) := by simp [Ideal.ofBits, Ideal.ieee]

/-- Row `S` of batch `b` of the flattened rows. -/
abbrev at3 {n : Nat} (R : Fin 16384) (k : Fin n) : (⟨3, ![8, 2048, n]⟩ : Shape).Idx :=
  ix3 (⟨R.val / 2048, by omega⟩ : Fin 8) (⟨R.val % 2048, by omega⟩ : Fin 2048) k

theorem row_apply (R : Fin 16384) (k : Fin 1024) : val_main_v0 (F := Ideal) x0 (at3 R k) = x0 (ix2 R k) := by
  rw [val_main_v0_apply]
  refine congrArg x0 ?_
  funext a
  match a with
  | ⟨0, _⟩ => exact Fin.ext (by show ((R.val / 2048 * 2048 + R.val % 2048) * 1024 + k.val) / 1024 = R.val; omega)
  | ⟨1, _⟩ => exact Fin.ext (by show ((R.val / 2048 * 2048 + R.val % 2048) * 1024 + k.val) % 1024 = k.val; omega)

theorem squares (R : Fin 16384) (k : Fin 1024) :
    val_main_v2 (F := Ideal) x0 (idx_main_v3 (idx_main_v9 (at3 R k))) = ∑ d : Fin 1024, x0 (ix2 R d) * x0 (ix2 R d) := by
  rw [val_main_v2_apply]
  refine (congrArg₂ _ zero_lit rfl).trans ((zero_add _).trans (Finset.sum_congr rfl fun d _ => ?_))
  rw [val_main_v1_apply]
  have e : idx_main_v2 (idx_main_v3 (idx_main_v9 (at3 R k))) d = at3 R d := by
    funext a; match a with | ⟨0, _⟩ => rfl | ⟨1, _⟩ => rfl | ⟨2, _⟩ => rfl
  rw [e, row_apply]
  rfl

theorem mod_read (R : Fin 16384) (k : Fin 1024) : val_main_v19 (F := Ideal) x0 x1 x2 x3 (at3 R k) =
    modE (fun d => x0 (ix2 R d)) (fun d => x1 (ix1 d)) (fun d => x2 (ix3 ⟨R.val / 2048, by omega⟩ 0 d)) (fun d => x3 (ix3 ⟨R.val / 2048, by omega⟩ 0 d)) k := by
  rw [val_main_v19_apply, val_main_v17_apply, val_main_v13_apply, val_main_v10_apply, val_main_v9_apply, val_main_v8_apply, val_main_v7_apply,
    val_main_v5_apply, val_main_v3_apply, squares, row_apply, val_main_v4_apply, val_main_v6_apply, val_main_v12_apply, val_main_v11_apply,
    val_main_v16_apply, val_main_v15_apply, val_main_v14_apply, val_main_v18_apply]
  have e1 : idx_main_v11 (idx_main_v12 (at3 R k)) = ix1 k := by funext a; match a with | ⟨0, _⟩ => rfl
  have e2 : idx_main_v16 (at3 R k) = ix3 (⟨R.val / 2048, by omega⟩ : Fin 8) (0 : Fin 1) k := by
    funext a; match a with | ⟨0, _⟩ => rfl | ⟨1, _⟩ => rfl | ⟨2, _⟩ => rfl
  have e3 : idx_main_v18 (at3 R k) = ix3 (⟨R.val / 2048, by omega⟩ : Fin 8) (0 : Fin 1) k := by
    funext a; match a with | ⟨0, _⟩ => rfl | ⟨1, _⟩ => rfl | ⟨2, _⟩ => rfl
  rw [e1, e2, e3]
  rfl

variable (x4 : (⟨S1024x2848, .f32⟩ : BufTy).Contents (Elt Ideal))

theorem dot_read (R : Fin 16384) (C : Fin 2848) : val_main_v21 (F := Ideal) x0 x1 x2 x3 x4 (ix2 R C) =
    ∑ k : Fin 1024, modE (fun d => x0 (ix2 R d)) (fun d => x1 (ix1 d)) (fun d => x2 (ix3 ⟨R.val / 2048, by omega⟩ 0 d))
      (fun d => x3 (ix3 ⟨R.val / 2048, by omega⟩ 0 d)) k * x4 (ix2 k C) := by
  have e : idx_main_v21 (ix2 R C) = at3 R C := by
    funext a
    match a with
    | ⟨0, _⟩ => exact Fin.ext (by show (R.val * 2848 + C.val) / 5832704 = R.val / 2048; omega)
    | ⟨1, _⟩ => exact Fin.ext (by show (R.val * 2848 + C.val) / 2848 % 2048 = R.val % 2048; omega)
    | ⟨2, _⟩ => exact Fin.ext (by show (R.val * 2848 + C.val) % 2848 = C.val; omega)
  rw [val_main_v21_apply, e, val_main_v20_apply]
  refine Finset.sum_congr rfl fun k _ => ?_
  have hL : lidx_main_v20 (at3 R C) k = at3 R k := by
    funext a; match a with | ⟨0, _⟩ => rfl | ⟨1, _⟩ => rfl | ⟨2, _⟩ => rfl
  have hR : ridx_main_v20 (at3 R C) k = ix2 k C := by
    funext a; match a with | ⟨0, _⟩ => rfl | ⟨1, _⟩ => rfl
  rw [hL, hR, mod_read]

/-- The projected row `R` at column `C`. -/
def projR (R : Fin 16384) (C : Fin 2848) : EReal :=
  ∑ k : Fin 1024, modE (fun d => x0 (ix2 R d)) (fun d => x1 (ix1 d)) (fun d => x2 (ix3 ⟨R.val / 2048, by omega⟩ 0 d))
    (fun d => x3 (ix3 ⟨R.val / 2048, by omega⟩ 0 d)) k * x4 (ix2 k C)

theorem first_read (R : Fin 16384) (C : Fin 1024) : val_main_v29 (F := Ideal) x0 x1 x2 x3 x4 (ix2 R C) = projR x0 x1 x2 x3 x4 R ⟨C.val, by omega⟩ := by
  rw [val_main_v29_apply]
  refine Eq.trans (congrArg _ ?_) (dot_read x0 x1 x2 x3 x4 R ⟨C.val, by omega⟩)
  funext a
  match a with
  | ⟨0, _⟩ => exact Fin.ext (by show _ = R.val; simp [ix2])
  | ⟨1, _⟩ => exact Fin.ext (by show _ = C.val; simp [ix2])

theorem second_read (R : Fin 16384) (C : Fin 1536) : val_main_v30 (F := Ideal) x0 x1 x2 x3 x4 (ix2 R C) = projR x0 x1 x2 x3 x4 R ⟨1024 + C.val, by omega⟩ := by
  rw [val_main_v30_apply]
  refine Eq.trans (congrArg _ ?_) (dot_read x0 x1 x2 x3 x4 R ⟨1024 + C.val, by omega⟩)
  funext a
  match a with
  | ⟨0, _⟩ => exact Fin.ext (by show _ = R.val; simp [ix2])
  | ⟨1, _⟩ => exact Fin.ext (by show _ = 1024 + C.val; simp [ix2])

/-- Three stretches of the columns of `z`, each followed by zeros. -/
def pieces (z : FVec Ideal S16384x2848 .f32) : FVec Ideal S16384x512 .f32 :=
  concatenate S16384x512 1
    [⟨S16384x128, pad S16384x128 ![0, 0] ![0, 64] ![0, 0] (extractStridedSlice S16384x64 ![0, 2560] z Gen.slices_S16384x2848_S16384x64_0_2560)
        (sitofp .f32 (constantI S_ 32 0#32)) Gen.pads_S16384x64_S16384x128_000_0640 Gen.h_S_⟩,
     ⟨S16384x128, pad S16384x128 ![0, 0] ![0, 64] ![0, 0] (extractStridedSlice S16384x64 ![0, 2624] z Gen.slices_S16384x2848_S16384x64_0_2624)
        (sitofp .f32 (constantI S_ 32 0#32)) Gen.pads_S16384x64_S16384x128_000_0640 Gen.h_S_⟩,
     ⟨S16384x256, pad S16384x256 ![0, 0] ![0, 96] ![0, 0] (extractStridedSlice S16384x160 ![0, 2688] z Gen.slices_S16384x2848_S16384x160_0_2688)
        (sitofp .f32 (constantI S_ 32 0#32)) Gen.pads_S16384x160_S16384x256_000_0960 Gen.h_S_⟩]
    Gen.concatenates_S16384x128_S16384x128_S16384x256_S16384x512_d1

theorem pieces_apply (z : FVec Ideal S16384x2848 .f32) (R : Fin 16384) (C : Fin 512) : pieces z (ix2 R C) = padE (fun C => z (ix2 R C)) C := by
  unfold padE
  pointwise [pieces, zero_int]

theorem third_eq : val_main_v28 (F := Ideal) x0 x1 x2 x3 x4 = pieces (val_main_v21 (F := Ideal) x0 x1 x2 x3 x4) := by
  unfold val_main_v28 val_main_v23 val_main_v25 val_main_v27 val_main_v22 val_main_v24 val_main_v26
  generalize val_main_v21 (F := Ideal) x0 x1 x2 x3 x4 = z
  rfl

theorem third_read (R : Fin 16384) (C : Fin 512) : val_main_v28 (F := Ideal) x0 x1 x2 x3 x4 (ix2 R C) = padE (projR x0 x1 x2 x3 x4 R) C := by
  rw [third_eq]
  refine (pieces_apply _ R C).trans (congrArg (fun f => padE f C) (funext fun C => dot_read x0 x1 x2 x3 x4 R C))

end Cert.HybR

end
-- ==== Proof.HybInClaims.lean ====
/- The value claim of the input projection of an even layer and its reference's frame. -/
module

public import proofs.«01_k».proof.Proof.HybIn
public import proofs.«01_k».proof.Proof.HybInRef
public import proofs.«01_k».proof.Proof.Gen.HybInRefIdeal.Run
public import proofs.«01_k».proof.Defs

@[expose] public section

set_option maxRecDepth 16384

noncomputable section

namespace Cert.HybK

open Idealize.ShloMosaic Idealize.SL.Sem

theorem algebraic : Cert.algebraic_HybInIdeal_HybInRefIdeal := fun m g m' g' _ hagree =>
  ⟨fun c => (Cert.HybInIdeal.Gen.dats m 0 c).arrAt 7 Cert.HybInIdeal.cfg0.N, fun c => (Cert.HybInIdeal.Gen.dats m 0 c).arrAt 8 Cert.HybInIdeal.cfg0.N,
    fun c => (Cert.HybInIdeal.Gen.dats m 0 c).arrAt 9 Cert.HybInIdeal.cfg0.N, Cert.HybInIdeal.Value.run_blocks m g,
    (θ_run Cert.HybInRefIdeal.defs _ _).mono (fun r h c => by
      obtain ⟨h0, h1, h2, h3, h4⟩ := hagree c
      refine ⟨(h c).1.trans ((Cert.HybInRefIdeal.Read.val_main_v29_eq _ _ _ _ _).trans ?_),
        (h c).2.1.trans ((Cert.HybInRefIdeal.Read.val_main_v30_eq _ _ _ _ _).trans ?_),
        (h c).2.2.1.trans ((Cert.HybInRefIdeal.Read.val_main_v28_eq _ _).trans ?_), (h c).2.2.2⟩
      · rw [h0, h1, h2, h3, h4]
        funext i
        have hi : i = ix2 (n0 := 16384) (n1 := 1024) (i 0) (i 1) := by funext a; match a with | ⟨0, _⟩ => rfl | ⟨1, _⟩ => rfl
        exact ((congrArg _ hi).trans (Cert.HybR.first_read _ _ _ _ _ (i 0) (i 1))).trans (final7 m c i).symm
      · rw [h0, h1, h2, h3, h4]
        funext i
        have hi : i = ix2 (n0 := 16384) (n1 := 1536) (i 0) (i 1) := by funext a; match a with | ⟨0, _⟩ => rfl | ⟨1, _⟩ => rfl
        exact ((congrArg _ hi).trans (Cert.HybR.second_read _ _ _ _ _ (i 0) (i 1))).trans (final8 m c i).symm
      · rw [h0, h1, h2, h3, h4]
        funext i
        have hi : i = ix2 (n0 := 16384) (n1 := 512) (i 0) (i 1) := by funext a; match a with | ⟨0, _⟩ => rfl | ⟨1, _⟩ => rfl
        exact ((congrArg _ hi).trans (Cert.HybR.third_read _ _ _ _ _ (i 0) (i 1))).trans (final9 m c i).symm)
      (Cert.HybInRefIdeal.Value.run m' g')⟩

theorem frame_ref : Cert.quiescent_HybInRefIdeal := fun m ρ _ =>
  (θ_run Cert.HybInRefIdeal.defs _ _).mono (fun r h => ⟨fun c => (h c).2.2.2, sem_eq_zero_of_no_sems (by decide) r.2⟩)
    (Cert.HybInRefIdeal.Value.run m ρ)

end Cert.HybK

end
-- ==== Proof.QkvHost.lean ====
/- The arrays the query, key and value kernel is given, computed from its arguments before it starts. -/
module

public import proofs.«01_k».proof.Proof.Gen.QkvIdeal.Value
public import proofs.«01_k».proof.Proof.Gen.QkvIdeal
public import Idealize.ShloMosaic.Lib.Pipeline.ValueKit
public import Idealize.ShloMosaic.Lib.Pointwise
public import Idealize.ShloMosaic.Lib.Routing.OpsSet

@[expose] public section

set_option maxRecDepth 16384

noncomputable section

namespace Cert.QkvK

open Idealize.ShloMosaic Idealize.SL.Sem
open Cert.QkvIdeal Cert.QkvIdeal.Gen Idealize.ShloMosaic.TcCoe Idealize.ShloMosaic.StableHlo

variable (m : (ℓ : Loc nD τ sig) → Buf (Elt Ideal) ℓ) (c : Dev nD)

/-- The divisor the remainder uses: one in place of zero. -/
def divisor (n : BitVec 32) : IVec S_ 32 :=
  select (cmpi .eq (constantI S_ 32 n) (constantI S_ 32 0#32)) (constantI S_ 32 1#32) (constantI S_ 32 n)

/-- The remainder of the division by n, with the sign of n. -/
def remI (n : BitVec 32) (x : IVec S128 32) : IVec S128 32 :=
  let d : IVec S128 32 := broadcastInDim S128 ![] bcast_S_S128 (divisor n)
  let r := Host.remsi x d
  let z : IVec S128 32 := broadcastInDim S128 ![] bcast_S_S128 (constantI S_ 32 0#32)
  select (andi (cmpi .ne (cmpi .slt r z) (broadcastInDim S128 ![] bcast_S_S128 (cmpi .slt (divisor n) (constantI S_ 32 0#32)))) (cmpi .ne r z))
    (addi r d) r

/-- The lane within its head, for each of the lanes of two heads. -/
def lanes : IVec S128 32 := remI 64#32 (iotaInDim S128 32 0)

/-- The frequency index of each lane. -/
def pairs : IVec S128 32 :=
  let r := remI 8#32 lanes
  select (cmpi .slt r (broadcastInDim S128 ![] bcast_S_S128 (constantI S_ 32 0#32)))
    (addi r (broadcastInDim S128 ![] bcast_S_S128 (constantI S_ 32 8#32))) r

/-- The lanes below n. -/
def below (n : BitVec 32) : IVec S128 1 := cmpi .slt lanes (broadcastInDim S128 ![] bcast_S_S128 (constantI S_ 32 n))

theorem lanes_apply : ∀ l : Fin 128, lanes (ix1 l) = BitVec.ofNat 32 (l.val % 64) := by decide +kernel
theorem pairs_apply : ∀ l : Fin 128, pairs (ix1 l) = BitVec.ofNat 32 (l.val % 8) := by decide +kernel
theorem below16 : ∀ l : Fin 128, below 16#32 (ix1 l) = if l.val % 64 < 16 then 1#1 else 0#1 := by decide +kernel
theorem below8 : ∀ l : Fin 128, below 8#32 (ix1 l) = if l.val % 64 < 8 then 1#1 else 0#1 := by decide +kernel

/-- The frequencies: one over 500000 to the power of twice the index over sixteen. -/
def freqs : FVec Ideal S8 .f32 :=
  Host.divf (broadcastInDim S8 ![] bcast_S_S8 (constant S_ .f32 0x3F800000#32))
    (Host.powf (broadcastInDim S8 ![] bcast_S_S8 (constant S_ .f32 0x48F42400#32))
      (Host.divf (addf (broadcastInDim S8 ![] bcast_S_S8 (constant S_ .f32 0x00000000#32))
          (mulf (broadcastInDim S8 ![] bcast_S_S8 (constant S_ .f32 0x40000000#32)) (sitofp .f32 (iotaInDim S8 32 0))))
        (broadcastInDim S8 ![] bcast_S_S8 (constant S_ .f32 0x41800000#32))))

/-- The frequency of each lane, zero on the lanes which are not turned. -/
def turns : FVec Ideal S128 .f32 :=
  select (below 16#32) (Host.gather gather_S8_S128x1_S128_n_0_n_n_0_1_1 freqs (broadcastInDim S128x1 ![0] bcast_S128_S128x1_0 pairs))
    (broadcastInDim S128 ![] bcast_S_S128 (constant S_ .f32 0x00000000#32))

/-- The sign of the sine on each lane. -/
def signs : FVec Ideal S128 .f32 :=
  select (below 8#32) (broadcastInDim S128 ![] bcast_S_S128 (constant S_ .f32 0xBF800000#32))
    (broadcastInDim S128 ![] bcast_S_S128 (constant S_ .f32 0x3F800000#32))

theorem turns_apply (l : Fin 128) : turns (ix1 l) = if l.val % 64 < 16 then freqs (ix1 ⟨l.val % 8, by omega⟩) else Ideal.ofBits .f32 0x00000000#32 := by
  have hg : Host.gather gather_S8_S128x1_S128_n_0_n_n_0_1_1 freqs (broadcastInDim S128x1 ![0] bcast_S128_S128x1_0 pairs) (ix1 l) =
      freqs (ix1 ⟨l.val % 8, by omega⟩) :=
    Routing.gather_take1 gather_S8_S128x1_S128_n_0_n_n_0_1_1 rfl rfl rfl rfl freqs _ l ⟨l.val % 8, by omega⟩
      (by pointwise [pairs_apply]) (by decide)
  unfold turns
  show Scalar.select (below 16#32 (ix1 l)) (Host.gather _ _ _ (ix1 l)) _ = _
  rw [below16, hg]
  by_cases h : l.val % 64 < 16
  · rw [if_pos h, if_pos h]
    pointwise []
  · rw [if_neg h, if_neg h]
    pointwise []

theorem signs_apply (l : Fin 128) : signs (ix1 l) = if l.val % 64 < 8 then Ideal.ofBits .f32 0xBF800000#32 else Ideal.ofBits .f32 0x3F800000#32 := by
  unfold signs
  show Scalar.select (below 8#32 (ix1 l)) _ _ = _
  rw [below8]
  by_cases h : l.val % 64 < 8
  · rw [if_pos h, if_pos h]
    pointwise []
  · rw [if_neg h, if_neg h]
    pointwise []

theorem host1 : V m c main_v1 = shapeCast S1x1024 (m ((c : Thread nD τ).loc main_arg1)) shapeCasts_S1024_S1x1024 := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results <;> rfl

theorem host2 : V m c main_v2 = shapeCast S16384x1 (m ((c : Thread nD τ).loc main_arg4)) shapeCasts_S8x2048_S16384x1 := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results <;> rfl

theorem host3 : V m c main_v3 = extractStridedSlice S1024x1024 ![0, 0] (truncf (F := Ideal) .bf16 (m ((c : Thread nD τ).loc main_arg5)) bitsLt_bf16_f32) slices_S1024x3072_S1024x1024_0_0 := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results <;> rfl

theorem host4 : V m c main_v4 = extractStridedSlice S1024x1024 ![0, 1024] (truncf (F := Ideal) .bf16 (m ((c : Thread nD τ).loc main_arg5)) bitsLt_bf16_f32) slices_S1024x3072_S1024x1024_0_1024 := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results <;> rfl

theorem host5 : V m c main_v5 = extractStridedSlice S1024x1024 ![0, 2048] (truncf (F := Ideal) .bf16 (m ((c : Thread nD τ).loc main_arg5)) bitsLt_bf16_f32) slices_S1024x3072_S1024x1024_0_2048 := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results <;> rfl

theorem host35 : V m c main_v35 = shapeCast S1x128 signs shapeCasts_S128_S1x128 := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results <;> rfl

theorem cols_q (w : FVec Ideal S1024x3072 .f32) (k l : Fin 1024) :
    extractStridedSlice S1024x1024 ![0, 0] (truncf (F := Ideal) .bf16 w bitsLt_bf16_f32) slices_S1024x3072_S1024x1024_0_0 (ix2 k l) = w (ix2 k ⟨0 + l.val, by omega⟩) := by
  pointwise []

theorem cols_k (w : FVec Ideal S1024x3072 .f32) (k l : Fin 1024) :
    extractStridedSlice S1024x1024 ![0, 1024] (truncf (F := Ideal) .bf16 w bitsLt_bf16_f32) slices_S1024x3072_S1024x1024_0_1024 (ix2 k l) = w (ix2 k ⟨1024 + l.val, by omega⟩) := by
  pointwise []

theorem cols_v (w : FVec Ideal S1024x3072 .f32) (k l : Fin 1024) :
    extractStridedSlice S1024x1024 ![0, 2048] (truncf (F := Ideal) .bf16 w bitsLt_bf16_f32) slices_S1024x3072_S1024x1024_0_2048 (ix2 k l) = w (ix2 k ⟨2048 + l.val, by omega⟩) := by
  pointwise []

theorem one_row (g : FVec Ideal S1024 .f32) (l : Fin 1024) : shapeCast S1x1024 g shapeCasts_S1024_S1x1024 (ix2 0 l) = g (ix1 l) := by
  pointwise []
theorem one_lanes (g : FVec Ideal S128 .f32) (l : Fin 128) : shapeCast S1x128 g shapeCasts_S128_S1x128 (ix2 0 l) = g (ix1 l) := by
  pointwise []
theorem one_col (p : IVec S8x2048 32) (R : Fin 16384) : shapeCast S16384x1 p shapeCasts_S8x2048_S16384x1 (ix2 R 0) = p (ix2 ⟨R.val / 2048, by omega⟩ ⟨R.val % 2048, by omega⟩) := by
  pointwise []

end Cert.QkvK

end
-- ==== Proof.QkvTurns.lean ====
/- The frequencies the query, key and value kernel is given, lane by lane. -/
module

public import proofs.«01_k».proof.Proof.Gen.QkvIdeal.Value
public import proofs.«01_k».proof.Proof.Gen.QkvIdeal
public import Idealize.ShloMosaic.Lib.Pipeline.ValueKit
public import Idealize.ShloMosaic.Lib.Pointwise
public import proofs.«01_k».proof.Proof.QkvHost

@[expose] public section

set_option maxRecDepth 16384

noncomputable section

namespace Cert.QkvK

open Idealize.ShloMosaic Idealize.SL.Sem
open Cert.QkvIdeal Cert.QkvIdeal.Gen Idealize.ShloMosaic.TcCoe Idealize.ShloMosaic.StableHlo

variable (m : (ℓ : Loc nD τ sig) → Buf (Elt Ideal) ℓ) (c : Dev nD)

theorem host30 : V m c main_v30 = shapeCast S1x128 turns shapeCasts_S128_S1x128 := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results
  all_goals simp -implicitDefEqProofs only [TRef.toBuf, TRef.ofBuf, cast_cast, cast_eq, id_eq]
  all_goals simp only [turns, below, pairs, lanes, remI, divisor, freqs]
  all_goals rfl

end Cert.QkvK

end
-- ==== Proof.QkvPieces.lean ====
/- The rotary pieces of the query, key and value kernel: one piece per 128 columns, and the pieces read together. -/
module

public import proofs.«01_k».proof.Proof.Gen.QkvIdeal.Value
public import proofs.«01_k».proof.Proof.Gen.QkvIdeal
public import proofs.«01_k».proof.Proof.Mod
public import Idealize.ShloMosaic.Lib.Pipeline.ValueKit
public import Idealize.ShloMosaic.Lib.Pointwise

@[expose] public section

set_option maxRecDepth 16384

noncomputable section

namespace Cert.QkvK

open Idealize.ShloMosaic Idealize.SL.Sem Cert.Mod
open Cert.QkvIdeal Cert.QkvIdeal.Gen Idealize.ShloMosaic.TcCoe

/-- One piece of 128 columns: the columns times the cosines plus their partners times the signed sines, scaled. -/
def piece (z cs sn : FVec Ideal S512x128 .f32) (lo : IVec S512x128 1) (s : EReal) : FVec Ideal S512x128 .bf16 :=
  truncf .bf16 (mulf (addf (mulf z cs) (mulf (select lo (dynamicRotate 1 120#32 none z rotates_S512x128_d1)
    (dynamicRotate 1 8#32 none z rotates_S512x128_d1)) sn)) (broadcast S512x128 s)) bitsLt_bf16_f32

theorem low_apply (r : Fin 512) (l : Fin 128) : k0_pay9 (ix2 r l) = if l.val % 64 < 8 then 1#1 else 0#1 := by
  have h : ∀ l : Fin 128, k0_pay9 (ix2 (0 : Fin 512) l) = if l.val % 64 < 8 then 1#1 else 0#1 := by decide +kernel
  exact h l

theorem piece_apply (z cs sn : FVec Ideal S512x128 .f32) (s : EReal) (r : Fin 512) (l : Fin 128) :
    piece z cs sn k0_pay9 s (ix2 r l) =
    (z (ix2 r l) * cs (ix2 r l) + (if l.val % 64 < 8 then z (ix2 r ⟨(l.val + 128 - 120) % 128, by omega⟩) else z (ix2 r ⟨(l.val + 128 - 8) % 128, by omega⟩)) * sn (ix2 r l)) * s := by
  have hlo := low_apply r l
  unfold piece
  generalize k0_pay9 = lo at hlo ⊢
  by_cases h : l.val % 64 < 8
  · rw [if_pos h] at hlo ⊢
    pointwise [hlo]
  · rw [if_neg h] at hlo ⊢
    pointwise [hlo]

/-- The row z turned by cosines and signed sines given on 128 lanes and scaled, at the column C. -/
def turnE (z : Fin 1024 → EReal) (cs sn : Fin 128 → EReal) (s : EReal) (C : Fin 1024) : EReal :=
  (z C * cs ⟨C.val % 128, by omega⟩ +
    (if C.val % 64 < 8 then z ⟨C.val / 128 * 128 + (C.val % 128 + 128 - 120) % 128, by omega⟩
     else z ⟨C.val / 128 * 128 + (C.val % 128 + 128 - 8) % 128, by omega⟩) * sn ⟨C.val % 128, by omega⟩) * s

/-- The turned rows, at an index of the block. -/
def turnB (z : FVec Ideal S512x1024 .f32) (cs sn : FVec Ideal S512x128 .f32) (s : EReal) (y : S512x1024.Idx) : EReal :=
  turnE (fun C => z (ix2 (⟨(y 0).val, (y 0).isLt⟩ : Fin 512) C)) (fun l => cs (ix2 (⟨(y 0).val, (y 0).isLt⟩ : Fin 512) l))
    (fun l => sn (ix2 (⟨(y 0).val, (y 0).isLt⟩ : Fin 512) l)) s ⟨(y 1).val, (y 1).isLt⟩

theorem spread (z : Fin 1024 → EReal) (cs sn : Fin 128 → EReal) (s : EReal) (b : Nat) (hb : b % 128 = 0) (hle : b ≤ 896) (l : Fin 128) :
    (z ⟨b + l.val, by omega⟩ * cs l + (if l.val % 64 < 8 then z ⟨b + (l.val + 128 - 120) % 128, by omega⟩
      else z ⟨b + (l.val + 128 - 8) % 128, by omega⟩) * sn l) * s = turnE z cs sn s ⟨b + l.val, by omega⟩ := by
  have h1 : (b + l.val) % 128 = l.val := by omega
  have h2 : (b + l.val) / 128 * 128 = b := by omega
  have h3 : (b + l.val) % 64 = l.val % 64 := by omega
  unfold turnE
  simp only [h1, h2, h3]

theorem at0 (z : FVec Ideal S512x1024 .f32) (cs sn : FVec Ideal S512x128 .f32) (s : EReal) (x : S512x128.Idx) :
    piece (extractStridedSlice S512x128 ![0, 0] z slices_S512x1024_o0_0_S512x128) cs sn k0_pay9 s x = turnB z cs sn s (r0_6.emb x) := by
  obtain ⟨r, l, rfl⟩ : ∃ r l, x = ix2 r l := ⟨x 0, x 1, by funext a; match a with | ⟨0, _⟩ => rfl | ⟨1, _⟩ => rfl⟩
  refine (piece_apply _ _ _ _ r l).trans ?_
  have hs : ∀ k : Fin 128, extractStridedSlice S512x128 ![0, 0] z slices_S512x1024_o0_0_S512x128 (ix2 r k) = z (ix2 r ⟨0 + k.val, by omega⟩) := by
    intro k
    pointwise []
  have h0 : (r0_6.emb (ix2 r l) 0).val = r.val := by simp [Rect.emb_apply]
  have h1 : (r0_6.emb (ix2 r l) 1).val = 0 + l.val := by simp [Rect.emb_apply]
  simp only [hs, turnB, h0, h1]
  exact spread (fun C => z (ix2 r C)) (fun l => cs (ix2 r l)) (fun l => sn (ix2 r l)) s 0 (by decide) (by decide) l

theorem at1 (z : FVec Ideal S512x1024 .f32) (cs sn : FVec Ideal S512x128 .f32) (s : EReal) (x : S512x128.Idx) :
    piece (extractStridedSlice S512x128 ![0, 128] z slices_S512x1024_o0_128_S512x128) cs sn k0_pay9 s x = turnB z cs sn s (r0_7.emb x) := by
  obtain ⟨r, l, rfl⟩ : ∃ r l, x = ix2 r l := ⟨x 0, x 1, by funext a; match a with | ⟨0, _⟩ => rfl | ⟨1, _⟩ => rfl⟩
  refine (piece_apply _ _ _ _ r l).trans ?_
  have hs : ∀ k : Fin 128, extractStridedSlice S512x128 ![0, 128] z slices_S512x1024_o0_128_S512x128 (ix2 r k) = z (ix2 r ⟨128 + k.val, by omega⟩) := by
    intro k
    pointwise []
  have h0 : (r0_7.emb (ix2 r l) 0).val = r.val := by simp [Rect.emb_apply]
  have h1 : (r0_7.emb (ix2 r l) 1).val = 128 + l.val := by simp [Rect.emb_apply]
  simp only [hs, turnB, h0, h1]
  exact spread (fun C => z (ix2 r C)) (fun l => cs (ix2 r l)) (fun l => sn (ix2 r l)) s 128 (by decide) (by decide) l

theorem at2 (z : FVec Ideal S512x1024 .f32) (cs sn : FVec Ideal S512x128 .f32) (s : EReal) (x : S512x128.Idx) :
    piece (extractStridedSlice S512x128 ![0, 256] z slices_S512x1024_o0_256_S512x128) cs sn k0_pay9 s x = turnB z cs sn s (r0_8.emb x) := by
  obtain ⟨r, l, rfl⟩ : ∃ r l, x = ix2 r l := ⟨x 0, x 1, by funext a; match a with | ⟨0, _⟩ => rfl | ⟨1, _⟩ => rfl⟩
  refine (piece_apply _ _ _ _ r l).trans ?_
  have hs : ∀ k : Fin 128, extractStridedSlice S512x128 ![0, 256] z slices_S512x1024_o0_256_S512x128 (ix2 r k) = z (ix2 r ⟨256 + k.val, by omega⟩) := by
    intro k
    pointwise []
  have h0 : (r0_8.emb (ix2 r l) 0).val = r.val := by simp [Rect.emb_apply]
  have h1 : (r0_8.emb (ix2 r l) 1).val = 256 + l.val := by simp [Rect.emb_apply]
  simp only [hs, turnB, h0, h1]
  exact spread (fun C => z (ix2 r C)) (fun l => cs (ix2 r l)) (fun l => sn (ix2 r l)) s 256 (by decide) (by decide) l

theorem at3 (z : FVec Ideal S512x1024 .f32) (cs sn : FVec Ideal S512x128 .f32) (s : EReal) (x : S512x128.Idx) :
    piece (extractStridedSlice S512x128 ![0, 384] z slices_S512x1024_o0_384_S512x128) cs sn k0_pay9 s x = turnB z cs sn s (r0_9.emb x) := by
  obtain ⟨r, l, rfl⟩ : ∃ r l, x = ix2 r l := ⟨x 0, x 1, by funext a; match a with | ⟨0, _⟩ => rfl | ⟨1, _⟩ => rfl⟩
  refine (piece_apply _ _ _ _ r l).trans ?_
  have hs : ∀ k : Fin 128, extractStridedSlice S512x128 ![0, 384] z slices_S512x1024_o0_384_S512x128 (ix2 r k) = z (ix2 r ⟨384 + k.val, by omega⟩) := by
    intro k
    pointwise []
  have h0 : (r0_9.emb (ix2 r l) 0).val = r.val := by simp [Rect.emb_apply]
  have h1 : (r0_9.emb (ix2 r l) 1).val = 384 + l.val := by simp [Rect.emb_apply]
  simp only [hs, turnB, h0, h1]
  exact spread (fun C => z (ix2 r C)) (fun l => cs (ix2 r l)) (fun l => sn (ix2 r l)) s 384 (by decide) (by decide) l

theorem at4 (z : FVec Ideal S512x1024 .f32) (cs sn : FVec Ideal S512x128 .f32) (s : EReal) (x : S512x128.Idx) :
    piece (extractStridedSlice S512x128 ![0, 512] z slices_S512x1024_o0_512_S512x128) cs sn k0_pay9 s x = turnB z cs sn s (r0_10.emb x) := by
  obtain ⟨r, l, rfl⟩ : ∃ r l, x = ix2 r l := ⟨x 0, x 1, by funext a; match a with | ⟨0, _⟩ => rfl | ⟨1, _⟩ => rfl⟩
  refine (piece_apply _ _ _ _ r l).trans ?_
  have hs : ∀ k : Fin 128, extractStridedSlice S512x128 ![0, 512] z slices_S512x1024_o0_512_S512x128 (ix2 r k) = z (ix2 r ⟨512 + k.val, by omega⟩) := by
    intro k
    pointwise []
  have h0 : (r0_10.emb (ix2 r l) 0).val = r.val := by simp [Rect.emb_apply]
  have h1 : (r0_10.emb (ix2 r l) 1).val = 512 + l.val := by simp [Rect.emb_apply]
  simp only [hs, turnB, h0, h1]
  exact spread (fun C => z (ix2 r C)) (fun l => cs (ix2 r l)) (fun l => sn (ix2 r l)) s 512 (by decide) (by decide) l

theorem at5 (z : FVec Ideal S512x1024 .f32) (cs sn : FVec Ideal S512x128 .f32) (s : EReal) (x : S512x128.Idx) :
    piece (extractStridedSlice S512x128 ![0, 640] z slices_S512x1024_o0_640_S512x128) cs sn k0_pay9 s x = turnB z cs sn s (r0_11.emb x) := by
  obtain ⟨r, l, rfl⟩ : ∃ r l, x = ix2 r l := ⟨x 0, x 1, by funext a; match a with | ⟨0, _⟩ => rfl | ⟨1, _⟩ => rfl⟩
  refine (piece_apply _ _ _ _ r l).trans ?_
  have hs : ∀ k : Fin 128, extractStridedSlice S512x128 ![0, 640] z slices_S512x1024_o0_640_S512x128 (ix2 r k) = z (ix2 r ⟨640 + k.val, by omega⟩) := by
    intro k
    pointwise []
  have h0 : (r0_11.emb (ix2 r l) 0).val = r.val := by simp [Rect.emb_apply]
  have h1 : (r0_11.emb (ix2 r l) 1).val = 640 + l.val := by simp [Rect.emb_apply]
  simp only [hs, turnB, h0, h1]
  exact spread (fun C => z (ix2 r C)) (fun l => cs (ix2 r l)) (fun l => sn (ix2 r l)) s 640 (by decide) (by decide) l

theorem at6 (z : FVec Ideal S512x1024 .f32) (cs sn : FVec Ideal S512x128 .f32) (s : EReal) (x : S512x128.Idx) :
    piece (extractStridedSlice S512x128 ![0, 768] z slices_S512x1024_o0_768_S512x128) cs sn k0_pay9 s x = turnB z cs sn s (r0_12.emb x) := by
  obtain ⟨r, l, rfl⟩ : ∃ r l, x = ix2 r l := ⟨x 0, x 1, by funext a; match a with | ⟨0, _⟩ => rfl | ⟨1, _⟩ => rfl⟩
  refine (piece_apply _ _ _ _ r l).trans ?_
  have hs : ∀ k : Fin 128, extractStridedSlice S512x128 ![0, 768] z slices_S512x1024_o0_768_S512x128 (ix2 r k) = z (ix2 r ⟨768 + k.val, by omega⟩) := by
    intro k
    pointwise []
  have h0 : (r0_12.emb (ix2 r l) 0).val = r.val := by simp [Rect.emb_apply]
  have h1 : (r0_12.emb (ix2 r l) 1).val = 768 + l.val := by simp [Rect.emb_apply]
  simp only [hs, turnB, h0, h1]
  exact spread (fun C => z (ix2 r C)) (fun l => cs (ix2 r l)) (fun l => sn (ix2 r l)) s 768 (by decide) (by decide) l

theorem at7 (z : FVec Ideal S512x1024 .f32) (cs sn : FVec Ideal S512x128 .f32) (s : EReal) (x : S512x128.Idx) :
    piece (extractStridedSlice S512x128 ![0, 896] z slices_S512x1024_o0_896_S512x128) cs sn k0_pay9 s x = turnB z cs sn s (r0_13.emb x) := by
  obtain ⟨r, l, rfl⟩ : ∃ r l, x = ix2 r l := ⟨x 0, x 1, by funext a; match a with | ⟨0, _⟩ => rfl | ⟨1, _⟩ => rfl⟩
  refine (piece_apply _ _ _ _ r l).trans ?_
  have hs : ∀ k : Fin 128, extractStridedSlice S512x128 ![0, 896] z slices_S512x1024_o0_896_S512x128 (ix2 r k) = z (ix2 r ⟨896 + k.val, by omega⟩) := by
    intro k
    pointwise []
  have h0 : (r0_13.emb (ix2 r l) 0).val = r.val := by simp [Rect.emb_apply]
  have h1 : (r0_13.emb (ix2 r l) 1).val = 896 + l.val := by simp [Rect.emb_apply]
  simp only [hs, turnB, h0, h1]
  exact spread (fun C => z (ix2 r C)) (fun l => cs (ix2 r l)) (fun l => sn (ix2 r l)) s 896 (by decide) (by decide) l

theorem all_pieces (z : FVec Ideal S512x1024 .f32) (cs sn : FVec Ideal S512x128 .f32) (s : EReal) (y : S512x1024.Idx) :
    View.canon (Val := Elt Ideal) (s := S512x1024) (e := .bf16) [⟨r0_13, piece (extractStridedSlice S512x128 ![0, 896] z slices_S512x1024_o0_896_S512x128) cs sn k0_pay9 s⟩,
    ⟨r0_12, piece (extractStridedSlice S512x128 ![0, 768] z slices_S512x1024_o0_768_S512x128) cs sn k0_pay9 s⟩,
    ⟨r0_11, piece (extractStridedSlice S512x128 ![0, 640] z slices_S512x1024_o0_640_S512x128) cs sn k0_pay9 s⟩,
    ⟨r0_10, piece (extractStridedSlice S512x128 ![0, 512] z slices_S512x1024_o0_512_S512x128) cs sn k0_pay9 s⟩,
    ⟨r0_9, piece (extractStridedSlice S512x128 ![0, 384] z slices_S512x1024_o0_384_S512x128) cs sn k0_pay9 s⟩,
    ⟨r0_8, piece (extractStridedSlice S512x128 ![0, 256] z slices_S512x1024_o0_256_S512x128) cs sn k0_pay9 s⟩,
    ⟨r0_7, piece (extractStridedSlice S512x128 ![0, 128] z slices_S512x1024_o0_128_S512x128) cs sn k0_pay9 s⟩,
    ⟨r0_6, piece (extractStridedSlice S512x128 ![0, 0] z slices_S512x1024_o0_0_S512x128) cs sn k0_pay9 s⟩] y = turnB z cs sn s y := by
  refine View.canon_apply_of_pieces (Val := Elt Ideal) (e := .bf16) (turnB z cs sn s) _ ?_ y (cover0_10 _ _ _ _ _ _ _ _ y)
  intro p hp
  simp only [List.mem_cons, List.not_mem_nil, or_false] at hp
  rcases hp with rfl | rfl | rfl | rfl | rfl | rfl | rfl | rfl
  · exact at7 z cs sn s
  · exact at6 z cs sn s
  · exact at5 z cs sn s
  · exact at4 z cs sn s
  · exact at3 z cs sn s
  · exact at2 z cs sn s
  · exact at1 z cs sn s
  · exact at0 z cs sn s

section outs
variable (x : Vec Ideal S512x1024 .f32) (g : Vec Ideal S1x1024 .f32) (sh sc : Vec Ideal S1x1x1024 .f32) (pos : Vec Ideal S512x1 .i32)
  (inv sgn : Vec Ideal S1x128 .f32) (wq wk wv : Vec Ideal S1024x1024 .bf16)

theorem out10_apply (y : S512x1024.Idx) : out0_10 x g sh sc pos inv sgn wq wk wv y =
    turnB (k0_pay40 x g sh sc pos inv sgn wq wk wv) (k0_pay35 x g sh sc pos inv sgn wq wk wv) (k0_pay38 x g sh sc pos inv sgn wq wk wv)
      (Ideal.ofBits .f32 0x3E000000#32) y :=
  (all_pieces (k0_pay40 x g sh sc pos inv sgn wq wk wv) (k0_pay35 x g sh sc pos inv sgn wq wk wv) (k0_pay38 x g sh sc pos inv sgn wq wk wv)
    (Ideal.ofBits .f32 0x3E000000#32) y)

theorem out11_apply (y : S512x1024.Idx) : out0_11 x g sh sc pos inv sgn wq wk wv y =
    turnB (k0_pay41 x g sh sc pos inv sgn wq wk wv) (k0_pay35 x g sh sc pos inv sgn wq wk wv) (k0_pay38 x g sh sc pos inv sgn wq wk wv)
      (Ideal.ofBits .f32 0x3F800000#32) y :=
  (all_pieces (k0_pay41 x g sh sc pos inv sgn wq wk wv) (k0_pay35 x g sh sc pos inv sgn wq wk wv) (k0_pay38 x g sh sc pos inv sgn wq wk wv)
    (Ideal.ofBits .f32 0x3F800000#32) y)

theorem row_eq : k0_pay34 x g sh sc pos inv sgn wq wk wv = k0_pay3 x g sh sc := by
  unfold k0_pay34
  frame_out
theorem out12_eq : out0_12 x g sh sc pos inv sgn wq wk wv = k0_pay2 (k0_pay3 x g sh sc) wv := by
  rw [← row_eq x g sh sc pos inv sgn wq wk wv]
  frame_out
theorem q_eq : k0_pay40 x g sh sc pos inv sgn wq wk wv = k0_pay10 (k0_pay3 x g sh sc) wq := by
  rw [← row_eq x g sh sc pos inv sgn wq wk wv]
  unfold k0_pay40
  frame_out
theorem k_eq : k0_pay41 x g sh sc pos inv sgn wq wk wv = k0_pay21 (k0_pay3 x g sh sc) wk := by
  rw [← row_eq x g sh sc pos inv sgn wq wk wv]
  unfold k0_pay41
  frame_out
theorem cos_eq : k0_pay35 x g sh sc pos inv sgn wq wk wv = k0_pay5 pos inv := by
  unfold k0_pay35
  frame_out
theorem sin_eq : k0_pay38 x g sh sc pos inv sgn wq wk wv = k0_pay8 (k0_pay6 pos inv) (k0_pay7 sgn) := by
  unfold k0_pay38 k0_pay37 k0_pay36
  frame_out
end outs

theorem mod_apply (x : Vec Ideal S512x1024 .f32) (g : Vec Ideal S1x1024 .f32) (sh sc : Vec Ideal S1x1x1024 .f32) (r : Fin 512) (l : Fin 1024) :
    k0_pay3 (F := Ideal) x g sh sc (ix2 r l) =
    modE (fun d => x (ix2 r d)) (fun d => g (ix2 0 d)) (fun d => sh (ix3 0 0 d)) (fun d => sc (ix3 0 0 d)) l := by
  unfold modE normE
  pointwise [k0_pay3]

theorem dotq_apply (h : FVec Ideal S512x1024 .bf16) (w : Vec Ideal S1024x1024 .bf16) (r : Fin 512) (l : Fin 1024) :
    k0_pay10 (F := Ideal) h w (ix2 r l) = ∑ k : Fin 1024, h (ix2 r k) * w (ix2 k l) := by
  pointwise [k0_pay10, dot_S512x1024_S1024x1024_S512x1024_1_0_0_1_n_n]
theorem dotk_apply (h : FVec Ideal S512x1024 .bf16) (w : Vec Ideal S1024x1024 .bf16) (r : Fin 512) (l : Fin 1024) :
    k0_pay21 (F := Ideal) h w (ix2 r l) = ∑ k : Fin 1024, h (ix2 r k) * w (ix2 k l) := by
  pointwise [k0_pay21, dot_S512x1024_S1024x1024_S512x1024_1_0_0_1_n_n]
theorem dotv_apply (h : FVec Ideal S512x1024 .bf16) (w : Vec Ideal S1024x1024 .bf16) (r : Fin 512) (l : Fin 1024) :
    k0_pay2 (F := Ideal) h w (ix2 r l) = ∑ k : Fin 1024, h (ix2 r k) * w (ix2 k l) := by
  pointwise [k0_pay2, dot_S512x1024_S1024x1024_S512x1024_1_0_0_1_n_n]
theorem cos_apply (pos : Vec Ideal S512x1 .i32) (inv : Vec Ideal S1x128 .f32) (r : Fin 512) (l : Fin 128) :
    k0_pay5 (F := Ideal) pos inv (ix2 r l) = Ideal.cos (FloatOps.sitofp (F := Ideal) .f32 (pos (ix2 r 0)) * inv (ix2 0 l)) := by
  pointwise [k0_pay5, k0_pay4]
theorem sin_apply (pos : Vec Ideal S512x1 .i32) (inv sgn : Vec Ideal S1x128 .f32) (r : Fin 512) (l : Fin 128) :
    k0_pay8 (F := Ideal) (k0_pay6 pos inv) (k0_pay7 sgn) (ix2 r l) =
    Ideal.sin (FloatOps.sitofp (F := Ideal) .f32 (pos (ix2 r 0)) * inv (ix2 0 l)) * sgn (ix2 0 l) := by
  pointwise [k0_pay8, k0_pay6, k0_pay7, k0_pay4]

end Cert.QkvK

end
-- ==== Proof.QkvRope.lean ====
/- The rotary embedding of one row, and the kernel's lanewise form of it. -/
module

public import proofs.«01_k».proof.Proof.QkvPieces

@[expose] public section

set_option maxRecDepth 16384

noncomputable section

namespace Cert.QkvK

open Idealize.ShloMosaic Idealize.SL.Sem Cert.Mod

/-- The row z of 16 heads of 64 columns, the first sixteen columns of each head turned in pairs at distance eight by the
    position p times the frequency f of the pair. -/
def ropeE (z : Fin 1024 → EReal) (p : EReal) (f : Fin 8 → EReal) (C : Fin 1024) : EReal :=
  if h : C.val % 64 < 8 then
    z C * Ideal.cos (p * f ⟨C.val % 8, by omega⟩) - z ⟨C.val + 8, by omega⟩ * Ideal.sin (p * f ⟨C.val % 8, by omega⟩)
  else if h : C.val % 64 < 16 then
    z ⟨C.val - 8, by omega⟩ * Ideal.sin (p * f ⟨C.val % 8, by omega⟩) + z C * Ideal.cos (p * f ⟨C.val % 8, by omega⟩)
  else z C

theorem lit_zero : Ideal.ofBits .f32 0x00000000#32 = (0 : EReal) := by simp [Ideal.ofBits, Ideal.ieee]
theorem lit_one : Ideal.ofBits .f32 0x3F800000#32 = (1 : EReal) := by
  have h : (8388608 * (2 ^ 23)⁻¹ : ℝ) = 1 := by norm_num
  have e : Ideal.ofBits .f32 0x3F800000#32 = ((8388608 * (2 ^ 23)⁻¹ : ℝ) : EReal) := by simp [Ideal.ofBits, Ideal.ieee]
  rw [e, h]; rfl
theorem lit_neg : Ideal.ofBits .f32 0xBF800000#32 = (-1 : EReal) := by
  have h : (-(8388608 * (2 ^ 23)⁻¹) : ℝ) = -1 := by norm_num
  have e : Ideal.ofBits .f32 0xBF800000#32 = ((-(8388608 * (2 ^ 23)⁻¹) : ℝ) : EReal) := by simp [Ideal.ofBits, Ideal.ieee]
  rw [e, h]; rfl

theorem cos_zero : Ideal.cos 0 = 1 := by
  show ((Real.cos 0 : ℝ) : EReal) = 1
  rw [Real.cos_zero]; rfl
theorem sin_zero : Ideal.sin 0 = 0 := by
  show ((Real.sin 0 : ℝ) : EReal) = 0
  rw [Real.sin_zero]; rfl

/-- Turning lane by lane, with frequency zero on the lanes left alone and the sign of the sine by lane, is the rotary embedding. -/
theorem turn_rope (z : Fin 1024 → EReal) (p s : EReal) (f : Fin 8 → EReal) (C : Fin 1024) :
    turnE z
      (fun l => Ideal.cos (p * if l.val % 64 < 16 then f ⟨l.val % 8, by omega⟩ else Ideal.ofBits .f32 0x00000000#32))
      (fun l => Ideal.sin (p * if l.val % 64 < 16 then f ⟨l.val % 8, by omega⟩ else Ideal.ofBits .f32 0x00000000#32) *
        if l.val % 64 < 8 then Ideal.ofBits .f32 0xBF800000#32 else Ideal.ofBits .f32 0x3F800000#32) s C = ropeE z p f C * s := by
  have e1 : C.val % 128 % 64 = C.val % 64 := by omega
  have e2 : C.val % 128 % 8 = C.val % 8 := by omega
  unfold turnE ropeE
  refine congrArg (· * s) ?_
  simp only [e1, e2, lit_zero, lit_one, lit_neg]
  by_cases h : C.val % 64 < 8
  · have h16 : C.val % 64 < 16 := by omega
    have hp : C.val / 128 * 128 + (C.val % 128 + 128 - 120) % 128 = C.val + 8 := by omega
    simp only [h, h16, hp, if_true, dif_pos, mul_neg, mul_one]
    rfl
  · by_cases h16 : C.val % 64 < 16
    · have hp : C.val / 128 * 128 + (C.val % 128 + 128 - 8) % 128 = C.val - 8 := by omega
      simp only [h, h16, hp, if_true, if_false, dif_pos, dif_neg, not_false_eq_true, mul_one]
      exact add_comm _ _
    · simp only [h, h16, if_false, dif_neg, not_false_eq_true, mul_one, mul_zero, cos_zero, sin_zero, add_zero]

end Cert.QkvK

end
-- ==== Proof.Qkv.lean ====
/- The queries, keys and values: the kernel's three arrays, index by index. -/
module

public import proofs.«01_k».proof.Proof.Gen.QkvIdeal.Value
public import proofs.«01_k».proof.Proof.Gen.QkvIdeal
public import proofs.«01_k».proof.Proof.QkvTurns
public import proofs.«01_k».proof.Proof.QkvRope
public import Idealize.ShloMosaic.Lib.Pipeline.ValueKit
public import Idealize.ShloMosaic.Lib.Pointwise

@[expose] public section

set_option maxRecDepth 16384

noncomputable section

namespace Cert.QkvK

open Idealize.ShloMosaic Idealize.SL.Sem Cert.Mod

open Cert.QkvIdeal Cert.QkvIdeal.Gen Idealize.ShloMosaic.TcCoe

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val / 4, 0, 0] := by decide +kernel
theorem index3 : ∀ t : Fin grid0.N, win0_3.index t = ![t.val / 4, 0, 0] := by decide +kernel
theorem index4 : ∀ t : Fin grid0.N, win0_4.index t = ![t.val, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![t.val, 0] := by decide +kernel
theorem index11 : ∀ t : Fin grid0.N, win0_11.index t = ![t.val, 0] := by decide +kernel
theorem index12 : ∀ t : Fin grid0.N, win0_12.index t = ![t.val, 0] := by decide +kernel

variable (t : Fin cfg0.N)

theorem lt_N : t.val < 32 := lt_of_lt_of_eq t.isLt N_0

theorem emb1 (k : Fin 1) (l : Fin 1024) : (win0_1.blk t).view.emb (ix2 k l) = ix2 k l := by
  funext a
  match a with
  | ⟨0, _⟩ => exact Fin.ext (by blk_simp [index1 t])
  | ⟨1, _⟩ => exact Fin.ext (by blk_simp [index1 t])
theorem emb4 (k : Fin 512) (l : Fin 1) : (win0_4.blk t).view.emb (ix2 k l) = ix2 (⟨t.val * 512 + k.val, by have := lt_N t; omega⟩ : Fin 16384) l := by
  funext a
  match a with
  | ⟨0, _⟩ => exact Fin.ext (by blk_simp [index4 t])
  | ⟨1, _⟩ => exact Fin.ext (by blk_simp [index4 t])
theorem emb5 (k : Fin 1) (l : Fin 128) : (win0_5.blk t).view.emb (ix2 k l) = ix2 k l := by
  funext a
  match a with
  | ⟨0, _⟩ => exact Fin.ext (by blk_simp [index5 t])
  | ⟨1, _⟩ => exact Fin.ext (by blk_simp [index5 t])
theorem emb6 (k : Fin 1) (l : Fin 128) : (win0_6.blk t).view.emb (ix2 k l) = ix2 k l := by
  funext a
  match a with
  | ⟨0, _⟩ => exact Fin.ext (by blk_simp [index6 t])
  | ⟨1, _⟩ => exact Fin.ext (by blk_simp [index6 t])
theorem emb7 (k : Fin 1024) (l : Fin 1024) : (win0_7.blk t).view.emb (ix2 k l) = ix2 k l := by
  funext a
  match a with
  | ⟨0, _⟩ => exact Fin.ext (by blk_simp [index7 t])
  | ⟨1, _⟩ => exact Fin.ext (by blk_simp [index7 t])
theorem emb8 (k : Fin 1024) (l : Fin 1024) : (win0_8.blk t).view.emb (ix2 k l) = ix2 k l := by
  funext a
  match a with
  | ⟨0, _⟩ => exact Fin.ext (by blk_simp [index8 t])
  | ⟨1, _⟩ => exact Fin.ext (by blk_simp [index8 t])
theorem emb9 (k : Fin 1024) (l : Fin 1024) : (win0_9.blk t).view.emb (ix2 k l) = ix2 k l := by
  funext a
  match a with
  | ⟨0, _⟩ => exact Fin.ext (by blk_simp [index9 t])
  | ⟨1, _⟩ => exact Fin.ext (by blk_simp [index9 t])

theorem read0 (r : Fin 512) (l : Fin 1024) : iblk m c 0 t (ix2 r l) =
    m ((c : Thread nD τ).loc main_arg0) (ix2 ⟨t.val * 512 + r.val, by have := lt_N t; omega⟩ l) := by
  blk_ext! [iblk, V_main_arg0, index0 t]
theorem read1 (l : Fin 1024) : iblk m c 1 t (ix2 0 l) = m ((c : Thread nD τ).loc main_arg1) (ix1 l) := by
  refine (congrArg (V m c main_v1) (emb1 t 0 l)).trans ?_
  rw [host1]
  exact one_row _ l
theorem read2 (l : Fin 1024) : iblk m c 2 t (ix3 0 0 l) =
    m ((c : Thread nD τ).loc main_arg2) (ix3 ⟨t.val / 4, by have := lt_N t; omega⟩ 0 l) := by
  blk_ext! [iblk, V_main_arg2, index2 t]
theorem read3 (l : Fin 1024) : iblk m c 3 t (ix3 0 0 l) =
    m ((c : Thread nD τ).loc main_arg3) (ix3 ⟨t.val / 4, by have := lt_N t; omega⟩ 0 l) := by
  blk_ext! [iblk, V_main_arg3, index3 t]

/-- The weights. -/
abbrev wts (k : Fin 1024) (l : Fin 3072) : EReal := m ((c : Thread nD τ).loc main_arg5) (ix2 k l)
/-- The position of the row `R`, as an integer. -/
abbrev posI (R : Fin 16384) : BitVec 32 := m ((c : Thread nD τ).loc main_arg4) (ix2 (⟨R.val / 2048, by omega⟩ : Fin 8) (⟨R.val % 2048, by omega⟩ : Fin 2048))

theorem read4 (r : Fin 512) : iblk m c 4 t (ix2 r 0) = posI m c ⟨t.val * 512 + r.val, by have := lt_N t; omega⟩ := by
  refine (congrArg (V m c main_v2) (emb4 t r 0)).trans ?_
  rw [host2]
  exact one_col _ _
theorem read5 (l : Fin 128) : iblk m c 5 t (ix2 0 l) = if l.val % 64 < 16 then freqs (ix1 ⟨l.val % 8, by omega⟩) else Ideal.ofBits .f32 0x00000000#32 := by
  refine (congrArg (V m c main_v30) (emb5 t 0 l)).trans ?_
  rw [host30]
  exact (one_lanes _ l).trans (turns_apply l)
theorem read6 (l : Fin 128) : iblk m c 6 t (ix2 0 l) = if l.val % 64 < 8 then Ideal.ofBits .f32 0xBF800000#32 else Ideal.ofBits .f32 0x3F800000#32 := by
  refine (congrArg (V m c main_v35) (emb6 t 0 l)).trans ?_
  rw [host35]
  exact (one_lanes _ l).trans (signs_apply l)
theorem read7 (k l : Fin 1024) : iblk m c 7 t (ix2 k l) = wts m c k ⟨l.val, by omega⟩ := by
  refine (congrArg (V m c main_v3) (emb7 t k l)).trans ?_
  rw [host3]
  exact (cols_q _ k l).trans (congrArg (fun C => wts m c k C) (Fin.ext (Nat.zero_add l.val)))
theorem read8 (k l : Fin 1024) : iblk m c 8 t (ix2 k l) = wts m c k ⟨1024 + l.val, by omega⟩ := by
  refine (congrArg (V m c main_v4) (emb8 t k l)).trans ?_
  rw [host4]
  exact cols_k _ k l
theorem read9 (k l : Fin 1024) : iblk m c 9 t (ix2 k l) = wts m c k ⟨2048 + l.val, by omega⟩ := by
  refine (congrArg (V m c main_v5) (emb9 t k l)).trans ?_
  rw [host5]
  exact cols_v _ k l

/-- The row of `R`, modulated with its batch's shift and scale. -/
def rowE (x : Fin 16384 → Fin 1024 → EReal) (g : Fin 1024 → EReal) (sh sc : Fin 8 → Fin 1024 → EReal) (R : Fin 16384) : Fin 1024 → EReal :=
  modE (x R) g (sh ⟨R.val / 2048, by omega⟩) (sc ⟨R.val / 2048, by omega⟩)

/-- The modulated row of `R` of the kernel's arguments. -/
def rowM (R : Fin 16384) : Fin 1024 → EReal :=
  rowE (fun R C => m ((c : Thread nD τ).loc main_arg0) (ix2 R C)) (fun C => m ((c : Thread nD τ).loc main_arg1) (ix1 C))
    (fun b C => m ((c : Thread nD τ).loc main_arg2) (ix3 b 0 C)) (fun b C => m ((c : Thread nD τ).loc main_arg3) (ix3 b 0 C)) R

theorem mod_val (r : Fin 512) (l : Fin 1024) :
    k0_pay3 (F := Ideal) (iblk m c 0 t) (iblk m c 1 t) (iblk m c 2 t) (iblk m c 3 t) (ix2 r l) =
    rowM m c ⟨t.val * 512 + r.val, by have := lt_N t; omega⟩ l := by
  rw [mod_apply]
  simp only [read0, read1, read2, read3]
  have hd : t.val / 4 = (t.val * 512 + r.val) / 2048 := by omega
  unfold rowM rowE
  simp only [hd]

/-- The projected row `R` at column `C`. -/
def proj (R : Fin 16384) (C : Fin 3072) : EReal := ∑ k : Fin 1024, rowM m c R k * wts m c k C

/-- The position of the row `R`. -/
def posM (R : Fin 16384) : EReal := FloatOps.sitofp (F := Ideal) .f32 (posI m c R)

/-- The queries at row `R`, column `C`. -/
def qM (R : Fin 16384) (C : Fin 1024) : EReal :=
  ropeE (fun k => proj m c R ⟨k.val, by omega⟩) (posM m c R) (fun j => freqs (ix1 j)) C * Ideal.ofBits .f32 0x3E000000#32

/-- The keys at row `R`, column `C`. -/
def kM (R : Fin 16384) (C : Fin 1024) : EReal :=
  ropeE (fun k => proj m c R ⟨1024 + k.val, by omega⟩) (posM m c R) (fun j => freqs (ix1 j)) C

/-- The values at row `R`, column `C`. -/
def vM (R : Fin 16384) (C : Fin 1024) : EReal := proj m c R ⟨2048 + C.val, by omega⟩

theorem cos_val (r : Fin 512) (l : Fin 128) : k0_pay5 (F := Ideal) (iblk m c 4 t) (iblk m c 5 t) (ix2 r l) =
    Ideal.cos (posM m c ⟨t.val * 512 + r.val, by have := lt_N t; omega⟩ *
      if l.val % 64 < 16 then freqs (ix1 ⟨l.val % 8, by omega⟩) else Ideal.ofBits .f32 0x00000000#32) := by
  rw [cos_apply, read4, read5]
  rfl
theorem sin_val (r : Fin 512) (l : Fin 128) : k0_pay8 (F := Ideal) (k0_pay6 (iblk m c 4 t) (iblk m c 5 t)) (k0_pay7 (iblk m c 6 t)) (ix2 r l) =
    Ideal.sin (posM m c ⟨t.val * 512 + r.val, by have := lt_N t; omega⟩ *
      if l.val % 64 < 16 then freqs (ix1 ⟨l.val % 8, by omega⟩) else Ideal.ofBits .f32 0x00000000#32) *
      (if l.val % 64 < 8 then Ideal.ofBits .f32 0xBF800000#32 else Ideal.ofBits .f32 0x3F800000#32) := by
  rw [sin_apply, read4, read5, read6]
  rfl
theorem q_val (r : Fin 512) (l : Fin 1024) : k0_pay10 (F := Ideal) (k0_pay3 (iblk m c 0 t) (iblk m c 1 t) (iblk m c 2 t) (iblk m c 3 t)) (iblk m c 7 t) (ix2 r l) =
    proj m c ⟨t.val * 512 + r.val, by have := lt_N t; omega⟩ ⟨l.val, by omega⟩ := by
  rw [dotq_apply]
  simp only [mod_val, read7]
  rfl
theorem k_val (r : Fin 512) (l : Fin 1024) : k0_pay21 (F := Ideal) (k0_pay3 (iblk m c 0 t) (iblk m c 1 t) (iblk m c 2 t) (iblk m c 3 t)) (iblk m c 8 t) (ix2 r l) =
    proj m c ⟨t.val * 512 + r.val, by have := lt_N t; omega⟩ ⟨1024 + l.val, by omega⟩ := by
  rw [dotk_apply]
  simp only [mod_val, read8]
  rfl
theorem v_val (r : Fin 512) (l : Fin 1024) : k0_pay2 (F := Ideal) (k0_pay3 (iblk m c 0 t) (iblk m c 1 t) (iblk m c 2 t) (iblk m c 3 t)) (iblk m c 9 t) (ix2 r l) =
    proj m c ⟨t.val * 512 + r.val, by have := lt_N t; omega⟩ ⟨2048 + l.val, by omega⟩ := by
  rw [dotv_apply]
  simp only [mod_val, read9]
  rfl

theorem turn10 (r : Fin 512) (l : Fin 1024) :
    turnB (k0_pay10 (F := Ideal) (k0_pay3 (iblk m c 0 t) (iblk m c 1 t) (iblk m c 2 t) (iblk m c 3 t)) (iblk m c 7 t)) (k0_pay5 (iblk m c 4 t) (iblk m c 5 t))
      (k0_pay8 (k0_pay6 (iblk m c 4 t) (iblk m c 5 t)) (k0_pay7 (iblk m c 6 t))) (Ideal.ofBits .f32 0x3E000000#32) (ix2 r l) =
    ropeE (fun k => proj m c ⟨t.val * 512 + r.val, by have := lt_N t; omega⟩ ⟨k.val, by omega⟩) (posM m c ⟨t.val * 512 + r.val, by have := lt_N t; omega⟩)
      (fun j => freqs (ix1 j)) l * Ideal.ofBits .f32 0x3E000000#32 := by
  refine Eq.trans ?_ (turn_rope _ _ _ _ l)
  show turnE (fun C => k0_pay10 (F := Ideal) _ _ (ix2 r C)) (fun l => k0_pay5 (F := Ideal) _ _ (ix2 r l)) (fun l => k0_pay8 (F := Ideal) _ _ (ix2 r l)) _ l = _
  simp only [q_val, cos_val, sin_val]

theorem turn11 (r : Fin 512) (l : Fin 1024) :
    turnB (k0_pay21 (F := Ideal) (k0_pay3 (iblk m c 0 t) (iblk m c 1 t) (iblk m c 2 t) (iblk m c 3 t)) (iblk m c 8 t)) (k0_pay5 (iblk m c 4 t) (iblk m c 5 t))
      (k0_pay8 (k0_pay6 (iblk m c 4 t) (iblk m c 5 t)) (k0_pay7 (iblk m c 6 t))) (Ideal.ofBits .f32 0x3F800000#32) (ix2 r l) =
    ropeE (fun k => proj m c ⟨t.val * 512 + r.val, by have := lt_N t; omega⟩ ⟨1024 + k.val, by omega⟩) (posM m c ⟨t.val * 512 + r.val, by have := lt_N t; omega⟩)
      (fun j => freqs (ix1 j)) l * Ideal.ofBits .f32 0x3F800000#32 := by
  refine Eq.trans ?_ (turn_rope _ _ _ _ l)
  show turnE (fun C => k0_pay21 (F := Ideal) _ _ (ix2 r C)) (fun l => k0_pay5 (F := Ideal) _ _ (ix2 r l)) (fun l => k0_pay8 (F := Ideal) _ _ (ix2 r l)) _ l = _
  simp only [k_val, cos_val, sin_val]

theorem val10 (r : Fin 512) (l : Fin 1024) : out0_10 (iblk m c 0 t) (iblk m c 1 t) (iblk m c 2 t) (iblk m c 3 t) (iblk m c 4 t) (iblk m c 5 t) (iblk m c 6 t)
    (iblk m c 7 t) (iblk m c 8 t) (iblk m c 9 t) (ix2 r l) = qM m c ⟨t.val * 512 + r.val, by have := lt_N t; omega⟩ l := by
  rw [out10_apply, q_eq, cos_eq, sin_eq]
  exact turn10 m c t r l

theorem val11 (r : Fin 512) (l : Fin 1024) : out0_11 (iblk m c 0 t) (iblk m c 1 t) (iblk m c 2 t) (iblk m c 3 t) (iblk m c 4 t) (iblk m c 5 t) (iblk m c 6 t)
    (iblk m c 7 t) (iblk m c 8 t) (iblk m c 9 t) (ix2 r l) = kM m c ⟨t.val * 512 + r.val, by have := lt_N t; omega⟩ l := by
  rw [out11_apply, k_eq, cos_eq, sin_eq]
  refine (turn11 m c t r l).trans ?_
  rw [lit_one, mul_one]
  rfl

theorem val12 (r : Fin 512) (l : Fin 1024) : out0_12 (iblk m c 0 t) (iblk m c 1 t) (iblk m c 2 t) (iblk m c 3 t) (iblk m c 4 t) (iblk m c 5 t) (iblk m c 6 t)
    (iblk m c 7 t) (iblk m c 8 t) (iblk m c 9 t) (ix2 r l) = vM m c ⟨t.val * 512 + r.val, by have := lt_N t; omega⟩ l := by
  rw [out12_eq]
  exact v_val m c t r l

theorem final10 (i : S16384x1024.Idx) : (dats m 0 c).arrAt 10 cfg0.N i = qM m c (i 0) (i 1) := by
  refine (dats m 0 c).arrAt_forall_of_covers 10 (fun i v => v = qM m c (i 0) (i 1)) (by decide +kernel) (fun t hf y => ?_) i
  blk_simp
  rw [after0_10]
  have hy : y = ix2 (n0 := 512) (n1 := 1024) (y 0) (y 1) := by funext a; match a with | ⟨0, _⟩ => rfl | ⟨1, _⟩ => rfl
  have h0 : ((((cfg0.win 10).blk t).view.emb y 0 : Fin 16384) : Nat) = t.val * 512 + (y 0).val := by blk_simp [index10 t]
  have h1 : ((((cfg0.win 10).blk t).view.emb y 1 : Fin 1024) : Nat) = (y 1).val := by blk_simp [index10 t]
  exact (congrArg _ hy).trans ((val10 m c t (y 0) (y 1)).trans (congrArg₂ (qM m c) (Fin.ext h0.symm) (Fin.ext h1.symm)))

theorem final11 (i : S16384x1024.Idx) : (dats m 0 c).arrAt 11 cfg0.N i = kM m c (i 0) (i 1) := by
  refine (dats m 0 c).arrAt_forall_of_covers 11 (fun i v => v = kM m c (i 0) (i 1)) (by decide +kernel) (fun t hf y => ?_) i
  blk_simp
  rw [after0_11]
  have hy : y = ix2 (n0 := 512) (n1 := 1024) (y 0) (y 1) := by funext a; match a with | ⟨0, _⟩ => rfl | ⟨1, _⟩ => rfl
  have h0 : ((((cfg0.win 11).blk t).view.emb y 0 : Fin 16384) : Nat) = t.val * 512 + (y 0).val := by blk_simp [index11 t]
  have h1 : ((((cfg0.win 11).blk t).view.emb y 1 : Fin 1024) : Nat) = (y 1).val := by blk_simp [index11 t]
  exact (congrArg _ hy).trans ((val11 m c t (y 0) (y 1)).trans (congrArg₂ (kM m c) (Fin.ext h0.symm) (Fin.ext h1.symm)))

theorem final12 (i : S16384x1024.Idx) : (dats m 0 c).arrAt 12 cfg0.N i = vM m c (i 0) (i 1) := by
  refine (dats m 0 c).arrAt_forall_of_covers 12 (fun i v => v = vM m c (i 0) (i 1)) (by decide +kernel) (fun t hf y => ?_) i
  blk_simp
  rw [after0_12]
  have hy : y = ix2 (n0 := 512) (n1 := 1024) (y 0) (y 1) := by funext a; match a with | ⟨0, _⟩ => rfl | ⟨1, _⟩ => rfl
  have h0 : ((((cfg0.win 12).blk t).view.emb y 0 : Fin 16384) : Nat) = t.val * 512 + (y 0).val := by blk_simp [index12 t]
  have h1 : ((((cfg0.win 12).blk t).view.emb y 1 : Fin 1024) : Nat) = (y 1).val := by blk_simp [index12 t]
  exact (congrArg _ hy).trans ((val12 m c t (y 0) (y 1)).trans (congrArg₂ (vM m c) (Fin.ext h0.symm) (Fin.ext h1.symm)))

end Cert.QkvK

end
-- ==== Proof.QkvRef.lean ====
/- The reference of the queries, keys and values, read at an index. -/
module

public import proofs.«01_k».proof.Proof.Gen.QkvRefIdeal.Read
public import proofs.«01_k».proof.Proof.Gen.QkvRefIdeal
public import proofs.«01_k».proof.Proof.QkvRope
public import proofs.«01_k».proof.Proof.QkvHost
public import Idealize.ShloMosaic.Lib.Pipeline.ValueKit
public import Idealize.ShloMosaic.Lib.Pointwise

@[expose] public section

set_option maxRecDepth 16384

noncomputable section

namespace Cert.QkvR

open Idealize.ShloMosaic Idealize.SL.Sem Cert.Mod Cert.QkvK
open Cert.QkvRefIdeal Cert.QkvRefIdeal.Gen Cert.QkvRefIdeal.Read

/-- The heads of z, their first sixteen columns turned by the angles a. -/
def rotT (z : FVec Ideal S8x2048x1024 .f32) (a : FVec Ideal S8x2048x8 .f32) : FVec Ideal S8x2048x16x64 .f32 :=
  let h := shapeCast S8x2048x16x64 z shapeCasts_S8x2048x1024_S8x2048x16x64
  let t := extractStridedSlice S8x2048x16x16 ![0, 0, 0, 0] h slices_S8x2048x16x64_S8x2048x16x16_0_0_0_0
  let u := extractStridedSlice S8x2048x16x8 ![0, 0, 0, 0] t slices_S8x2048x16x16_S8x2048x16x8_0_0_0_0
  let v := extractStridedSlice S8x2048x16x8 ![0, 0, 0, 8] t slices_S8x2048x16x16_S8x2048x16x8_0_0_0_8
  let cs := broadcastInDim S8x2048x16x8 ![0, 1, 2, 3] bcast_S8x2048x1x8_S8x2048x16x8_0_1_2_3 (broadcastInDim S8x2048x1x8 ![0, 1, 3] bcast_S8x2048x8_S8x2048x1x8_0_1_3 (Host.cos a))
  let sn := broadcastInDim S8x2048x16x8 ![0, 1, 2, 3] bcast_S8x2048x1x8_S8x2048x16x8_0_1_2_3 (broadcastInDim S8x2048x1x8 ![0, 1, 3] bcast_S8x2048x8_S8x2048x1x8_0_1_3 (Host.sin a))
  concatenate S8x2048x16x64 3 [⟨S8x2048x16x16, concatenate S8x2048x16x16 3 [⟨S8x2048x16x8, subf (mulf u cs) (mulf v sn)⟩, ⟨S8x2048x16x8, addf (mulf u sn) (mulf v cs)⟩] concatenates_S8x2048x16x8_S8x2048x16x8_S8x2048x16x16_d3⟩,
    ⟨S8x2048x16x48, extractStridedSlice S8x2048x16x48 ![0, 0, 0, 16] h slices_S8x2048x16x64_S8x2048x16x48_0_0_0_16⟩] concatenates_S8x2048x16x16_S8x2048x16x48_S8x2048x16x64_d3

theorem rot_low (z : FVec Ideal S8x2048x1024 .f32) (a : FVec Ideal S8x2048x8 .f32) (b : Fin 8) (s : Fin 2048) (hd : Fin 16) (d : Fin 64)
    (h : d.val < 8) : rotT z a (ix4 b s hd d) =
    z (ix3 b s ⟨hd.val * 64 + d.val, by omega⟩) * Ideal.cos (a (ix3 b s ⟨d.val, h⟩)) -
      z (ix3 b s ⟨hd.val * 64 + (8 + d.val), by omega⟩) * Ideal.sin (a (ix3 b s ⟨d.val, h⟩)) := by
  have h16 : d.val < 16 := by omega
  pointwise [rotT, h, h16]

theorem rot_mid (z : FVec Ideal S8x2048x1024 .f32) (a : FVec Ideal S8x2048x8 .f32) (b : Fin 8) (s : Fin 2048) (hd : Fin 16) (d : Fin 64)
    (h8 : ¬ d.val < 8) (h : d.val < 16) : rotT z a (ix4 b s hd d) =
    z (ix3 b s ⟨hd.val * 64 + (d.val - 8), by omega⟩) * Ideal.sin (a (ix3 b s ⟨d.val - 8, by omega⟩)) +
      z (ix3 b s ⟨hd.val * 64 + d.val, by omega⟩) * Ideal.cos (a (ix3 b s ⟨d.val - 8, by omega⟩)) := by
  have e : 8 + (d.val - 8) = d.val := by omega
  pointwise [rotT, h8, h, e]

theorem rot_high (z : FVec Ideal S8x2048x1024 .f32) (a : FVec Ideal S8x2048x8 .f32) (b : Fin 8) (s : Fin 2048) (hd : Fin 16) (d : Fin 64)
    (h : ¬ d.val < 16) : rotT z a (ix4 b s hd d) = z (ix3 b s ⟨hd.val * 64 + d.val, by omega⟩) := by
  have e : 16 + (d.val - 16) = d.val := by omega
  pointwise [rotT, h, e]

/-- The turned heads at the head and the column of C: the rotary embedding of the row. -/
theorem rot_read (z : FVec Ideal S8x2048x1024 .f32) (a : FVec Ideal S8x2048x8 .f32) (b : Fin 8) (s : Fin 2048) (p : EReal) (f : Fin 8 → EReal)
    (ha : ∀ j, a (ix3 b s j) = p * f j) (C : Fin 1024) :
    rotT z a (ix4 b s (⟨C.val / 64, by omega⟩ : Fin 16) (⟨C.val % 64, by omega⟩ : Fin 64)) = ropeE (fun k => z (ix3 b s k)) p f C := by
  have hc : C.val / 64 * 64 + C.val % 64 = C.val := by omega
  unfold ropeE
  by_cases h : C.val % 64 < 8
  · have h1 : C.val / 64 * 64 + (8 + C.val % 64) = C.val + 8 := by omega
    have h2 : C.val % 64 = C.val % 8 := by omega
    refine (rot_low z a b s _ _ h).trans ?_
    rw [dif_pos h]
    simp only [ha, hc, h1]
    simp only [h2]
  · by_cases h16 : C.val % 64 < 16
    · have h1 : C.val / 64 * 64 + (C.val % 64 - 8) = C.val - 8 := by omega
      have h2 : C.val % 64 - 8 = C.val % 8 := by omega
      refine (rot_mid z a b s _ _ h h16).trans ?_
      rw [dif_neg h, dif_pos h16]
      simp only [ha, hc, h1]
      simp only [h2]
    · refine (rot_high z a b s _ _ h16).trans ?_
      rw [dif_neg h, dif_neg h16]
      simp only [hc]

variable (x0 : (⟨S16384x1024, .f32⟩ : BufTy).Contents (Elt Ideal)) (x1 : (⟨S1024, .f32⟩ : BufTy).Contents (Elt Ideal))
  (x2 x3 : (⟨S8x1x1024, .f32⟩ : BufTy).Contents (Elt Ideal)) (x4 : (⟨S8x2048, .i32⟩ : BufTy).Contents (Elt Ideal))
  (x5 : (⟨S1024x3072, .f32⟩ : BufTy).Contents (Elt Ideal))

theorem turned_q : val_main_v61 (F := Ideal) x0 x1 x2 x3 x4 x5 = rotT (val_main_v21 (F := Ideal) x0 x1 x2 x3 x5) (val_main_v41 (F := Ideal) x4) := rfl
theorem turned_k : val_main_v101 (F := Ideal) x0 x1 x2 x3 x4 x5 = rotT (val_main_v22 (F := Ideal) x0 x1 x2 x3 x5) (val_main_v41 (F := Ideal) x4) := rfl

theorem freqs_eq : val_main_v35 (F := Ideal) = freqs := rfl

theorem angle_read (b : Fin 8) (s : Fin 2048) (j : Fin 8) : val_main_v41 (F := Ideal) x4 (ix3 b s j) =
    FloatOps.sitofp (F := Ideal) .f32 (x4 (ix2 b s)) * freqs (ix1 j) := by
  rw [val_main_v41_apply, val_main_v39_apply, val_main_v37_apply, val_main_v36_apply, val_main_v40_apply, val_main_v38_apply, freqs_eq]
  have e1 : idx_main_v37 (idx_main_v39 (ix3 b s j)) = ix2 b s := by funext a; match a with | ⟨0, _⟩ => rfl | ⟨1, _⟩ => rfl
  have e2 : idx_main_v38 (idx_main_v40 (ix3 b s j)) = ix1 j := by funext a; match a with | ⟨0, _⟩ => rfl
  rw [e1, e2]
  rfl

/-- Row `S` of batch `b` of the flattened rows. -/
abbrev at3 {n : Nat} (R : Fin 16384) (k : Fin n) : (⟨3, ![8, 2048, n]⟩ : Shape).Idx :=
  ix3 (⟨R.val / 2048, by omega⟩ : Fin 8) (⟨R.val % 2048, by omega⟩ : Fin 2048) k

theorem row_apply (R : Fin 16384) (k : Fin 1024) : val_main_v0 (F := Ideal) x0 (at3 R k) = x0 (ix2 R k) := by
  rw [val_main_v0_apply]
  refine congrArg x0 ?_
  funext a
  match a with
  | ⟨0, _⟩ => exact Fin.ext (by show ((R.val / 2048 * 2048 + R.val % 2048) * 1024 + k.val) / 1024 = R.val; omega)
  | ⟨1, _⟩ => exact Fin.ext (by show ((R.val / 2048 * 2048 + R.val % 2048) * 1024 + k.val) % 1024 = k.val; omega)

theorem squares (R : Fin 16384) (k : Fin 1024) :
    val_main_v2 (F := Ideal) x0 (idx_main_v3 (idx_main_v9 (at3 R k))) = ∑ d : Fin 1024, x0 (ix2 R d) * x0 (ix2 R d) := by
  rw [val_main_v2_apply]
  refine (congrArg₂ _ lit_zero rfl).trans ((zero_add _).trans (Finset.sum_congr rfl fun d _ => ?_))
  rw [val_main_v1_apply]
  have e : idx_main_v2 (idx_main_v3 (idx_main_v9 (at3 R k))) d = at3 R d := by
    funext a; match a with | ⟨0, _⟩ => rfl | ⟨1, _⟩ => rfl | ⟨2, _⟩ => rfl
  rw [e, row_apply]
  rfl

/-- The modulated row of `R` of the reference's arguments. -/
def rowR (R : Fin 16384) : Fin 1024 → EReal :=
  modE (fun d => x0 (ix2 R d)) (fun d => x1 (ix1 d)) (fun d => x2 (ix3 (⟨R.val / 2048, by omega⟩ : Fin 8) (0 : Fin 1) d))
    (fun d => x3 (ix3 (⟨R.val / 2048, by omega⟩ : Fin 8) (0 : Fin 1) d))

theorem mod_read (R : Fin 16384) (k : Fin 1024) : val_main_v19 (F := Ideal) x0 x1 x2 x3 (at3 R k) = rowR x0 x1 x2 x3 R k := by
  rw [val_main_v19_apply, val_main_v17_apply, val_main_v13_apply, val_main_v10_apply, val_main_v9_apply, val_main_v8_apply, val_main_v7_apply,
    val_main_v5_apply, val_main_v3_apply, squares, row_apply, val_main_v4_apply, val_main_v6_apply, val_main_v12_apply, val_main_v11_apply,
    val_main_v16_apply, val_main_v15_apply, val_main_v14_apply, val_main_v18_apply]
  have e1 : idx_main_v11 (idx_main_v12 (at3 R k)) = ix1 k := by funext a; match a with | ⟨0, _⟩ => rfl
  have e2 : idx_main_v16 (at3 R k) = ix3 (⟨R.val / 2048, by omega⟩ : Fin 8) (0 : Fin 1) k := by
    funext a; match a with | ⟨0, _⟩ => rfl | ⟨1, _⟩ => rfl | ⟨2, _⟩ => rfl
  have e3 : idx_main_v18 (at3 R k) = ix3 (⟨R.val / 2048, by omega⟩ : Fin 8) (0 : Fin 1) k := by
    funext a; match a with | ⟨0, _⟩ => rfl | ⟨1, _⟩ => rfl | ⟨2, _⟩ => rfl
  rw [e1, e2, e3]
  rfl

/-- The projected row `R` at column `C`. -/
def projR (R : Fin 16384) (C : Fin 3072) : EReal := ∑ k : Fin 1024, rowR x0 x1 x2 x3 R k * x5 (ix2 k C)

theorem dot_read (R : Fin 16384) (C : Fin 3072) : val_main_v20 (F := Ideal) x0 x1 x2 x3 x5 (at3 R C) = projR x0 x1 x2 x3 x5 R C := by
  rw [val_main_v20_apply]
  refine Finset.sum_congr rfl fun k _ => ?_
  have hL : lidx_main_v20 (at3 R C) k = at3 R k := by
    funext a; match a with | ⟨0, _⟩ => rfl | ⟨1, _⟩ => rfl | ⟨2, _⟩ => rfl
  have hR : ridx_main_v20 (at3 R C) k = ix2 k C := by
    funext a; match a with | ⟨0, _⟩ => rfl | ⟨1, _⟩ => rfl
  rw [hL, hR, mod_read]

theorem q_part (R : Fin 16384) (C : Fin 1024) : val_main_v21 (F := Ideal) x0 x1 x2 x3 x5 (at3 R C) = projR x0 x1 x2 x3 x5 R ⟨C.val, by omega⟩ := by
  rw [val_main_v21_apply, ← dot_read]
  exact congrArg _ (by funext a; match a with | ⟨0, _⟩ => rfl | ⟨1, _⟩ => rfl | ⟨2, _⟩ => rfl)
theorem k_part (R : Fin 16384) (C : Fin 1024) : val_main_v22 (F := Ideal) x0 x1 x2 x3 x5 (at3 R C) = projR x0 x1 x2 x3 x5 R ⟨1024 + C.val, by omega⟩ := by
  rw [val_main_v22_apply, ← dot_read]
  exact congrArg _ (by funext a; match a with | ⟨0, _⟩ => rfl | ⟨1, _⟩ => rfl | ⟨2, _⟩ => rfl)
theorem v_part (R : Fin 16384) (C : Fin 1024) : val_main_v23 (F := Ideal) x0 x1 x2 x3 x5 (at3 R C) = projR x0 x1 x2 x3 x5 R ⟨2048 + C.val, by omega⟩ := by
  rw [val_main_v23_apply, ← dot_read]
  exact congrArg _ (by funext a; match a with | ⟨0, _⟩ => rfl | ⟨1, _⟩ => rfl | ⟨2, _⟩ => rfl)

/-- The position of the row `R`. -/
def posR (R : Fin 16384) : EReal := FloatOps.sitofp (F := Ideal) .f32 (x4 (ix2 (⟨R.val / 2048, by omega⟩ : Fin 8) (⟨R.val % 2048, by omega⟩ : Fin 2048)))

/-- The head and the column of `C` in the row of `R`. -/
abbrev at4 (R : Fin 16384) (C : Fin 1024) : S8x2048x16x64.Idx :=
  ix4 (⟨R.val / 2048, by omega⟩ : Fin 8) (⟨R.val % 2048, by omega⟩ : Fin 2048) (⟨C.val / 64, by omega⟩ : Fin 16) (⟨C.val % 64, by omega⟩ : Fin 64)

theorem q_read (R : Fin 16384) (C : Fin 1024) : val_main_v103 (F := Ideal) x0 x1 x2 x3 x4 x5 (ix2 R C) =
    ropeE (fun k => projR x0 x1 x2 x3 x5 R ⟨k.val, by omega⟩) (posR x4 R) (fun j => freqs (ix1 j)) C * Ideal.ofBits .f32 0x3E000000#32 := by
  have e : idx_main_v102 (ix2 R C) = at4 R C := by
    funext a
    match a with
    | ⟨0, _⟩ => exact Fin.ext (by show (R.val * 1024 + C.val) / 2097152 = R.val / 2048; omega)
    | ⟨1, _⟩ => exact Fin.ext (by show (R.val * 1024 + C.val) / 1024 % 2048 = R.val % 2048; omega)
    | ⟨2, _⟩ => exact Fin.ext (by show (R.val * 1024 + C.val) / 64 % 16 = C.val / 64; omega)
    | ⟨3, _⟩ => exact Fin.ext (by show (R.val * 1024 + C.val) % 64 = C.val % 64; omega)
  rw [val_main_v103_apply, val_main_v102_apply, e, val_main_v63_apply, turned_q]
  have h := rot_read (val_main_v21 (F := Ideal) x0 x1 x2 x3 x5) (val_main_v41 (F := Ideal) x4) (⟨R.val / 2048, by omega⟩ : Fin 8) (⟨R.val % 2048, by omega⟩ : Fin 2048)
    (posR x4 R) (fun j => freqs (ix1 j)) (fun j => angle_read x4 _ _ j) C
  simp only [q_part x0 x1 x2 x3 x5 R] at h
  exact congrArg (fun w : EReal => w * Ideal.ofBits .f32 0x3E000000#32) h

theorem k_read (R : Fin 16384) (C : Fin 1024) : val_main_v105 (F := Ideal) x0 x1 x2 x3 x4 x5 (ix2 R C) =
    ropeE (fun k => projR x0 x1 x2 x3 x5 R ⟨1024 + k.val, by omega⟩) (posR x4 R) (fun j => freqs (ix1 j)) C := by
  have e : idx_main_v104 (ix2 R C) = at4 R C := by
    funext a
    match a with
    | ⟨0, _⟩ => exact Fin.ext (by show (R.val * 1024 + C.val) / 2097152 = R.val / 2048; omega)
    | ⟨1, _⟩ => exact Fin.ext (by show (R.val * 1024 + C.val) / 1024 % 2048 = R.val % 2048; omega)
    | ⟨2, _⟩ => exact Fin.ext (by show (R.val * 1024 + C.val) / 64 % 16 = C.val / 64; omega)
    | ⟨3, _⟩ => exact Fin.ext (by show (R.val * 1024 + C.val) % 64 = C.val % 64; omega)
  rw [val_main_v105_apply, val_main_v104_apply, e, turned_k]
  have h := rot_read (val_main_v22 (F := Ideal) x0 x1 x2 x3 x5) (val_main_v41 (F := Ideal) x4) (⟨R.val / 2048, by omega⟩ : Fin 8) (⟨R.val % 2048, by omega⟩ : Fin 2048)
    (posR x4 R) (fun j => freqs (ix1 j)) (fun j => angle_read x4 _ _ j) C
  simp only [k_part x0 x1 x2 x3 x5 R] at h
  exact h

theorem v_read (R : Fin 16384) (C : Fin 1024) : val_main_v107 (F := Ideal) x0 x1 x2 x3 x5 (ix2 R C) = projR x0 x1 x2 x3 x5 R ⟨2048 + C.val, by omega⟩ := by
  have e : idx_main_v106 (ix2 R C) = at3 R C := by
    funext a
    match a with
    | ⟨0, _⟩ => exact Fin.ext (by show (R.val * 1024 + C.val) / 2097152 = R.val / 2048; omega)
    | ⟨1, _⟩ => exact Fin.ext (by show (R.val * 1024 + C.val) / 1024 % 2048 = R.val % 2048; omega)
    | ⟨2, _⟩ => exact Fin.ext (by show (R.val * 1024 + C.val) % 1024 = C.val; omega)
  rw [val_main_v107_apply, val_main_v106_apply, e]
  exact v_part x0 x1 x2 x3 x5 R C

end Cert.QkvR

end
-- ==== Proof.QkvClaims.lean ====
/- The value claim of the queries, keys and values and its reference's frame. -/
module

public import proofs.«01_k».proof.Proof.Qkv
public import proofs.«01_k».proof.Proof.QkvRef
public import proofs.«01_k».proof.Proof.Gen.QkvRefIdeal.Run
public import proofs.«01_k».proof.Defs

@[expose] public section

set_option maxRecDepth 16384

noncomputable section

namespace Cert.QkvK

open Idealize.ShloMosaic Idealize.SL.Sem

theorem algebraic : Cert.algebraic_QkvIdeal_QkvRefIdeal := fun m g m' g' _ hagree =>
  ⟨fun c => (Cert.QkvIdeal.Gen.dats m 0 c).arrAt 10 Cert.QkvIdeal.cfg0.N, fun c => (Cert.QkvIdeal.Gen.dats m 0 c).arrAt 11 Cert.QkvIdeal.cfg0.N,
    fun c => (Cert.QkvIdeal.Gen.dats m 0 c).arrAt 12 Cert.QkvIdeal.cfg0.N, Cert.QkvIdeal.Value.run_blocks m g,
    (θ_run Cert.QkvRefIdeal.defs _ _).mono (fun r h c => by
      obtain ⟨h0, h1, h2, h3, h4, h5⟩ := hagree c
      refine ⟨(h c).1.trans ((Cert.QkvRefIdeal.Read.val_main_v103_eq m' c).trans ?_),
        (h c).2.1.trans ((Cert.QkvRefIdeal.Read.val_main_v105_eq m' c).trans ?_),
        (h c).2.2.1.trans ((Cert.QkvRefIdeal.Read.val_main_v107_eq _ _ _ _ _).trans ?_), (h c).2.2.2⟩
      · rw [h0, h1, h2, h3, h4, h5]
        funext i
        have hi : i = ix2 (n0 := 16384) (n1 := 1024) (i 0) (i 1) := by funext a; match a with | ⟨0, _⟩ => rfl | ⟨1, _⟩ => rfl
        exact ((congrArg _ hi).trans (Cert.QkvR.q_read _ _ _ _ _ _ (i 0) (i 1))).trans (final10 m c i).symm
      · rw [h0, h1, h2, h3, h4, h5]
        funext i
        have hi : i = ix2 (n0 := 16384) (n1 := 1024) (i 0) (i 1) := by funext a; match a with | ⟨0, _⟩ => rfl | ⟨1, _⟩ => rfl
        exact ((congrArg _ hi).trans (Cert.QkvR.k_read _ _ _ _ _ _ (i 0) (i 1))).trans (final11 m c i).symm
      · rw [h0, h1, h2, h3, h5]
        funext i
        have hi : i = ix2 (n0 := 16384) (n1 := 1024) (i 0) (i 1) := by funext a; match a with | ⟨0, _⟩ => rfl | ⟨1, _⟩ => rfl
        exact ((congrArg _ hi).trans (Cert.QkvR.v_read _ _ _ _ _ (i 0) (i 1))).trans (final12 m c i).symm)
      (Cert.QkvRefIdeal.Value.run m' g')⟩

theorem frame_ref : Cert.quiescent_QkvRefIdeal := fun m ρ _ =>
  (θ_run Cert.QkvRefIdeal.defs _ _).mono (fun r h => ⟨fun c => (h c).2.2.2, sem_eq_zero_of_no_sems (by decide) r.2⟩)
    (Cert.QkvRefIdeal.Value.run m ρ)

end Cert.QkvK

end
-- ==== Proof.Ada.lean ====
/- The projection of the conditioning: the kernel's array and the reference's result are the same sum at every layer, row and column. -/
module

public import proofs.«01_k».proof.Proof.Gen.AdaIdeal.Value
public import proofs.«01_k».proof.Proof.Gen.AdaIdeal
public import proofs.«01_k».proof.Proof.Gen.AdaRefIdeal.Run
public import proofs.«01_k».proof.Proof.Gen.AdaRefIdeal.Read
public import proofs.«01_k».proof.Proof.Gen.AdaRefIdeal
public import proofs.«01_k».proof.Defs
public import Idealize.ShloMosaic.Lib.Pipeline.ValueKit
public import Idealize.ShloMosaic.Lib.Pointwise

@[expose] public section

set_option maxRecDepth 16384

noncomputable section

namespace Cert.AdaP

open Idealize.ShloMosaic Idealize.SL.Sem

/-- The conditioning's gate: `z` times its logistic. -/
def siluE (z : EReal) : EReal :=
  z * Ideal.div 1 (1 + Ideal.exp (-z))

/-- The projection of layer `L` at batch entry `b`, column `C`. -/
def projA (x : Fin 8 → Fin 1024 → EReal) (w : Fin 4 → Fin 1024 → Fin 6144 → EReal) (s : Fin 4 → Fin 6144 → EReal)
    (L : Fin 4) (b : Fin 8) (C : Fin 6144) : EReal :=
  (∑ k : Fin 1024, siluE (x b k) * w L k C) + s L C

section kernel
open Cert.AdaIdeal Cert.AdaIdeal.Gen Idealize.ShloMosaic.TcCoe

theorem pay_apply (x : Vec Ideal S8x1024 .f32) (w : Vec Ideal S1x1024x1536 .f32) (s : Vec Ideal S1x1x1536 .f32)
    (b : Fin 8) (l : Fin 1536) :
    k0_pay1 (F := Ideal) x w s (ix3 0 b l) = (∑ k : Fin 1024, siluE (x (ix2 b k)) * w (ix3 0 k l)) + s (ix3 0 0 l) := by
  unfold siluE
  simp only [← zero_sub]
  pointwise [k0_pay1, dot_S8x1024_S1024x1536_S8x1536_1_0_0_1_n_n]

theorem out_eq (x : Vec Ideal S8x1024 .f32) (w : Vec Ideal S1x1024x1536 .f32) (s : Vec Ideal S1x1x1536 .f32) :
    out0_3 x w s = k0_pay1 x w s := by
  frame_out

variable (m : (ℓ : Loc nD τ sig) → Buf (Elt Ideal) ℓ) (c : Dev nD)

theorem index0 : ∀ t : Fin grid0.N, win0_0.index t = ![0, 0] := by decide +kernel
theorem index1 : ∀ t : Fin grid0.N, win0_1.index t = ![t.val / 4, 0, t.val % 4] := by decide +kernel
theorem index2 : ∀ t : Fin grid0.N, win0_2.index t = ![t.val / 4, 0, t.val % 4] := by decide +kernel
theorem index3 : ∀ t : Fin grid0.N, win0_3.index t = ![t.val / 4, 0, t.val % 4] := by decide +kernel

variable (t : Fin cfg0.N)

theorem lt_N : t.val < 16 := lt_of_lt_of_eq t.isLt N_0

theorem read0 (b : Fin 8) (l : Fin 1024) : iblk m c 0 t (ix2 b l) = m ((c : Thread nD τ).loc main_arg0) (ix2 b l) := by
  blk_ext! [iblk, V_main_arg0, index0 t]
theorem read1 (k : Fin 1024) (l : Fin 1536) : iblk m c 1 t (ix3 0 k l) =
    m ((c : Thread nD τ).loc main_arg1) (ix3 ⟨t.val / 4, by have := lt_N t; omega⟩ k ⟨t.val % 4 * 1536 + l.val, by omega⟩) := by
  blk_ext! [iblk, V_main_arg1, index1 t]
theorem read2 (l : Fin 1536) : iblk m c 2 t (ix3 0 0 l) =
    m ((c : Thread nD τ).loc main_arg2) (ix2 ⟨t.val / 4, by have := lt_N t; omega⟩ ⟨t.val % 4 * 1536 + l.val, by omega⟩) := by
  blk_ext! [iblk, V, index2 t]

/-- The kernel's closed form. -/
def outM (L : Fin 4) (b : Fin 8) (C : Fin 6144) : EReal :=
  projA (fun b k => m ((c : Thread nD τ).loc main_arg0) (ix2 b k)) (fun L k C => m ((c : Thread nD τ).loc main_arg1) (ix3 L k C))
    (fun L C => m ((c : Thread nD τ).loc main_arg2) (ix2 L C)) L b C

theorem blk_val (b : Fin 8) (l : Fin 1536) :
    k0_pay1 (F := Ideal) (iblk m c 0 t) (iblk m c 1 t) (iblk m c 2 t) (ix3 0 b l) =
    outM m c ⟨t.val / 4, by have := lt_N t; omega⟩ b ⟨t.val % 4 * 1536 + l.val, by omega⟩ := by
  rw [pay_apply]
  simp only [read0, read1, read2]
  rfl

theorem final (i : S4x8x6144.Idx) : (dats m 0 c).arrAt 3 cfg0.N i = outM m c (i 0) (i 1) (i 2) := by
  refine (dats m 0 c).arrAt_forall_of_covers 3 (fun i v => v = outM m c (i 0) (i 1) (i 2)) (by decide +kernel) (fun t hf y => ?_) i
  blk_simp
  rw [after0_3, out_eq]
  have hy : y = ix3 (n0 := 1) (n1 := 8) (n2 := 1536) 0 (y 1) (y 2) := by
    funext a; match a with | ⟨0, _⟩ => exact Subsingleton.elim (α := Fin 1) _ _ | ⟨1, _⟩ => rfl | ⟨2, _⟩ => rfl
  have h0 : ((((cfg0.win 3).blk t).view.emb y 0 : Fin 4) : Nat) = t.val / 4 := by
    have : (y 0).val = 0 := Nat.lt_one_iff.mp (y 0).isLt
    blk_simp [index3 t]
  have h1 : ((((cfg0.win 3).blk t).view.emb y 1 : Fin 8) : Nat) = (y 1).val := by blk_simp [index3 t]
  have h2 : ((((cfg0.win 3).blk t).view.emb y 2 : Fin 6144) : Nat) = t.val % 4 * 1536 + (y 2).val := by blk_simp [index3 t]
  refine (congrArg _ hy).trans ((blk_val m c t (y 1) (y 2)).trans ?_)
  rw [show ((cfg0.win 3).blk t).view.emb y 0 = (⟨t.val / 4, by have := lt_N t; omega⟩ : Fin 4) from Fin.ext h0,
    show ((cfg0.win 3).blk t).view.emb y 1 = (y 1 : Fin 8) from Fin.ext h1,
    show ((cfg0.win 3).blk t).view.emb y 2 = (⟨t.val % 4 * 1536 + (y 2).val, by have h : (y 2).val < 1536 := (y 2).isLt; omega⟩ : Fin 6144) from Fin.ext h2]
end kernel

section reference
open Cert.AdaRefIdeal Cert.AdaRefIdeal.Read

variable (x0 : (⟨S8x1024, .f32⟩ : BufTy).Contents (Elt Ideal)) (x1 : (⟨S4x1024x6144, .f32⟩ : BufTy).Contents (Elt Ideal))
  (x2 : (⟨S4x6144, .f32⟩ : BufTy).Contents (Elt Ideal))

theorem silu_read (b : Fin 8) (k : Fin 1024) : val_main_v0 (F := Ideal) x0 (ix2 b k) = siluE (x0 (ix2 b k)) := by
  unfold siluE
  pointwise [val_main_v0, val_main_call0_v5, val_main_call0_v4, val_main_call0_cst_0, val_main_call0_v3, val_main_call0_v2, val_main_call0_cst,
    val_main_call0_v1, val_main_call0_v0]

theorem layer0 (b : Fin 8) (C : Fin 6144) : val_main_v8 (F := Ideal) x0 x1 x2 (ix2 b C) =
    projA (fun b k => x0 (ix2 b k)) (fun L k C => x1 (ix3 L k C)) (fun L C => x2 (ix2 L C)) 0 b C := by
  rw [val_main_v8_apply, val_main_v3_apply]
  have hl : ∀ k : Fin 1024, lidx_main_v3 (ix2 b C) k = ix2 b k := fun k => by
    funext a; match a with | ⟨0, _⟩ => rfl | ⟨1, _⟩ => rfl
  have hr : ∀ k : Fin 1024, ridx_main_v3 (ix2 b C) k = ix2 k C := fun k => by
    funext a; match a with | ⟨0, _⟩ => rfl | ⟨1, _⟩ => rfl
  have hw : ∀ k : Fin 1024, val_main_v2 (F := Ideal) x1 (ix2 k C) = x1 (ix3 0 k C) := fun k => by
    pointwise [val_main_v2, val_main_v1]
  have hs : val_main_v7 (F := Ideal) x2 (ix2 b C) = x2 (ix2 0 C) := by
    pointwise [val_main_v7, val_main_v6, val_main_v5, val_main_v4]
  simp only [hl, hr, hw, hs, silu_read]
  rfl

theorem stack0 (b : Fin 8) (C : Fin 6144) : val_main_v37 (F := Ideal) x0 x1 x2 (ix3 0 b C) = val_main_v8 (F := Ideal) x0 x1 x2 (ix2 b C) := by
  pointwise [val_main_v37, val_main_v33, val_main_v34, val_main_v35, val_main_v36]

theorem layer1 (b : Fin 8) (C : Fin 6144) : val_main_v16 (F := Ideal) x0 x1 x2 (ix2 b C) =
    projA (fun b k => x0 (ix2 b k)) (fun L k C => x1 (ix3 L k C)) (fun L C => x2 (ix2 L C)) 1 b C := by
  rw [val_main_v16_apply, val_main_v11_apply]
  have hl : ∀ k : Fin 1024, lidx_main_v11 (ix2 b C) k = ix2 b k := fun k => by
    funext a; match a with | ⟨0, _⟩ => rfl | ⟨1, _⟩ => rfl
  have hr : ∀ k : Fin 1024, ridx_main_v11 (ix2 b C) k = ix2 k C := fun k => by
    funext a; match a with | ⟨0, _⟩ => rfl | ⟨1, _⟩ => rfl
  have hw : ∀ k : Fin 1024, val_main_v10 (F := Ideal) x1 (ix2 k C) = x1 (ix3 1 k C) := fun k => by
    pointwise [val_main_v10, val_main_v9]
  have hs : val_main_v15 (F := Ideal) x2 (ix2 b C) = x2 (ix2 1 C) := by
    pointwise [val_main_v15, val_main_v14, val_main_v13, val_main_v12]
  simp only [hl, hr, hw, hs, silu_read]
  rfl

theorem stack1 (b : Fin 8) (C : Fin 6144) : val_main_v37 (F := Ideal) x0 x1 x2 (ix3 1 b C) = val_main_v16 (F := Ideal) x0 x1 x2 (ix2 b C) := by
  pointwise [val_main_v37, val_main_v33, val_main_v34, val_main_v35, val_main_v36]

theorem layer2 (b : Fin 8) (C : Fin 6144) : val_main_v24 (F := Ideal) x0 x1 x2 (ix2 b C) =
    projA (fun b k => x0 (ix2 b k)) (fun L k C => x1 (ix3 L k C)) (fun L C => x2 (ix2 L C)) 2 b C := by
  rw [val_main_v24_apply, val_main_v19_apply]
  have hl : ∀ k : Fin 1024, lidx_main_v19 (ix2 b C) k = ix2 b k := fun k => by
    funext a; match a with | ⟨0, _⟩ => rfl | ⟨1, _⟩ => rfl
  have hr : ∀ k : Fin 1024, ridx_main_v19 (ix2 b C) k = ix2 k C := fun k => by
    funext a; match a with | ⟨0, _⟩ => rfl | ⟨1, _⟩ => rfl
  have hw : ∀ k : Fin 1024, val_main_v18 (F := Ideal) x1 (ix2 k C) = x1 (ix3 2 k C) := fun k => by
    pointwise [val_main_v18, val_main_v17]
  have hs : val_main_v23 (F := Ideal) x2 (ix2 b C) = x2 (ix2 2 C) := by
    pointwise [val_main_v23, val_main_v22, val_main_v21, val_main_v20]
  simp only [hl, hr, hw, hs, silu_read]
  rfl

theorem stack2 (b : Fin 8) (C : Fin 6144) : val_main_v37 (F := Ideal) x0 x1 x2 (ix3 2 b C) = val_main_v24 (F := Ideal) x0 x1 x2 (ix2 b C) := by
  pointwise [val_main_v37, val_main_v33, val_main_v34, val_main_v35, val_main_v36]

theorem layer3 (b : Fin 8) (C : Fin 6144) : val_main_v32 (F := Ideal) x0 x1 x2 (ix2 b C) =
    projA (fun b k => x0 (ix2 b k)) (fun L k C => x1 (ix3 L k C)) (fun L C => x2 (ix2 L C)) 3 b C := by
  rw [val_main_v32_apply, val_main_v27_apply]
  have hl : ∀ k : Fin 1024, lidx_main_v27 (ix2 b C) k = ix2 b k := fun k => by
    funext a; match a with | ⟨0, _⟩ => rfl | ⟨1, _⟩ => rfl
  have hr : ∀ k : Fin 1024, ridx_main_v27 (ix2 b C) k = ix2 k C := fun k => by
    funext a; match a with | ⟨0, _⟩ => rfl | ⟨1, _⟩ => rfl
  have hw : ∀ k : Fin 1024, val_main_v26 (F := Ideal) x1 (ix2 k C) = x1 (ix3 3 k C) := fun k => by
    pointwise [val_main_v26, val_main_v25]
  have hs : val_main_v31 (F := Ideal) x2 (ix2 b C) = x2 (ix2 3 C) := by
    pointwise [val_main_v31, val_main_v30, val_main_v29, val_main_v28]
  simp only [hl, hr, hw, hs, silu_read]
  rfl

theorem stack3 (b : Fin 8) (C : Fin 6144) : val_main_v37 (F := Ideal) x0 x1 x2 (ix3 3 b C) = val_main_v32 (F := Ideal) x0 x1 x2 (ix2 b C) := by
  pointwise [val_main_v37, val_main_v33, val_main_v34, val_main_v35, val_main_v36]

theorem ref_read (L : Fin 4) (b : Fin 8) (C : Fin 6144) : val_main_v37 (F := Ideal) x0 x1 x2 (ix3 L b C) =
    projA (fun b k => x0 (ix2 b k)) (fun L k C => x1 (ix3 L k C)) (fun L C => x2 (ix2 L C)) L b C := by
  match L with
  | ⟨0, _⟩ => exact (stack0 x0 x1 x2 b C).trans (layer0 x0 x1 x2 b C)
  | ⟨1, _⟩ => exact (stack1 x0 x1 x2 b C).trans (layer1 x0 x1 x2 b C)
  | ⟨2, _⟩ => exact (stack2 x0 x1 x2 b C).trans (layer2 x0 x1 x2 b C)
  | ⟨3, _⟩ => exact (stack3 x0 x1 x2 b C).trans (layer3 x0 x1 x2 b C)

theorem frame_ref : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run m ρ)
end reference

theorem algebraic : Cert.algebraic_AdaIdeal_AdaRefIdeal := fun m g m' g' _ hagree =>
  ⟨fun c => (Cert.AdaIdeal.Gen.dats m 0 c).arrAt 3 Cert.AdaIdeal.cfg0.N, Cert.AdaIdeal.Value.run_blocks m g,
    (θ_run Cert.AdaRefIdeal.defs _ _).mono (fun r h c => by
      obtain ⟨h0, h1, h2⟩ := hagree c
      refine ⟨(h c).1.trans ((Cert.AdaRefIdeal.Read.val_main_v37_eq _ _ _).trans ?_), (h c).2⟩
      rw [h0, h1, h2]
      funext i
      have hi : i = ix3 (n0 := 4) (n1 := 8) (n2 := 6144) (i 0) (i 1) (i 2) := by
        funext a; match a with | ⟨0, _⟩ => rfl | ⟨1, _⟩ => rfl | ⟨2, _⟩ => rfl
      exact ((congrArg _ hi).trans (ref_read _ _ _ (i 0) (i 1) (i 2))).trans (final m c i).symm) (Cert.AdaRefIdeal.Value.run m' g')⟩

end Cert.AdaP

end
-- ==== Proof.FinalNorm.lean ====
/- The final norm: the kernel's array and the reference's result are the same at every row and column. -/
module

public import proofs.«01_k».proof.Proof.Gen.FinalIdeal.Value
public import proofs.«01_k».proof.Proof.Gen.FinalIdeal
public import proofs.«01_k».proof.Proof.Gen.FinalRefIdeal.Run
public import proofs.«01_k».proof.Proof.Gen.FinalRefIdeal.Read
public import proofs.«01_k».proof.Proof.Gen.FinalRefIdeal
public import proofs.«01_k».proof.Proof.Mod
public import proofs.«01_k».proof.Defs
public import Idealize.ShloMosaic.Lib.Pipeline.ValueKit
public import Idealize.ShloMosaic.Lib.Pointwise

@[expose] public section

set_option maxRecDepth 16384

noncomputable section

namespace Cert.Fin

open Idealize.ShloMosaic Idealize.SL.Sem Cert.Mod

section kernel
open Cert.FinalIdeal Cert.FinalIdeal.Gen Idealize.ShloMosaic.TcCoe

theorem pay_apply (x : Vec Ideal S512x1024 .f32) (g : Vec Ideal S1x1024 .f32) (r : Fin 512) (l : Fin 1024) :
    k0_pay1 (F := Ideal) x g (ix2 r l) = normE (fun d => x (ix2 r d)) l * g (ix2 0 l) := by
  unfold normE
  pointwise [k0_pay1]

theorem out_eq (x : Vec Ideal S512x1024 .f32) (g : Vec Ideal S1x1024 .f32) : out0_2 x g = k0_pay1 x g := by
  frame_out

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

variable (t : Fin cfg0.N)

theorem lt_N : t.val < 32 := lt_of_lt_of_eq t.isLt N_0

theorem read0 (r : Fin 512) (l : Fin 1024) : iblk m c 0 t (ix2 r l) =
    m ((c : Thread nD τ).loc main_arg0) (ix2 ⟨t.val * 512 + r.val, by have := lt_N t; omega⟩ l) := by
  blk_ext! [iblk, V_main_arg0, index0 t]
theorem read1 (l : Fin 1024) : iblk m c 1 t (ix2 0 l) = m ((c : Thread nD τ).loc main_arg1) (ix1 l) := by
  blk_ext! [iblk, V, index1 t]

/-- The normed row of `R`, weighted. -/
def outM (R : Fin 16384) (C : Fin 1024) : EReal :=
  normE (fun d => m ((c : Thread nD τ).loc main_arg0) (ix2 R d)) C * (show EReal from m ((c : Thread nD τ).loc main_arg1) (ix1 C))

theorem blk_val (r : Fin 512) (l : Fin 1024) :
    k0_pay1 (F := Ideal) (iblk m c 0 t) (iblk m c 1 t) (ix2 r l) = outM m c ⟨t.val * 512 + r.val, by have := lt_N t; omega⟩ l := by
  rw [pay_apply]
  simp only [read0, read1]
  rfl

theorem final (i : S16384x1024.Idx) : (dats m 0 c).arrAt 2 cfg0.N i = outM m c (i 0) (i 1) := by
  refine (dats m 0 c).arrAt_forall_of_covers 2 (fun i v => v = outM m c (i 0) (i 1)) (by decide +kernel) (fun t hf y => ?_) i
  blk_simp
  rw [after0_2, out_eq]
  have hy : y = ix2 (n0 := 512) (n1 := 1024) (y 0) (y 1) := by funext a; match a with | ⟨0, _⟩ => rfl | ⟨1, _⟩ => rfl
  have h0 : ((((cfg0.win 2).blk t).view.emb y 0 : Fin 16384) : Nat) = t.val * 512 + (y 0).val := by blk_simp [index2 t]
  have h1 : ((((cfg0.win 2).blk t).view.emb y 1 : Fin 1024) : Nat) = (y 1).val := by blk_simp [index2 t]
  exact (congrArg _ hy).trans ((blk_val m c t (y 0) (y 1)).trans (congrArg₂ (outM m c) (Fin.ext h0.symm) (Fin.ext h1.symm)))
end kernel

section reference
open Cert.FinalRefIdeal Cert.FinalRefIdeal.Read

variable (x0 : (⟨S16384x1024, .f32⟩ : BufTy).Contents (Elt Ideal)) (x1 : (⟨S1024, .f32⟩ : BufTy).Contents (Elt Ideal))

theorem zero_lit : Ideal.ofBits .f32 0x00000000#32 = (0 : EReal) := by simp [Ideal.ofBits, Ideal.ieee]

theorem squares (R : Fin 16384) (k : Fin 1024) :
    val_main_v1 (F := Ideal) x0 (idx_main_v2 (idx_main_v8 (ix2 R k))) = ∑ d : Fin 1024, x0 (ix2 R d) * x0 (ix2 R d) := by
  rw [val_main_v1_apply]
  refine (congrArg₂ _ zero_lit rfl).trans ((zero_add _).trans (Finset.sum_congr rfl fun d _ => ?_))
  rw [val_main_v0_apply]
  have e : idx_main_v1 (idx_main_v2 (idx_main_v8 (ix2 R k))) d = ix2 R d := by
    funext a; match a with | ⟨0, _⟩ => rfl | ⟨1, _⟩ => rfl
  rw [e]
  rfl

theorem ref_read (R : Fin 16384) (k : Fin 1024) : val_main_v12 (F := Ideal) x0 x1 (ix2 R k) =
    normE (fun d => x0 (ix2 R d)) k * x1 (ix1 k) := by
  rw [val_main_v12_apply, val_main_v9_apply, val_main_v8_apply, val_main_v7_apply, val_main_v6_apply, val_main_v4_apply, val_main_v2_apply, squares,
    val_main_v3_apply, val_main_v5_apply, val_main_v11_apply, val_main_v10_apply]
  have e1 : idx_main_v10 (idx_main_v11 (ix2 R k)) = ix1 k := by funext a; match a with | ⟨0, _⟩ => rfl
  rw [e1]
  rfl

theorem frame_ref : Cert.quiescent_FinalRefIdeal := fun m ρ _ =>
  (θ_run Cert.FinalRefIdeal.defs _ _).mono (fun r h => ⟨fun c => (h c).2, sem_eq_zero_of_no_sems (by decide) r.2⟩)
    (Cert.FinalRefIdeal.Value.run m ρ)
end reference

theorem algebraic : Cert.algebraic_FinalIdeal_FinalRefIdeal := fun m g m' g' _ hagree =>
  ⟨fun c => (Cert.FinalIdeal.Gen.dats m 0 c).arrAt 2 Cert.FinalIdeal.cfg0.N, Cert.FinalIdeal.Value.run_blocks m g,
    (θ_run Cert.FinalRefIdeal.defs _ _).mono (fun r h c => by
      obtain ⟨h0, h1⟩ := hagree c
      refine ⟨(h c).1.trans ((Cert.FinalRefIdeal.Read.val_main_v12_eq _ _).trans ?_), (h c).2⟩
      rw [h0, h1]
      funext i
      have hi : i = ix2 (n0 := 16384) (n1 := 1024) (i 0) (i 1) := by funext a; match a with | ⟨0, _⟩ => rfl | ⟨1, _⟩ => rfl
      exact ((congrArg _ hi).trans (ref_read _ _ (i 0) (i 1))).trans (final m c i).symm) (Cert.FinalRefIdeal.Value.run m' g')⟩

end Cert.Fin

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Attn3
public import proofs.«01_k».proof.Proof.Gen.Attn3.Skeleton
public import proofs.«01_k».proof.Proof.Gen.Attn3.Launch
public import proofs.«01_k».proof.Proof.Gen.Attn3.Points
public import proofs.«01_k».proof.Proof.Gen.Attn3.Frame
public import proofs.«01_k».proof.Proof.Gen.Attn3Ideal
public import proofs.«01_k».proof.Proof.Gen.Attn3Ideal.Skeleton
public import proofs.«01_k».proof.Proof.Gen.Attn3Ideal.Launch
public import proofs.«01_k».proof.Proof.Gen.Attn3Ideal.Points
public import proofs.«01_k».proof.Proof.Gen.Attn3Ideal.Frame
public import proofs.«01_k».proof.Proof.Gen.Attn3Ideal.Value
public import proofs.«01_k».proof.Proof.Gen.Attn3RefIdeal
public import proofs.«01_k».proof.Proof.Gen.Attn3RefIdeal.Run
public import proofs.«01_k».proof.Proof.Gen.Attn3RefIdeal.Read
public import proofs.«01_k».proof.Proof.Gen.OutDiff
public import proofs.«01_k».proof.Proof.Gen.OutDiff.Skeleton
public import proofs.«01_k».proof.Proof.Gen.OutDiff.Launch
public import proofs.«01_k».proof.Proof.Gen.OutDiff.Points
public import proofs.«01_k».proof.Proof.Gen.OutDiff.Frame
public import proofs.«01_k».proof.Proof.Gen.OutDiffIdeal
public import proofs.«01_k».proof.Proof.Gen.OutDiffIdeal.Skeleton
public import proofs.«01_k».proof.Proof.Gen.OutDiffIdeal.Launch
public import proofs.«01_k».proof.Proof.Gen.OutDiffIdeal.Points
public import proofs.«01_k».proof.Proof.Gen.OutDiffIdeal.Frame
public import proofs.«01_k».proof.Proof.Gen.OutDiffIdeal.Value
public import proofs.«01_k».proof.Proof.Gen.OutDiffRefIdeal
public import proofs.«01_k».proof.Proof.Gen.OutDiffRefIdeal.Run
public import proofs.«01_k».proof.Proof.Gen.OutDiffRefIdeal.Read
public import proofs.«01_k».proof.Proof.Gen.OutHyb
public import proofs.«01_k».proof.Proof.Gen.OutHyb.Skeleton
public import proofs.«01_k».proof.Proof.Gen.OutHyb.Launch
public import proofs.«01_k».proof.Proof.Gen.OutHyb.Points
public import proofs.«01_k».proof.Proof.Gen.OutHyb.Frame
public import proofs.«01_k».proof.Proof.Gen.OutHybIdeal
public import proofs.«01_k».proof.Proof.Gen.OutHybIdeal.Skeleton
public import proofs.«01_k».proof.Proof.Gen.OutHybIdeal.Launch
public import proofs.«01_k».proof.Proof.Gen.OutHybIdeal.Points
public import proofs.«01_k».proof.Proof.Gen.OutHybIdeal.Frame
public import proofs.«01_k».proof.Proof.Gen.OutHybIdeal.Value
public import proofs.«01_k».proof.Proof.Gen.OutHybRefIdeal
public import proofs.«01_k».proof.Proof.Gen.OutHybRefIdeal.Run
public import proofs.«01_k».proof.Proof.Gen.OutHybRefIdeal.Read
public import proofs.«01_k».proof.Proof.Gen.PeerQ
public import proofs.«01_k».proof.Proof.Gen.PeerQ.Skeleton
public import proofs.«01_k».proof.Proof.Gen.PeerQ.Launch
public import proofs.«01_k».proof.Proof.Gen.PeerQ.Points
public import proofs.«01_k».proof.Proof.Gen.PeerQ.Frame
public import proofs.«01_k».proof.Proof.Gen.PeerQIdeal
public import proofs.«01_k».proof.Proof.Gen.PeerQIdeal.Skeleton
public import proofs.«01_k».proof.Proof.Gen.PeerQIdeal.Launch
public import proofs.«01_k».proof.Proof.Gen.PeerQIdeal.Points
public import proofs.«01_k».proof.Proof.Gen.PeerQIdeal.Frame
public import proofs.«01_k».proof.Proof.Gen.PeerQIdeal.Value
public import proofs.«01_k».proof.Proof.Gen.PeerQRefIdeal
public import proofs.«01_k».proof.Proof.Gen.PeerQRefIdeal.Run
public import proofs.«01_k».proof.Proof.Gen.PeerQRefIdeal.Read
public import proofs.«01_k».proof.Proof.Gen.HybIn
public import proofs.«01_k».proof.Proof.Gen.HybIn.Skeleton
public import proofs.«01_k».proof.Proof.Gen.HybIn.Launch
public import proofs.«01_k».proof.Proof.Gen.HybIn.Points
public import proofs.«01_k».proof.Proof.Gen.HybIn.Frame
public import proofs.«01_k».proof.Proof.Gen.HybInIdeal
public import proofs.«01_k».proof.Proof.Gen.HybInIdeal.Skeleton
public import proofs.«01_k».proof.Proof.Gen.HybInIdeal.Launch
public import proofs.«01_k».proof.Proof.Gen.HybInIdeal.Points
public import proofs.«01_k».proof.Proof.Gen.HybInIdeal.Frame
public import proofs.«01_k».proof.Proof.Gen.HybInIdeal.Value
public import proofs.«01_k».proof.Proof.Gen.HybInRefIdeal
public import proofs.«01_k».proof.Proof.Gen.HybInRefIdeal.Run
public import proofs.«01_k».proof.Proof.Gen.HybInRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.FinalRefIdeal
public import proofs.«01_k».proof.Proof.Gen.FinalRefIdeal.Run
public import proofs.«01_k».proof.Proof.Gen.FinalRefIdeal.Read
public import Idealize.ShloMosaic.Adequacy
public import Idealize.ShloMosaic.Init
public import proofs.«01_k».proof.Proof.AttnClaims
public import proofs.«01_k».proof.Proof.L3AttnClaims
public import proofs.«01_k».proof.Proof.OutDiff
public import proofs.«01_k».proof.Proof.OutHyb
public import proofs.«01_k».proof.Proof.PeerQClaims
public import proofs.«01_k».proof.Proof.HybInClaims
public import proofs.«01_k».proof.Proof.QkvClaims
public import proofs.«01_k».proof.Proof.Ada
public import proofs.«01_k».proof.Proof.FinalNorm

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Attn3.Gen.facts, Cert.Attn3Ideal.Gen.facts, Cert.Attn3RefIdeal.Gen.facts,
  Cert.OutDiff.Gen.facts, Cert.OutDiffIdeal.Gen.facts, Cert.OutDiffRefIdeal.Gen.facts,
  Cert.OutHyb.Gen.facts, Cert.OutHybIdeal.Gen.facts, Cert.OutHybRefIdeal.Gen.facts,
  Cert.PeerQ.Gen.facts, Cert.PeerQIdeal.Gen.facts, Cert.PeerQRefIdeal.Gen.facts,
  Cert.HybIn.Gen.facts, Cert.HybInIdeal.Gen.facts, Cert.HybInRefIdeal.Gen.facts,
  Cert.Qkv.Gen.facts, Cert.QkvIdeal.Gen.facts, Cert.QkvRefIdeal.Gen.facts,
  Cert.Ada.Gen.facts, Cert.AdaIdeal.Gen.facts, Cert.AdaRefIdeal.Gen.facts,
  Cert.Final.Gen.facts, Cert.FinalIdeal.Gen.facts, Cert.FinalRefIdeal.Gen.facts,
  Cert.Attn.facts_finite, Cert.PeerK.facts_finite_q,
  fun m ρ _ => Cert.Kernel.Gen.frame m ρ,
  fun m ρ _ => Cert.KernelIdeal.Gen.frame m ρ,
  fun m ρ _ => Cert.KernelIdeal.Gen.frame m ρ,
  Cert.Attn.frame_ref,
  Cert.Attn.frame_ref_pre,
  fun m ρ _ => Cert.Attn3.Gen.frame m ρ,
  fun m ρ _ => Cert.Attn3Ideal.Gen.frame m ρ,
  fun m ρ _ => Cert.Attn3Ideal.Gen.frame m ρ,
  Cert.AttnL.frame_ref,
  Cert.AttnL.frame_ref_pre,
  fun m ρ _ => Cert.OutDiff.Gen.frame m ρ,
  fun m ρ _ => Cert.OutDiffIdeal.Gen.frame m ρ,
  Cert.OutD.frame_ref,
  fun m ρ _ => Cert.OutHyb.Gen.frame m ρ,
  fun m ρ _ => Cert.OutHybIdeal.Gen.frame m ρ,
  Cert.OutH.frame_ref,
  fun m ρ _ => Cert.PeerQ.Gen.frame m ρ,
  fun m ρ _ => Cert.PeerQIdeal.Gen.frame m ρ,
  fun m ρ _ => Cert.PeerQIdeal.Gen.frame m ρ,
  Cert.PeerK.frame_ref,
  Cert.PeerK.frame_ref_pre,
  fun m ρ _ => Cert.HybIn.Gen.frame m ρ,
  fun m ρ _ => Cert.HybInIdeal.Gen.frame m ρ,
  Cert.HybK.frame_ref,
  fun m ρ _ => Cert.Qkv.Gen.frame m ρ,
  fun m ρ _ => Cert.QkvIdeal.Gen.frame m ρ,
  Cert.QkvK.frame_ref,
  fun m ρ _ => Cert.Ada.Gen.frame m ρ,
  fun m ρ _ => Cert.AdaIdeal.Gen.frame m ρ,
  Cert.AdaP.frame_ref,
  fun m ρ _ => Cert.Final.Gen.frame m ρ,
  fun m ρ _ => Cert.FinalIdeal.Gen.frame m ρ,
  Cert.Fin.frame_ref,
  trivial,
  Cert.Attn.algebraic,
  trivial,
  Cert.AttnL.algebraic,
  trivial,
  Cert.OutD.algebraic,
  trivial,
  Cert.OutH.algebraic,
  trivial,
  Cert.PeerK.algebraic,
  trivial,
  Cert.HybK.algebraic,
  trivial,
  Cert.QkvK.algebraic,
  trivial,
  Cert.AdaP.algebraic,
  trivial,
  Cert.Fin.algebraic⟩

end Cert.Proof

end
